-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Tree (m : (ℓ : Loc Cert.Tree.nD Cert.Tree.τ Cert.Tree.sig) → Buf (Elt Bits) ℓ) : Prop :=
  True

def Pre_TreeIdeal (m : (ℓ : Loc Cert.TreeIdeal.nD Cert.TreeIdeal.τ Cert.TreeIdeal.sig) → Buf (Elt Ideal) ℓ) : Prop :=
  True

def Pre_TreeReferenceIdeal (m : (ℓ : Loc Cert.TreeReferenceIdeal.nD Cert.TreeReferenceIdeal.τ Cert.TreeReferenceIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Tree [hTree : Cert.Tree.Facts] : Prop :=
  ∀ (m : (ℓ : Loc Cert.Tree.nD Cert.Tree.τ Cert.Tree.sig) → Buf (Elt Bits) ℓ) (g : Dev Cert.Tree.nD → PrngReg), Pre_Tree m →
    θ_run (Cert.Tree.defs (F := Bits)) (onTc (τ := Cert.Tree.τ) (Cert.Tree.main (F := Bits))) ⟨m, fun _ => 0, g⟩ (fun r => (∀ c : Dev Cert.Tree.nD,
      r.2.mem ((c.tc : Thread Cert.Tree.nD Cert.Tree.τ).loc Cert.Tree.main_arg0) = m ((c.tc : Thread Cert.Tree.nD Cert.Tree.τ).loc Cert.Tree.main_arg0)
      ∧ r.2.mem ((c.tc : Thread Cert.Tree.nD Cert.Tree.τ).loc Cert.Tree.main_arg1) = m ((c.tc : Thread Cert.Tree.nD Cert.Tree.τ).loc Cert.Tree.main_arg1)
      ∧ r.2.mem ((c.tc : Thread Cert.Tree.nD Cert.Tree.τ).loc Cert.Tree.main_arg2) = m ((c.tc : Thread Cert.Tree.nD Cert.Tree.τ).loc Cert.Tree.main_arg2))
      ∧ r.2.sem = fun _ => 0)

def quiescent_TreeIdeal [hTreeIdeal : Cert.TreeIdeal.Facts] : Prop :=
  ∀ (m : (ℓ : Loc Cert.TreeIdeal.nD Cert.TreeIdeal.τ Cert.TreeIdeal.sig) → Buf (Elt Ideal) ℓ) (g : Dev Cert.TreeIdeal.nD → PrngReg), Pre_TreeIdeal m →
    θ_run (Cert.TreeIdeal.defs (F := Ideal)) (onTc (τ := Cert.TreeIdeal.τ) (Cert.TreeIdeal.main (F := Ideal))) ⟨m, fun _ => 0, g⟩ (fun r => (∀ c : Dev Cert.TreeIdeal.nD,
      r.2.mem ((c.tc : Thread Cert.TreeIdeal.nD Cert.TreeIdeal.τ).loc Cert.TreeIdeal.main_arg0) = m ((c.tc : Thread Cert.TreeIdeal.nD Cert.TreeIdeal.τ).loc Cert.TreeIdeal.main_arg0)
      ∧ r.2.mem ((c.tc : Thread Cert.TreeIdeal.nD Cert.TreeIdeal.τ).loc Cert.TreeIdeal.main_arg1) = m ((c.tc : Thread Cert.TreeIdeal.nD Cert.TreeIdeal.τ).loc Cert.TreeIdeal.main_arg1)
      ∧ r.2.mem ((c.tc : Thread Cert.TreeIdeal.nD Cert.TreeIdeal.τ).loc Cert.TreeIdeal.main_arg2) = m ((c.tc : Thread Cert.TreeIdeal.nD Cert.TreeIdeal.τ).loc Cert.TreeIdeal.main_arg2))
      ∧ r.2.sem = fun _ => 0)

def quiescent_TreeReferenceIdeal [hTreeReferenceIdeal : Cert.TreeReferenceIdeal.Facts] : Prop :=
  ∀ (m : (ℓ : Loc Cert.TreeReferenceIdeal.nD Cert.TreeReferenceIdeal.τ Cert.TreeReferenceIdeal.sig) → Buf (Elt Ideal) ℓ) (g : Dev Cert.TreeReferenceIdeal.nD → PrngReg), Pre_TreeReferenceIdeal m →
    θ_run (Cert.TreeReferenceIdeal.defs (F := Ideal)) (onTc (τ := Cert.TreeReferenceIdeal.τ) (Cert.TreeReferenceIdeal.main (F := Ideal))) ⟨m, fun _ => 0, g⟩ (fun r => (∀ c : Dev Cert.TreeReferenceIdeal.nD,
      r.2.mem ((c.tc : Thread Cert.TreeReferenceIdeal.nD Cert.TreeReferenceIdeal.τ).loc Cert.TreeReferenceIdeal.main_arg0) = m ((c.tc : Thread Cert.TreeReferenceIdeal.nD Cert.TreeReferenceIdeal.τ).loc Cert.TreeReferenceIdeal.main_arg0)
      ∧ r.2.mem ((c.tc : Thread Cert.TreeReferenceIdeal.nD Cert.TreeReferenceIdeal.τ).loc Cert.TreeReferenceIdeal.main_arg1) = m ((c.tc : Thread Cert.TreeReferenceIdeal.nD Cert.TreeReferenceIdeal.τ).loc Cert.TreeReferenceIdeal.main_arg1)
      ∧ r.2.mem ((c.tc : Thread Cert.TreeReferenceIdeal.nD Cert.TreeReferenceIdeal.τ).loc Cert.TreeReferenceIdeal.main_arg2) = m ((c.tc : Thread Cert.TreeReferenceIdeal.nD Cert.TreeReferenceIdeal.τ).loc Cert.TreeReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v26)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v26) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v19) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Tree_TreeIdeal : Prop :=
  True

def algebraic_TreeIdeal_TreeReferenceIdeal [hTreeIdeal : Cert.TreeIdeal.Facts] [hTreeReferenceIdeal : Cert.TreeReferenceIdeal.Facts] : Prop :=
  ∀ (m : (ℓ : Loc Cert.TreeIdeal.nD Cert.TreeIdeal.τ Cert.TreeIdeal.sig) → Buf (Elt Ideal) ℓ) (g : Dev Cert.TreeIdeal.nD → PrngReg)
    (m' : (ℓ : Loc Cert.TreeReferenceIdeal.nD Cert.TreeReferenceIdeal.τ Cert.TreeReferenceIdeal.sig) → Buf (Elt Ideal) ℓ) (g' : Dev Cert.TreeReferenceIdeal.nD → PrngReg), Pre_TreeIdeal m →
    (∀ c : Dev Cert.TreeIdeal.nD,
      m' ((c.tc : Thread Cert.TreeReferenceIdeal.nD Cert.TreeReferenceIdeal.τ).loc Cert.TreeReferenceIdeal.main_arg0) = m ((c.tc : Thread Cert.TreeIdeal.nD Cert.TreeIdeal.τ).loc Cert.TreeIdeal.main_arg0)
      ∧ m' ((c.tc : Thread Cert.TreeReferenceIdeal.nD Cert.TreeReferenceIdeal.τ).loc Cert.TreeReferenceIdeal.main_arg1) = m ((c.tc : Thread Cert.TreeIdeal.nD Cert.TreeIdeal.τ).loc Cert.TreeIdeal.main_arg1)
      ∧ m' ((c.tc : Thread Cert.TreeReferenceIdeal.nD Cert.TreeReferenceIdeal.τ).loc Cert.TreeReferenceIdeal.main_arg2) = m ((c.tc : Thread Cert.TreeIdeal.nD Cert.TreeIdeal.τ).loc Cert.TreeIdeal.main_arg2)) →
    ∃ (v0 : (c : Dev Cert.TreeIdeal.nD) → Buf (Elt Ideal) ((c.tc : Thread Cert.TreeIdeal.nD Cert.TreeIdeal.τ).loc Cert.TreeIdeal.main_v57)),
      θ_run (Cert.TreeIdeal.defs (F := Ideal)) (onTc (τ := Cert.TreeIdeal.τ) (Cert.TreeIdeal.main (F := Ideal))) ⟨m, fun _ => 0, g⟩ (fun r => ∀ c : Dev Cert.TreeIdeal.nD,
          r.2.mem ((c.tc : Thread Cert.TreeIdeal.nD Cert.TreeIdeal.τ).loc Cert.TreeIdeal.main_v57) = v0 c
          ∧ r.2.mem ((c.tc : Thread Cert.TreeIdeal.nD Cert.TreeIdeal.τ).loc Cert.TreeIdeal.main_arg0) = m ((c.tc : Thread Cert.TreeIdeal.nD Cert.TreeIdeal.τ).loc Cert.TreeIdeal.main_arg0)
          ∧ r.2.mem ((c.tc : Thread Cert.TreeIdeal.nD Cert.TreeIdeal.τ).loc Cert.TreeIdeal.main_arg1) = m ((c.tc : Thread Cert.TreeIdeal.nD Cert.TreeIdeal.τ).loc Cert.TreeIdeal.main_arg1)
          ∧ r.2.mem ((c.tc : Thread Cert.TreeIdeal.nD Cert.TreeIdeal.τ).loc Cert.TreeIdeal.main_arg2) = m ((c.tc : Thread Cert.TreeIdeal.nD Cert.TreeIdeal.τ).loc Cert.TreeIdeal.main_arg2))
      ∧ θ_run (Cert.TreeReferenceIdeal.defs (F := Ideal)) (onTc (τ := Cert.TreeReferenceIdeal.τ) (Cert.TreeReferenceIdeal.main (F := Ideal))) ⟨m', fun _ => 0, g'⟩ (fun r => ∀ c : Dev Cert.TreeReferenceIdeal.nD,
          r.2.mem ((c.tc : Thread Cert.TreeReferenceIdeal.nD Cert.TreeReferenceIdeal.τ).loc Cert.TreeReferenceIdeal.main_v267) = v0 c
          ∧ r.2.mem ((c.tc : Thread Cert.TreeReferenceIdeal.nD Cert.TreeReferenceIdeal.τ).loc Cert.TreeReferenceIdeal.main_arg0) = m' ((c.tc : Thread Cert.TreeReferenceIdeal.nD Cert.TreeReferenceIdeal.τ).loc Cert.TreeReferenceIdeal.main_arg0)
          ∧ r.2.mem ((c.tc : Thread Cert.TreeReferenceIdeal.nD Cert.TreeReferenceIdeal.τ).loc Cert.TreeReferenceIdeal.main_arg1) = m' ((c.tc : Thread Cert.TreeReferenceIdeal.nD Cert.TreeReferenceIdeal.τ).loc Cert.TreeReferenceIdeal.main_arg1)
          ∧ r.2.mem ((c.tc : Thread Cert.TreeReferenceIdeal.nD Cert.TreeReferenceIdeal.τ).loc Cert.TreeReferenceIdeal.main_arg2) = m' ((c.tc : Thread Cert.TreeReferenceIdeal.nD Cert.TreeReferenceIdeal.τ).loc Cert.TreeReferenceIdeal.main_arg2))

def Claim : Prop :=
  ∃ (hKernel : Cert.Kernel.Facts) (hKernelIdeal : Cert.KernelIdeal.Facts) (hReferenceIdeal : Cert.ReferenceIdeal.Facts) (hReference : Cert.Reference.Facts) (hTree : Cert.Tree.Facts) (hTreeIdeal : Cert.TreeIdeal.Facts) (hTreeReferenceIdeal : Cert.TreeReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Reference (hReference := hReference) (hPre_in_range := hPre_in_range)
    ∧ quiescent_Tree (hTree := hTree)
    ∧ quiescent_TreeIdeal (hTreeIdeal := hTreeIdeal)
    ∧ quiescent_TreeReferenceIdeal (hTreeReferenceIdeal := hTreeReferenceIdeal)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
    ∧ preserves_Tree_TreeIdeal
    ∧ algebraic_TreeIdeal_TreeReferenceIdeal (hTreeIdeal := hTreeIdeal) (hTreeReferenceIdeal := hTreeReferenceIdeal)
-- ==== Pre_in_range.lean ====
abbrev S8x256x4 : Shape := ⟨3, ![8, 256, 4]⟩
abbrev S352256 : Shape := ⟨1, ![352256]⟩
abbrev S_ : Shape := ⟨0, ![]⟩

class Facts : Prop where
  bcast_S_S352256 : S_.BroadcastsInDim S352256 (![] : Fin 0 → Fin S352256.rank)
  reducesTo_S352256_S_d0 : S352256.ReducesTo [0] S_
  h_S_ : 0 < S_.numel

variable [Facts]

def fn {F : FTy → Type} [FloatOps F] (main_arg0 : FVec F S8x256x4 .f32) (main_arg1 : IVec S352256 32) : IVec S_ 1 :=
  let main_c : IVec S_ 32 := constantI S_ 32 0#32
  let main_v0 : IVec S352256 32 := broadcastInDim S352256 ![] bcast_S_S352256 main_c
  let main_v1 : IVec S352256 1 := cmpi .sge main_arg1 main_v0
  let main_c_0 : IVec S_ 32 := constantI S_ 32 256#32
  let main_v2 : IVec S352256 32 := broadcastInDim S352256 ![] bcast_S_S352256 main_c_0
  let main_v3 : IVec S352256 1 := cmpi .slt main_arg1 main_v2
  let main_v4 : IVec S352256 1 := andi main_v1 main_v3
  let main_c_1 : IVec S_ 1 := constantI S_ 1 1#1
  let main_v5 : IVec S_ 1 := (fun x v => Host.reduce IntOp.andi x v reducesTo_S352256_S_d0 h_S_) main_v4 main_c_1
  main_v5
-- ==== Kernel.lean ====
abbrev S8x256x4 : Shape := ⟨3, ![8, 256, 4]⟩
abbrev S352256 : Shape := ⟨1, ![352256]⟩
abbrev S_ : Shape := ⟨0, ![]⟩
abbrev S8x4 : Shape := ⟨2, ![8, 4]⟩
abbrev S8x1x4 : Shape := ⟨3, ![8, 1, 4]⟩
abbrev S256x8x4 : Shape := ⟨3, ![256, 8, 4]⟩
abbrev S256x32 : Shape := ⟨2, ![256, 32]⟩
abbrev S256x128 : Shape := ⟨2, ![256, 128]⟩
abbrev S88064 : Shape := ⟨1, ![88064]⟩
abbrev S1x88064 : Shape := ⟨2, ![1, 88064]⟩
abbrev S88064x32 : Shape := ⟨2, ![88064, 32]⟩
abbrev S128x128 : Shape := ⟨2, ![128, 128]⟩
abbrev S2x1x128 : Shape := ⟨3, ![2, 1, 128]⟩
abbrev S2 : Shape := ⟨1, ![2]⟩
abbrev S2x128x32 : Shape := ⟨3, ![2, 128, 32]⟩
abbrev S1x1x128 : Shape := ⟨3, ![1, 1, 128]⟩
abbrev S1x128 : Shape := ⟨2, ![1, 128]⟩
abbrev S1 : Shape := ⟨1, ![1]⟩
abbrev S128 : Shape := ⟨1, ![128]⟩
abbrev S1x16 : Shape := ⟨2, ![1, 16]⟩
abbrev S1x128x32 : Shape := ⟨3, ![1, 128, 32]⟩
abbrev S128x32 : Shape := ⟨2, ![128, 32]⟩
abbrev S352256x32 : Shape := ⟨2, ![352256, 32]⟩

abbrev nBuf : Table → Nat
  | .hbm => 34
  | .local .scVector .vmem => 12
  | _ => 0

abbrev bufTy : (tb : Table) → Fin (nBuf tb) → BufTy
  | .hbm, ⟨0, _⟩ => ⟨S8x256x4, .f32⟩
  | .hbm, ⟨1, _⟩ => ⟨S352256, .i32⟩
  | .hbm, ⟨2, _⟩ => ⟨S_, .f32⟩
  | .hbm, ⟨3, _⟩ => ⟨S8x4, .f32⟩
  | .hbm, ⟨4, _⟩ => ⟨S_, .f32⟩
  | .hbm, ⟨5, _⟩ => ⟨S8x4, .f32⟩
  | .hbm, ⟨6, _⟩ => ⟨S8x4, .f32⟩
  | .hbm, ⟨7, _⟩ => ⟨S8x1x4, .f32⟩
  | .hbm, ⟨8, _⟩ => ⟨S8x256x4, .f32⟩
  | .hbm, ⟨9, _⟩ => ⟨S8x256x4, .f32⟩
  | .hbm, ⟨10, _⟩ => ⟨S8x256x4, .f32⟩
  | .hbm, ⟨11, _⟩ => ⟨S_, .f32⟩
  | .hbm, ⟨12, _⟩ => ⟨S8x4, .f32⟩
  | .hbm, ⟨13, _⟩ => ⟨S8x1x4, .f32⟩
  | .hbm, ⟨14, _⟩ => ⟨S8x256x4, .f32⟩
  | .hbm, ⟨15, _⟩ => ⟨S8x256x4, .f32⟩
  | .hbm, ⟨16, _⟩ => ⟨S256x8x4, .f32⟩
  | .hbm, ⟨17, _⟩ => ⟨S256x32, .f32⟩
  | .hbm, ⟨18, _⟩ => ⟨S_, .i32⟩
  | .hbm, ⟨19, _⟩ => ⟨S_, .f32⟩
  | .hbm, ⟨20, _⟩ => ⟨S256x128, .f32⟩
  | .hbm, ⟨21, _⟩ => ⟨S88064, .i32⟩
  | .hbm, ⟨22, _⟩ => ⟨S1x88064, .i32⟩
  | .hbm, ⟨23, _⟩ => ⟨S88064x32, .f32⟩
  | .hbm, ⟨24, _⟩ => ⟨S88064, .i32⟩
  | .hbm, ⟨25, _⟩ => ⟨S1x88064, .i32⟩
  | .hbm, ⟨26, _⟩ => ⟨S88064x32, .f32⟩
  | .hbm, ⟨27, _⟩ => ⟨S88064, .i32⟩
  | .hbm, ⟨28, _⟩ => ⟨S1x88064, .i32⟩
  | .hbm, ⟨29, _⟩ => ⟨S88064x32, .f32⟩
  | .hbm, ⟨30, _⟩ => ⟨S88064, .i32⟩
  | .hbm, ⟨31, _⟩ => ⟨S1x88064, .i32⟩
  | .hbm, ⟨32, _⟩ => ⟨S88064x32, .f32⟩
  | .hbm, ⟨33, _⟩ => ⟨S352256x32, .f32⟩
  | .local .scVector .vmem, ⟨0, _⟩ => ⟨S128x128, .f32⟩
  | .local .scVector .vmem, ⟨1, _⟩ => ⟨S2x1x128, .i32⟩
  | .local .scVector .vmem, ⟨2, _⟩ => ⟨S2x128x32, .f32⟩
  | .local .scVector .vmem, ⟨3, _⟩ => ⟨S128x128, .f32⟩
  | .local .scVector .vmem, ⟨4, _⟩ => ⟨S2x1x128, .i32⟩
  | .local .scVector .vmem, ⟨5, _⟩ => ⟨S2x128x32, .f32⟩
  | .local .scVector .vmem, ⟨6, _⟩ => ⟨S128x128, .f32⟩
  | .local .scVector .vmem, ⟨7, _⟩ => ⟨S2x1x128, .i32⟩
  | .local .scVector .vmem, ⟨8, _⟩ => ⟨S2x128x32, .f32⟩
  | .local .scVector .vmem, ⟨9, _⟩ => ⟨S128x128, .f32⟩
  | .local .scVector .vmem, ⟨10, _⟩ => ⟨S2x1x128, .i32⟩
  | .local .scVector .vmem, ⟨11, _⟩ => ⟨S2x128x32, .f32⟩
  | _, _ => ⟨S8x256x4, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v13_scv : Ref sig .scVector := ⟨.hbm, 20, rfl⟩
abbrev main_v15_scv : Ref sig .scVector := ⟨.hbm, 22, rfl⟩
abbrev main_v16_scv : Ref sig .scVector := ⟨.hbm, 23, rfl⟩
abbrev main_v18_scv : Ref sig .scVector := ⟨.hbm, 25, rfl⟩
abbrev main_v19_scv : Ref sig .scVector := ⟨.hbm, 26, rfl⟩
abbrev main_v21_scv : Ref sig .scVector := ⟨.hbm, 28, rfl⟩
abbrev main_v22_scv : Ref sig .scVector := ⟨.hbm, 29, rfl⟩
abbrev main_v24_scv : Ref sig .scVector := ⟨.hbm, 31, rfl⟩
abbrev main_v25_scv : Ref sig .scVector := ⟨.hbm, 32, rfl⟩
abbrev cc0_scratch0 : Ref sig .scVector := ⟨.vmem, 0, rfl⟩
abbrev cc0_scoped0 : Ref sig .scVector := ⟨.vmem, 1, rfl⟩
abbrev cc0_scoped2 : Ref sig .scVector := ⟨.vmem, 2, rfl⟩
abbrev cc1_scratch0 : Ref sig .scVector := ⟨.vmem, 3, rfl⟩
abbrev cc1_scoped0 : Ref sig .scVector := ⟨.vmem, 4, rfl⟩
abbrev cc1_scoped2 : Ref sig .scVector := ⟨.vmem, 5, rfl⟩
abbrev cc2_scratch0 : Ref sig .scVector := ⟨.vmem, 6, rfl⟩
abbrev cc2_scoped0 : Ref sig .scVector := ⟨.vmem, 7, rfl⟩
abbrev cc2_scoped2 : Ref sig .scVector := ⟨.vmem, 8, rfl⟩
abbrev cc3_scratch0 : Ref sig .scVector := ⟨.vmem, 9, rfl⟩
abbrev cc3_scoped0 : Ref sig .scVector := ⟨.vmem, 10, rfl⟩
abbrev cc3_scoped2 : Ref sig .scVector := ⟨.vmem, 11, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v11 : BitVec 32 := Scalar.muli c1_i32_4 v5
  let c0_i32_6_r0 : BitVec 32 := 0#32
  let v14_r0 : BitVec 1 := Scalar.cmpi .sgt v11 c0_i32_6_r0
  let v15_r0 : BitVec 32 := Scalar.extui v14_r0
  let c0_i32_7_r0 : BitVec 32 := 0#32
  let v16_r0 : BitVec 1 := Scalar.cmpi .ne v15_r0 c0_i32_7_r0
  v16_r0

def k0_cond2 (i : grid0.Coords) : BitVec 1 :=
  let true_23_r0 : BitVec 1 := 1#1
  let c1_i32_8_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v17_r0 : BitVec 32 := Scalar.muli c1_i32_8_r0 v5
  let c0_i32_22_r0 : BitVec 32 := 0#32
  let v35_r0 : BitVec 1 := Scalar.cmpi .sgt v17_r0 c0_i32_22_r0
  let v36_r0 : BitVec 1 := Scalar.andi true_23_r0 v35_r0
  let true_24_r0 : BitVec 1 := 1#1
  let v37_r0 : BitVec 1 := Scalar.andi v36_r0 true_24_r0
  let v38_r0 : BitVec 32 := Scalar.extui v37_r0
  let c0_i32_26_r0 : BitVec 32 := 0#32
  let v39_r0 : BitVec 1 := Scalar.cmpi .ne v38_r0 c0_i32_26_r0
  v39_r0

def k0_off1 : Fin 3 → Nat :=
  let c0_i32_25_r0 : BitVec 32 := 0#32
  let c2_i32_r0 : BitVec 32 := 2#32
  let v80_r0 : BitVec 32 := Scalar.remui c0_i32_25_r0 c2_i32_r0
  let c0_i32_58_r0 : BitVec 32 := 0#32
  let c0_i32_59_r0 : BitVec 32 := 0#32
  ![v80_r0.toNat, 0, 0]
def k0_off2 (i : grid0.Coords) : Fin 2 → Nat :=
  let c0_i32_60_r0 : BitVec 32 := 0#32
  let c128_i32_r0 : BitVec 32 := 128#32
  let c0_i32_11_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v20_r0 : BitVec 32 := Scalar.addi c0_i32_11_r0 v10
  let v81_r0 : BitVec 32 := Scalar.muli c128_i32_r0 v20_r0
  ![0, v81_r0.toNat]
def k0_off3 : Fin 1 → Nat :=
  let c0_i32_25_r0 : BitVec 32 := 0#32
  let c2_i32_r0 : BitVec 32 := 2#32
  let v80_r0 : BitVec 32 := Scalar.remui c0_i32_25_r0 c2_i32_r0
  ![v80_r0.toNat]
@[reducible] def k0_t1_loop (i : grid0.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_36_r0 : BitVec 32 := 1#32
  ⟨c0_i32_30_r0, v46_r0, c1_i32_36_r0⟩
def k0_off4 (arg7_r0 : BitVec 32) : Fin 3 → Nat :=
  let c2_i32_105_r0 : BitVec 32 := 2#32
  let v168_r0 : BitVec 32 := Scalar.remui arg7_r0 c2_i32_105_r0
  let c0_i32_107_r0 : BitVec 32 := 0#32
  let c0_i32_108_r0 : BitVec 32 := 0#32
  ![v168_r0.toNat, 0, 0]
def k0_cond3 (i : grid0.Coords) (k0_t1 : Fin (k0_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_36_r0 : BitVec 32 := 1#32
  let arg6_r0 : BitVec 32 := Scf.iv c0_i32_30_r0 c1_i32_36_r0 k0_t1
  let c1_i32_58_r0 : BitVec 32 := 1#32
  let v80_r0 : BitVec 32 := Scalar.muli c1_i32_58_r0 v5
  let c2_i32_r0 : BitVec 32 := 2#32
  let v102_r0 : BitVec 32 := Scalar.subi v80_r0 c2_i32_r0
  let c1_i32_71_r0 : BitVec 32 := 1#32
  let v103_r0 : BitVec 32 := Scalar.addi v102_r0 c1_i32_71_r0
  let v104_r0 : BitVec 1 := Scalar.cmpi .sge arg6_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k0_off5 (i : grid0.Coords) (arg11_r0 : BitVec 32) : Fin 2 → Nat :=
  let c0_i32_109_r0 : BitVec 32 := 0#32
  let c128_i32_106_r0 : BitVec 32 := 128#32
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v169_r0 : BitVec 32 := Scalar.muli c128_i32_106_r0 v95_r0
  ![0, v169_r0.toNat]
def k0_off6 (arg7_r0 : BitVec 32) : Fin 1 → Nat :=
  let c2_i32_105_r0 : BitVec 32 := 2#32
  let v168_r0 : BitVec 32 := Scalar.remui arg7_r0 c2_i32_105_r0
  ![v168_r0.toNat]
def k0_off7 (arg8_r0 : BitVec 32) : Fin 3 → Nat :=
  let c2_i32_106_r0 : BitVec 32 := 2#32
  let v169_r0 : BitVec 32 := Scalar.remui arg8_r0 c2_i32_106_r0
  let c0_i32_107_r0 : BitVec 32 := 0#32
  let c0_i32_108_r0 : BitVec 32 := 0#32
  ![v169_r0.toNat, 0, 0]
def k0_cond4 (i : grid0.Coords) (k0_t1 : Fin (k0_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_36_r0 : BitVec 32 := 1#32
  let arg6_r0 : BitVec 32 := Scf.iv c0_i32_30_r0 c1_i32_36_r0 k0_t1
  let c0_i32_59_r0 : BitVec 32 := 0#32
  let v81_r0 : BitVec 1 := Scalar.cmpi .eq arg6_r0 c0_i32_59_r0
  let v120_r0 : BitVec 1 := Scalar.ori v119_r0 v81_r0
  let c0_i32_80_r0 : BitVec 32 := 0#32
  let v121_r0 : BitVec 1 := Scalar.cmpi .sge arg6_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k0_off8 (i : grid0.Coords) (arg11_r0 : BitVec 32) : Fin 2 → Nat :=
  let c0_i32_109_r0 : BitVec 32 := 0#32
  let c128_i32_105_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let v168_r0 : BitVec 32 := Scalar.muli c128_i32_105_r0 v84_r0
  ![0, v168_r0.toNat]
def k0_off9 (arg8_r0 : BitVec 32) : Fin 1 → Nat :=
  let c2_i32_106_r0 : BitVec 32 := 2#32
  let v169_r0 : BitVec 32 := Scalar.remui arg8_r0 c2_i32_106_r0
  ![v169_r0.toNat]
def k0_off10 (arg8_r0 : BitVec 32) : Fin 3 → Nat :=
  let c2_i32_84_r0 : BitVec 32 := 2#32
  let v131_r0 : BitVec 32 := Scalar.remui arg8_r0 c2_i32_84_r0
  let c0_i32_105_r1 : BitVec 32 := 0#32
  let c0_i32_106_r1 : BitVec 32 := 0#32
  ![v131_r0.toNat, 0, 0]

def k0_chk2 (i : grid0.Coords) (arg8_r0 : BitVec 32) : Prop :=
  (∀ (k0_h1 : k0_cond1 i = 1#1), ∀ a, (k0_off10 arg8_r0) a + S1x1x128.size a ≤ S2x1x128.size a)
theorem k0_off10_inb : ∀ (i : grid0.Coords) (arg8_r0 : BitVec 32) (k0_hw2 : k0_chk2 i arg8_r0), ∀ (k0_h1 : k0_cond1 i = 1#1), ∀ a, (k0_off10 arg8_r0) a + S1x1x128.size a ≤ S2x1x128.size a := fun i arg8_r0 k0_hw2 k0_h1 => k0_hw2 k0_h1

@[reducible] def k0_t2_loop : Scf.Loop 32 :=
  let c0_i32_87_r0 : BitVec 32 := 0#32
  let c128_i32_r0 : BitVec 32 := 128#32
  let v133_r0 : BitVec 32 := Scalar.addi c0_i32_87_r0 c128_i32_r0
  let c1_i32_88_r0 : BitVec 32 := 1#32
  ⟨c0_i32_87_r0, v133_r0, c1_i32_88_r0⟩
def k0_off11 (k0_t2 : Fin k0_t2_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k0_t2
  let c1_i32_105_r0 : BitVec 32 := 1#32
  let v168_r0 : BitVec 32 := Scalar.muli arg12_r0 c1_i32_105_r0
  let v169_r0 : BitVec 32 := Scalar.addi c0_i32_106_r0 v168_r0
  let v170_r0 : Index := Scalar.indexCast v169_r0
  let c0_r0 : Index := 0#32
  ![v170_r0.toNat, 0]
def k0_off12 (arg9_r0 : BitVec 32) : Fin 3 → Nat :=
  let c2_i32_85_r0 : BitVec 32 := 2#32
  let v132_r0 : BitVec 32 := Scalar.remui arg9_r0 c2_i32_85_r0
  let c0_i32_107_r0 : BitVec 32 := 0#32
  let c0_i32_108_r0 : BitVec 32 := 0#32
  ![v132_r0.toNat, 0, 0]

def k0_chk3 (i : grid0.Coords) (arg9_r0 : BitVec 32) : Prop :=
  (∀ (k0_h1 : k0_cond1 i = 1#1), ∀ a, (k0_off12 arg9_r0) a + S1x128x32.size a ≤ S2x128x32.size a)
theorem k0_off12_inb : ∀ (i : grid0.Coords) (arg9_r0 : BitVec 32) (k0_hw3 : k0_chk3 i arg9_r0), ∀ (k0_h1 : k0_cond1 i = 1#1), ∀ a, (k0_off12 arg9_r0) a + S1x128x32.size a ≤ S2x128x32.size a := fun i arg9_r0 k0_hw3 k0_h1 => k0_hw3 k0_h1

def k0_off13 (k0_t2 : Fin k0_t2_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k0_t2
  let c1_i32_105_r0 : BitVec 32 := 1#32
  let v168_r0 : BitVec 32 := Scalar.muli arg12_r0 c1_i32_105_r0
  let v169_r0 : BitVec 32 := Scalar.addi c0_i32_106_r0 v168_r0
  let v175_r0 : Index := Scalar.indexCast v169_r0
  let c0_109_r0 : Index := 0#32
  ![v175_r0.toNat, 0]
def k0_off14 (k0_t2 : Fin k0_t2_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k0_t2
  let c1_i32_105_r0 : BitVec 32 := 1#32
  let v168_r0 : BitVec 32 := Scalar.muli arg12_r0 c1_i32_105_r0
  let v169_r0 : BitVec 32 := Scalar.addi c0_i32_106_r0 v168_r0
  let v179_r0 : Index := Scalar.indexCast v169_r0
  let c16_r0 : Index := 16#32
  ![v179_r0.toNat, 16]
def k0_off15 (k0_t2 : Fin k0_t2_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k0_t2
  let c1_i32_105_r0 : BitVec 32 := 1#32
  let v168_r0 : BitVec 32 := Scalar.muli arg12_r0 c1_i32_105_r0
  let v169_r0 : BitVec 32 := Scalar.addi c0_i32_106_r0 v168_r0
  let v184_r0 : Index := Scalar.indexCast v169_r0
  let c16_112_r0 : Index := 16#32
  ![v184_r0.toNat, 16]
def k0_off16 (arg9_r0 : BitVec 32) : Fin 3 → Nat :=
  let c2_i32_105_r0 : BitVec 32 := 2#32
  let v168_r0 : BitVec 32 := Scalar.remui arg9_r0 c2_i32_105_r0
  let c0_i32_107_r0 : BitVec 32 := 0#32
  let c0_i32_108_r0 : BitVec 32 := 0#32
  ![v168_r0.toNat, 0, 0]
def k0_cond7 (i : grid0.Coords) (k0_t1 : Fin (k0_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v139_r0 : BitVec 1 := Scalar.cmpi .ne v84_r0 v95_r0
  let c0_i32_30_r0 : BitVec 32 := 0#32
  let c1_i32_36_r0 : BitVec 32 := 1#32
  let arg6_r0 : BitVec 32 := Scf.iv c0_i32_30_r0 c1_i32_36_r0 k0_t1
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg6_r0 v82_r0
  let v140_r0 : BitVec 1 := Scalar.ori v139_r0 v83_r0
  let v141_r0 : BitVec 32 := Scalar.extui v140_r0
  let c0_i32_91_r0 : BitVec 32 := 0#32
  let v142_r0 : BitVec 1 := Scalar.cmpi .ne v141_r0 c0_i32_91_r0
  v142_r0

def k0_off17 (i : grid0.Coords) (arg11_r0 : BitVec 32) : Fin 2 → Nat :=
  let c128_i32_106_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let v169_r0 : BitVec 32 := Scalar.muli c128_i32_106_r0 v84_r0
  let c0_i32_109_r0 : BitVec 32 := 0#32
  ![v169_r0.toNat, 0]
def k0_off18 (arg9_r0 : BitVec 32) : Fin 1 → Nat :=
  let c2_i32_105_r0 : BitVec 32 := 2#32
  let v168_r0 : BitVec 32 := Scalar.remui arg9_r0 c2_i32_105_r0
  ![v168_r0.toNat]
def k0_off19 (arg10_r0 : BitVec 32) : Fin 3 → Nat :=
  let c2_i32_105_r0 : BitVec 32 := 2#32
  let v168_r0 : BitVec 32 := Scalar.remui arg10_r0 c2_i32_105_r0
  let c0_i32_107_r0 : BitVec 32 := 0#32
  let c0_i32_108_r0 : BitVec 32 := 0#32
  ![v168_r0.toNat, 0, 0]
def k0_cond9 (i : grid0.Coords) (k0_t1 : Fin (k0_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v152_r0 : BitVec 1 := Scalar.cmpi .ne v84_r0 v90_r0
  let c0_i32_30_r0 : BitVec 32 := 0#32
  let c1_i32_36_r0 : BitVec 32 := 1#32
  let arg6_r0 : BitVec 32 := Scf.iv c0_i32_30_r0 c1_i32_36_r0 k0_t1
  let c0_i32_59_r0 : BitVec 32 := 0#32
  let v81_r0 : BitVec 1 := Scalar.cmpi .eq arg6_r0 c0_i32_59_r0
  let true_97_r0 : BitVec 1 := 1#1
  let v153_r0 : BitVec 1 := Scalar.xori v81_r0 true_97_r0
  let v154_r0 : BitVec 1 := Scalar.andi v152_r0 v153_r0
  let v155_r0 : BitVec 32 := Scalar.extui v154_r0
  let c0_i32_98_r0 : BitVec 32 := 0#32
  let v156_r0 : BitVec 1 := Scalar.cmpi .ne v155_r0 c0_i32_98_r0
  v156_r0

def k0_off20 (i : grid0.Coords) (arg11_r0 : BitVec 32) : Fin 2 → Nat :=
  let c128_i32_106_r0 : BitVec 32 := 128#32
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v169_r0 : BitVec 32 := Scalar.muli c128_i32_106_r0 v90_r0
  let c0_i32_109_r0 : BitVec 32 := 0#32
  ![v169_r0.toNat, 0]
def k0_off21 (arg10_r0 : BitVec 32) : Fin 1 → Nat :=
  let c2_i32_105_r0 : BitVec 32 := 2#32
  let v168_r0 : BitVec 32 := Scalar.remui arg10_r0 c2_i32_105_r0
  ![v168_r0.toNat]

def k0_chk1 (i : grid0.Coords) (k0_t1 : Fin (k0_t1_loop i).trips) (arg7_r0 : BitVec 32) (arg8_r0 : BitVec 32) (arg9_r0 : BitVec 32) (arg10_r0 : BitVec 32) (arg11_r0 : BitVec 32) : Prop :=
  (∀ (k0_h1 : k0_cond1 i = 1#1), ∀ (k0_h3 : k0_cond3 i k0_t1 arg11_r0 = 1#1), ∀ a, (k0_off4 arg7_r0) a + S1x1x128.size a ≤ S2x1x128.size a) ∧
  (∀ (k0_h1 : k0_cond1 i = 1#1), ∀ (k0_h3 : k0_cond3 i k0_t1 arg11_r0 = 1#1), ∀ a, (k0_off5 i arg11_r0) a + S1x128.size a ≤ S1x88064.size a) ∧
  (∀ (k0_h1 : k0_cond1 i = 1#1), ∀ (k0_h3 : k0_cond3 i k0_t1 arg11_r0 = 1#1), ∀ a, (k0_off6 arg7_r0) a + S1.size a ≤ S2.size a) ∧
  (∀ (k0_h1 : k0_cond1 i = 1#1), ∀ (k0_h4 : k0_cond4 i k0_t1 arg11_r0 = 1#1), ∀ a, (k0_off7 arg8_r0) a + S1x1x128.size a ≤ S2x1x128.size a) ∧
  (∀ (k0_h1 : k0_cond1 i = 1#1), ∀ (k0_h4 : k0_cond4 i k0_t1 arg11_r0 = 1#1), ∀ a, (k0_off8 i arg11_r0) a + S1x128.size a ≤ S1x88064.size a) ∧
  (∀ (k0_h1 : k0_cond1 i = 1#1), ∀ (k0_h4 : k0_cond4 i k0_t1 arg11_r0 = 1#1), ∀ a, (k0_off9 arg8_r0) a + S1.size a ≤ S2.size a) ∧
  (∀ (k0_h1 : k0_cond1 i = 1#1), ∀ (k0_h7 : k0_cond7 i k0_t1 arg11_r0 = 1#1), ∀ a, (k0_off16 arg9_r0) a + S1x128x32.size a ≤ S2x128x32.size a) ∧
  (∀ (k0_h1 : k0_cond1 i = 1#1), ∀ (k0_h7 : k0_cond7 i k0_t1 arg11_r0 = 1#1), ∀ a, (k0_off17 i arg11_r0) a + S128x32.size a ≤ S88064x32.size a) ∧
  (∀ (k0_h1 : k0_cond1 i = 1#1), ∀ (k0_h7 : k0_cond7 i k0_t1 arg11_r0 = 1#1), ∀ a, (k0_off18 arg9_r0) a + S1.size a ≤ S2.size a) ∧
  (∀ (k0_h1 : k0_cond1 i = 1#1), ∀ (k0_h9 : k0_cond9 i k0_t1 arg11_r0 = 1#1), ∀ a, (k0_off19 arg10_r0) a + S1x128x32.size a ≤ S2x128x32.size a) ∧
  (∀ (k0_h1 : k0_cond1 i = 1#1), ∀ (k0_h9 : k0_cond9 i k0_t1 arg11_r0 = 1#1), ∀ a, (k0_off20 i arg11_r0) a + S128x32.size a ≤ S88064x32.size a) ∧
  (∀ (k0_h1 : k0_cond1 i = 1#1), ∀ (k0_h9 : k0_cond9 i k0_t1 arg11_r0 = 1#1), ∀ a, (k0_off21 arg10_r0) a + S1.size a ≤ S2.size a)
theorem k0_off4_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h3 : k0_cond3 i k0_t1 arg11_r0 = 1#1), ∀ a, (k0_off4 arg7_r0) a + S1x1x128.size a ≤ S2x1x128.size a := fun i k0_t1 arg7_r0 arg8_r0 arg9_r0 arg10_r0 arg11_r0 k0_hw1 k0_h1 k0_h3 => k0_hw1.1 k0_h1 k0_h3
theorem k0_off5_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h3 : k0_cond3 i k0_t1 arg11_r0 = 1#1), ∀ a, (k0_off5 i arg11_r0) a + S1x128.size a ≤ S1x88064.size a := fun i k0_t1 arg7_r0 arg8_r0 arg9_r0 arg10_r0 arg11_r0 k0_hw1 k0_h1 k0_h3 => k0_hw1.2.1 k0_h1 k0_h3
theorem k0_off6_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h3 : k0_cond3 i k0_t1 arg11_r0 = 1#1), ∀ a, (k0_off6 arg7_r0) a + S1.size a ≤ S2.size a := fun i k0_t1 arg7_r0 arg8_r0 arg9_r0 arg10_r0 arg11_r0 k0_hw1 k0_h1 k0_h3 => k0_hw1.2.2.1 k0_h1 k0_h3
theorem k0_off7_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h4 : k0_cond4 i k0_t1 arg11_r0 = 1#1), ∀ a, (k0_off7 arg8_r0) a + S1x1x128.size a ≤ S2x1x128.size a := fun i k0_t1 arg7_r0 arg8_r0 arg9_r0 arg10_r0 arg11_r0 k0_hw1 k0_h1 k0_h4 => k0_hw1.2.2.2.1 k0_h1 k0_h4
theorem k0_off8_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h4 : k0_cond4 i k0_t1 arg11_r0 = 1#1), ∀ a, (k0_off8 i arg11_r0) a + S1x128.size a ≤ S1x88064.size a := fun i k0_t1 arg7_r0 arg8_r0 arg9_r0 arg10_r0 arg11_r0 k0_hw1 k0_h1 k0_h4 => k0_hw1.2.2.2.2.1 k0_h1 k0_h4
theorem k0_off9_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h4 : k0_cond4 i k0_t1 arg11_r0 = 1#1), ∀ a, (k0_off9 arg8_r0) a + S1.size a ≤ S2.size a := fun i k0_t1 arg7_r0 arg8_r0 arg9_r0 arg10_r0 arg11_r0 k0_hw1 k0_h1 k0_h4 => k0_hw1.2.2.2.2.2.1 k0_h1 k0_h4
theorem k0_off16_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h7 : k0_cond7 i k0_t1 arg11_r0 = 1#1), ∀ a, (k0_off16 arg9_r0) a + S1x128x32.size a ≤ S2x128x32.size a := fun i k0_t1 arg7_r0 arg8_r0 arg9_r0 arg10_r0 arg11_r0 k0_hw1 k0_h1 k0_h7 => k0_hw1.2.2.2.2.2.2.1 k0_h1 k0_h7
theorem k0_off17_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h7 : k0_cond7 i k0_t1 arg11_r0 = 1#1), ∀ a, (k0_off17 i arg11_r0) a + S128x32.size a ≤ S88064x32.size a := fun i k0_t1 arg7_r0 arg8_r0 arg9_r0 arg10_r0 arg11_r0 k0_hw1 k0_h1 k0_h7 => k0_hw1.2.2.2.2.2.2.2.1 k0_h1 k0_h7
theorem k0_off18_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h7 : k0_cond7 i k0_t1 arg11_r0 = 1#1), ∀ a, (k0_off18 arg9_r0) a + S1.size a ≤ S2.size a := fun i k0_t1 arg7_r0 arg8_r0 arg9_r0 arg10_r0 arg11_r0 k0_hw1 k0_h1 k0_h7 => k0_hw1.2.2.2.2.2.2.2.2.1 k0_h1 k0_h7
theorem k0_off19_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h9 : k0_cond9 i k0_t1 arg11_r0 = 1#1), ∀ a, (k0_off19 arg10_r0) a + S1x128x32.size a ≤ S2x128x32.size a := fun i k0_t1 arg7_r0 arg8_r0 arg9_r0 arg10_r0 arg11_r0 k0_hw1 k0_h1 k0_h9 => k0_hw1.2.2.2.2.2.2.2.2.2.1 k0_h1 k0_h9
theorem k0_off20_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h9 : k0_cond9 i k0_t1 arg11_r0 = 1#1), ∀ a, (k0_off20 i arg11_r0) a + S128x32.size a ≤ S88064x32.size a := fun i k0_t1 arg7_r0 arg8_r0 arg9_r0 arg10_r0 arg11_r0 k0_hw1 k0_h1 k0_h9 => k0_hw1.2.2.2.2.2.2.2.2.2.2.1 k0_h1 k0_h9
theorem k0_off21_inb : ∀ (i : grid0.Coords) (k0_t1 : Fin (k0_t1_loop i).trips) (arg7_r0 : BitVec 32) (arg8_r0 : BitVec 32) (arg9_r0 : BitVec 32) (arg10_r0 : BitVec 32) (arg11_r0 : BitVec 32) (k0_hw1 : k0_chk1 i k0_t1 arg7_r0 arg8_r0 arg9_r0 arg10_r0 arg11_r0), ∀ (k0_h1 : k0_cond1 i = 1#1), ∀ (k0_h9 : k0_cond9 i k0_t1 arg11_r0 = 1#1), ∀ a, (k0_off21 arg10_r0) a + S1.size a ≤ S2.size a := fun i k0_t1 arg7_r0 arg8_r0 arg9_r0 arg10_r0 arg11_r0 k0_hw1 k0_h1 k0_h9 => k0_hw1.2.2.2.2.2.2.2.2.2.2.2 k0_h1 k0_h9

@[reducible] def k0_t3_loop (i : grid0.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let v43_r0 : BitVec 32 := Scalar.addi c0_i32_30_r0 v42_r0
  let c1_i32_37_r0 : BitVec 32 := 1#32
  ⟨v46_r0, v43_r0, c1_i32_37_r0⟩
def k0_off22 (arg7_r0 : BitVec 32) : Fin 3 → Nat :=
  let c2_i32_105_r0 : BitVec 32 := 2#32
  let v168_r0 : BitVec 32 := Scalar.remui arg7_r0 c2_i32_105_r0
  let c0_i32_107_r0 : BitVec 32 := 0#32
  let c0_i32_108_r0 : BitVec 32 := 0#32
  ![v168_r0.toNat, 0, 0]
def k0_cond10 (i : grid0.Coords) (k0_t3 : Fin (k0_t3_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg6_r0 : BitVec 32 := Scf.iv v46_r0 c1_i32_37_r0 k0_t3
  let c1_i32_58_r0 : BitVec 32 := 1#32
  let v80_r0 : BitVec 32 := Scalar.muli c1_i32_58_r0 v5
  let c2_i32_r0 : BitVec 32 := 2#32
  let v102_r0 : BitVec 32 := Scalar.subi v80_r0 c2_i32_r0
  let c1_i32_71_r0 : BitVec 32 := 1#32
  let v103_r0 : BitVec 32 := Scalar.addi v102_r0 c1_i32_71_r0
  let v104_r0 : BitVec 1 := Scalar.cmpi .sge arg6_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k0_off23 (i : grid0.Coords) (arg11_r0 : BitVec 32) : Fin 2 → Nat :=
  let c0_i32_109_r0 : BitVec 32 := 0#32
  let c128_i32_106_r0 : BitVec 32 := 128#32
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v169_r0 : BitVec 32 := Scalar.muli c128_i32_106_r0 v95_r0
  ![0, v169_r0.toNat]
def k0_off24 (arg7_r0 : BitVec 32) : Fin 1 → Nat :=
  let c2_i32_105_r0 : BitVec 32 := 2#32
  let v168_r0 : BitVec 32 := Scalar.remui arg7_r0 c2_i32_105_r0
  ![v168_r0.toNat]
def k0_off25 (arg8_r0 : BitVec 32) : Fin 3 → Nat :=
  let c2_i32_106_r0 : BitVec 32 := 2#32
  let v169_r0 : BitVec 32 := Scalar.remui arg8_r0 c2_i32_106_r0
  let c0_i32_107_r0 : BitVec 32 := 0#32
  let c0_i32_108_r0 : BitVec 32 := 0#32
  ![v169_r0.toNat, 0, 0]
def k0_cond11 (i : grid0.Coords) (k0_t3 : Fin (k0_t3_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg6_r0 : BitVec 32 := Scf.iv v46_r0 c1_i32_37_r0 k0_t3
  let c0_i32_59_r0 : BitVec 32 := 0#32
  let v81_r0 : BitVec 1 := Scalar.cmpi .eq arg6_r0 c0_i32_59_r0
  let v120_r0 : BitVec 1 := Scalar.ori v119_r0 v81_r0
  let c0_i32_80_r0 : BitVec 32 := 0#32
  let v121_r0 : BitVec 1 := Scalar.cmpi .sge arg6_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k0_off26 (i : grid0.Coords) (arg11_r0 : BitVec 32) : Fin 2 → Nat :=
  let c0_i32_109_r0 : BitVec 32 := 0#32
  let c128_i32_105_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let v168_r0 : BitVec 32 := Scalar.muli c128_i32_105_r0 v84_r0
  ![0, v168_r0.toNat]
def k0_off27 (arg8_r0 : BitVec 32) : Fin 1 → Nat :=
  let c2_i32_106_r0 : BitVec 32 := 2#32
  let v169_r0 : BitVec 32 := Scalar.remui arg8_r0 c2_i32_106_r0
  ![v169_r0.toNat]
def k0_off28 (arg8_r0 : BitVec 32) : Fin 3 → Nat :=
  let c2_i32_84_r0 : BitVec 32 := 2#32
  let v131_r0 : BitVec 32 := Scalar.remui arg8_r0 c2_i32_84_r0
  let c0_i32_105_r2 : BitVec 32 := 0#32
  let c0_i32_106_r2 : BitVec 32 := 0#32
  ![v131_r0.toNat, 0, 0]

def k0_chk5 (i : grid0.Coords) (k0_t3 : Fin (k0_t3_loop i).trips) (arg8_r0 : BitVec 32) : Prop :=
  (∀ (k0_h1 : k0_cond1 i = 1#1), ∀ a, (k0_off28 arg8_r0) a + S1x1x128.size a ≤ S2x1x128.size a)
theorem k0_off28_inb : ∀ (i : grid0.Coords) (k0_t3 : Fin (k0_t3_loop i).trips) (arg8_r0 : BitVec 32) (k0_hw5 : k0_chk5 i k0_t3 arg8_r0), ∀ (k0_h1 : k0_cond1 i = 1#1), ∀ a, (k0_off28 arg8_r0) a + S1x1x128.size a ≤ S2x1x128.size a := fun i k0_t3 arg8_r0 k0_hw5 k0_h1 => k0_hw5 k0_h1

@[reducible] def k0_t4_loop : Scf.Loop 32 :=
  let c0_i32_87_r0 : BitVec 32 := 0#32
  let c128_i32_r0 : BitVec 32 := 128#32
  let v133_r0 : BitVec 32 := Scalar.addi c0_i32_87_r0 c128_i32_r0
  let c1_i32_88_r0 : BitVec 32 := 1#32
  ⟨c0_i32_87_r0, v133_r0, c1_i32_88_r0⟩
def k0_off29 (k0_t4 : Fin k0_t4_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k0_t4
  let c1_i32_105_r0 : BitVec 32 := 1#32
  let v168_r0 : BitVec 32 := Scalar.muli arg12_r0 c1_i32_105_r0
  let v169_r0 : BitVec 32 := Scalar.addi c0_i32_106_r0 v168_r0
  let v170_r0 : Index := Scalar.indexCast v169_r0
  let c0_r0 : Index := 0#32
  ![v170_r0.toNat, 0]
def k0_off30 (arg9_r0 : BitVec 32) : Fin 3 → Nat :=
  let c2_i32_85_r0 : BitVec 32 := 2#32
  let v132_r0 : BitVec 32 := Scalar.remui arg9_r0 c2_i32_85_r0
  let c0_i32_107_r0 : BitVec 32 := 0#32
  let c0_i32_108_r0 : BitVec 32 := 0#32
  ![v132_r0.toNat, 0, 0]

def k0_chk6 (i : grid0.Coords) (k0_t3 : Fin (k0_t3_loop i).trips) (arg9_r0 : BitVec 32) : Prop :=
  (∀ (k0_h1 : k0_cond1 i = 1#1), ∀ a, (k0_off30 arg9_r0) a + S1x128x32.size a ≤ S2x128x32.size a)
theorem k0_off30_inb : ∀ (i : grid0.Coords) (k0_t3 : Fin (k0_t3_loop i).trips) (arg9_r0 : BitVec 32) (k0_hw6 : k0_chk6 i k0_t3 arg9_r0), ∀ (k0_h1 : k0_cond1 i = 1#1), ∀ a, (k0_off30 arg9_r0) a + S1x128x32.size a ≤ S2x128x32.size a := fun i k0_t3 arg9_r0 k0_hw6 k0_h1 => k0_hw6 k0_h1

def k0_off31 (k0_t4 : Fin k0_t4_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k0_t4
  let c1_i32_105_r0 : BitVec 32 := 1#32
  let v168_r0 : BitVec 32 := Scalar.muli arg12_r0 c1_i32_105_r0
  let v169_r0 : BitVec 32 := Scalar.addi c0_i32_106_r0 v168_r0
  let v175_r0 : Index := Scalar.indexCast v169_r0
  let c0_109_r0 : Index := 0#32
  ![v175_r0.toNat, 0]
def k0_off32 (k0_t4 : Fin k0_t4_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k0_t4
  let c1_i32_105_r0 : BitVec 32 := 1#32
  let v168_r0 : BitVec 32 := Scalar.muli arg12_r0 c1_i32_105_r0
  let v169_r0 : BitVec 32 := Scalar.addi c0_i32_106_r0 v168_r0
  let v179_r0 : Index := Scalar.indexCast v169_r0
  let c16_r0 : Index := 16#32
  ![v179_r0.toNat, 16]
def k0_off33 (k0_t4 : Fin k0_t4_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k0_t4
  let c1_i32_105_r0 : BitVec 32 := 1#32
  let v168_r0 : BitVec 32 := Scalar.muli arg12_r0 c1_i32_105_r0
  let v169_r0 : BitVec 32 := Scalar.addi c0_i32_106_r0 v168_r0
  let v184_r0 : Index := Scalar.indexCast v169_r0
  let c16_112_r0 : Index := 16#32
  ![v184_r0.toNat, 16]
def k0_off34 (arg9_r0 : BitVec 32) : Fin 3 → Nat :=
  let c2_i32_105_r0 : BitVec 32 := 2#32
  let v168_r0 : BitVec 32 := Scalar.remui arg9_r0 c2_i32_105_r0
  let c0_i32_107_r0 : BitVec 32 := 0#32
  let c0_i32_108_r0 : BitVec 32 := 0#32
  ![v168_r0.toNat, 0, 0]
def k0_cond14 (i : grid0.Coords) (k0_t3 : Fin (k0_t3_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v139_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg6_r0 : BitVec 32 := Scf.iv v46_r0 c1_i32_37_r0 k0_t3
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg6_r0 v82_r0
  let v140_r0 : BitVec 1 := Scalar.ori v139_r0 v83_r0
  let v141_r0 : BitVec 32 := Scalar.extui v140_r0
  let c0_i32_91_r0 : BitVec 32 := 0#32
  let v142_r0 : BitVec 1 := Scalar.cmpi .ne v141_r0 c0_i32_91_r0
  v142_r0

def k0_off35 (i : grid0.Coords) (arg11_r0 : BitVec 32) : Fin 2 → Nat :=
  let c128_i32_106_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let v169_r0 : BitVec 32 := Scalar.muli c128_i32_106_r0 v84_r0
  let c0_i32_109_r0 : BitVec 32 := 0#32
  ![v169_r0.toNat, 0]
def k0_off36 (arg9_r0 : BitVec 32) : Fin 1 → Nat :=
  let c2_i32_105_r0 : BitVec 32 := 2#32
  let v168_r0 : BitVec 32 := Scalar.remui arg9_r0 c2_i32_105_r0
  ![v168_r0.toNat]
def k0_off37 (arg10_r0 : BitVec 32) : Fin 3 → Nat :=
  let c2_i32_105_r0 : BitVec 32 := 2#32
  let v168_r0 : BitVec 32 := Scalar.remui arg10_r0 c2_i32_105_r0
  let c0_i32_107_r0 : BitVec 32 := 0#32
  let c0_i32_108_r0 : BitVec 32 := 0#32
  ![v168_r0.toNat, 0, 0]
def k0_cond16 (i : grid0.Coords) (k0_t3 : Fin (k0_t3_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v152_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg6_r0 : BitVec 32 := Scf.iv v46_r0 c1_i32_37_r0 k0_t3
  let c0_i32_59_r0 : BitVec 32 := 0#32
  let v81_r0 : BitVec 1 := Scalar.cmpi .eq arg6_r0 c0_i32_59_r0
  let true_97_r0 : BitVec 1 := 1#1
  let v153_r0 : BitVec 1 := Scalar.xori v81_r0 true_97_r0
  let v154_r0 : BitVec 1 := Scalar.andi v152_r0 v153_r0
  let v155_r0 : BitVec 32 := Scalar.extui v154_r0
  let c0_i32_98_r0 : BitVec 32 := 0#32
  let v156_r0 : BitVec 1 := Scalar.cmpi .ne v155_r0 c0_i32_98_r0
  v156_r0

def k0_off38 (i : grid0.Coords) (arg11_r0 : BitVec 32) : Fin 2 → Nat :=
  let c128_i32_106_r0 : BitVec 32 := 128#32
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v169_r0 : BitVec 32 := Scalar.muli c128_i32_106_r0 v90_r0
  let c0_i32_109_r0 : BitVec 32 := 0#32
  ![v169_r0.toNat, 0]
def k0_off39 (arg10_r0 : BitVec 32) : Fin 1 → Nat :=
  let c2_i32_105_r0 : BitVec 32 := 2#32
  let v168_r0 : BitVec 32 := Scalar.remui arg10_r0 c2_i32_105_r0
  ![v168_r0.toNat]

def k0_chk4 (i : grid0.Coords) (k0_t3 : Fin (k0_t3_loop i).trips) (arg7_r0 : BitVec 32) (arg8_r0 : BitVec 32) (arg9_r0 : BitVec 32) (arg10_r0 : BitVec 32) (arg11_r0 : BitVec 32) : Prop :=
  (∀ (k0_h1 : k0_cond1 i = 1#1), ∀ (k0_h10 : k0_cond10 i k0_t3 arg11_r0 = 1#1), ∀ a, (k0_off22 arg7_r0) a + S1x1x128.size a ≤ S2x1x128.size a) ∧
  (∀ (k0_h1 : k0_cond1 i = 1#1), ∀ (k0_h10 : k0_cond10 i k0_t3 arg11_r0 = 1#1), ∀ a, (k0_off23 i arg11_r0) a + S1x128.size a ≤ S1x88064.size a) ∧
  (∀ (k0_h1 : k0_cond1 i = 1#1), ∀ (k0_h10 : k0_cond10 i k0_t3 arg11_r0 = 1#1), ∀ a, (k0_off24 arg7_r0) a + S1.size a ≤ S2.size a) ∧
  (∀ (k0_h1 : k0_cond1 i = 1#1), ∀ (k0_h11 : k0_cond11 i k0_t3 arg11_r0 = 1#1), ∀ a, (k0_off25 arg8_r0) a + S1x1x128.size a ≤ S2x1x128.size a) ∧
  (∀ (k0_h1 : k0_cond1 i = 1#1), ∀ (k0_h11 : k0_cond11 i k0_t3 arg11_r0 = 1#1), ∀ a, (k0_off26 i arg11_r0) a + S1x128.size a ≤ S1x88064.size a) ∧
  (∀ (k0_h1 : k0_cond1 i = 1#1), ∀ (k0_h11 : k0_cond11 i k0_t3 arg11_r0 = 1#1), ∀ a, (k0_off27 arg8_r0) a + S1.size a ≤ S2.size a) ∧
  (∀ (k0_h1 : k0_cond1 i = 1#1), ∀ (k0_h14 : k0_cond14 i k0_t3 arg11_r0 = 1#1), ∀ a, (k0_off34 arg9_r0) a + S1x128x32.size a ≤ S2x128x32.size a) ∧
  (∀ (k0_h1 : k0_cond1 i = 1#1), ∀ (k0_h14 : k0_cond14 i k0_t3 arg11_r0 = 1#1), ∀ a, (k0_off35 i arg11_r0) a + S128x32.size a ≤ S88064x32.size a) ∧
  (∀ (k0_h1 : k0_cond1 i = 1#1), ∀ (k0_h14 : k0_cond14 i k0_t3 arg11_r0 = 1#1), ∀ a, (k0_off36 arg9_r0) a + S1.size a ≤ S2.size a) ∧
  (∀ (k0_h1 : k0_cond1 i = 1#1), ∀ (k0_h16 : k0_cond16 i k0_t3 arg11_r0 = 1#1), ∀ a, (k0_off37 arg10_r0) a + S1x128x32.size a ≤ S2x128x32.size a) ∧
  (∀ (k0_h1 : k0_cond1 i = 1#1), ∀ (k0_h16 : k0_cond16 i k0_t3 arg11_r0 = 1#1), ∀ a, (k0_off38 i arg11_r0) a + S128x32.size a ≤ S88064x32.size a) ∧
  (∀ (k0_h1 : k0_cond1 i = 1#1), ∀ (k0_h16 : k0_cond16 i k0_t3 arg11_r0 = 1#1), ∀ a, (k0_off39 arg10_r0) a + S1.size a ≤ S2.size a)
theorem k0_off22_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h10 : k0_cond10 i k0_t3 arg11_r0 = 1#1), ∀ a, (k0_off22 arg7_r0) a + S1x1x128.size a ≤ S2x1x128.size a := fun i k0_t3 arg7_r0 arg8_r0 arg9_r0 arg10_r0 arg11_r0 k0_hw4 k0_h1 k0_h10 => k0_hw4.1 k0_h1 k0_h10
theorem k0_off23_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h10 : k0_cond10 i k0_t3 arg11_r0 = 1#1), ∀ a, (k0_off23 i arg11_r0) a + S1x128.size a ≤ S1x88064.size a := fun i k0_t3 arg7_r0 arg8_r0 arg9_r0 arg10_r0 arg11_r0 k0_hw4 k0_h1 k0_h10 => k0_hw4.2.1 k0_h1 k0_h10
theorem k0_off24_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h10 : k0_cond10 i k0_t3 arg11_r0 = 1#1), ∀ a, (k0_off24 arg7_r0) a + S1.size a ≤ S2.size a := fun i k0_t3 arg7_r0 arg8_r0 arg9_r0 arg10_r0 arg11_r0 k0_hw4 k0_h1 k0_h10 => k0_hw4.2.2.1 k0_h1 k0_h10
theorem k0_off25_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h11 : k0_cond11 i k0_t3 arg11_r0 = 1#1), ∀ a, (k0_off25 arg8_r0) a + S1x1x128.size a ≤ S2x1x128.size a := fun i k0_t3 arg7_r0 arg8_r0 arg9_r0 arg10_r0 arg11_r0 k0_hw4 k0_h1 k0_h11 => k0_hw4.2.2.2.1 k0_h1 k0_h11
theorem k0_off26_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h11 : k0_cond11 i k0_t3 arg11_r0 = 1#1), ∀ a, (k0_off26 i arg11_r0) a + S1x128.size a ≤ S1x88064.size a := fun i k0_t3 arg7_r0 arg8_r0 arg9_r0 arg10_r0 arg11_r0 k0_hw4 k0_h1 k0_h11 => k0_hw4.2.2.2.2.1 k0_h1 k0_h11
theorem k0_off27_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h11 : k0_cond11 i k0_t3 arg11_r0 = 1#1), ∀ a, (k0_off27 arg8_r0) a + S1.size a ≤ S2.size a := fun i k0_t3 arg7_r0 arg8_r0 arg9_r0 arg10_r0 arg11_r0 k0_hw4 k0_h1 k0_h11 => k0_hw4.2.2.2.2.2.1 k0_h1 k0_h11
theorem k0_off34_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h14 : k0_cond14 i k0_t3 arg11_r0 = 1#1), ∀ a, (k0_off34 arg9_r0) a + S1x128x32.size a ≤ S2x128x32.size a := fun i k0_t3 arg7_r0 arg8_r0 arg9_r0 arg10_r0 arg11_r0 k0_hw4 k0_h1 k0_h14 => k0_hw4.2.2.2.2.2.2.1 k0_h1 k0_h14
theorem k0_off35_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h14 : k0_cond14 i k0_t3 arg11_r0 = 1#1), ∀ a, (k0_off35 i arg11_r0) a + S128x32.size a ≤ S88064x32.size a := fun i k0_t3 arg7_r0 arg8_r0 arg9_r0 arg10_r0 arg11_r0 k0_hw4 k0_h1 k0_h14 => k0_hw4.2.2.2.2.2.2.2.1 k0_h1 k0_h14
theorem k0_off36_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h14 : k0_cond14 i k0_t3 arg11_r0 = 1#1), ∀ a, (k0_off36 arg9_r0) a + S1.size a ≤ S2.size a := fun i k0_t3 arg7_r0 arg8_r0 arg9_r0 arg10_r0 arg11_r0 k0_hw4 k0_h1 k0_h14 => k0_hw4.2.2.2.2.2.2.2.2.1 k0_h1 k0_h14
theorem k0_off37_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h16 : k0_cond16 i k0_t3 arg11_r0 = 1#1), ∀ a, (k0_off37 arg10_r0) a + S1x128x32.size a ≤ S2x128x32.size a := fun i k0_t3 arg7_r0 arg8_r0 arg9_r0 arg10_r0 arg11_r0 k0_hw4 k0_h1 k0_h16 => k0_hw4.2.2.2.2.2.2.2.2.2.1 k0_h1 k0_h16
theorem k0_off38_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h16 : k0_cond16 i k0_t3 arg11_r0 = 1#1), ∀ a, (k0_off38 i arg11_r0) a + S128x32.size a ≤ S88064x32.size a := fun i k0_t3 arg7_r0 arg8_r0 arg9_r0 arg10_r0 arg11_r0 k0_hw4 k0_h1 k0_h16 => k0_hw4.2.2.2.2.2.2.2.2.2.2.1 k0_h1 k0_h16
theorem k0_off39_inb : ∀ (i : grid0.Coords) (k0_t3 : Fin (k0_t3_loop i).trips) (arg7_r0 : BitVec 32) (arg8_r0 : BitVec 32) (arg9_r0 : BitVec 32) (arg10_r0 : BitVec 32) (arg11_r0 : BitVec 32) (k0_hw4 : k0_chk4 i k0_t3 arg7_r0 arg8_r0 arg9_r0 arg10_r0 arg11_r0), ∀ (k0_h1 : k0_cond1 i = 1#1), ∀ (k0_h16 : k0_cond16 i k0_t3 arg11_r0 = 1#1), ∀ a, (k0_off39 arg10_r0) a + S1.size a ≤ S2.size a := fun i k0_t3 arg7_r0 arg8_r0 arg9_r0 arg10_r0 arg11_r0 k0_hw4 k0_h1 k0_h16 => k0_hw4.2.2.2.2.2.2.2.2.2.2.2 k0_h1 k0_h16

def k0_cond18 (i : grid0.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v11 : BitVec 32 := Scalar.muli c1_i32_4 v5
  let c1_i32_42_r0 : BitVec 32 := 1#32
  let v54_r0 : BitVec 32 := Scalar.subi v11 c1_i32_42_r0
  let c1_i32_43_r0 : BitVec 32 := 1#32
  let v55_r0 : BitVec 32 := Scalar.muli c1_i32_43_r0 v5
  let c1_i32_45_r0 : BitVec 32 := 1#32
  let v57_r0 : BitVec 32 := Scalar.subi v55_r0 c1_i32_45_r0
  let v58_r0 : BitVec 1 := Scalar.cmpi .eq v54_r0 v57_r0
  let v78_r0 : BitVec 32 := Scalar.extui v58_r0
  let c0_i32_57_r0 : BitVec 32 := 0#32
  let v79_r0 : BitVec 1 := Scalar.cmpi .ne v78_r0 c0_i32_57_r0
  v79_r0

def k0_off40 (v48_3_r0 : BitVec 32) : Fin 3 → Nat :=
  let c2_i32_r0 : BitVec 32 := 2#32
  let v80_r0 : BitVec 32 := Scalar.remui v48_3_r0 c2_i32_r0
  let c0_i32_58_r0 : BitVec 32 := 0#32
  let c0_i32_59_r0 : BitVec 32 := 0#32
  ![v80_r0.toNat, 0, 0]

def k0_off41 (i : grid0.Coords) (v48_4_r0 : BitVec 32) : Fin 2 → Nat :=
  let c128_i32_r0 : BitVec 32 := 128#32
  let true_39_r0 : BitVec 1 := 1#1
  let c1_i32_38_r0 : BitVec 32 := 1#32
  let v49_r0 : BitVec 32 := Scalar.subi v48_4_r0 c1_i32_38_r0
  let v50_r0 : BitVec 32 := Scalar.select true_39_r0 v49_r0 v48_4_r0
  let c_m1_i32_40_r0 : BitVec 32 := 4294967295#32
  let v51_r0 : BitVec 1 := Scalar.cmpi .eq v50_r0 c_m1_i32_40_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let c1_i32_41_r0 : BitVec 32 := 1#32
  let v52_r0 : BitVec 32 := Scalar.subi v5 c1_i32_41_r0
  let v53_r0 : BitVec 32 := Scalar.select v51_r0 v52_r0 v50_r0
  let c16_i32_1 : BitVec 32 := 16#32
  let v6 : BitVec 1 := Scalar.cmpi .slt v3 c16_i32_1
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v59_r0 : BitVec 32 := Scalar.addi v53_r0 v10
  let v81_r0 : BitVec 32 := Scalar.muli c128_i32_r0 v59_r0
  let c0_i32_60_r0 : BitVec 32 := 0#32
  ![v81_r0.toNat, 0]

def k0_chk8 (i : grid0.Coords) (v48_4_r0 : BitVec 32) : Prop :=
  (∀ (k0_h1 : k0_cond1 i = 1#1), ∀ (k0_h18 : k0_cond18 i = 1#1), ∀ a, (k0_off41 i v48_4_r0) a + S128x32.size a ≤ S88064x32.size a)
theorem k0_off41_inb : ∀ (i : grid0.Coords) (v48_4_r0 : BitVec 32) (k0_hw8 : k0_chk8 i v48_4_r0), ∀ (k0_h1 : k0_cond1 i = 1#1), ∀ (k0_h18 : k0_cond18 i = 1#1), ∀ a, (k0_off41 i v48_4_r0) a + S128x32.size a ≤ S88064x32.size a := fun i v48_4_r0 k0_hw8 k0_h1 k0_h18 => k0_hw8 k0_h1 k0_h18

def k0_off42 (v48_3_r0 : BitVec 32) : Fin 1 → Nat :=
  let c2_i32_r0 : BitVec 32 := 2#32
  let v80_r0 : BitVec 32 := Scalar.remui v48_3_r0 c2_i32_r0
  ![v80_r0.toNat]
def k0_off43 (v48_3_r0 : BitVec 32) : Fin 3 → Nat :=
  let c2_i32_r0 : BitVec 32 := 2#32
  let v80_r0 : BitVec 32 := Scalar.remui v48_3_r0 c2_i32_r0
  let c0_i32_62_r0 : BitVec 32 := 0#32
  let c0_i32_63_r0 : BitVec 32 := 0#32
  ![v80_r0.toNat, 0, 0]

def k0_chk7 (i : grid0.Coords) (v48_3_r0 : BitVec 32) : Prop :=
  (∀ (k0_h1 : k0_cond1 i = 1#1), ∀ (k0_h18 : k0_cond18 i = 1#1), ∀ a, (k0_off40 v48_3_r0) a + S1x128x32.size a ≤ S2x128x32.size a) ∧
  (∀ (k0_h1 : k0_cond1 i = 1#1), ∀ (k0_h18 : k0_cond18 i = 1#1), ∀ a, (k0_off42 v48_3_r0) a + S1.size a ≤ S2.size a) ∧
  (∀ (k0_h1 : k0_cond1 i = 1#1), ∀ (k0_h18 : k0_cond18 i = 1#1), ∀ a, (k0_off43 v48_3_r0) a + S1x128x32.size a ≤ S2x128x32.size a)
theorem k0_off40_inb : ∀ (i : grid0.Coords) (v48_3_r0 : BitVec 32) (k0_hw7 : k0_chk7 i v48_3_r0), ∀ (k0_h1 : k0_cond1 i = 1#1), ∀ (k0_h18 : k0_cond18 i = 1#1), ∀ a, (k0_off40 v48_3_r0) a + S1x128x32.size a ≤ S2x128x32.size a := fun i v48_3_r0 k0_hw7 k0_h1 k0_h18 => k0_hw7.1 k0_h1 k0_h18
theorem k0_off42_inb : ∀ (i : grid0.Coords) (v48_3_r0 : BitVec 32) (k0_hw7 : k0_chk7 i v48_3_r0), ∀ (k0_h1 : k0_cond1 i = 1#1), ∀ (k0_h18 : k0_cond18 i = 1#1), ∀ a, (k0_off42 v48_3_r0) a + S1.size a ≤ S2.size a := fun i v48_3_r0 k0_hw7 k0_h1 k0_h18 => k0_hw7.2.1 k0_h1 k0_h18
theorem k0_off43_inb : ∀ (i : grid0.Coords) (v48_3_r0 : BitVec 32) (k0_hw7 : k0_chk7 i v48_3_r0), ∀ (k0_h1 : k0_cond1 i = 1#1), ∀ (k0_h18 : k0_cond18 i = 1#1), ∀ a, (k0_off43 v48_3_r0) a + S1x128x32.size a ≤ S2x128x32.size a := fun i v48_3_r0 k0_hw7 k0_h1 k0_h18 => k0_hw7.2.2 k0_h1 k0_h18

abbrev grid1 : Pipeline.Grid := ⟨2, ![2, 16], ![false, false]⟩

def k1_cond1 (i : grid1.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v11 : BitVec 32 := Scalar.muli c1_i32_4 v5
  let c0_i32_6_r0 : BitVec 32 := 0#32
  let v14_r0 : BitVec 1 := Scalar.cmpi .sgt v11 c0_i32_6_r0
  let v15_r0 : BitVec 32 := Scalar.extui v14_r0
  let c0_i32_7_r0 : BitVec 32 := 0#32
  let v16_r0 : BitVec 1 := Scalar.cmpi .ne v15_r0 c0_i32_7_r0
  v16_r0

def k1_cond2 (i : grid1.Coords) : BitVec 1 :=
  let true_23_r0 : BitVec 1 := 1#1
  let c1_i32_8_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v17_r0 : BitVec 32 := Scalar.muli c1_i32_8_r0 v5
  let c0_i32_22_r0 : BitVec 32 := 0#32
  let v35_r0 : BitVec 1 := Scalar.cmpi .sgt v17_r0 c0_i32_22_r0
  let v36_r0 : BitVec 1 := Scalar.andi true_23_r0 v35_r0
  let true_24_r0 : BitVec 1 := 1#1
  let v37_r0 : BitVec 1 := Scalar.andi v36_r0 true_24_r0
  let v38_r0 : BitVec 32 := Scalar.extui v37_r0
  let c0_i32_26_r0 : BitVec 32 := 0#32
  let v39_r0 : BitVec 1 := Scalar.cmpi .ne v38_r0 c0_i32_26_r0
  v39_r0

def k1_off1 : Fin 3 → Nat :=
  let c0_i32_25_r0 : BitVec 32 := 0#32
  let c2_i32_r0 : BitVec 32 := 2#32
  let v80_r0 : BitVec 32 := Scalar.remui c0_i32_25_r0 c2_i32_r0
  let c0_i32_58_r0 : BitVec 32 := 0#32
  let c0_i32_59_r0 : BitVec 32 := 0#32
  ![v80_r0.toNat, 0, 0]
def k1_off2 (i : grid1.Coords) : Fin 2 → Nat :=
  let c0_i32_60_r0 : BitVec 32 := 0#32
  let c128_i32_r0 : BitVec 32 := 128#32
  let c0_i32_11_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v20_r0 : BitVec 32 := Scalar.addi c0_i32_11_r0 v10
  let v81_r0 : BitVec 32 := Scalar.muli c128_i32_r0 v20_r0
  ![0, v81_r0.toNat]
def k1_off3 : Fin 1 → Nat :=
  let c0_i32_25_r0 : BitVec 32 := 0#32
  let c2_i32_r0 : BitVec 32 := 2#32
  let v80_r0 : BitVec 32 := Scalar.remui c0_i32_25_r0 c2_i32_r0
  ![v80_r0.toNat]
@[reducible] def k1_t1_loop (i : grid1.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_36_r0 : BitVec 32 := 1#32
  ⟨c0_i32_30_r0, v46_r0, c1_i32_36_r0⟩
def k1_off4 (arg7_r0 : BitVec 32) : Fin 3 → Nat :=
  let c2_i32_105_r0 : BitVec 32 := 2#32
  let v168_r0 : BitVec 32 := Scalar.remui arg7_r0 c2_i32_105_r0
  let c0_i32_107_r0 : BitVec 32 := 0#32
  let c0_i32_108_r0 : BitVec 32 := 0#32
  ![v168_r0.toNat, 0, 0]
def k1_cond3 (i : grid1.Coords) (k1_t1 : Fin (k1_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_36_r0 : BitVec 32 := 1#32
  let arg6_r0 : BitVec 32 := Scf.iv c0_i32_30_r0 c1_i32_36_r0 k1_t1
  let c1_i32_58_r0 : BitVec 32 := 1#32
  let v80_r0 : BitVec 32 := Scalar.muli c1_i32_58_r0 v5
  let c2_i32_r0 : BitVec 32 := 2#32
  let v102_r0 : BitVec 32 := Scalar.subi v80_r0 c2_i32_r0
  let c1_i32_71_r0 : BitVec 32 := 1#32
  let v103_r0 : BitVec 32 := Scalar.addi v102_r0 c1_i32_71_r0
  let v104_r0 : BitVec 1 := Scalar.cmpi .sge arg6_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k1_off5 (i : grid1.Coords) (arg11_r0 : BitVec 32) : Fin 2 → Nat :=
  let c0_i32_109_r0 : BitVec 32 := 0#32
  let c128_i32_106_r0 : BitVec 32 := 128#32
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v169_r0 : BitVec 32 := Scalar.muli c128_i32_106_r0 v95_r0
  ![0, v169_r0.toNat]
def k1_off6 (arg7_r0 : BitVec 32) : Fin 1 → Nat :=
  let c2_i32_105_r0 : BitVec 32 := 2#32
  let v168_r0 : BitVec 32 := Scalar.remui arg7_r0 c2_i32_105_r0
  ![v168_r0.toNat]
def k1_off7 (arg8_r0 : BitVec 32) : Fin 3 → Nat :=
  let c2_i32_106_r0 : BitVec 32 := 2#32
  let v169_r0 : BitVec 32 := Scalar.remui arg8_r0 c2_i32_106_r0
  let c0_i32_107_r0 : BitVec 32 := 0#32
  let c0_i32_108_r0 : BitVec 32 := 0#32
  ![v169_r0.toNat, 0, 0]
def k1_cond4 (i : grid1.Coords) (k1_t1 : Fin (k1_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_36_r0 : BitVec 32 := 1#32
  let arg6_r0 : BitVec 32 := Scf.iv c0_i32_30_r0 c1_i32_36_r0 k1_t1
  let c0_i32_59_r0 : BitVec 32 := 0#32
  let v81_r0 : BitVec 1 := Scalar.cmpi .eq arg6_r0 c0_i32_59_r0
  let v120_r0 : BitVec 1 := Scalar.ori v119_r0 v81_r0
  let c0_i32_80_r0 : BitVec 32 := 0#32
  let v121_r0 : BitVec 1 := Scalar.cmpi .sge arg6_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k1_off8 (i : grid1.Coords) (arg11_r0 : BitVec 32) : Fin 2 → Nat :=
  let c0_i32_109_r0 : BitVec 32 := 0#32
  let c128_i32_105_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let v168_r0 : BitVec 32 := Scalar.muli c128_i32_105_r0 v84_r0
  ![0, v168_r0.toNat]
def k1_off9 (arg8_r0 : BitVec 32) : Fin 1 → Nat :=
  let c2_i32_106_r0 : BitVec 32 := 2#32
  let v169_r0 : BitVec 32 := Scalar.remui arg8_r0 c2_i32_106_r0
  ![v169_r0.toNat]
def k1_off10 (arg8_r0 : BitVec 32) : Fin 3 → Nat :=
  let c2_i32_84_r0 : BitVec 32 := 2#32
  let v131_r0 : BitVec 32 := Scalar.remui arg8_r0 c2_i32_84_r0
  let c0_i32_105_r1 : BitVec 32 := 0#32
  let c0_i32_106_r1 : BitVec 32 := 0#32
  ![v131_r0.toNat, 0, 0]

def k1_chk2 (i : grid1.Coords) (arg8_r0 : BitVec 32) : Prop :=
  (∀ (k1_h1 : k1_cond1 i = 1#1), ∀ a, (k1_off10 arg8_r0) a + S1x1x128.size a ≤ S2x1x128.size a)
theorem k1_off10_inb : ∀ (i : grid1.Coords) (arg8_r0 : BitVec 32) (k1_hw2 : k1_chk2 i arg8_r0), ∀ (k1_h1 : k1_cond1 i = 1#1), ∀ a, (k1_off10 arg8_r0) a + S1x1x128.size a ≤ S2x1x128.size a := fun i arg8_r0 k1_hw2 k1_h1 => k1_hw2 k1_h1

@[reducible] def k1_t2_loop : Scf.Loop 32 :=
  let c0_i32_87_r0 : BitVec 32 := 0#32
  let c128_i32_r0 : BitVec 32 := 128#32
  let v133_r0 : BitVec 32 := Scalar.addi c0_i32_87_r0 c128_i32_r0
  let c1_i32_88_r0 : BitVec 32 := 1#32
  ⟨c0_i32_87_r0, v133_r0, c1_i32_88_r0⟩
def k1_off11 (k1_t2 : Fin k1_t2_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k1_t2
  let c1_i32_105_r0 : BitVec 32 := 1#32
  let v168_r0 : BitVec 32 := Scalar.muli arg12_r0 c1_i32_105_r0
  let v169_r0 : BitVec 32 := Scalar.addi c0_i32_106_r0 v168_r0
  let v170_r0 : Index := Scalar.indexCast v169_r0
  let c0_r0 : Index := 0#32
  ![v170_r0.toNat, 0]
def k1_off12 (arg9_r0 : BitVec 32) : Fin 3 → Nat :=
  let c2_i32_85_r0 : BitVec 32 := 2#32
  let v132_r0 : BitVec 32 := Scalar.remui arg9_r0 c2_i32_85_r0
  let c0_i32_107_r0 : BitVec 32 := 0#32
  let c0_i32_108_r0 : BitVec 32 := 0#32
  ![v132_r0.toNat, 0, 0]

def k1_chk3 (i : grid1.Coords) (arg9_r0 : BitVec 32) : Prop :=
  (∀ (k1_h1 : k1_cond1 i = 1#1), ∀ a, (k1_off12 arg9_r0) a + S1x128x32.size a ≤ S2x128x32.size a)
theorem k1_off12_inb : ∀ (i : grid1.Coords) (arg9_r0 : BitVec 32) (k1_hw3 : k1_chk3 i arg9_r0), ∀ (k1_h1 : k1_cond1 i = 1#1), ∀ a, (k1_off12 arg9_r0) a + S1x128x32.size a ≤ S2x128x32.size a := fun i arg9_r0 k1_hw3 k1_h1 => k1_hw3 k1_h1

def k1_off13 (k1_t2 : Fin k1_t2_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k1_t2
  let c1_i32_105_r0 : BitVec 32 := 1#32
  let v168_r0 : BitVec 32 := Scalar.muli arg12_r0 c1_i32_105_r0
  let v169_r0 : BitVec 32 := Scalar.addi c0_i32_106_r0 v168_r0
  let v175_r0 : Index := Scalar.indexCast v169_r0
  let c0_109_r0 : Index := 0#32
  ![v175_r0.toNat, 0]
def k1_off14 (k1_t2 : Fin k1_t2_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k1_t2
  let c1_i32_105_r0 : BitVec 32 := 1#32
  let v168_r0 : BitVec 32 := Scalar.muli arg12_r0 c1_i32_105_r0
  let v169_r0 : BitVec 32 := Scalar.addi c0_i32_106_r0 v168_r0
  let v179_r0 : Index := Scalar.indexCast v169_r0
  let c16_r0 : Index := 16#32
  ![v179_r0.toNat, 16]
def k1_off15 (k1_t2 : Fin k1_t2_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k1_t2
  let c1_i32_105_r0 : BitVec 32 := 1#32
  let v168_r0 : BitVec 32 := Scalar.muli arg12_r0 c1_i32_105_r0
  let v169_r0 : BitVec 32 := Scalar.addi c0_i32_106_r0 v168_r0
  let v184_r0 : Index := Scalar.indexCast v169_r0
  let c16_112_r0 : Index := 16#32
  ![v184_r0.toNat, 16]
def k1_off16 (arg9_r0 : BitVec 32) : Fin 3 → Nat :=
  let c2_i32_105_r0 : BitVec 32 := 2#32
  let v168_r0 : BitVec 32 := Scalar.remui arg9_r0 c2_i32_105_r0
  let c0_i32_107_r0 : BitVec 32 := 0#32
  let c0_i32_108_r0 : BitVec 32 := 0#32
  ![v168_r0.toNat, 0, 0]
def k1_cond7 (i : grid1.Coords) (k1_t1 : Fin (k1_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v139_r0 : BitVec 1 := Scalar.cmpi .ne v84_r0 v95_r0
  let c0_i32_30_r0 : BitVec 32 := 0#32
  let c1_i32_36_r0 : BitVec 32 := 1#32
  let arg6_r0 : BitVec 32 := Scf.iv c0_i32_30_r0 c1_i32_36_r0 k1_t1
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg6_r0 v82_r0
  let v140_r0 : BitVec 1 := Scalar.ori v139_r0 v83_r0
  let v141_r0 : BitVec 32 := Scalar.extui v140_r0
  let c0_i32_91_r0 : BitVec 32 := 0#32
  let v142_r0 : BitVec 1 := Scalar.cmpi .ne v141_r0 c0_i32_91_r0
  v142_r0

def k1_off17 (i : grid1.Coords) (arg11_r0 : BitVec 32) : Fin 2 → Nat :=
  let c128_i32_106_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let v169_r0 : BitVec 32 := Scalar.muli c128_i32_106_r0 v84_r0
  let c0_i32_109_r0 : BitVec 32 := 0#32
  ![v169_r0.toNat, 0]
def k1_off18 (arg9_r0 : BitVec 32) : Fin 1 → Nat :=
  let c2_i32_105_r0 : BitVec 32 := 2#32
  let v168_r0 : BitVec 32 := Scalar.remui arg9_r0 c2_i32_105_r0
  ![v168_r0.toNat]
def k1_off19 (arg10_r0 : BitVec 32) : Fin 3 → Nat :=
  let c2_i32_105_r0 : BitVec 32 := 2#32
  let v168_r0 : BitVec 32 := Scalar.remui arg10_r0 c2_i32_105_r0
  let c0_i32_107_r0 : BitVec 32 := 0#32
  let c0_i32_108_r0 : BitVec 32 := 0#32
  ![v168_r0.toNat, 0, 0]
def k1_cond9 (i : grid1.Coords) (k1_t1 : Fin (k1_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v152_r0 : BitVec 1 := Scalar.cmpi .ne v84_r0 v90_r0
  let c0_i32_30_r0 : BitVec 32 := 0#32
  let c1_i32_36_r0 : BitVec 32 := 1#32
  let arg6_r0 : BitVec 32 := Scf.iv c0_i32_30_r0 c1_i32_36_r0 k1_t1
  let c0_i32_59_r0 : BitVec 32 := 0#32
  let v81_r0 : BitVec 1 := Scalar.cmpi .eq arg6_r0 c0_i32_59_r0
  let true_97_r0 : BitVec 1 := 1#1
  let v153_r0 : BitVec 1 := Scalar.xori v81_r0 true_97_r0
  let v154_r0 : BitVec 1 := Scalar.andi v152_r0 v153_r0
  let v155_r0 : BitVec 32 := Scalar.extui v154_r0
  let c0_i32_98_r0 : BitVec 32 := 0#32
  let v156_r0 : BitVec 1 := Scalar.cmpi .ne v155_r0 c0_i32_98_r0
  v156_r0

def k1_off20 (i : grid1.Coords) (arg11_r0 : BitVec 32) : Fin 2 → Nat :=
  let c128_i32_106_r0 : BitVec 32 := 128#32
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v169_r0 : BitVec 32 := Scalar.muli c128_i32_106_r0 v90_r0
  let c0_i32_109_r0 : BitVec 32 := 0#32
  ![v169_r0.toNat, 0]
def k1_off21 (arg10_r0 : BitVec 32) : Fin 1 → Nat :=
  let c2_i32_105_r0 : BitVec 32 := 2#32
  let v168_r0 : BitVec 32 := Scalar.remui arg10_r0 c2_i32_105_r0
  ![v168_r0.toNat]

def k1_chk1 (i : grid1.Coords) (k1_t1 : Fin (k1_t1_loop i).trips) (arg7_r0 : BitVec 32) (arg8_r0 : BitVec 32) (arg9_r0 : BitVec 32) (arg10_r0 : BitVec 32) (arg11_r0 : BitVec 32) : Prop :=
  (∀ (k1_h1 : k1_cond1 i = 1#1), ∀ (k1_h3 : k1_cond3 i k1_t1 arg11_r0 = 1#1), ∀ a, (k1_off4 arg7_r0) a + S1x1x128.size a ≤ S2x1x128.size a) ∧
  (∀ (k1_h1 : k1_cond1 i = 1#1), ∀ (k1_h3 : k1_cond3 i k1_t1 arg11_r0 = 1#1), ∀ a, (k1_off5 i arg11_r0) a + S1x128.size a ≤ S1x88064.size a) ∧
  (∀ (k1_h1 : k1_cond1 i = 1#1), ∀ (k1_h3 : k1_cond3 i k1_t1 arg11_r0 = 1#1), ∀ a, (k1_off6 arg7_r0) a + S1.size a ≤ S2.size a) ∧
  (∀ (k1_h1 : k1_cond1 i = 1#1), ∀ (k1_h4 : k1_cond4 i k1_t1 arg11_r0 = 1#1), ∀ a, (k1_off7 arg8_r0) a + S1x1x128.size a ≤ S2x1x128.size a) ∧
  (∀ (k1_h1 : k1_cond1 i = 1#1), ∀ (k1_h4 : k1_cond4 i k1_t1 arg11_r0 = 1#1), ∀ a, (k1_off8 i arg11_r0) a + S1x128.size a ≤ S1x88064.size a) ∧
  (∀ (k1_h1 : k1_cond1 i = 1#1), ∀ (k1_h4 : k1_cond4 i k1_t1 arg11_r0 = 1#1), ∀ a, (k1_off9 arg8_r0) a + S1.size a ≤ S2.size a) ∧
  (∀ (k1_h1 : k1_cond1 i = 1#1), ∀ (k1_h7 : k1_cond7 i k1_t1 arg11_r0 = 1#1), ∀ a, (k1_off16 arg9_r0) a + S1x128x32.size a ≤ S2x128x32.size a) ∧
  (∀ (k1_h1 : k1_cond1 i = 1#1), ∀ (k1_h7 : k1_cond7 i k1_t1 arg11_r0 = 1#1), ∀ a, (k1_off17 i arg11_r0) a + S128x32.size a ≤ S88064x32.size a) ∧
  (∀ (k1_h1 : k1_cond1 i = 1#1), ∀ (k1_h7 : k1_cond7 i k1_t1 arg11_r0 = 1#1), ∀ a, (k1_off18 arg9_r0) a + S1.size a ≤ S2.size a) ∧
  (∀ (k1_h1 : k1_cond1 i = 1#1), ∀ (k1_h9 : k1_cond9 i k1_t1 arg11_r0 = 1#1), ∀ a, (k1_off19 arg10_r0) a + S1x128x32.size a ≤ S2x128x32.size a) ∧
  (∀ (k1_h1 : k1_cond1 i = 1#1), ∀ (k1_h9 : k1_cond9 i k1_t1 arg11_r0 = 1#1), ∀ a, (k1_off20 i arg11_r0) a + S128x32.size a ≤ S88064x32.size a) ∧
  (∀ (k1_h1 : k1_cond1 i = 1#1), ∀ (k1_h9 : k1_cond9 i k1_t1 arg11_r0 = 1#1), ∀ a, (k1_off21 arg10_r0) a + S1.size a ≤ S2.size a)
theorem k1_off4_inb : ∀ (i : grid1.Coords) (k1_t1 : Fin (k1_t1_loop i).trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h1 : k1_cond1 i = 1#1), ∀ (k1_h3 : k1_cond3 i k1_t1 arg11_r0 = 1#1), ∀ a, (k1_off4 arg7_r0) a + S1x1x128.size a ≤ S2x1x128.size a := fun i k1_t1 arg7_r0 arg8_r0 arg9_r0 arg10_r0 arg11_r0 k1_hw1 k1_h1 k1_h3 => k1_hw1.1 k1_h1 k1_h3
theorem k1_off5_inb : ∀ (i : grid1.Coords) (k1_t1 : Fin (k1_t1_loop i).trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h1 : k1_cond1 i = 1#1), ∀ (k1_h3 : k1_cond3 i k1_t1 arg11_r0 = 1#1), ∀ a, (k1_off5 i arg11_r0) a + S1x128.size a ≤ S1x88064.size a := fun i k1_t1 arg7_r0 arg8_r0 arg9_r0 arg10_r0 arg11_r0 k1_hw1 k1_h1 k1_h3 => k1_hw1.2.1 k1_h1 k1_h3
theorem k1_off6_inb : ∀ (i : grid1.Coords) (k1_t1 : Fin (k1_t1_loop i).trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h1 : k1_cond1 i = 1#1), ∀ (k1_h3 : k1_cond3 i k1_t1 arg11_r0 = 1#1), ∀ a, (k1_off6 arg7_r0) a + S1.size a ≤ S2.size a := fun i k1_t1 arg7_r0 arg8_r0 arg9_r0 arg10_r0 arg11_r0 k1_hw1 k1_h1 k1_h3 => k1_hw1.2.2.1 k1_h1 k1_h3
theorem k1_off7_inb : ∀ (i : grid1.Coords) (k1_t1 : Fin (k1_t1_loop i).trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h1 : k1_cond1 i = 1#1), ∀ (k1_h4 : k1_cond4 i k1_t1 arg11_r0 = 1#1), ∀ a, (k1_off7 arg8_r0) a + S1x1x128.size a ≤ S2x1x128.size a := fun i k1_t1 arg7_r0 arg8_r0 arg9_r0 arg10_r0 arg11_r0 k1_hw1 k1_h1 k1_h4 => k1_hw1.2.2.2.1 k1_h1 k1_h4
theorem k1_off8_inb : ∀ (i : grid1.Coords) (k1_t1 : Fin (k1_t1_loop i).trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h1 : k1_cond1 i = 1#1), ∀ (k1_h4 : k1_cond4 i k1_t1 arg11_r0 = 1#1), ∀ a, (k1_off8 i arg11_r0) a + S1x128.size a ≤ S1x88064.size a := fun i k1_t1 arg7_r0 arg8_r0 arg9_r0 arg10_r0 arg11_r0 k1_hw1 k1_h1 k1_h4 => k1_hw1.2.2.2.2.1 k1_h1 k1_h4
theorem k1_off9_inb : ∀ (i : grid1.Coords) (k1_t1 : Fin (k1_t1_loop i).trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h1 : k1_cond1 i = 1#1), ∀ (k1_h4 : k1_cond4 i k1_t1 arg11_r0 = 1#1), ∀ a, (k1_off9 arg8_r0) a + S1.size a ≤ S2.size a := fun i k1_t1 arg7_r0 arg8_r0 arg9_r0 arg10_r0 arg11_r0 k1_hw1 k1_h1 k1_h4 => k1_hw1.2.2.2.2.2.1 k1_h1 k1_h4
theorem k1_off16_inb : ∀ (i : grid1.Coords) (k1_t1 : Fin (k1_t1_loop i).trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h1 : k1_cond1 i = 1#1), ∀ (k1_h7 : k1_cond7 i k1_t1 arg11_r0 = 1#1), ∀ a, (k1_off16 arg9_r0) a + S1x128x32.size a ≤ S2x128x32.size a := fun i k1_t1 arg7_r0 arg8_r0 arg9_r0 arg10_r0 arg11_r0 k1_hw1 k1_h1 k1_h7 => k1_hw1.2.2.2.2.2.2.1 k1_h1 k1_h7
theorem k1_off17_inb : ∀ (i : grid1.Coords) (k1_t1 : Fin (k1_t1_loop i).trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h1 : k1_cond1 i = 1#1), ∀ (k1_h7 : k1_cond7 i k1_t1 arg11_r0 = 1#1), ∀ a, (k1_off17 i arg11_r0) a + S128x32.size a ≤ S88064x32.size a := fun i k1_t1 arg7_r0 arg8_r0 arg9_r0 arg10_r0 arg11_r0 k1_hw1 k1_h1 k1_h7 => k1_hw1.2.2.2.2.2.2.2.1 k1_h1 k1_h7
theorem k1_off18_inb : ∀ (i : grid1.Coords) (k1_t1 : Fin (k1_t1_loop i).trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h1 : k1_cond1 i = 1#1), ∀ (k1_h7 : k1_cond7 i k1_t1 arg11_r0 = 1#1), ∀ a, (k1_off18 arg9_r0) a + S1.size a ≤ S2.size a := fun i k1_t1 arg7_r0 arg8_r0 arg9_r0 arg10_r0 arg11_r0 k1_hw1 k1_h1 k1_h7 => k1_hw1.2.2.2.2.2.2.2.2.1 k1_h1 k1_h7
theorem k1_off19_inb : ∀ (i : grid1.Coords) (k1_t1 : Fin (k1_t1_loop i).trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h1 : k1_cond1 i = 1#1), ∀ (k1_h9 : k1_cond9 i k1_t1 arg11_r0 = 1#1), ∀ a, (k1_off19 arg10_r0) a + S1x128x32.size a ≤ S2x128x32.size a := fun i k1_t1 arg7_r0 arg8_r0 arg9_r0 arg10_r0 arg11_r0 k1_hw1 k1_h1 k1_h9 => k1_hw1.2.2.2.2.2.2.2.2.2.1 k1_h1 k1_h9
theorem k1_off20_inb : ∀ (i : grid1.Coords) (k1_t1 : Fin (k1_t1_loop i).trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h1 : k1_cond1 i = 1#1), ∀ (k1_h9 : k1_cond9 i k1_t1 arg11_r0 = 1#1), ∀ a, (k1_off20 i arg11_r0) a + S128x32.size a ≤ S88064x32.size a := fun i k1_t1 arg7_r0 arg8_r0 arg9_r0 arg10_r0 arg11_r0 k1_hw1 k1_h1 k1_h9 => k1_hw1.2.2.2.2.2.2.2.2.2.2.1 k1_h1 k1_h9
theorem k1_off21_inb : ∀ (i : grid1.Coords) (k1_t1 : Fin (k1_t1_loop i).trips) (arg7_r0 : BitVec 32) (arg8_r0 : BitVec 32) (arg9_r0 : BitVec 32) (arg10_r0 : BitVec 32) (arg11_r0 : BitVec 32) (k1_hw1 : k1_chk1 i k1_t1 arg7_r0 arg8_r0 arg9_r0 arg10_r0 arg11_r0), ∀ (k1_h1 : k1_cond1 i = 1#1), ∀ (k1_h9 : k1_cond9 i k1_t1 arg11_r0 = 1#1), ∀ a, (k1_off21 arg10_r0) a + S1.size a ≤ S2.size a := fun i k1_t1 arg7_r0 arg8_r0 arg9_r0 arg10_r0 arg11_r0 k1_hw1 k1_h1 k1_h9 => k1_hw1.2.2.2.2.2.2.2.2.2.2.2 k1_h1 k1_h9

@[reducible] def k1_t3_loop (i : grid1.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let v43_r0 : BitVec 32 := Scalar.addi c0_i32_30_r0 v42_r0
  let c1_i32_37_r0 : BitVec 32 := 1#32
  ⟨v46_r0, v43_r0, c1_i32_37_r0⟩
def k1_off22 (arg7_r0 : BitVec 32) : Fin 3 → Nat :=
  let c2_i32_105_r0 : BitVec 32 := 2#32
  let v168_r0 : BitVec 32 := Scalar.remui arg7_r0 c2_i32_105_r0
  let c0_i32_107_r0 : BitVec 32 := 0#32
  let c0_i32_108_r0 : BitVec 32 := 0#32
  ![v168_r0.toNat, 0, 0]
def k1_cond10 (i : grid1.Coords) (k1_t3 : Fin (k1_t3_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg6_r0 : BitVec 32 := Scf.iv v46_r0 c1_i32_37_r0 k1_t3
  let c1_i32_58_r0 : BitVec 32 := 1#32
  let v80_r0 : BitVec 32 := Scalar.muli c1_i32_58_r0 v5
  let c2_i32_r0 : BitVec 32 := 2#32
  let v102_r0 : BitVec 32 := Scalar.subi v80_r0 c2_i32_r0
  let c1_i32_71_r0 : BitVec 32 := 1#32
  let v103_r0 : BitVec 32 := Scalar.addi v102_r0 c1_i32_71_r0
  let v104_r0 : BitVec 1 := Scalar.cmpi .sge arg6_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k1_off23 (i : grid1.Coords) (arg11_r0 : BitVec 32) : Fin 2 → Nat :=
  let c0_i32_109_r0 : BitVec 32 := 0#32
  let c128_i32_106_r0 : BitVec 32 := 128#32
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v169_r0 : BitVec 32 := Scalar.muli c128_i32_106_r0 v95_r0
  ![0, v169_r0.toNat]
def k1_off24 (arg7_r0 : BitVec 32) : Fin 1 → Nat :=
  let c2_i32_105_r0 : BitVec 32 := 2#32
  let v168_r0 : BitVec 32 := Scalar.remui arg7_r0 c2_i32_105_r0
  ![v168_r0.toNat]
def k1_off25 (arg8_r0 : BitVec 32) : Fin 3 → Nat :=
  let c2_i32_106_r0 : BitVec 32 := 2#32
  let v169_r0 : BitVec 32 := Scalar.remui arg8_r0 c2_i32_106_r0
  let c0_i32_107_r0 : BitVec 32 := 0#32
  let c0_i32_108_r0 : BitVec 32 := 0#32
  ![v169_r0.toNat, 0, 0]
def k1_cond11 (i : grid1.Coords) (k1_t3 : Fin (k1_t3_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg6_r0 : BitVec 32 := Scf.iv v46_r0 c1_i32_37_r0 k1_t3
  let c0_i32_59_r0 : BitVec 32 := 0#32
  let v81_r0 : BitVec 1 := Scalar.cmpi .eq arg6_r0 c0_i32_59_r0
  let v120_r0 : BitVec 1 := Scalar.ori v119_r0 v81_r0
  let c0_i32_80_r0 : BitVec 32 := 0#32
  let v121_r0 : BitVec 1 := Scalar.cmpi .sge arg6_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k1_off26 (i : grid1.Coords) (arg11_r0 : BitVec 32) : Fin 2 → Nat :=
  let c0_i32_109_r0 : BitVec 32 := 0#32
  let c128_i32_105_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let v168_r0 : BitVec 32 := Scalar.muli c128_i32_105_r0 v84_r0
  ![0, v168_r0.toNat]
def k1_off27 (arg8_r0 : BitVec 32) : Fin 1 → Nat :=
  let c2_i32_106_r0 : BitVec 32 := 2#32
  let v169_r0 : BitVec 32 := Scalar.remui arg8_r0 c2_i32_106_r0
  ![v169_r0.toNat]
def k1_off28 (arg8_r0 : BitVec 32) : Fin 3 → Nat :=
  let c2_i32_84_r0 : BitVec 32 := 2#32
  let v131_r0 : BitVec 32 := Scalar.remui arg8_r0 c2_i32_84_r0
  let c0_i32_105_r2 : BitVec 32 := 0#32
  let c0_i32_106_r2 : BitVec 32 := 0#32
  ![v131_r0.toNat, 0, 0]

def k1_chk5 (i : grid1.Coords) (k1_t3 : Fin (k1_t3_loop i).trips) (arg8_r0 : BitVec 32) : Prop :=
  (∀ (k1_h1 : k1_cond1 i = 1#1), ∀ a, (k1_off28 arg8_r0) a + S1x1x128.size a ≤ S2x1x128.size a)
theorem k1_off28_inb : ∀ (i : grid1.Coords) (k1_t3 : Fin (k1_t3_loop i).trips) (arg8_r0 : BitVec 32) (k1_hw5 : k1_chk5 i k1_t3 arg8_r0), ∀ (k1_h1 : k1_cond1 i = 1#1), ∀ a, (k1_off28 arg8_r0) a + S1x1x128.size a ≤ S2x1x128.size a := fun i k1_t3 arg8_r0 k1_hw5 k1_h1 => k1_hw5 k1_h1

@[reducible] def k1_t4_loop : Scf.Loop 32 :=
  let c0_i32_87_r0 : BitVec 32 := 0#32
  let c128_i32_r0 : BitVec 32 := 128#32
  let v133_r0 : BitVec 32 := Scalar.addi c0_i32_87_r0 c128_i32_r0
  let c1_i32_88_r0 : BitVec 32 := 1#32
  ⟨c0_i32_87_r0, v133_r0, c1_i32_88_r0⟩
def k1_off29 (k1_t4 : Fin k1_t4_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k1_t4
  let c1_i32_105_r0 : BitVec 32 := 1#32
  let v168_r0 : BitVec 32 := Scalar.muli arg12_r0 c1_i32_105_r0
  let v169_r0 : BitVec 32 := Scalar.addi c0_i32_106_r0 v168_r0
  let v170_r0 : Index := Scalar.indexCast v169_r0
  let c0_r0 : Index := 0#32
  ![v170_r0.toNat, 0]
def k1_off30 (arg9_r0 : BitVec 32) : Fin 3 → Nat :=
  let c2_i32_85_r0 : BitVec 32 := 2#32
  let v132_r0 : BitVec 32 := Scalar.remui arg9_r0 c2_i32_85_r0
  let c0_i32_107_r0 : BitVec 32 := 0#32
  let c0_i32_108_r0 : BitVec 32 := 0#32
  ![v132_r0.toNat, 0, 0]

def k1_chk6 (i : grid1.Coords) (k1_t3 : Fin (k1_t3_loop i).trips) (arg9_r0 : BitVec 32) : Prop :=
  (∀ (k1_h1 : k1_cond1 i = 1#1), ∀ a, (k1_off30 arg9_r0) a + S1x128x32.size a ≤ S2x128x32.size a)
theorem k1_off30_inb : ∀ (i : grid1.Coords) (k1_t3 : Fin (k1_t3_loop i).trips) (arg9_r0 : BitVec 32) (k1_hw6 : k1_chk6 i k1_t3 arg9_r0), ∀ (k1_h1 : k1_cond1 i = 1#1), ∀ a, (k1_off30 arg9_r0) a + S1x128x32.size a ≤ S2x128x32.size a := fun i k1_t3 arg9_r0 k1_hw6 k1_h1 => k1_hw6 k1_h1

def k1_off31 (k1_t4 : Fin k1_t4_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k1_t4
  let c1_i32_105_r0 : BitVec 32 := 1#32
  let v168_r0 : BitVec 32 := Scalar.muli arg12_r0 c1_i32_105_r0
  let v169_r0 : BitVec 32 := Scalar.addi c0_i32_106_r0 v168_r0
  let v175_r0 : Index := Scalar.indexCast v169_r0
  let c0_109_r0 : Index := 0#32
  ![v175_r0.toNat, 0]
def k1_off32 (k1_t4 : Fin k1_t4_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k1_t4
  let c1_i32_105_r0 : BitVec 32 := 1#32
  let v168_r0 : BitVec 32 := Scalar.muli arg12_r0 c1_i32_105_r0
  let v169_r0 : BitVec 32 := Scalar.addi c0_i32_106_r0 v168_r0
  let v179_r0 : Index := Scalar.indexCast v169_r0
  let c16_r0 : Index := 16#32
  ![v179_r0.toNat, 16]
def k1_off33 (k1_t4 : Fin k1_t4_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k1_t4
  let c1_i32_105_r0 : BitVec 32 := 1#32
  let v168_r0 : BitVec 32 := Scalar.muli arg12_r0 c1_i32_105_r0
  let v169_r0 : BitVec 32 := Scalar.addi c0_i32_106_r0 v168_r0
  let v184_r0 : Index := Scalar.indexCast v169_r0
  let c16_112_r0 : Index := 16#32
  ![v184_r0.toNat, 16]
def k1_off34 (arg9_r0 : BitVec 32) : Fin 3 → Nat :=
  let c2_i32_105_r0 : BitVec 32 := 2#32
  let v168_r0 : BitVec 32 := Scalar.remui arg9_r0 c2_i32_105_r0
  let c0_i32_107_r0 : BitVec 32 := 0#32
  let c0_i32_108_r0 : BitVec 32 := 0#32
  ![v168_r0.toNat, 0, 0]
def k1_cond14 (i : grid1.Coords) (k1_t3 : Fin (k1_t3_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v139_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg6_r0 : BitVec 32 := Scf.iv v46_r0 c1_i32_37_r0 k1_t3
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg6_r0 v82_r0
  let v140_r0 : BitVec 1 := Scalar.ori v139_r0 v83_r0
  let v141_r0 : BitVec 32 := Scalar.extui v140_r0
  let c0_i32_91_r0 : BitVec 32 := 0#32
  let v142_r0 : BitVec 1 := Scalar.cmpi .ne v141_r0 c0_i32_91_r0
  v142_r0

def k1_off35 (i : grid1.Coords) (arg11_r0 : BitVec 32) : Fin 2 → Nat :=
  let c128_i32_106_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let v169_r0 : BitVec 32 := Scalar.muli c128_i32_106_r0 v84_r0
  let c0_i32_109_r0 : BitVec 32 := 0#32
  ![v169_r0.toNat, 0]
def k1_off36 (arg9_r0 : BitVec 32) : Fin 1 → Nat :=
  let c2_i32_105_r0 : BitVec 32 := 2#32
  let v168_r0 : BitVec 32 := Scalar.remui arg9_r0 c2_i32_105_r0
  ![v168_r0.toNat]
def k1_off37 (arg10_r0 : BitVec 32) : Fin 3 → Nat :=
  let c2_i32_105_r0 : BitVec 32 := 2#32
  let v168_r0 : BitVec 32 := Scalar.remui arg10_r0 c2_i32_105_r0
  let c0_i32_107_r0 : BitVec 32 := 0#32
  let c0_i32_108_r0 : BitVec 32 := 0#32
  ![v168_r0.toNat, 0, 0]
def k1_cond16 (i : grid1.Coords) (k1_t3 : Fin (k1_t3_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v152_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg6_r0 : BitVec 32 := Scf.iv v46_r0 c1_i32_37_r0 k1_t3
  let c0_i32_59_r0 : BitVec 32 := 0#32
  let v81_r0 : BitVec 1 := Scalar.cmpi .eq arg6_r0 c0_i32_59_r0
  let true_97_r0 : BitVec 1 := 1#1
  let v153_r0 : BitVec 1 := Scalar.xori v81_r0 true_97_r0
  let v154_r0 : BitVec 1 := Scalar.andi v152_r0 v153_r0
  let v155_r0 : BitVec 32 := Scalar.extui v154_r0
  let c0_i32_98_r0 : BitVec 32 := 0#32
  let v156_r0 : BitVec 1 := Scalar.cmpi .ne v155_r0 c0_i32_98_r0
  v156_r0

def k1_off38 (i : grid1.Coords) (arg11_r0 : BitVec 32) : Fin 2 → Nat :=
  let c128_i32_106_r0 : BitVec 32 := 128#32
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v169_r0 : BitVec 32 := Scalar.muli c128_i32_106_r0 v90_r0
  let c0_i32_109_r0 : BitVec 32 := 0#32
  ![v169_r0.toNat, 0]
def k1_off39 (arg10_r0 : BitVec 32) : Fin 1 → Nat :=
  let c2_i32_105_r0 : BitVec 32 := 2#32
  let v168_r0 : BitVec 32 := Scalar.remui arg10_r0 c2_i32_105_r0
  ![v168_r0.toNat]

def k1_chk4 (i : grid1.Coords) (k1_t3 : Fin (k1_t3_loop i).trips) (arg7_r0 : BitVec 32) (arg8_r0 : BitVec 32) (arg9_r0 : BitVec 32) (arg10_r0 : BitVec 32) (arg11_r0 : BitVec 32) : Prop :=
  (∀ (k1_h1 : k1_cond1 i = 1#1), ∀ (k1_h10 : k1_cond10 i k1_t3 arg11_r0 = 1#1), ∀ a, (k1_off22 arg7_r0) a + S1x1x128.size a ≤ S2x1x128.size a) ∧
  (∀ (k1_h1 : k1_cond1 i = 1#1), ∀ (k1_h10 : k1_cond10 i k1_t3 arg11_r0 = 1#1), ∀ a, (k1_off23 i arg11_r0) a + S1x128.size a ≤ S1x88064.size a) ∧
  (∀ (k1_h1 : k1_cond1 i = 1#1), ∀ (k1_h10 : k1_cond10 i k1_t3 arg11_r0 = 1#1), ∀ a, (k1_off24 arg7_r0) a + S1.size a ≤ S2.size a) ∧
  (∀ (k1_h1 : k1_cond1 i = 1#1), ∀ (k1_h11 : k1_cond11 i k1_t3 arg11_r0 = 1#1), ∀ a, (k1_off25 arg8_r0) a + S1x1x128.size a ≤ S2x1x128.size a) ∧
  (∀ (k1_h1 : k1_cond1 i = 1#1), ∀ (k1_h11 : k1_cond11 i k1_t3 arg11_r0 = 1#1), ∀ a, (k1_off26 i arg11_r0) a + S1x128.size a ≤ S1x88064.size a) ∧
  (∀ (k1_h1 : k1_cond1 i = 1#1), ∀ (k1_h11 : k1_cond11 i k1_t3 arg11_r0 = 1#1), ∀ a, (k1_off27 arg8_r0) a + S1.size a ≤ S2.size a) ∧
  (∀ (k1_h1 : k1_cond1 i = 1#1), ∀ (k1_h14 : k1_cond14 i k1_t3 arg11_r0 = 1#1), ∀ a, (k1_off34 arg9_r0) a + S1x128x32.size a ≤ S2x128x32.size a) ∧
  (∀ (k1_h1 : k1_cond1 i = 1#1), ∀ (k1_h14 : k1_cond14 i k1_t3 arg11_r0 = 1#1), ∀ a, (k1_off35 i arg11_r0) a + S128x32.size a ≤ S88064x32.size a) ∧
  (∀ (k1_h1 : k1_cond1 i = 1#1), ∀ (k1_h14 : k1_cond14 i k1_t3 arg11_r0 = 1#1), ∀ a, (k1_off36 arg9_r0) a + S1.size a ≤ S2.size a) ∧
  (∀ (k1_h1 : k1_cond1 i = 1#1), ∀ (k1_h16 : k1_cond16 i k1_t3 arg11_r0 = 1#1), ∀ a, (k1_off37 arg10_r0) a + S1x128x32.size a ≤ S2x128x32.size a) ∧
  (∀ (k1_h1 : k1_cond1 i = 1#1), ∀ (k1_h16 : k1_cond16 i k1_t3 arg11_r0 = 1#1), ∀ a, (k1_off38 i arg11_r0) a + S128x32.size a ≤ S88064x32.size a) ∧
  (∀ (k1_h1 : k1_cond1 i = 1#1), ∀ (k1_h16 : k1_cond16 i k1_t3 arg11_r0 = 1#1), ∀ a, (k1_off39 arg10_r0) a + S1.size a ≤ S2.size a)
theorem k1_off22_inb : ∀ (i : grid1.Coords) (k1_t3 : Fin (k1_t3_loop i).trips) (arg7_r0 : BitVec 32) (arg8_r0 : BitVec 32) (arg9_r0 : BitVec 32) (arg10_r0 : BitVec 32) (arg11_r0 : BitVec 32) (k1_hw4 : k1_chk4 i k1_t3 arg7_r0 arg8_r0 arg9_r0 arg10_r0 arg11_r0), ∀ (k1_h1 : k1_cond1 i = 1#1), ∀ (k1_h10 : k1_cond10 i k1_t3 arg11_r0 = 1#1), ∀ a, (k1_off22 arg7_r0) a + S1x1x128.size a ≤ S2x1x128.size a := fun i k1_t3 arg7_r0 arg8_r0 arg9_r0 arg10_r0 arg11_r0 k1_hw4 k1_h1 k1_h10 => k1_hw4.1 k1_h1 k1_h10
theorem k1_off23_inb : ∀ (i : grid1.Coords) (k1_t3 : Fin (k1_t3_loop i).trips) (arg7_r0 : BitVec 32) (arg8_r0 : BitVec 32) (arg9_r0 : BitVec 32) (arg10_r0 : BitVec 32) (arg11_r0 : BitVec 32) (k1_hw4 : k1_chk4 i k1_t3 arg7_r0 arg8_r0 arg9_r0 arg10_r0 arg11_r0), ∀ (k1_h1 : k1_cond1 i = 1#1), ∀ (k1_h10 : k1_cond10 i k1_t3 arg11_r0 = 1#1), ∀ a, (k1_off23 i arg11_r0) a + S1x128.size a ≤ S1x88064.size a := fun i k1_t3 arg7_r0 arg8_r0 arg9_r0 arg10_r0 arg11_r0 k1_hw4 k1_h1 k1_h10 => k1_hw4.2.1 k1_h1 k1_h10
theorem k1_off24_inb : ∀ (i : grid1.Coords) (k1_t3 : Fin (k1_t3_loop i).trips) (arg7_r0 : BitVec 32) (arg8_r0 : BitVec 32) (arg9_r0 : BitVec 32) (arg10_r0 : BitVec 32) (arg11_r0 : BitVec 32) (k1_hw4 : k1_chk4 i k1_t3 arg7_r0 arg8_r0 arg9_r0 arg10_r0 arg11_r0), ∀ (k1_h1 : k1_cond1 i = 1#1), ∀ (k1_h10 : k1_cond10 i k1_t3 arg11_r0 = 1#1), ∀ a, (k1_off24 arg7_r0) a + S1.size a ≤ S2.size a := fun i k1_t3 arg7_r0 arg8_r0 arg9_r0 arg10_r0 arg11_r0 k1_hw4 k1_h1 k1_h10 => k1_hw4.2.2.1 k1_h1 k1_h10
theorem k1_off25_inb : ∀ (i : grid1.Coords) (k1_t3 : Fin (k1_t3_loop i).trips) (arg7_r0 : BitVec 32) (arg8_r0 : BitVec 32) (arg9_r0 : BitVec 32) (arg10_r0 : BitVec 32) (arg11_r0 : BitVec 32) (k1_hw4 : k1_chk4 i k1_t3 arg7_r0 arg8_r0 arg9_r0 arg10_r0 arg11_r0), ∀ (k1_h1 : k1_cond1 i = 1#1), ∀ (k1_h11 : k1_cond11 i k1_t3 arg11_r0 = 1#1), ∀ a, (k1_off25 arg8_r0) a + S1x1x128.size a ≤ S2x1x128.size a := fun i k1_t3 arg7_r0 arg8_r0 arg9_r0 arg10_r0 arg11_r0 k1_hw4 k1_h1 k1_h11 => k1_hw4.2.2.2.1 k1_h1 k1_h11
theorem k1_off26_inb : ∀ (i : grid1.Coords) (k1_t3 : Fin (k1_t3_loop i).trips) (arg7_r0 : BitVec 32) (arg8_r0 : BitVec 32) (arg9_r0 : BitVec 32) (arg10_r0 : BitVec 32) (arg11_r0 : BitVec 32) (k1_hw4 : k1_chk4 i k1_t3 arg7_r0 arg8_r0 arg9_r0 arg10_r0 arg11_r0), ∀ (k1_h1 : k1_cond1 i = 1#1), ∀ (k1_h11 : k1_cond11 i k1_t3 arg11_r0 = 1#1), ∀ a, (k1_off26 i arg11_r0) a + S1x128.size a ≤ S1x88064.size a := fun i k1_t3 arg7_r0 arg8_r0 arg9_r0 arg10_r0 arg11_r0 k1_hw4 k1_h1 k1_h11 => k1_hw4.2.2.2.2.1 k1_h1 k1_h11
theorem k1_off27_inb : ∀ (i : grid1.Coords) (k1_t3 : Fin (k1_t3_loop i).trips) (arg7_r0 : BitVec 32) (arg8_r0 : BitVec 32) (arg9_r0 : BitVec 32) (arg10_r0 : BitVec 32) (arg11_r0 : BitVec 32) (k1_hw4 : k1_chk4 i k1_t3 arg7_r0 arg8_r0 arg9_r0 arg10_r0 arg11_r0), ∀ (k1_h1 : k1_cond1 i = 1#1), ∀ (k1_h11 : k1_cond11 i k1_t3 arg11_r0 = 1#1), ∀ a, (k1_off27 arg8_r0) a + S1.size a ≤ S2.size a := fun i k1_t3 arg7_r0 arg8_r0 arg9_r0 arg10_r0 arg11_r0 k1_hw4 k1_h1 k1_h11 => k1_hw4.2.2.2.2.2.1 k1_h1 k1_h11
theorem k1_off34_inb : ∀ (i : grid1.Coords) (k1_t3 : Fin (k1_t3_loop i).trips) (arg7_r0 : BitVec 32) (arg8_r0 : BitVec 32) (arg9_r0 : BitVec 32) (arg10_r0 : BitVec 32) (arg11_r0 : BitVec 32) (k1_hw4 : k1_chk4 i k1_t3 arg7_r0 arg8_r0 arg9_r0 arg10_r0 arg11_r0), ∀ (k1_h1 : k1_cond1 i = 1#1), ∀ (k1_h14 : k1_cond14 i k1_t3 arg11_r0 = 1#1), ∀ a, (k1_off34 arg9_r0) a + S1x128x32.size a ≤ S2x128x32.size a := fun i k1_t3 arg7_r0 arg8_r0 arg9_r0 arg10_r0 arg11_r0 k1_hw4 k1_h1 k1_h14 => k1_hw4.2.2.2.2.2.2.1 k1_h1 k1_h14
theorem k1_off35_inb : ∀ (i : grid1.Coords) (k1_t3 : Fin (k1_t3_loop i).trips) (arg7_r0 : BitVec 32) (arg8_r0 : BitVec 32) (arg9_r0 : BitVec 32) (arg10_r0 : BitVec 32) (arg11_r0 : BitVec 32) (k1_hw4 : k1_chk4 i k1_t3 arg7_r0 arg8_r0 arg9_r0 arg10_r0 arg11_r0), ∀ (k1_h1 : k1_cond1 i = 1#1), ∀ (k1_h14 : k1_cond14 i k1_t3 arg11_r0 = 1#1), ∀ a, (k1_off35 i arg11_r0) a + S128x32.size a ≤ S88064x32.size a := fun i k1_t3 arg7_r0 arg8_r0 arg9_r0 arg10_r0 arg11_r0 k1_hw4 k1_h1 k1_h14 => k1_hw4.2.2.2.2.2.2.2.1 k1_h1 k1_h14
theorem k1_off36_inb : ∀ (i : grid1.Coords) (k1_t3 : Fin (k1_t3_loop i).trips) (arg7_r0 : BitVec 32) (arg8_r0 : BitVec 32) (arg9_r0 : BitVec 32) (arg10_r0 : BitVec 32) (arg11_r0 : BitVec 32) (k1_hw4 : k1_chk4 i k1_t3 arg7_r0 arg8_r0 arg9_r0 arg10_r0 arg11_r0), ∀ (k1_h1 : k1_cond1 i = 1#1), ∀ (k1_h14 : k1_cond14 i k1_t3 arg11_r0 = 1#1), ∀ a, (k1_off36 arg9_r0) a + S1.size a ≤ S2.size a := fun i k1_t3 arg7_r0 arg8_r0 arg9_r0 arg10_r0 arg11_r0 k1_hw4 k1_h1 k1_h14 => k1_hw4.2.2.2.2.2.2.2.2.1 k1_h1 k1_h14
theorem k1_off37_inb : ∀ (i : grid1.Coords) (k1_t3 : Fin (k1_t3_loop i).trips) (arg7_r0 : BitVec 32) (arg8_r0 : BitVec 32) (arg9_r0 : BitVec 32) (arg10_r0 : BitVec 32) (arg11_r0 : BitVec 32) (k1_hw4 : k1_chk4 i k1_t3 arg7_r0 arg8_r0 arg9_r0 arg10_r0 arg11_r0), ∀ (k1_h1 : k1_cond1 i = 1#1), ∀ (k1_h16 : k1_cond16 i k1_t3 arg11_r0 = 1#1), ∀ a, (k1_off37 arg10_r0) a + S1x128x32.size a ≤ S2x128x32.size a := fun i k1_t3 arg7_r0 arg8_r0 arg9_r0 arg10_r0 arg11_r0 k1_hw4 k1_h1 k1_h16 => k1_hw4.2.2.2.2.2.2.2.2.2.1 k1_h1 k1_h16
theorem k1_off38_inb : ∀ (i : grid1.Coords) (k1_t3 : Fin (k1_t3_loop i).trips) (arg7_r0 : BitVec 32) (arg8_r0 : BitVec 32) (arg9_r0 : BitVec 32) (arg10_r0 : BitVec 32) (arg11_r0 : BitVec 32) (k1_hw4 : k1_chk4 i k1_t3 arg7_r0 arg8_r0 arg9_r0 arg10_r0 arg11_r0), ∀ (k1_h1 : k1_cond1 i = 1#1), ∀ (k1_h16 : k1_cond16 i k1_t3 arg11_r0 = 1#1), ∀ a, (k1_off38 i arg11_r0) a + S128x32.size a ≤ S88064x32.size a := fun i k1_t3 arg7_r0 arg8_r0 arg9_r0 arg10_r0 arg11_r0 k1_hw4 k1_h1 k1_h16 => k1_hw4.2.2.2.2.2.2.2.2.2.2.1 k1_h1 k1_h16
theorem k1_off39_inb : ∀ (i : grid1.Coords) (k1_t3 : Fin (k1_t3_loop i).trips) (arg7_r0 : BitVec 32) (arg8_r0 : BitVec 32) (arg9_r0 : BitVec 32) (arg10_r0 : BitVec 32) (arg11_r0 : BitVec 32) (k1_hw4 : k1_chk4 i k1_t3 arg7_r0 arg8_r0 arg9_r0 arg10_r0 arg11_r0), ∀ (k1_h1 : k1_cond1 i = 1#1), ∀ (k1_h16 : k1_cond16 i k1_t3 arg11_r0 = 1#1), ∀ a, (k1_off39 arg10_r0) a + S1.size a ≤ S2.size a := fun i k1_t3 arg7_r0 arg8_r0 arg9_r0 arg10_r0 arg11_r0 k1_hw4 k1_h1 k1_h16 => k1_hw4.2.2.2.2.2.2.2.2.2.2.2 k1_h1 k1_h16

def k1_cond18 (i : grid1.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v11 : BitVec 32 := Scalar.muli c1_i32_4 v5
  let c1_i32_42_r0 : BitVec 32 := 1#32
  let v54_r0 : BitVec 32 := Scalar.subi v11 c1_i32_42_r0
  let c1_i32_43_r0 : BitVec 32 := 1#32
  let v55_r0 : BitVec 32 := Scalar.muli c1_i32_43_r0 v5
  let c1_i32_45_r0 : BitVec 32 := 1#32
  let v57_r0 : BitVec 32 := Scalar.subi v55_r0 c1_i32_45_r0
  let v58_r0 : BitVec 1 := Scalar.cmpi .eq v54_r0 v57_r0
  let v78_r0 : BitVec 32 := Scalar.extui v58_r0
  let c0_i32_57_r0 : BitVec 32 := 0#32
  let v79_r0 : BitVec 1 := Scalar.cmpi .ne v78_r0 c0_i32_57_r0
  v79_r0

def k1_off40 (v48_3_r0 : BitVec 32) : Fin 3 → Nat :=
  let c2_i32_r0 : BitVec 32 := 2#32
  let v80_r0 : BitVec 32 := Scalar.remui v48_3_r0 c2_i32_r0
  let c0_i32_58_r0 : BitVec 32 := 0#32
  let c0_i32_59_r0 : BitVec 32 := 0#32
  ![v80_r0.toNat, 0, 0]

def k1_off41 (i : grid1.Coords) (v48_4_r0 : BitVec 32) : Fin 2 → Nat :=
  let c128_i32_r0 : BitVec 32 := 128#32
  let true_39_r0 : BitVec 1 := 1#1
  let c1_i32_38_r0 : BitVec 32 := 1#32
  let v49_r0 : BitVec 32 := Scalar.subi v48_4_r0 c1_i32_38_r0
  let v50_r0 : BitVec 32 := Scalar.select true_39_r0 v49_r0 v48_4_r0
  let c_m1_i32_40_r0 : BitVec 32 := 4294967295#32
  let v51_r0 : BitVec 1 := Scalar.cmpi .eq v50_r0 c_m1_i32_40_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let c1_i32_41_r0 : BitVec 32 := 1#32
  let v52_r0 : BitVec 32 := Scalar.subi v5 c1_i32_41_r0
  let v53_r0 : BitVec 32 := Scalar.select v51_r0 v52_r0 v50_r0
  let c16_i32_1 : BitVec 32 := 16#32
  let v6 : BitVec 1 := Scalar.cmpi .slt v3 c16_i32_1
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v59_r0 : BitVec 32 := Scalar.addi v53_r0 v10
  let v81_r0 : BitVec 32 := Scalar.muli c128_i32_r0 v59_r0
  let c0_i32_60_r0 : BitVec 32 := 0#32
  ![v81_r0.toNat, 0]

def k1_chk8 (i : grid1.Coords) (v48_4_r0 : BitVec 32) : Prop :=
  (∀ (k1_h1 : k1_cond1 i = 1#1), ∀ (k1_h18 : k1_cond18 i = 1#1), ∀ a, (k1_off41 i v48_4_r0) a + S128x32.size a ≤ S88064x32.size a)
theorem k1_off41_inb : ∀ (i : grid1.Coords) (v48_4_r0 : BitVec 32) (k1_hw8 : k1_chk8 i v48_4_r0), ∀ (k1_h1 : k1_cond1 i = 1#1), ∀ (k1_h18 : k1_cond18 i = 1#1), ∀ a, (k1_off41 i v48_4_r0) a + S128x32.size a ≤ S88064x32.size a := fun i v48_4_r0 k1_hw8 k1_h1 k1_h18 => k1_hw8 k1_h1 k1_h18

def k1_off42 (v48_3_r0 : BitVec 32) : Fin 1 → Nat :=
  let c2_i32_r0 : BitVec 32 := 2#32
  let v80_r0 : BitVec 32 := Scalar.remui v48_3_r0 c2_i32_r0
  ![v80_r0.toNat]
def k1_off43 (v48_3_r0 : BitVec 32) : Fin 3 → Nat :=
  let c2_i32_r0 : BitVec 32 := 2#32
  let v80_r0 : BitVec 32 := Scalar.remui v48_3_r0 c2_i32_r0
  let c0_i32_62_r0 : BitVec 32 := 0#32
  let c0_i32_63_r0 : BitVec 32 := 0#32
  ![v80_r0.toNat, 0, 0]

def k1_chk7 (i : grid1.Coords) (v48_3_r0 : BitVec 32) : Prop :=
  (∀ (k1_h1 : k1_cond1 i = 1#1), ∀ (k1_h18 : k1_cond18 i = 1#1), ∀ a, (k1_off40 v48_3_r0) a + S1x128x32.size a ≤ S2x128x32.size a) ∧
  (∀ (k1_h1 : k1_cond1 i = 1#1), ∀ (k1_h18 : k1_cond18 i = 1#1), ∀ a, (k1_off42 v48_3_r0) a + S1.size a ≤ S2.size a) ∧
  (∀ (k1_h1 : k1_cond1 i = 1#1), ∀ (k1_h18 : k1_cond18 i = 1#1), ∀ a, (k1_off43 v48_3_r0) a + S1x128x32.size a ≤ S2x128x32.size a)
theorem k1_off40_inb : ∀ (i : grid1.Coords) (v48_3_r0 : BitVec 32) (k1_hw7 : k1_chk7 i v48_3_r0), ∀ (k1_h1 : k1_cond1 i = 1#1), ∀ (k1_h18 : k1_cond18 i = 1#1), ∀ a, (k1_off40 v48_3_r0) a + S1x128x32.size a ≤ S2x128x32.size a := fun i v48_3_r0 k1_hw7 k1_h1 k1_h18 => k1_hw7.1 k1_h1 k1_h18
theorem k1_off42_inb : ∀ (i : grid1.Coords) (v48_3_r0 : BitVec 32) (k1_hw7 : k1_chk7 i v48_3_r0), ∀ (k1_h1 : k1_cond1 i = 1#1), ∀ (k1_h18 : k1_cond18 i = 1#1), ∀ a, (k1_off42 v48_3_r0) a + S1.size a ≤ S2.size a := fun i v48_3_r0 k1_hw7 k1_h1 k1_h18 => k1_hw7.2.1 k1_h1 k1_h18
theorem k1_off43_inb : ∀ (i : grid1.Coords) (v48_3_r0 : BitVec 32) (k1_hw7 : k1_chk7 i v48_3_r0), ∀ (k1_h1 : k1_cond1 i = 1#1), ∀ (k1_h18 : k1_cond18 i = 1#1), ∀ a, (k1_off43 v48_3_r0) a + S1x128x32.size a ≤ S2x128x32.size a := fun i v48_3_r0 k1_hw7 k1_h1 k1_h18 => k1_hw7.2.2 k1_h1 k1_h18

abbrev grid2 : Pipeline.Grid := ⟨2, ![2, 16], ![false, false]⟩

def k2_cond1 (i : grid2.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v11 : BitVec 32 := Scalar.muli c1_i32_4 v5
  let c0_i32_6_r0 : BitVec 32 := 0#32
  let v14_r0 : BitVec 1 := Scalar.cmpi .sgt v11 c0_i32_6_r0
  let v15_r0 : BitVec 32 := Scalar.extui v14_r0
  let c0_i32_7_r0 : BitVec 32 := 0#32
  let v16_r0 : BitVec 1 := Scalar.cmpi .ne v15_r0 c0_i32_7_r0
  v16_r0

def k2_cond2 (i : grid2.Coords) : BitVec 1 :=
  let true_23_r0 : BitVec 1 := 1#1
  let c1_i32_8_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v17_r0 : BitVec 32 := Scalar.muli c1_i32_8_r0 v5
  let c0_i32_22_r0 : BitVec 32 := 0#32
  let v35_r0 : BitVec 1 := Scalar.cmpi .sgt v17_r0 c0_i32_22_r0
  let v36_r0 : BitVec 1 := Scalar.andi true_23_r0 v35_r0
  let true_24_r0 : BitVec 1 := 1#1
  let v37_r0 : BitVec 1 := Scalar.andi v36_r0 true_24_r0
  let v38_r0 : BitVec 32 := Scalar.extui v37_r0
  let c0_i32_26_r0 : BitVec 32 := 0#32
  let v39_r0 : BitVec 1 := Scalar.cmpi .ne v38_r0 c0_i32_26_r0
  v39_r0

def k2_off1 : Fin 3 → Nat :=
  let c0_i32_25_r0 : BitVec 32 := 0#32
  let c2_i32_r0 : BitVec 32 := 2#32
  let v80_r0 : BitVec 32 := Scalar.remui c0_i32_25_r0 c2_i32_r0
  let c0_i32_58_r0 : BitVec 32 := 0#32
  let c0_i32_59_r0 : BitVec 32 := 0#32
  ![v80_r0.toNat, 0, 0]
def k2_off2 (i : grid2.Coords) : Fin 2 → Nat :=
  let c0_i32_60_r0 : BitVec 32 := 0#32
  let c128_i32_r0 : BitVec 32 := 128#32
  let c0_i32_11_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v20_r0 : BitVec 32 := Scalar.addi c0_i32_11_r0 v10
  let v81_r0 : BitVec 32 := Scalar.muli c128_i32_r0 v20_r0
  ![0, v81_r0.toNat]
def k2_off3 : Fin 1 → Nat :=
  let c0_i32_25_r0 : BitVec 32 := 0#32
  let c2_i32_r0 : BitVec 32 := 2#32
  let v80_r0 : BitVec 32 := Scalar.remui c0_i32_25_r0 c2_i32_r0
  ![v80_r0.toNat]
@[reducible] def k2_t1_loop (i : grid2.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_36_r0 : BitVec 32 := 1#32
  ⟨c0_i32_30_r0, v46_r0, c1_i32_36_r0⟩
def k2_off4 (arg7_r0 : BitVec 32) : Fin 3 → Nat :=
  let c2_i32_105_r0 : BitVec 32 := 2#32
  let v168_r0 : BitVec 32 := Scalar.remui arg7_r0 c2_i32_105_r0
  let c0_i32_107_r0 : BitVec 32 := 0#32
  let c0_i32_108_r0 : BitVec 32 := 0#32
  ![v168_r0.toNat, 0, 0]
def k2_cond3 (i : grid2.Coords) (k2_t1 : Fin (k2_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_36_r0 : BitVec 32 := 1#32
  let arg6_r0 : BitVec 32 := Scf.iv c0_i32_30_r0 c1_i32_36_r0 k2_t1
  let c1_i32_58_r0 : BitVec 32 := 1#32
  let v80_r0 : BitVec 32 := Scalar.muli c1_i32_58_r0 v5
  let c2_i32_r0 : BitVec 32 := 2#32
  let v102_r0 : BitVec 32 := Scalar.subi v80_r0 c2_i32_r0
  let c1_i32_71_r0 : BitVec 32 := 1#32
  let v103_r0 : BitVec 32 := Scalar.addi v102_r0 c1_i32_71_r0
  let v104_r0 : BitVec 1 := Scalar.cmpi .sge arg6_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k2_off5 (i : grid2.Coords) (arg11_r0 : BitVec 32) : Fin 2 → Nat :=
  let c0_i32_109_r0 : BitVec 32 := 0#32
  let c128_i32_106_r0 : BitVec 32 := 128#32
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v169_r0 : BitVec 32 := Scalar.muli c128_i32_106_r0 v95_r0
  ![0, v169_r0.toNat]
def k2_off6 (arg7_r0 : BitVec 32) : Fin 1 → Nat :=
  let c2_i32_105_r0 : BitVec 32 := 2#32
  let v168_r0 : BitVec 32 := Scalar.remui arg7_r0 c2_i32_105_r0
  ![v168_r0.toNat]
def k2_off7 (arg8_r0 : BitVec 32) : Fin 3 → Nat :=
  let c2_i32_106_r0 : BitVec 32 := 2#32
  let v169_r0 : BitVec 32 := Scalar.remui arg8_r0 c2_i32_106_r0
  let c0_i32_107_r0 : BitVec 32 := 0#32
  let c0_i32_108_r0 : BitVec 32 := 0#32
  ![v169_r0.toNat, 0, 0]
def k2_cond4 (i : grid2.Coords) (k2_t1 : Fin (k2_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_36_r0 : BitVec 32 := 1#32
  let arg6_r0 : BitVec 32 := Scf.iv c0_i32_30_r0 c1_i32_36_r0 k2_t1
  let c0_i32_59_r0 : BitVec 32 := 0#32
  let v81_r0 : BitVec 1 := Scalar.cmpi .eq arg6_r0 c0_i32_59_r0
  let v120_r0 : BitVec 1 := Scalar.ori v119_r0 v81_r0
  let c0_i32_80_r0 : BitVec 32 := 0#32
  let v121_r0 : BitVec 1 := Scalar.cmpi .sge arg6_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k2_off8 (i : grid2.Coords) (arg11_r0 : BitVec 32) : Fin 2 → Nat :=
  let c0_i32_109_r0 : BitVec 32 := 0#32
  let c128_i32_105_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let v168_r0 : BitVec 32 := Scalar.muli c128_i32_105_r0 v84_r0
  ![0, v168_r0.toNat]
def k2_off9 (arg8_r0 : BitVec 32) : Fin 1 → Nat :=
  let c2_i32_106_r0 : BitVec 32 := 2#32
  let v169_r0 : BitVec 32 := Scalar.remui arg8_r0 c2_i32_106_r0
  ![v169_r0.toNat]
def k2_off10 (arg8_r0 : BitVec 32) : Fin 3 → Nat :=
  let c2_i32_84_r0 : BitVec 32 := 2#32
  let v131_r0 : BitVec 32 := Scalar.remui arg8_r0 c2_i32_84_r0
  let c0_i32_105_r1 : BitVec 32 := 0#32
  let c0_i32_106_r1 : BitVec 32 := 0#32
  ![v131_r0.toNat, 0, 0]

def k2_chk2 (i : grid2.Coords) (arg8_r0 : BitVec 32) : Prop :=
  (∀ (k2_h1 : k2_cond1 i = 1#1), ∀ a, (k2_off10 arg8_r0) a + S1x1x128.size a ≤ S2x1x128.size a)
theorem k2_off10_inb : ∀ (i : grid2.Coords) (arg8_r0 : BitVec 32) (k2_hw2 : k2_chk2 i arg8_r0), ∀ (k2_h1 : k2_cond1 i = 1#1), ∀ a, (k2_off10 arg8_r0) a + S1x1x128.size a ≤ S2x1x128.size a := fun i arg8_r0 k2_hw2 k2_h1 => k2_hw2 k2_h1

@[reducible] def k2_t2_loop : Scf.Loop 32 :=
  let c0_i32_87_r0 : BitVec 32 := 0#32
  let c128_i32_r0 : BitVec 32 := 128#32
  let v133_r0 : BitVec 32 := Scalar.addi c0_i32_87_r0 c128_i32_r0
  let c1_i32_88_r0 : BitVec 32 := 1#32
  ⟨c0_i32_87_r0, v133_r0, c1_i32_88_r0⟩
def k2_off11 (k2_t2 : Fin k2_t2_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k2_t2
  let c1_i32_105_r0 : BitVec 32 := 1#32
  let v168_r0 : BitVec 32 := Scalar.muli arg12_r0 c1_i32_105_r0
  let v169_r0 : BitVec 32 := Scalar.addi c0_i32_106_r0 v168_r0
  let v170_r0 : Index := Scalar.indexCast v169_r0
  let c0_r0 : Index := 0#32
  ![v170_r0.toNat, 0]
def k2_off12 (arg9_r0 : BitVec 32) : Fin 3 → Nat :=
  let c2_i32_85_r0 : BitVec 32 := 2#32
  let v132_r0 : BitVec 32 := Scalar.remui arg9_r0 c2_i32_85_r0
  let c0_i32_107_r0 : BitVec 32 := 0#32
  let c0_i32_108_r0 : BitVec 32 := 0#32
  ![v132_r0.toNat, 0, 0]

def k2_chk3 (i : grid2.Coords) (arg9_r0 : BitVec 32) : Prop :=
  (∀ (k2_h1 : k2_cond1 i = 1#1), ∀ a, (k2_off12 arg9_r0) a + S1x128x32.size a ≤ S2x128x32.size a)
theorem k2_off12_inb : ∀ (i : grid2.Coords) (arg9_r0 : BitVec 32) (k2_hw3 : k2_chk3 i arg9_r0), ∀ (k2_h1 : k2_cond1 i = 1#1), ∀ a, (k2_off12 arg9_r0) a + S1x128x32.size a ≤ S2x128x32.size a := fun i arg9_r0 k2_hw3 k2_h1 => k2_hw3 k2_h1

def k2_off13 (k2_t2 : Fin k2_t2_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k2_t2
  let c1_i32_105_r0 : BitVec 32 := 1#32
  let v168_r0 : BitVec 32 := Scalar.muli arg12_r0 c1_i32_105_r0
  let v169_r0 : BitVec 32 := Scalar.addi c0_i32_106_r0 v168_r0
  let v175_r0 : Index := Scalar.indexCast v169_r0
  let c0_109_r0 : Index := 0#32
  ![v175_r0.toNat, 0]
def k2_off14 (k2_t2 : Fin k2_t2_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k2_t2
  let c1_i32_105_r0 : BitVec 32 := 1#32
  let v168_r0 : BitVec 32 := Scalar.muli arg12_r0 c1_i32_105_r0
  let v169_r0 : BitVec 32 := Scalar.addi c0_i32_106_r0 v168_r0
  let v179_r0 : Index := Scalar.indexCast v169_r0
  let c16_r0 : Index := 16#32
  ![v179_r0.toNat, 16]
def k2_off15 (k2_t2 : Fin k2_t2_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k2_t2
  let c1_i32_105_r0 : BitVec 32 := 1#32
  let v168_r0 : BitVec 32 := Scalar.muli arg12_r0 c1_i32_105_r0
  let v169_r0 : BitVec 32 := Scalar.addi c0_i32_106_r0 v168_r0
  let v184_r0 : Index := Scalar.indexCast v169_r0
  let c16_112_r0 : Index := 16#32
  ![v184_r0.toNat, 16]
def k2_off16 (arg9_r0 : BitVec 32) : Fin 3 → Nat :=
  let c2_i32_105_r0 : BitVec 32 := 2#32
  let v168_r0 : BitVec 32 := Scalar.remui arg9_r0 c2_i32_105_r0
  let c0_i32_107_r0 : BitVec 32 := 0#32
  let c0_i32_108_r0 : BitVec 32 := 0#32
  ![v168_r0.toNat, 0, 0]
def k2_cond7 (i : grid2.Coords) (k2_t1 : Fin (k2_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v139_r0 : BitVec 1 := Scalar.cmpi .ne v84_r0 v95_r0
  let c0_i32_30_r0 : BitVec 32 := 0#32
  let c1_i32_36_r0 : BitVec 32 := 1#32
  let arg6_r0 : BitVec 32 := Scf.iv c0_i32_30_r0 c1_i32_36_r0 k2_t1
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg6_r0 v82_r0
  let v140_r0 : BitVec 1 := Scalar.ori v139_r0 v83_r0
  let v141_r0 : BitVec 32 := Scalar.extui v140_r0
  let c0_i32_91_r0 : BitVec 32 := 0#32
  let v142_r0 : BitVec 1 := Scalar.cmpi .ne v141_r0 c0_i32_91_r0
  v142_r0

def k2_off17 (i : grid2.Coords) (arg11_r0 : BitVec 32) : Fin 2 → Nat :=
  let c128_i32_106_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let v169_r0 : BitVec 32 := Scalar.muli c128_i32_106_r0 v84_r0
  let c0_i32_109_r0 : BitVec 32 := 0#32
  ![v169_r0.toNat, 0]
def k2_off18 (arg9_r0 : BitVec 32) : Fin 1 → Nat :=
  let c2_i32_105_r0 : BitVec 32 := 2#32
  let v168_r0 : BitVec 32 := Scalar.remui arg9_r0 c2_i32_105_r0
  ![v168_r0.toNat]
def k2_off19 (arg10_r0 : BitVec 32) : Fin 3 → Nat :=
  let c2_i32_105_r0 : BitVec 32 := 2#32
  let v168_r0 : BitVec 32 := Scalar.remui arg10_r0 c2_i32_105_r0
  let c0_i32_107_r0 : BitVec 32 := 0#32
  let c0_i32_108_r0 : BitVec 32 := 0#32
  ![v168_r0.toNat, 0, 0]
def k2_cond9 (i : grid2.Coords) (k2_t1 : Fin (k2_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v152_r0 : BitVec 1 := Scalar.cmpi .ne v84_r0 v90_r0
  let c0_i32_30_r0 : BitVec 32 := 0#32
  let c1_i32_36_r0 : BitVec 32 := 1#32
  let arg6_r0 : BitVec 32 := Scf.iv c0_i32_30_r0 c1_i32_36_r0 k2_t1
  let c0_i32_59_r0 : BitVec 32 := 0#32
  let v81_r0 : BitVec 1 := Scalar.cmpi .eq arg6_r0 c0_i32_59_r0
  let true_97_r0 : BitVec 1 := 1#1
  let v153_r0 : BitVec 1 := Scalar.xori v81_r0 true_97_r0
  let v154_r0 : BitVec 1 := Scalar.andi v152_r0 v153_r0
  let v155_r0 : BitVec 32 := Scalar.extui v154_r0
  let c0_i32_98_r0 : BitVec 32 := 0#32
  let v156_r0 : BitVec 1 := Scalar.cmpi .ne v155_r0 c0_i32_98_r0
  v156_r0

def k2_off20 (i : grid2.Coords) (arg11_r0 : BitVec 32) : Fin 2 → Nat :=
  let c128_i32_106_r0 : BitVec 32 := 128#32
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v169_r0 : BitVec 32 := Scalar.muli c128_i32_106_r0 v90_r0
  let c0_i32_109_r0 : BitVec 32 := 0#32
  ![v169_r0.toNat, 0]
def k2_off21 (arg10_r0 : BitVec 32) : Fin 1 → Nat :=
  let c2_i32_105_r0 : BitVec 32 := 2#32
  let v168_r0 : BitVec 32 := Scalar.remui arg10_r0 c2_i32_105_r0
  ![v168_r0.toNat]

def k2_chk1 (i : grid2.Coords) (k2_t1 : Fin (k2_t1_loop i).trips) (arg7_r0 : BitVec 32) (arg8_r0 : BitVec 32) (arg9_r0 : BitVec 32) (arg10_r0 : BitVec 32) (arg11_r0 : BitVec 32) : Prop :=
  (∀ (k2_h1 : k2_cond1 i = 1#1), ∀ (k2_h3 : k2_cond3 i k2_t1 arg11_r0 = 1#1), ∀ a, (k2_off4 arg7_r0) a + S1x1x128.size a ≤ S2x1x128.size a) ∧
  (∀ (k2_h1 : k2_cond1 i = 1#1), ∀ (k2_h3 : k2_cond3 i k2_t1 arg11_r0 = 1#1), ∀ a, (k2_off5 i arg11_r0) a + S1x128.size a ≤ S1x88064.size a) ∧
  (∀ (k2_h1 : k2_cond1 i = 1#1), ∀ (k2_h3 : k2_cond3 i k2_t1 arg11_r0 = 1#1), ∀ a, (k2_off6 arg7_r0) a + S1.size a ≤ S2.size a) ∧
  (∀ (k2_h1 : k2_cond1 i = 1#1), ∀ (k2_h4 : k2_cond4 i k2_t1 arg11_r0 = 1#1), ∀ a, (k2_off7 arg8_r0) a + S1x1x128.size a ≤ S2x1x128.size a) ∧
  (∀ (k2_h1 : k2_cond1 i = 1#1), ∀ (k2_h4 : k2_cond4 i k2_t1 arg11_r0 = 1#1), ∀ a, (k2_off8 i arg11_r0) a + S1x128.size a ≤ S1x88064.size a) ∧
  (∀ (k2_h1 : k2_cond1 i = 1#1), ∀ (k2_h4 : k2_cond4 i k2_t1 arg11_r0 = 1#1), ∀ a, (k2_off9 arg8_r0) a + S1.size a ≤ S2.size a) ∧
  (∀ (k2_h1 : k2_cond1 i = 1#1), ∀ (k2_h7 : k2_cond7 i k2_t1 arg11_r0 = 1#1), ∀ a, (k2_off16 arg9_r0) a + S1x128x32.size a ≤ S2x128x32.size a) ∧
  (∀ (k2_h1 : k2_cond1 i = 1#1), ∀ (k2_h7 : k2_cond7 i k2_t1 arg11_r0 = 1#1), ∀ a, (k2_off17 i arg11_r0) a + S128x32.size a ≤ S88064x32.size a) ∧
  (∀ (k2_h1 : k2_cond1 i = 1#1), ∀ (k2_h7 : k2_cond7 i k2_t1 arg11_r0 = 1#1), ∀ a, (k2_off18 arg9_r0) a + S1.size a ≤ S2.size a) ∧
  (∀ (k2_h1 : k2_cond1 i = 1#1), ∀ (k2_h9 : k2_cond9 i k2_t1 arg11_r0 = 1#1), ∀ a, (k2_off19 arg10_r0) a + S1x128x32.size a ≤ S2x128x32.size a) ∧
  (∀ (k2_h1 : k2_cond1 i = 1#1), ∀ (k2_h9 : k2_cond9 i k2_t1 arg11_r0 = 1#1), ∀ a, (k2_off20 i arg11_r0) a + S128x32.size a ≤ S88064x32.size a) ∧
  (∀ (k2_h1 : k2_cond1 i = 1#1), ∀ (k2_h9 : k2_cond9 i k2_t1 arg11_r0 = 1#1), ∀ a, (k2_off21 arg10_r0) a + S1.size a ≤ S2.size a)
theorem k2_off4_inb : ∀ (i : grid2.Coords) (k2_t1 : Fin (k2_t1_loop i).trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h1 : k2_cond1 i = 1#1), ∀ (k2_h3 : k2_cond3 i k2_t1 arg11_r0 = 1#1), ∀ a, (k2_off4 arg7_r0) a + S1x1x128.size a ≤ S2x1x128.size a := fun i k2_t1 arg7_r0 arg8_r0 arg9_r0 arg10_r0 arg11_r0 k2_hw1 k2_h1 k2_h3 => k2_hw1.1 k2_h1 k2_h3
theorem k2_off5_inb : ∀ (i : grid2.Coords) (k2_t1 : Fin (k2_t1_loop i).trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h1 : k2_cond1 i = 1#1), ∀ (k2_h3 : k2_cond3 i k2_t1 arg11_r0 = 1#1), ∀ a, (k2_off5 i arg11_r0) a + S1x128.size a ≤ S1x88064.size a := fun i k2_t1 arg7_r0 arg8_r0 arg9_r0 arg10_r0 arg11_r0 k2_hw1 k2_h1 k2_h3 => k2_hw1.2.1 k2_h1 k2_h3
theorem k2_off6_inb : ∀ (i : grid2.Coords) (k2_t1 : Fin (k2_t1_loop i).trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h1 : k2_cond1 i = 1#1), ∀ (k2_h3 : k2_cond3 i k2_t1 arg11_r0 = 1#1), ∀ a, (k2_off6 arg7_r0) a + S1.size a ≤ S2.size a := fun i k2_t1 arg7_r0 arg8_r0 arg9_r0 arg10_r0 arg11_r0 k2_hw1 k2_h1 k2_h3 => k2_hw1.2.2.1 k2_h1 k2_h3
theorem k2_off7_inb : ∀ (i : grid2.Coords) (k2_t1 : Fin (k2_t1_loop i).trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h1 : k2_cond1 i = 1#1), ∀ (k2_h4 : k2_cond4 i k2_t1 arg11_r0 = 1#1), ∀ a, (k2_off7 arg8_r0) a + S1x1x128.size a ≤ S2x1x128.size a := fun i k2_t1 arg7_r0 arg8_r0 arg9_r0 arg10_r0 arg11_r0 k2_hw1 k2_h1 k2_h4 => k2_hw1.2.2.2.1 k2_h1 k2_h4
theorem k2_off8_inb : ∀ (i : grid2.Coords) (k2_t1 : Fin (k2_t1_loop i).trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h1 : k2_cond1 i = 1#1), ∀ (k2_h4 : k2_cond4 i k2_t1 arg11_r0 = 1#1), ∀ a, (k2_off8 i arg11_r0) a + S1x128.size a ≤ S1x88064.size a := fun i k2_t1 arg7_r0 arg8_r0 arg9_r0 arg10_r0 arg11_r0 k2_hw1 k2_h1 k2_h4 => k2_hw1.2.2.2.2.1 k2_h1 k2_h4
theorem k2_off9_inb : ∀ (i : grid2.Coords) (k2_t1 : Fin (k2_t1_loop i).trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h1 : k2_cond1 i = 1#1), ∀ (k2_h4 : k2_cond4 i k2_t1 arg11_r0 = 1#1), ∀ a, (k2_off9 arg8_r0) a + S1.size a ≤ S2.size a := fun i k2_t1 arg7_r0 arg8_r0 arg9_r0 arg10_r0 arg11_r0 k2_hw1 k2_h1 k2_h4 => k2_hw1.2.2.2.2.2.1 k2_h1 k2_h4
theorem k2_off16_inb : ∀ (i : grid2.Coords) (k2_t1 : Fin (k2_t1_loop i).trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h1 : k2_cond1 i = 1#1), ∀ (k2_h7 : k2_cond7 i k2_t1 arg11_r0 = 1#1), ∀ a, (k2_off16 arg9_r0) a + S1x128x32.size a ≤ S2x128x32.size a := fun i k2_t1 arg7_r0 arg8_r0 arg9_r0 arg10_r0 arg11_r0 k2_hw1 k2_h1 k2_h7 => k2_hw1.2.2.2.2.2.2.1 k2_h1 k2_h7
theorem k2_off17_inb : ∀ (i : grid2.Coords) (k2_t1 : Fin (k2_t1_loop i).trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h1 : k2_cond1 i = 1#1), ∀ (k2_h7 : k2_cond7 i k2_t1 arg11_r0 = 1#1), ∀ a, (k2_off17 i arg11_r0) a + S128x32.size a ≤ S88064x32.size a := fun i k2_t1 arg7_r0 arg8_r0 arg9_r0 arg10_r0 arg11_r0 k2_hw1 k2_h1 k2_h7 => k2_hw1.2.2.2.2.2.2.2.1 k2_h1 k2_h7
theorem k2_off18_inb : ∀ (i : grid2.Coords) (k2_t1 : Fin (k2_t1_loop i).trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h1 : k2_cond1 i = 1#1), ∀ (k2_h7 : k2_cond7 i k2_t1 arg11_r0 = 1#1), ∀ a, (k2_off18 arg9_r0) a + S1.size a ≤ S2.size a := fun i k2_t1 arg7_r0 arg8_r0 arg9_r0 arg10_r0 arg11_r0 k2_hw1 k2_h1 k2_h7 => k2_hw1.2.2.2.2.2.2.2.2.1 k2_h1 k2_h7
theorem k2_off19_inb : ∀ (i : grid2.Coords) (k2_t1 : Fin (k2_t1_loop i).trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h1 : k2_cond1 i = 1#1), ∀ (k2_h9 : k2_cond9 i k2_t1 arg11_r0 = 1#1), ∀ a, (k2_off19 arg10_r0) a + S1x128x32.size a ≤ S2x128x32.size a := fun i k2_t1 arg7_r0 arg8_r0 arg9_r0 arg10_r0 arg11_r0 k2_hw1 k2_h1 k2_h9 => k2_hw1.2.2.2.2.2.2.2.2.2.1 k2_h1 k2_h9
theorem k2_off20_inb : ∀ (i : grid2.Coords) (k2_t1 : Fin (k2_t1_loop i).trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h1 : k2_cond1 i = 1#1), ∀ (k2_h9 : k2_cond9 i k2_t1 arg11_r0 = 1#1), ∀ a, (k2_off20 i arg11_r0) a + S128x32.size a ≤ S88064x32.size a := fun i k2_t1 arg7_r0 arg8_r0 arg9_r0 arg10_r0 arg11_r0 k2_hw1 k2_h1 k2_h9 => k2_hw1.2.2.2.2.2.2.2.2.2.2.1 k2_h1 k2_h9
theorem k2_off21_inb : ∀ (i : grid2.Coords) (k2_t1 : Fin (k2_t1_loop i).trips) (arg7_r0 : BitVec 32) (arg8_r0 : BitVec 32) (arg9_r0 : BitVec 32) (arg10_r0 : BitVec 32) (arg11_r0 : BitVec 32) (k2_hw1 : k2_chk1 i k2_t1 arg7_r0 arg8_r0 arg9_r0 arg10_r0 arg11_r0), ∀ (k2_h1 : k2_cond1 i = 1#1), ∀ (k2_h9 : k2_cond9 i k2_t1 arg11_r0 = 1#1), ∀ a, (k2_off21 arg10_r0) a + S1.size a ≤ S2.size a := fun i k2_t1 arg7_r0 arg8_r0 arg9_r0 arg10_r0 arg11_r0 k2_hw1 k2_h1 k2_h9 => k2_hw1.2.2.2.2.2.2.2.2.2.2.2 k2_h1 k2_h9

@[reducible] def k2_t3_loop (i : grid2.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let v43_r0 : BitVec 32 := Scalar.addi c0_i32_30_r0 v42_r0
  let c1_i32_37_r0 : BitVec 32 := 1#32
  ⟨v46_r0, v43_r0, c1_i32_37_r0⟩
def k2_off22 (arg7_r0 : BitVec 32) : Fin 3 → Nat :=
  let c2_i32_105_r0 : BitVec 32 := 2#32
  let v168_r0 : BitVec 32 := Scalar.remui arg7_r0 c2_i32_105_r0
  let c0_i32_107_r0 : BitVec 32 := 0#32
  let c0_i32_108_r0 : BitVec 32 := 0#32
  ![v168_r0.toNat, 0, 0]
def k2_cond10 (i : grid2.Coords) (k2_t3 : Fin (k2_t3_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg6_r0 : BitVec 32 := Scf.iv v46_r0 c1_i32_37_r0 k2_t3
  let c1_i32_58_r0 : BitVec 32 := 1#32
  let v80_r0 : BitVec 32 := Scalar.muli c1_i32_58_r0 v5
  let c2_i32_r0 : BitVec 32 := 2#32
  let v102_r0 : BitVec 32 := Scalar.subi v80_r0 c2_i32_r0
  let c1_i32_71_r0 : BitVec 32 := 1#32
  let v103_r0 : BitVec 32 := Scalar.addi v102_r0 c1_i32_71_r0
  let v104_r0 : BitVec 1 := Scalar.cmpi .sge arg6_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k2_off23 (i : grid2.Coords) (arg11_r0 : BitVec 32) : Fin 2 → Nat :=
  let c0_i32_109_r0 : BitVec 32 := 0#32
  let c128_i32_106_r0 : BitVec 32 := 128#32
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v169_r0 : BitVec 32 := Scalar.muli c128_i32_106_r0 v95_r0
  ![0, v169_r0.toNat]
def k2_off24 (arg7_r0 : BitVec 32) : Fin 1 → Nat :=
  let c2_i32_105_r0 : BitVec 32 := 2#32
  let v168_r0 : BitVec 32 := Scalar.remui arg7_r0 c2_i32_105_r0
  ![v168_r0.toNat]
def k2_off25 (arg8_r0 : BitVec 32) : Fin 3 → Nat :=
  let c2_i32_106_r0 : BitVec 32 := 2#32
  let v169_r0 : BitVec 32 := Scalar.remui arg8_r0 c2_i32_106_r0
  let c0_i32_107_r0 : BitVec 32 := 0#32
  let c0_i32_108_r0 : BitVec 32 := 0#32
  ![v169_r0.toNat, 0, 0]
def k2_cond11 (i : grid2.Coords) (k2_t3 : Fin (k2_t3_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg6_r0 : BitVec 32 := Scf.iv v46_r0 c1_i32_37_r0 k2_t3
  let c0_i32_59_r0 : BitVec 32 := 0#32
  let v81_r0 : BitVec 1 := Scalar.cmpi .eq arg6_r0 c0_i32_59_r0
  let v120_r0 : BitVec 1 := Scalar.ori v119_r0 v81_r0
  let c0_i32_80_r0 : BitVec 32 := 0#32
  let v121_r0 : BitVec 1 := Scalar.cmpi .sge arg6_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k2_off26 (i : grid2.Coords) (arg11_r0 : BitVec 32) : Fin 2 → Nat :=
  let c0_i32_109_r0 : BitVec 32 := 0#32
  let c128_i32_105_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let v168_r0 : BitVec 32 := Scalar.muli c128_i32_105_r0 v84_r0
  ![0, v168_r0.toNat]
def k2_off27 (arg8_r0 : BitVec 32) : Fin 1 → Nat :=
  let c2_i32_106_r0 : BitVec 32 := 2#32
  let v169_r0 : BitVec 32 := Scalar.remui arg8_r0 c2_i32_106_r0
  ![v169_r0.toNat]
def k2_off28 (arg8_r0 : BitVec 32) : Fin 3 → Nat :=
  let c2_i32_84_r0 : BitVec 32 := 2#32
  let v131_r0 : BitVec 32 := Scalar.remui arg8_r0 c2_i32_84_r0
  let c0_i32_105_r2 : BitVec 32 := 0#32
  let c0_i32_106_r2 : BitVec 32 := 0#32
  ![v131_r0.toNat, 0, 0]

def k2_chk5 (i : grid2.Coords) (k2_t3 : Fin (k2_t3_loop i).trips) (arg8_r0 : BitVec 32) : Prop :=
  (∀ (k2_h1 : k2_cond1 i = 1#1), ∀ a, (k2_off28 arg8_r0) a + S1x1x128.size a ≤ S2x1x128.size a)
theorem k2_off28_inb : ∀ (i : grid2.Coords) (k2_t3 : Fin (k2_t3_loop i).trips) (arg8_r0 : BitVec 32) (k2_hw5 : k2_chk5 i k2_t3 arg8_r0), ∀ (k2_h1 : k2_cond1 i = 1#1), ∀ a, (k2_off28 arg8_r0) a + S1x1x128.size a ≤ S2x1x128.size a := fun i k2_t3 arg8_r0 k2_hw5 k2_h1 => k2_hw5 k2_h1

@[reducible] def k2_t4_loop : Scf.Loop 32 :=
  let c0_i32_87_r0 : BitVec 32 := 0#32
  let c128_i32_r0 : BitVec 32 := 128#32
  let v133_r0 : BitVec 32 := Scalar.addi c0_i32_87_r0 c128_i32_r0
  let c1_i32_88_r0 : BitVec 32 := 1#32
  ⟨c0_i32_87_r0, v133_r0, c1_i32_88_r0⟩
def k2_off29 (k2_t4 : Fin k2_t4_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k2_t4
  let c1_i32_105_r0 : BitVec 32 := 1#32
  let v168_r0 : BitVec 32 := Scalar.muli arg12_r0 c1_i32_105_r0
  let v169_r0 : BitVec 32 := Scalar.addi c0_i32_106_r0 v168_r0
  let v170_r0 : Index := Scalar.indexCast v169_r0
  let c0_r0 : Index := 0#32
  ![v170_r0.toNat, 0]
def k2_off30 (arg9_r0 : BitVec 32) : Fin 3 → Nat :=
  let c2_i32_85_r0 : BitVec 32 := 2#32
  let v132_r0 : BitVec 32 := Scalar.remui arg9_r0 c2_i32_85_r0
  let c0_i32_107_r0 : BitVec 32 := 0#32
  let c0_i32_108_r0 : BitVec 32 := 0#32
  ![v132_r0.toNat, 0, 0]

def k2_chk6 (i : grid2.Coords) (k2_t3 : Fin (k2_t3_loop i).trips) (arg9_r0 : BitVec 32) : Prop :=
  (∀ (k2_h1 : k2_cond1 i = 1#1), ∀ a, (k2_off30 arg9_r0) a + S1x128x32.size a ≤ S2x128x32.size a)
theorem k2_off30_inb : ∀ (i : grid2.Coords) (k2_t3 : Fin (k2_t3_loop i).trips) (arg9_r0 : BitVec 32) (k2_hw6 : k2_chk6 i k2_t3 arg9_r0), ∀ (k2_h1 : k2_cond1 i = 1#1), ∀ a, (k2_off30 arg9_r0) a + S1x128x32.size a ≤ S2x128x32.size a := fun i k2_t3 arg9_r0 k2_hw6 k2_h1 => k2_hw6 k2_h1

def k2_off31 (k2_t4 : Fin k2_t4_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k2_t4
  let c1_i32_105_r0 : BitVec 32 := 1#32
  let v168_r0 : BitVec 32 := Scalar.muli arg12_r0 c1_i32_105_r0
  let v169_r0 : BitVec 32 := Scalar.addi c0_i32_106_r0 v168_r0
  let v175_r0 : Index := Scalar.indexCast v169_r0
  let c0_109_r0 : Index := 0#32
  ![v175_r0.toNat, 0]
def k2_off32 (k2_t4 : Fin k2_t4_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k2_t4
  let c1_i32_105_r0 : BitVec 32 := 1#32
  let v168_r0 : BitVec 32 := Scalar.muli arg12_r0 c1_i32_105_r0
  let v169_r0 : BitVec 32 := Scalar.addi c0_i32_106_r0 v168_r0
  let v179_r0 : Index := Scalar.indexCast v169_r0
  let c16_r0 : Index := 16#32
  ![v179_r0.toNat, 16]
def k2_off33 (k2_t4 : Fin k2_t4_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k2_t4
  let c1_i32_105_r0 : BitVec 32 := 1#32
  let v168_r0 : BitVec 32 := Scalar.muli arg12_r0 c1_i32_105_r0
  let v169_r0 : BitVec 32 := Scalar.addi c0_i32_106_r0 v168_r0
  let v184_r0 : Index := Scalar.indexCast v169_r0
  let c16_112_r0 : Index := 16#32
  ![v184_r0.toNat, 16]
def k2_off34 (arg9_r0 : BitVec 32) : Fin 3 → Nat :=
  let c2_i32_105_r0 : BitVec 32 := 2#32
  let v168_r0 : BitVec 32 := Scalar.remui arg9_r0 c2_i32_105_r0
  let c0_i32_107_r0 : BitVec 32 := 0#32
  let c0_i32_108_r0 : BitVec 32 := 0#32
  ![v168_r0.toNat, 0, 0]
def k2_cond14 (i : grid2.Coords) (k2_t3 : Fin (k2_t3_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v139_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg6_r0 : BitVec 32 := Scf.iv v46_r0 c1_i32_37_r0 k2_t3
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg6_r0 v82_r0
  let v140_r0 : BitVec 1 := Scalar.ori v139_r0 v83_r0
  let v141_r0 : BitVec 32 := Scalar.extui v140_r0
  let c0_i32_91_r0 : BitVec 32 := 0#32
  let v142_r0 : BitVec 1 := Scalar.cmpi .ne v141_r0 c0_i32_91_r0
  v142_r0

def k2_off35 (i : grid2.Coords) (arg11_r0 : BitVec 32) : Fin 2 → Nat :=
  let c128_i32_106_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let v169_r0 : BitVec 32 := Scalar.muli c128_i32_106_r0 v84_r0
  let c0_i32_109_r0 : BitVec 32 := 0#32
  ![v169_r0.toNat, 0]
def k2_off36 (arg9_r0 : BitVec 32) : Fin 1 → Nat :=
  let c2_i32_105_r0 : BitVec 32 := 2#32
  let v168_r0 : BitVec 32 := Scalar.remui arg9_r0 c2_i32_105_r0
  ![v168_r0.toNat]
def k2_off37 (arg10_r0 : BitVec 32) : Fin 3 → Nat :=
  let c2_i32_105_r0 : BitVec 32 := 2#32
  let v168_r0 : BitVec 32 := Scalar.remui arg10_r0 c2_i32_105_r0
  let c0_i32_107_r0 : BitVec 32 := 0#32
  let c0_i32_108_r0 : BitVec 32 := 0#32
  ![v168_r0.toNat, 0, 0]
def k2_cond16 (i : grid2.Coords) (k2_t3 : Fin (k2_t3_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v152_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg6_r0 : BitVec 32 := Scf.iv v46_r0 c1_i32_37_r0 k2_t3
  let c0_i32_59_r0 : BitVec 32 := 0#32
  let v81_r0 : BitVec 1 := Scalar.cmpi .eq arg6_r0 c0_i32_59_r0
  let true_97_r0 : BitVec 1 := 1#1
  let v153_r0 : BitVec 1 := Scalar.xori v81_r0 true_97_r0
  let v154_r0 : BitVec 1 := Scalar.andi v152_r0 v153_r0
  let v155_r0 : BitVec 32 := Scalar.extui v154_r0
  let c0_i32_98_r0 : BitVec 32 := 0#32
  let v156_r0 : BitVec 1 := Scalar.cmpi .ne v155_r0 c0_i32_98_r0
  v156_r0

def k2_off38 (i : grid2.Coords) (arg11_r0 : BitVec 32) : Fin 2 → Nat :=
  let c128_i32_106_r0 : BitVec 32 := 128#32
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v169_r0 : BitVec 32 := Scalar.muli c128_i32_106_r0 v90_r0
  let c0_i32_109_r0 : BitVec 32 := 0#32
  ![v169_r0.toNat, 0]
def k2_off39 (arg10_r0 : BitVec 32) : Fin 1 → Nat :=
  let c2_i32_105_r0 : BitVec 32 := 2#32
  let v168_r0 : BitVec 32 := Scalar.remui arg10_r0 c2_i32_105_r0
  ![v168_r0.toNat]

def k2_chk4 (i : grid2.Coords) (k2_t3 : Fin (k2_t3_loop i).trips) (arg7_r0 : BitVec 32) (arg8_r0 : BitVec 32) (arg9_r0 : BitVec 32) (arg10_r0 : BitVec 32) (arg11_r0 : BitVec 32) : Prop :=
  (∀ (k2_h1 : k2_cond1 i = 1#1), ∀ (k2_h10 : k2_cond10 i k2_t3 arg11_r0 = 1#1), ∀ a, (k2_off22 arg7_r0) a + S1x1x128.size a ≤ S2x1x128.size a) ∧
  (∀ (k2_h1 : k2_cond1 i = 1#1), ∀ (k2_h10 : k2_cond10 i k2_t3 arg11_r0 = 1#1), ∀ a, (k2_off23 i arg11_r0) a + S1x128.size a ≤ S1x88064.size a) ∧
  (∀ (k2_h1 : k2_cond1 i = 1#1), ∀ (k2_h10 : k2_cond10 i k2_t3 arg11_r0 = 1#1), ∀ a, (k2_off24 arg7_r0) a + S1.size a ≤ S2.size a) ∧
  (∀ (k2_h1 : k2_cond1 i = 1#1), ∀ (k2_h11 : k2_cond11 i k2_t3 arg11_r0 = 1#1), ∀ a, (k2_off25 arg8_r0) a + S1x1x128.size a ≤ S2x1x128.size a) ∧
  (∀ (k2_h1 : k2_cond1 i = 1#1), ∀ (k2_h11 : k2_cond11 i k2_t3 arg11_r0 = 1#1), ∀ a, (k2_off26 i arg11_r0) a + S1x128.size a ≤ S1x88064.size a) ∧
  (∀ (k2_h1 : k2_cond1 i = 1#1), ∀ (k2_h11 : k2_cond11 i k2_t3 arg11_r0 = 1#1), ∀ a, (k2_off27 arg8_r0) a + S1.size a ≤ S2.size a) ∧
  (∀ (k2_h1 : k2_cond1 i = 1#1), ∀ (k2_h14 : k2_cond14 i k2_t3 arg11_r0 = 1#1), ∀ a, (k2_off34 arg9_r0) a + S1x128x32.size a ≤ S2x128x32.size a) ∧
  (∀ (k2_h1 : k2_cond1 i = 1#1), ∀ (k2_h14 : k2_cond14 i k2_t3 arg11_r0 = 1#1), ∀ a, (k2_off35 i arg11_r0) a + S128x32.size a ≤ S88064x32.size a) ∧
  (∀ (k2_h1 : k2_cond1 i = 1#1), ∀ (k2_h14 : k2_cond14 i k2_t3 arg11_r0 = 1#1), ∀ a, (k2_off36 arg9_r0) a + S1.size a ≤ S2.size a) ∧
  (∀ (k2_h1 : k2_cond1 i = 1#1), ∀ (k2_h16 : k2_cond16 i k2_t3 arg11_r0 = 1#1), ∀ a, (k2_off37 arg10_r0) a + S1x128x32.size a ≤ S2x128x32.size a) ∧
  (∀ (k2_h1 : k2_cond1 i = 1#1), ∀ (k2_h16 : k2_cond16 i k2_t3 arg11_r0 = 1#1), ∀ a, (k2_off38 i arg11_r0) a + S128x32.size a ≤ S88064x32.size a) ∧
  (∀ (k2_h1 : k2_cond1 i = 1#1), ∀ (k2_h16 : k2_cond16 i k2_t3 arg11_r0 = 1#1), ∀ a, (k2_off39 arg10_r0) a + S1.size a ≤ S2.size a)
theorem k2_off22_inb : ∀ (i : grid2.Coords) (k2_t3 : Fin (k2_t3_loop i).trips) (arg7_r0 : BitVec 32) (arg8_r0 : BitVec 32) (arg9_r0 : BitVec 32) (arg10_r0 : BitVec 32) (arg11_r0 : BitVec 32) (k2_hw4 : k2_chk4 i k2_t3 arg7_r0 arg8_r0 arg9_r0 arg10_r0 arg11_r0), ∀ (k2_h1 : k2_cond1 i = 1#1), ∀ (k2_h10 : k2_cond10 i k2_t3 arg11_r0 = 1#1), ∀ a, (k2_off22 arg7_r0) a + S1x1x128.size a ≤ S2x1x128.size a := fun i k2_t3 arg7_r0 arg8_r0 arg9_r0 arg10_r0 arg11_r0 k2_hw4 k2_h1 k2_h10 => k2_hw4.1 k2_h1 k2_h10
theorem k2_off23_inb : ∀ (i : grid2.Coords) (k2_t3 : Fin (k2_t3_loop i).trips) (arg7_r0 : BitVec 32) (arg8_r0 : BitVec 32) (arg9_r0 : BitVec 32) (arg10_r0 : BitVec 32) (arg11_r0 : BitVec 32) (k2_hw4 : k2_chk4 i k2_t3 arg7_r0 arg8_r0 arg9_r0 arg10_r0 arg11_r0), ∀ (k2_h1 : k2_cond1 i = 1#1), ∀ (k2_h10 : k2_cond10 i k2_t3 arg11_r0 = 1#1), ∀ a, (k2_off23 i arg11_r0) a + S1x128.size a ≤ S1x88064.size a := fun i k2_t3 arg7_r0 arg8_r0 arg9_r0 arg10_r0 arg11_r0 k2_hw4 k2_h1 k2_h10 => k2_hw4.2.1 k2_h1 k2_h10
theorem k2_off24_inb : ∀ (i : grid2.Coords) (k2_t3 : Fin (k2_t3_loop i).trips) (arg7_r0 : BitVec 32) (arg8_r0 : BitVec 32) (arg9_r0 : BitVec 32) (arg10_r0 : BitVec 32) (arg11_r0 : BitVec 32) (k2_hw4 : k2_chk4 i k2_t3 arg7_r0 arg8_r0 arg9_r0 arg10_r0 arg11_r0), ∀ (k2_h1 : k2_cond1 i = 1#1), ∀ (k2_h10 : k2_cond10 i k2_t3 arg11_r0 = 1#1), ∀ a, (k2_off24 arg7_r0) a + S1.size a ≤ S2.size a := fun i k2_t3 arg7_r0 arg8_r0 arg9_r0 arg10_r0 arg11_r0 k2_hw4 k2_h1 k2_h10 => k2_hw4.2.2.1 k2_h1 k2_h10
theorem k2_off25_inb : ∀ (i : grid2.Coords) (k2_t3 : Fin (k2_t3_loop i).trips) (arg7_r0 : BitVec 32) (arg8_r0 : BitVec 32) (arg9_r0 : BitVec 32) (arg10_r0 : BitVec 32) (arg11_r0 : BitVec 32) (k2_hw4 : k2_chk4 i k2_t3 arg7_r0 arg8_r0 arg9_r0 arg10_r0 arg11_r0), ∀ (k2_h1 : k2_cond1 i = 1#1), ∀ (k2_h11 : k2_cond11 i k2_t3 arg11_r0 = 1#1), ∀ a, (k2_off25 arg8_r0) a + S1x1x128.size a ≤ S2x1x128.size a := fun i k2_t3 arg7_r0 arg8_r0 arg9_r0 arg10_r0 arg11_r0 k2_hw4 k2_h1 k2_h11 => k2_hw4.2.2.2.1 k2_h1 k2_h11
theorem k2_off26_inb : ∀ (i : grid2.Coords) (k2_t3 : Fin (k2_t3_loop i).trips) (arg7_r0 : BitVec 32) (arg8_r0 : BitVec 32) (arg9_r0 : BitVec 32) (arg10_r0 : BitVec 32) (arg11_r0 : BitVec 32) (k2_hw4 : k2_chk4 i k2_t3 arg7_r0 arg8_r0 arg9_r0 arg10_r0 arg11_r0), ∀ (k2_h1 : k2_cond1 i = 1#1), ∀ (k2_h11 : k2_cond11 i k2_t3 arg11_r0 = 1#1), ∀ a, (k2_off26 i arg11_r0) a + S1x128.size a ≤ S1x88064.size a := fun i k2_t3 arg7_r0 arg8_r0 arg9_r0 arg10_r0 arg11_r0 k2_hw4 k2_h1 k2_h11 => k2_hw4.2.2.2.2.1 k2_h1 k2_h11
theorem k2_off27_inb : ∀ (i : grid2.Coords) (k2_t3 : Fin (k2_t3_loop i).trips) (arg7_r0 : BitVec 32) (arg8_r0 : BitVec 32) (arg9_r0 : BitVec 32) (arg10_r0 : BitVec 32) (arg11_r0 : BitVec 32) (k2_hw4 : k2_chk4 i k2_t3 arg7_r0 arg8_r0 arg9_r0 arg10_r0 arg11_r0), ∀ (k2_h1 : k2_cond1 i = 1#1), ∀ (k2_h11 : k2_cond11 i k2_t3 arg11_r0 = 1#1), ∀ a, (k2_off27 arg8_r0) a + S1.size a ≤ S2.size a := fun i k2_t3 arg7_r0 arg8_r0 arg9_r0 arg10_r0 arg11_r0 k2_hw4 k2_h1 k2_h11 => k2_hw4.2.2.2.2.2.1 k2_h1 k2_h11
theorem k2_off34_inb : ∀ (i : grid2.Coords) (k2_t3 : Fin (k2_t3_loop i).trips) (arg7_r0 : BitVec 32) (arg8_r0 : BitVec 32) (arg9_r0 : BitVec 32) (arg10_r0 : BitVec 32) (arg11_r0 : BitVec 32) (k2_hw4 : k2_chk4 i k2_t3 arg7_r0 arg8_r0 arg9_r0 arg10_r0 arg11_r0), ∀ (k2_h1 : k2_cond1 i = 1#1), ∀ (k2_h14 : k2_cond14 i k2_t3 arg11_r0 = 1#1), ∀ a, (k2_off34 arg9_r0) a + S1x128x32.size a ≤ S2x128x32.size a := fun i k2_t3 arg7_r0 arg8_r0 arg9_r0 arg10_r0 arg11_r0 k2_hw4 k2_h1 k2_h14 => k2_hw4.2.2.2.2.2.2.1 k2_h1 k2_h14
theorem k2_off35_inb : ∀ (i : grid2.Coords) (k2_t3 : Fin (k2_t3_loop i).trips) (arg7_r0 : BitVec 32) (arg8_r0 : BitVec 32) (arg9_r0 : BitVec 32) (arg10_r0 : BitVec 32) (arg11_r0 : BitVec 32) (k2_hw4 : k2_chk4 i k2_t3 arg7_r0 arg8_r0 arg9_r0 arg10_r0 arg11_r0), ∀ (k2_h1 : k2_cond1 i = 1#1), ∀ (k2_h14 : k2_cond14 i k2_t3 arg11_r0 = 1#1), ∀ a, (k2_off35 i arg11_r0) a + S128x32.size a ≤ S88064x32.size a := fun i k2_t3 arg7_r0 arg8_r0 arg9_r0 arg10_r0 arg11_r0 k2_hw4 k2_h1 k2_h14 => k2_hw4.2.2.2.2.2.2.2.1 k2_h1 k2_h14
theorem k2_off36_inb : ∀ (i : grid2.Coords) (k2_t3 : Fin (k2_t3_loop i).trips) (arg7_r0 : BitVec 32) (arg8_r0 : BitVec 32) (arg9_r0 : BitVec 32) (arg10_r0 : BitVec 32) (arg11_r0 : BitVec 32) (k2_hw4 : k2_chk4 i k2_t3 arg7_r0 arg8_r0 arg9_r0 arg10_r0 arg11_r0), ∀ (k2_h1 : k2_cond1 i = 1#1), ∀ (k2_h14 : k2_cond14 i k2_t3 arg11_r0 = 1#1), ∀ a, (k2_off36 arg9_r0) a + S1.size a ≤ S2.size a := fun i k2_t3 arg7_r0 arg8_r0 arg9_r0 arg10_r0 arg11_r0 k2_hw4 k2_h1 k2_h14 => k2_hw4.2.2.2.2.2.2.2.2.1 k2_h1 k2_h14
theorem k2_off37_inb : ∀ (i : grid2.Coords) (k2_t3 : Fin (k2_t3_loop i).trips) (arg7_r0 : BitVec 32) (arg8_r0 : BitVec 32) (arg9_r0 : BitVec 32) (arg10_r0 : BitVec 32) (arg11_r0 : BitVec 32) (k2_hw4 : k2_chk4 i k2_t3 arg7_r0 arg8_r0 arg9_r0 arg10_r0 arg11_r0), ∀ (k2_h1 : k2_cond1 i = 1#1), ∀ (k2_h16 : k2_cond16 i k2_t3 arg11_r0 = 1#1), ∀ a, (k2_off37 arg10_r0) a + S1x128x32.size a ≤ S2x128x32.size a := fun i k2_t3 arg7_r0 arg8_r0 arg9_r0 arg10_r0 arg11_r0 k2_hw4 k2_h1 k2_h16 => k2_hw4.2.2.2.2.2.2.2.2.2.1 k2_h1 k2_h16
theorem k2_off38_inb : ∀ (i : grid2.Coords) (k2_t3 : Fin (k2_t3_loop i).trips) (arg7_r0 : BitVec 32) (arg8_r0 : BitVec 32) (arg9_r0 : BitVec 32) (arg10_r0 : BitVec 32) (arg11_r0 : BitVec 32) (k2_hw4 : k2_chk4 i k2_t3 arg7_r0 arg8_r0 arg9_r0 arg10_r0 arg11_r0), ∀ (k2_h1 : k2_cond1 i = 1#1), ∀ (k2_h16 : k2_cond16 i k2_t3 arg11_r0 = 1#1), ∀ a, (k2_off38 i arg11_r0) a + S128x32.size a ≤ S88064x32.size a := fun i k2_t3 arg7_r0 arg8_r0 arg9_r0 arg10_r0 arg11_r0 k2_hw4 k2_h1 k2_h16 => k2_hw4.2.2.2.2.2.2.2.2.2.2.1 k2_h1 k2_h16
theorem k2_off39_inb : ∀ (i : grid2.Coords) (k2_t3 : Fin (k2_t3_loop i).trips) (arg7_r0 : BitVec 32) (arg8_r0 : BitVec 32) (arg9_r0 : BitVec 32) (arg10_r0 : BitVec 32) (arg11_r0 : BitVec 32) (k2_hw4 : k2_chk4 i k2_t3 arg7_r0 arg8_r0 arg9_r0 arg10_r0 arg11_r0), ∀ (k2_h1 : k2_cond1 i = 1#1), ∀ (k2_h16 : k2_cond16 i k2_t3 arg11_r0 = 1#1), ∀ a, (k2_off39 arg10_r0) a + S1.size a ≤ S2.size a := fun i k2_t3 arg7_r0 arg8_r0 arg9_r0 arg10_r0 arg11_r0 k2_hw4 k2_h1 k2_h16 => k2_hw4.2.2.2.2.2.2.2.2.2.2.2 k2_h1 k2_h16

def k2_cond18 (i : grid2.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v11 : BitVec 32 := Scalar.muli c1_i32_4 v5
  let c1_i32_42_r0 : BitVec 32 := 1#32
  let v54_r0 : BitVec 32 := Scalar.subi v11 c1_i32_42_r0
  let c1_i32_43_r0 : BitVec 32 := 1#32
  let v55_r0 : BitVec 32 := Scalar.muli c1_i32_43_r0 v5
  let c1_i32_45_r0 : BitVec 32 := 1#32
  let v57_r0 : BitVec 32 := Scalar.subi v55_r0 c1_i32_45_r0
  let v58_r0 : BitVec 1 := Scalar.cmpi .eq v54_r0 v57_r0
  let v78_r0 : BitVec 32 := Scalar.extui v58_r0
  let c0_i32_57_r0 : BitVec 32 := 0#32
  let v79_r0 : BitVec 1 := Scalar.cmpi .ne v78_r0 c0_i32_57_r0
  v79_r0

def k2_off40 (v48_3_r0 : BitVec 32) : Fin 3 → Nat :=
  let c2_i32_r0 : BitVec 32 := 2#32
  let v80_r0 : BitVec 32 := Scalar.remui v48_3_r0 c2_i32_r0
  let c0_i32_58_r0 : BitVec 32 := 0#32
  let c0_i32_59_r0 : BitVec 32 := 0#32
  ![v80_r0.toNat, 0, 0]

def k2_off41 (i : grid2.Coords) (v48_4_r0 : BitVec 32) : Fin 2 → Nat :=
  let c128_i32_r0 : BitVec 32 := 128#32
  let true_39_r0 : BitVec 1 := 1#1
  let c1_i32_38_r0 : BitVec 32 := 1#32
  let v49_r0 : BitVec 32 := Scalar.subi v48_4_r0 c1_i32_38_r0
  let v50_r0 : BitVec 32 := Scalar.select true_39_r0 v49_r0 v48_4_r0
  let c_m1_i32_40_r0 : BitVec 32 := 4294967295#32
  let v51_r0 : BitVec 1 := Scalar.cmpi .eq v50_r0 c_m1_i32_40_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let c1_i32_41_r0 : BitVec 32 := 1#32
  let v52_r0 : BitVec 32 := Scalar.subi v5 c1_i32_41_r0
  let v53_r0 : BitVec 32 := Scalar.select v51_r0 v52_r0 v50_r0
  let c16_i32_1 : BitVec 32 := 16#32
  let v6 : BitVec 1 := Scalar.cmpi .slt v3 c16_i32_1
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v59_r0 : BitVec 32 := Scalar.addi v53_r0 v10
  let v81_r0 : BitVec 32 := Scalar.muli c128_i32_r0 v59_r0
  let c0_i32_60_r0 : BitVec 32 := 0#32
  ![v81_r0.toNat, 0]

def k2_chk8 (i : grid2.Coords) (v48_4_r0 : BitVec 32) : Prop :=
  (∀ (k2_h1 : k2_cond1 i = 1#1), ∀ (k2_h18 : k2_cond18 i = 1#1), ∀ a, (k2_off41 i v48_4_r0) a + S128x32.size a ≤ S88064x32.size a)
theorem k2_off41_inb : ∀ (i : grid2.Coords) (v48_4_r0 : BitVec 32) (k2_hw8 : k2_chk8 i v48_4_r0), ∀ (k2_h1 : k2_cond1 i = 1#1), ∀ (k2_h18 : k2_cond18 i = 1#1), ∀ a, (k2_off41 i v48_4_r0) a + S128x32.size a ≤ S88064x32.size a := fun i v48_4_r0 k2_hw8 k2_h1 k2_h18 => k2_hw8 k2_h1 k2_h18

def k2_off42 (v48_3_r0 : BitVec 32) : Fin 1 → Nat :=
  let c2_i32_r0 : BitVec 32 := 2#32
  let v80_r0 : BitVec 32 := Scalar.remui v48_3_r0 c2_i32_r0
  ![v80_r0.toNat]
def k2_off43 (v48_3_r0 : BitVec 32) : Fin 3 → Nat :=
  let c2_i32_r0 : BitVec 32 := 2#32
  let v80_r0 : BitVec 32 := Scalar.remui v48_3_r0 c2_i32_r0
  let c0_i32_62_r0 : BitVec 32 := 0#32
  let c0_i32_63_r0 : BitVec 32 := 0#32
  ![v80_r0.toNat, 0, 0]

def k2_chk7 (i : grid2.Coords) (v48_3_r0 : BitVec 32) : Prop :=
  (∀ (k2_h1 : k2_cond1 i = 1#1), ∀ (k2_h18 : k2_cond18 i = 1#1), ∀ a, (k2_off40 v48_3_r0) a + S1x128x32.size a ≤ S2x128x32.size a) ∧
  (∀ (k2_h1 : k2_cond1 i = 1#1), ∀ (k2_h18 : k2_cond18 i = 1#1), ∀ a, (k2_off42 v48_3_r0) a + S1.size a ≤ S2.size a) ∧
  (∀ (k2_h1 : k2_cond1 i = 1#1), ∀ (k2_h18 : k2_cond18 i = 1#1), ∀ a, (k2_off43 v48_3_r0) a + S1x128x32.size a ≤ S2x128x32.size a)
theorem k2_off40_inb : ∀ (i : grid2.Coords) (v48_3_r0 : BitVec 32) (k2_hw7 : k2_chk7 i v48_3_r0), ∀ (k2_h1 : k2_cond1 i = 1#1), ∀ (k2_h18 : k2_cond18 i = 1#1), ∀ a, (k2_off40 v48_3_r0) a + S1x128x32.size a ≤ S2x128x32.size a := fun i v48_3_r0 k2_hw7 k2_h1 k2_h18 => k2_hw7.1 k2_h1 k2_h18
theorem k2_off42_inb : ∀ (i : grid2.Coords) (v48_3_r0 : BitVec 32) (k2_hw7 : k2_chk7 i v48_3_r0), ∀ (k2_h1 : k2_cond1 i = 1#1), ∀ (k2_h18 : k2_cond18 i = 1#1), ∀ a, (k2_off42 v48_3_r0) a + S1.size a ≤ S2.size a := fun i v48_3_r0 k2_hw7 k2_h1 k2_h18 => k2_hw7.2.1 k2_h1 k2_h18
theorem k2_off43_inb : ∀ (i : grid2.Coords) (v48_3_r0 : BitVec 32) (k2_hw7 : k2_chk7 i v48_3_r0), ∀ (k2_h1 : k2_cond1 i = 1#1), ∀ (k2_h18 : k2_cond18 i = 1#1), ∀ a, (k2_off43 v48_3_r0) a + S1x128x32.size a ≤ S2x128x32.size a := fun i v48_3_r0 k2_hw7 k2_h1 k2_h18 => k2_hw7.2.2 k2_h1 k2_h18

abbrev grid3 : Pipeline.Grid := ⟨2, ![2, 16], ![false, false]⟩

def k3_cond1 (i : grid3.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v11 : BitVec 32 := Scalar.muli c1_i32_4 v5
  let c0_i32_6_r0 : BitVec 32 := 0#32
  let v14_r0 : BitVec 1 := Scalar.cmpi .sgt v11 c0_i32_6_r0
  let v15_r0 : BitVec 32 := Scalar.extui v14_r0
  let c0_i32_7_r0 : BitVec 32 := 0#32
  let v16_r0 : BitVec 1 := Scalar.cmpi .ne v15_r0 c0_i32_7_r0
  v16_r0

def k3_cond2 (i : grid3.Coords) : BitVec 1 :=
  let true_23_r0 : BitVec 1 := 1#1
  let c1_i32_8_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v17_r0 : BitVec 32 := Scalar.muli c1_i32_8_r0 v5
  let c0_i32_22_r0 : BitVec 32 := 0#32
  let v35_r0 : BitVec 1 := Scalar.cmpi .sgt v17_r0 c0_i32_22_r0
  let v36_r0 : BitVec 1 := Scalar.andi true_23_r0 v35_r0
  let true_24_r0 : BitVec 1 := 1#1
  let v37_r0 : BitVec 1 := Scalar.andi v36_r0 true_24_r0
  let v38_r0 : BitVec 32 := Scalar.extui v37_r0
  let c0_i32_26_r0 : BitVec 32 := 0#32
  let v39_r0 : BitVec 1 := Scalar.cmpi .ne v38_r0 c0_i32_26_r0
  v39_r0

def k3_off1 : Fin 3 → Nat :=
  let c0_i32_25_r0 : BitVec 32 := 0#32
  let c2_i32_r0 : BitVec 32 := 2#32
  let v80_r0 : BitVec 32 := Scalar.remui c0_i32_25_r0 c2_i32_r0
  let c0_i32_58_r0 : BitVec 32 := 0#32
  let c0_i32_59_r0 : BitVec 32 := 0#32
  ![v80_r0.toNat, 0, 0]
def k3_off2 (i : grid3.Coords) : Fin 2 → Nat :=
  let c0_i32_60_r0 : BitVec 32 := 0#32
  let c128_i32_r0 : BitVec 32 := 128#32
  let c0_i32_11_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v20_r0 : BitVec 32 := Scalar.addi c0_i32_11_r0 v10
  let v81_r0 : BitVec 32 := Scalar.muli c128_i32_r0 v20_r0
  ![0, v81_r0.toNat]
def k3_off3 : Fin 1 → Nat :=
  let c0_i32_25_r0 : BitVec 32 := 0#32
  let c2_i32_r0 : BitVec 32 := 2#32
  let v80_r0 : BitVec 32 := Scalar.remui c0_i32_25_r0 c2_i32_r0
  ![v80_r0.toNat]
@[reducible] def k3_t1_loop (i : grid3.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_36_r0 : BitVec 32 := 1#32
  ⟨c0_i32_30_r0, v46_r0, c1_i32_36_r0⟩
def k3_off4 (arg7_r0 : BitVec 32) : Fin 3 → Nat :=
  let c2_i32_105_r0 : BitVec 32 := 2#32
  let v168_r0 : BitVec 32 := Scalar.remui arg7_r0 c2_i32_105_r0
  let c0_i32_107_r0 : BitVec 32 := 0#32
  let c0_i32_108_r0 : BitVec 32 := 0#32
  ![v168_r0.toNat, 0, 0]
def k3_cond3 (i : grid3.Coords) (k3_t1 : Fin (k3_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_36_r0 : BitVec 32 := 1#32
  let arg6_r0 : BitVec 32 := Scf.iv c0_i32_30_r0 c1_i32_36_r0 k3_t1
  let c1_i32_58_r0 : BitVec 32 := 1#32
  let v80_r0 : BitVec 32 := Scalar.muli c1_i32_58_r0 v5
  let c2_i32_r0 : BitVec 32 := 2#32
  let v102_r0 : BitVec 32 := Scalar.subi v80_r0 c2_i32_r0
  let c1_i32_71_r0 : BitVec 32 := 1#32
  let v103_r0 : BitVec 32 := Scalar.addi v102_r0 c1_i32_71_r0
  let v104_r0 : BitVec 1 := Scalar.cmpi .sge arg6_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k3_off5 (i : grid3.Coords) (arg11_r0 : BitVec 32) : Fin 2 → Nat :=
  let c0_i32_109_r0 : BitVec 32 := 0#32
  let c128_i32_106_r0 : BitVec 32 := 128#32
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v169_r0 : BitVec 32 := Scalar.muli c128_i32_106_r0 v95_r0
  ![0, v169_r0.toNat]
def k3_off6 (arg7_r0 : BitVec 32) : Fin 1 → Nat :=
  let c2_i32_105_r0 : BitVec 32 := 2#32
  let v168_r0 : BitVec 32 := Scalar.remui arg7_r0 c2_i32_105_r0
  ![v168_r0.toNat]
def k3_off7 (arg8_r0 : BitVec 32) : Fin 3 → Nat :=
  let c2_i32_106_r0 : BitVec 32 := 2#32
  let v169_r0 : BitVec 32 := Scalar.remui arg8_r0 c2_i32_106_r0
  let c0_i32_107_r0 : BitVec 32 := 0#32
  let c0_i32_108_r0 : BitVec 32 := 0#32
  ![v169_r0.toNat, 0, 0]
def k3_cond4 (i : grid3.Coords) (k3_t1 : Fin (k3_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_36_r0 : BitVec 32 := 1#32
  let arg6_r0 : BitVec 32 := Scf.iv c0_i32_30_r0 c1_i32_36_r0 k3_t1
  let c0_i32_59_r0 : BitVec 32 := 0#32
  let v81_r0 : BitVec 1 := Scalar.cmpi .eq arg6_r0 c0_i32_59_r0
  let v120_r0 : BitVec 1 := Scalar.ori v119_r0 v81_r0
  let c0_i32_80_r0 : BitVec 32 := 0#32
  let v121_r0 : BitVec 1 := Scalar.cmpi .sge arg6_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k3_off8 (i : grid3.Coords) (arg11_r0 : BitVec 32) : Fin 2 → Nat :=
  let c0_i32_109_r0 : BitVec 32 := 0#32
  let c128_i32_105_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let v168_r0 : BitVec 32 := Scalar.muli c128_i32_105_r0 v84_r0
  ![0, v168_r0.toNat]
def k3_off9 (arg8_r0 : BitVec 32) : Fin 1 → Nat :=
  let c2_i32_106_r0 : BitVec 32 := 2#32
  let v169_r0 : BitVec 32 := Scalar.remui arg8_r0 c2_i32_106_r0
  ![v169_r0.toNat]
def k3_off10 (arg8_r0 : BitVec 32) : Fin 3 → Nat :=
  let c2_i32_84_r0 : BitVec 32 := 2#32
  let v131_r0 : BitVec 32 := Scalar.remui arg8_r0 c2_i32_84_r0
  let c0_i32_105_r1 : BitVec 32 := 0#32
  let c0_i32_106_r1 : BitVec 32 := 0#32
  ![v131_r0.toNat, 0, 0]

def k3_chk2 (i : grid3.Coords) (arg8_r0 : BitVec 32) : Prop :=
  (∀ (k3_h1 : k3_cond1 i = 1#1), ∀ a, (k3_off10 arg8_r0) a + S1x1x128.size a ≤ S2x1x128.size a)
theorem k3_off10_inb : ∀ (i : grid3.Coords) (arg8_r0 : BitVec 32) (k3_hw2 : k3_chk2 i arg8_r0), ∀ (k3_h1 : k3_cond1 i = 1#1), ∀ a, (k3_off10 arg8_r0) a + S1x1x128.size a ≤ S2x1x128.size a := fun i arg8_r0 k3_hw2 k3_h1 => k3_hw2 k3_h1

@[reducible] def k3_t2_loop : Scf.Loop 32 :=
  let c0_i32_87_r0 : BitVec 32 := 0#32
  let c128_i32_r0 : BitVec 32 := 128#32
  let v133_r0 : BitVec 32 := Scalar.addi c0_i32_87_r0 c128_i32_r0
  let c1_i32_88_r0 : BitVec 32 := 1#32
  ⟨c0_i32_87_r0, v133_r0, c1_i32_88_r0⟩
def k3_off11 (k3_t2 : Fin k3_t2_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k3_t2
  let c1_i32_105_r0 : BitVec 32 := 1#32
  let v168_r0 : BitVec 32 := Scalar.muli arg12_r0 c1_i32_105_r0
  let v169_r0 : BitVec 32 := Scalar.addi c0_i32_106_r0 v168_r0
  let v170_r0 : Index := Scalar.indexCast v169_r0
  let c0_r0 : Index := 0#32
  ![v170_r0.toNat, 0]
def k3_off12 (arg9_r0 : BitVec 32) : Fin 3 → Nat :=
  let c2_i32_85_r0 : BitVec 32 := 2#32
  let v132_r0 : BitVec 32 := Scalar.remui arg9_r0 c2_i32_85_r0
  let c0_i32_107_r0 : BitVec 32 := 0#32
  let c0_i32_108_r0 : BitVec 32 := 0#32
  ![v132_r0.toNat, 0, 0]

def k3_chk3 (i : grid3.Coords) (arg9_r0 : BitVec 32) : Prop :=
  (∀ (k3_h1 : k3_cond1 i = 1#1), ∀ a, (k3_off12 arg9_r0) a + S1x128x32.size a ≤ S2x128x32.size a)
theorem k3_off12_inb : ∀ (i : grid3.Coords) (arg9_r0 : BitVec 32) (k3_hw3 : k3_chk3 i arg9_r0), ∀ (k3_h1 : k3_cond1 i = 1#1), ∀ a, (k3_off12 arg9_r0) a + S1x128x32.size a ≤ S2x128x32.size a := fun i arg9_r0 k3_hw3 k3_h1 => k3_hw3 k3_h1

def k3_off13 (k3_t2 : Fin k3_t2_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k3_t2
  let c1_i32_105_r0 : BitVec 32 := 1#32
  let v168_r0 : BitVec 32 := Scalar.muli arg12_r0 c1_i32_105_r0
  let v169_r0 : BitVec 32 := Scalar.addi c0_i32_106_r0 v168_r0
  let v175_r0 : Index := Scalar.indexCast v169_r0
  let c0_109_r0 : Index := 0#32
  ![v175_r0.toNat, 0]
def k3_off14 (k3_t2 : Fin k3_t2_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k3_t2
  let c1_i32_105_r0 : BitVec 32 := 1#32
  let v168_r0 : BitVec 32 := Scalar.muli arg12_r0 c1_i32_105_r0
  let v169_r0 : BitVec 32 := Scalar.addi c0_i32_106_r0 v168_r0
  let v179_r0 : Index := Scalar.indexCast v169_r0
  let c16_r0 : Index := 16#32
  ![v179_r0.toNat, 16]
def k3_off15 (k3_t2 : Fin k3_t2_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k3_t2
  let c1_i32_105_r0 : BitVec 32 := 1#32
  let v168_r0 : BitVec 32 := Scalar.muli arg12_r0 c1_i32_105_r0
  let v169_r0 : BitVec 32 := Scalar.addi c0_i32_106_r0 v168_r0
  let v184_r0 : Index := Scalar.indexCast v169_r0
  let c16_112_r0 : Index := 16#32
  ![v184_r0.toNat, 16]
def k3_off16 (arg9_r0 : BitVec 32) : Fin 3 → Nat :=
  let c2_i32_105_r0 : BitVec 32 := 2#32
  let v168_r0 : BitVec 32 := Scalar.remui arg9_r0 c2_i32_105_r0
  let c0_i32_107_r0 : BitVec 32 := 0#32
  let c0_i32_108_r0 : BitVec 32 := 0#32
  ![v168_r0.toNat, 0, 0]
def k3_cond7 (i : grid3.Coords) (k3_t1 : Fin (k3_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v139_r0 : BitVec 1 := Scalar.cmpi .ne v84_r0 v95_r0
  let c0_i32_30_r0 : BitVec 32 := 0#32
  let c1_i32_36_r0 : BitVec 32 := 1#32
  let arg6_r0 : BitVec 32 := Scf.iv c0_i32_30_r0 c1_i32_36_r0 k3_t1
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg6_r0 v82_r0
  let v140_r0 : BitVec 1 := Scalar.ori v139_r0 v83_r0
  let v141_r0 : BitVec 32 := Scalar.extui v140_r0
  let c0_i32_91_r0 : BitVec 32 := 0#32
  let v142_r0 : BitVec 1 := Scalar.cmpi .ne v141_r0 c0_i32_91_r0
  v142_r0

def k3_off17 (i : grid3.Coords) (arg11_r0 : BitVec 32) : Fin 2 → Nat :=
  let c128_i32_106_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let v169_r0 : BitVec 32 := Scalar.muli c128_i32_106_r0 v84_r0
  let c0_i32_109_r0 : BitVec 32 := 0#32
  ![v169_r0.toNat, 0]
def k3_off18 (arg9_r0 : BitVec 32) : Fin 1 → Nat :=
  let c2_i32_105_r0 : BitVec 32 := 2#32
  let v168_r0 : BitVec 32 := Scalar.remui arg9_r0 c2_i32_105_r0
  ![v168_r0.toNat]
def k3_off19 (arg10_r0 : BitVec 32) : Fin 3 → Nat :=
  let c2_i32_105_r0 : BitVec 32 := 2#32
  let v168_r0 : BitVec 32 := Scalar.remui arg10_r0 c2_i32_105_r0
  let c0_i32_107_r0 : BitVec 32 := 0#32
  let c0_i32_108_r0 : BitVec 32 := 0#32
  ![v168_r0.toNat, 0, 0]
def k3_cond9 (i : grid3.Coords) (k3_t1 : Fin (k3_t1_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v152_r0 : BitVec 1 := Scalar.cmpi .ne v84_r0 v90_r0
  let c0_i32_30_r0 : BitVec 32 := 0#32
  let c1_i32_36_r0 : BitVec 32 := 1#32
  let arg6_r0 : BitVec 32 := Scf.iv c0_i32_30_r0 c1_i32_36_r0 k3_t1
  let c0_i32_59_r0 : BitVec 32 := 0#32
  let v81_r0 : BitVec 1 := Scalar.cmpi .eq arg6_r0 c0_i32_59_r0
  let true_97_r0 : BitVec 1 := 1#1
  let v153_r0 : BitVec 1 := Scalar.xori v81_r0 true_97_r0
  let v154_r0 : BitVec 1 := Scalar.andi v152_r0 v153_r0
  let v155_r0 : BitVec 32 := Scalar.extui v154_r0
  let c0_i32_98_r0 : BitVec 32 := 0#32
  let v156_r0 : BitVec 1 := Scalar.cmpi .ne v155_r0 c0_i32_98_r0
  v156_r0

def k3_off20 (i : grid3.Coords) (arg11_r0 : BitVec 32) : Fin 2 → Nat :=
  let c128_i32_106_r0 : BitVec 32 := 128#32
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v169_r0 : BitVec 32 := Scalar.muli c128_i32_106_r0 v90_r0
  let c0_i32_109_r0 : BitVec 32 := 0#32
  ![v169_r0.toNat, 0]
def k3_off21 (arg10_r0 : BitVec 32) : Fin 1 → Nat :=
  let c2_i32_105_r0 : BitVec 32 := 2#32
  let v168_r0 : BitVec 32 := Scalar.remui arg10_r0 c2_i32_105_r0
  ![v168_r0.toNat]

def k3_chk1 (i : grid3.Coords) (k3_t1 : Fin (k3_t1_loop i).trips) (arg7_r0 : BitVec 32) (arg8_r0 : BitVec 32) (arg9_r0 : BitVec 32) (arg10_r0 : BitVec 32) (arg11_r0 : BitVec 32) : Prop :=
  (∀ (k3_h1 : k3_cond1 i = 1#1), ∀ (k3_h3 : k3_cond3 i k3_t1 arg11_r0 = 1#1), ∀ a, (k3_off4 arg7_r0) a + S1x1x128.size a ≤ S2x1x128.size a) ∧
  (∀ (k3_h1 : k3_cond1 i = 1#1), ∀ (k3_h3 : k3_cond3 i k3_t1 arg11_r0 = 1#1), ∀ a, (k3_off5 i arg11_r0) a + S1x128.size a ≤ S1x88064.size a) ∧
  (∀ (k3_h1 : k3_cond1 i = 1#1), ∀ (k3_h3 : k3_cond3 i k3_t1 arg11_r0 = 1#1), ∀ a, (k3_off6 arg7_r0) a + S1.size a ≤ S2.size a) ∧
  (∀ (k3_h1 : k3_cond1 i = 1#1), ∀ (k3_h4 : k3_cond4 i k3_t1 arg11_r0 = 1#1), ∀ a, (k3_off7 arg8_r0) a + S1x1x128.size a ≤ S2x1x128.size a) ∧
  (∀ (k3_h1 : k3_cond1 i = 1#1), ∀ (k3_h4 : k3_cond4 i k3_t1 arg11_r0 = 1#1), ∀ a, (k3_off8 i arg11_r0) a + S1x128.size a ≤ S1x88064.size a) ∧
  (∀ (k3_h1 : k3_cond1 i = 1#1), ∀ (k3_h4 : k3_cond4 i k3_t1 arg11_r0 = 1#1), ∀ a, (k3_off9 arg8_r0) a + S1.size a ≤ S2.size a) ∧
  (∀ (k3_h1 : k3_cond1 i = 1#1), ∀ (k3_h7 : k3_cond7 i k3_t1 arg11_r0 = 1#1), ∀ a, (k3_off16 arg9_r0) a + S1x128x32.size a ≤ S2x128x32.size a) ∧
  (∀ (k3_h1 : k3_cond1 i = 1#1), ∀ (k3_h7 : k3_cond7 i k3_t1 arg11_r0 = 1#1), ∀ a, (k3_off17 i arg11_r0) a + S128x32.size a ≤ S88064x32.size a) ∧
  (∀ (k3_h1 : k3_cond1 i = 1#1), ∀ (k3_h7 : k3_cond7 i k3_t1 arg11_r0 = 1#1), ∀ a, (k3_off18 arg9_r0) a + S1.size a ≤ S2.size a) ∧
  (∀ (k3_h1 : k3_cond1 i = 1#1), ∀ (k3_h9 : k3_cond9 i k3_t1 arg11_r0 = 1#1), ∀ a, (k3_off19 arg10_r0) a + S1x128x32.size a ≤ S2x128x32.size a) ∧
  (∀ (k3_h1 : k3_cond1 i = 1#1), ∀ (k3_h9 : k3_cond9 i k3_t1 arg11_r0 = 1#1), ∀ a, (k3_off20 i arg11_r0) a + S128x32.size a ≤ S88064x32.size a) ∧
  (∀ (k3_h1 : k3_cond1 i = 1#1), ∀ (k3_h9 : k3_cond9 i k3_t1 arg11_r0 = 1#1), ∀ a, (k3_off21 arg10_r0) a + S1.size a ≤ S2.size a)
theorem k3_off4_inb : ∀ (i : grid3.Coords) (k3_t1 : Fin (k3_t1_loop i).trips) (arg7_r0 : BitVec 32) (arg8_r0 : BitVec 32) (arg9_r0 : BitVec 32) (arg10_r0 : BitVec 32) (arg11_r0 : BitVec 32) (k3_hw1 : k3_chk1 i k3_t1 arg7_r0 arg8_r0 arg9_r0 arg10_r0 arg11_r0), ∀ (k3_h1 : k3_cond1 i = 1#1), ∀ (k3_h3 : k3_cond3 i k3_t1 arg11_r0 = 1#1), ∀ a, (k3_off4 arg7_r0) a + S1x1x128.size a ≤ S2x1x128.size a := fun i k3_t1 arg7_r0 arg8_r0 arg9_r0 arg10_r0 arg11_r0 k3_hw1 k3_h1 k3_h3 => k3_hw1.1 k3_h1 k3_h3
theorem k3_off5_inb : ∀ (i : grid3.Coords) (k3_t1 : Fin (k3_t1_loop i).trips) (arg7_r0 : BitVec 32) (arg8_r0 : BitVec 32) (arg9_r0 : BitVec 32) (arg10_r0 : BitVec 32) (arg11_r0 : BitVec 32) (k3_hw1 : k3_chk1 i k3_t1 arg7_r0 arg8_r0 arg9_r0 arg10_r0 arg11_r0), ∀ (k3_h1 : k3_cond1 i = 1#1), ∀ (k3_h3 : k3_cond3 i k3_t1 arg11_r0 = 1#1), ∀ a, (k3_off5 i arg11_r0) a + S1x128.size a ≤ S1x88064.size a := fun i k3_t1 arg7_r0 arg8_r0 arg9_r0 arg10_r0 arg11_r0 k3_hw1 k3_h1 k3_h3 => k3_hw1.2.1 k3_h1 k3_h3
theorem k3_off6_inb : ∀ (i : grid3.Coords) (k3_t1 : Fin (k3_t1_loop i).trips) (arg7_r0 : BitVec 32) (arg8_r0 : BitVec 32) (arg9_r0 : BitVec 32) (arg10_r0 : BitVec 32) (arg11_r0 : BitVec 32) (k3_hw1 : k3_chk1 i k3_t1 arg7_r0 arg8_r0 arg9_r0 arg10_r0 arg11_r0), ∀ (k3_h1 : k3_cond1 i = 1#1), ∀ (k3_h3 : k3_cond3 i k3_t1 arg11_r0 = 1#1), ∀ a, (k3_off6 arg7_r0) a + S1.size a ≤ S2.size a := fun i k3_t1 arg7_r0 arg8_r0 arg9_r0 arg10_r0 arg11_r0 k3_hw1 k3_h1 k3_h3 => k3_hw1.2.2.1 k3_h1 k3_h3
theorem k3_off7_inb : ∀ (i : grid3.Coords) (k3_t1 : Fin (k3_t1_loop i).trips) (arg7_r0 : BitVec 32) (arg8_r0 : BitVec 32) (arg9_r0 : BitVec 32) (arg10_r0 : BitVec 32) (arg11_r0 : BitVec 32) (k3_hw1 : k3_chk1 i k3_t1 arg7_r0 arg8_r0 arg9_r0 arg10_r0 arg11_r0), ∀ (k3_h1 : k3_cond1 i = 1#1), ∀ (k3_h4 : k3_cond4 i k3_t1 arg11_r0 = 1#1), ∀ a, (k3_off7 arg8_r0) a + S1x1x128.size a ≤ S2x1x128.size a := fun i k3_t1 arg7_r0 arg8_r0 arg9_r0 arg10_r0 arg11_r0 k3_hw1 k3_h1 k3_h4 => k3_hw1.2.2.2.1 k3_h1 k3_h4
theorem k3_off8_inb : ∀ (i : grid3.Coords) (k3_t1 : Fin (k3_t1_loop i).trips) (arg7_r0 : BitVec 32) (arg8_r0 : BitVec 32) (arg9_r0 : BitVec 32) (arg10_r0 : BitVec 32) (arg11_r0 : BitVec 32) (k3_hw1 : k3_chk1 i k3_t1 arg7_r0 arg8_r0 arg9_r0 arg10_r0 arg11_r0), ∀ (k3_h1 : k3_cond1 i = 1#1), ∀ (k3_h4 : k3_cond4 i k3_t1 arg11_r0 = 1#1), ∀ a, (k3_off8 i arg11_r0) a + S1x128.size a ≤ S1x88064.size a := fun i k3_t1 arg7_r0 arg8_r0 arg9_r0 arg10_r0 arg11_r0 k3_hw1 k3_h1 k3_h4 => k3_hw1.2.2.2.2.1 k3_h1 k3_h4
theorem k3_off9_inb : ∀ (i : grid3.Coords) (k3_t1 : Fin (k3_t1_loop i).trips) (arg7_r0 : BitVec 32) (arg8_r0 : BitVec 32) (arg9_r0 : BitVec 32) (arg10_r0 : BitVec 32) (arg11_r0 : BitVec 32) (k3_hw1 : k3_chk1 i k3_t1 arg7_r0 arg8_r0 arg9_r0 arg10_r0 arg11_r0), ∀ (k3_h1 : k3_cond1 i = 1#1), ∀ (k3_h4 : k3_cond4 i k3_t1 arg11_r0 = 1#1), ∀ a, (k3_off9 arg8_r0) a + S1.size a ≤ S2.size a := fun i k3_t1 arg7_r0 arg8_r0 arg9_r0 arg10_r0 arg11_r0 k3_hw1 k3_h1 k3_h4 => k3_hw1.2.2.2.2.2.1 k3_h1 k3_h4
theorem k3_off16_inb : ∀ (i : grid3.Coords) (k3_t1 : Fin (k3_t1_loop i).trips) (arg7_r0 : BitVec 32) (arg8_r0 : BitVec 32) (arg9_r0 : BitVec 32) (arg10_r0 : BitVec 32) (arg11_r0 : BitVec 32) (k3_hw1 : k3_chk1 i k3_t1 arg7_r0 arg8_r0 arg9_r0 arg10_r0 arg11_r0), ∀ (k3_h1 : k3_cond1 i = 1#1), ∀ (k3_h7 : k3_cond7 i k3_t1 arg11_r0 = 1#1), ∀ a, (k3_off16 arg9_r0) a + S1x128x32.size a ≤ S2x128x32.size a := fun i k3_t1 arg7_r0 arg8_r0 arg9_r0 arg10_r0 arg11_r0 k3_hw1 k3_h1 k3_h7 => k3_hw1.2.2.2.2.2.2.1 k3_h1 k3_h7
theorem k3_off17_inb : ∀ (i : grid3.Coords) (k3_t1 : Fin (k3_t1_loop i).trips) (arg7_r0 : BitVec 32) (arg8_r0 : BitVec 32) (arg9_r0 : BitVec 32) (arg10_r0 : BitVec 32) (arg11_r0 : BitVec 32) (k3_hw1 : k3_chk1 i k3_t1 arg7_r0 arg8_r0 arg9_r0 arg10_r0 arg11_r0), ∀ (k3_h1 : k3_cond1 i = 1#1), ∀ (k3_h7 : k3_cond7 i k3_t1 arg11_r0 = 1#1), ∀ a, (k3_off17 i arg11_r0) a + S128x32.size a ≤ S88064x32.size a := fun i k3_t1 arg7_r0 arg8_r0 arg9_r0 arg10_r0 arg11_r0 k3_hw1 k3_h1 k3_h7 => k3_hw1.2.2.2.2.2.2.2.1 k3_h1 k3_h7
theorem k3_off18_inb : ∀ (i : grid3.Coords) (k3_t1 : Fin (k3_t1_loop i).trips) (arg7_r0 : BitVec 32) (arg8_r0 : BitVec 32) (arg9_r0 : BitVec 32) (arg10_r0 : BitVec 32) (arg11_r0 : BitVec 32) (k3_hw1 : k3_chk1 i k3_t1 arg7_r0 arg8_r0 arg9_r0 arg10_r0 arg11_r0), ∀ (k3_h1 : k3_cond1 i = 1#1), ∀ (k3_h7 : k3_cond7 i k3_t1 arg11_r0 = 1#1), ∀ a, (k3_off18 arg9_r0) a + S1.size a ≤ S2.size a := fun i k3_t1 arg7_r0 arg8_r0 arg9_r0 arg10_r0 arg11_r0 k3_hw1 k3_h1 k3_h7 => k3_hw1.2.2.2.2.2.2.2.2.1 k3_h1 k3_h7
theorem k3_off19_inb : ∀ (i : grid3.Coords) (k3_t1 : Fin (k3_t1_loop i).trips) (arg7_r0 : BitVec 32) (arg8_r0 : BitVec 32) (arg9_r0 : BitVec 32) (arg10_r0 : BitVec 32) (arg11_r0 : BitVec 32) (k3_hw1 : k3_chk1 i k3_t1 arg7_r0 arg8_r0 arg9_r0 arg10_r0 arg11_r0), ∀ (k3_h1 : k3_cond1 i = 1#1), ∀ (k3_h9 : k3_cond9 i k3_t1 arg11_r0 = 1#1), ∀ a, (k3_off19 arg10_r0) a + S1x128x32.size a ≤ S2x128x32.size a := fun i k3_t1 arg7_r0 arg8_r0 arg9_r0 arg10_r0 arg11_r0 k3_hw1 k3_h1 k3_h9 => k3_hw1.2.2.2.2.2.2.2.2.2.1 k3_h1 k3_h9
theorem k3_off20_inb : ∀ (i : grid3.Coords) (k3_t1 : Fin (k3_t1_loop i).trips) (arg7_r0 : BitVec 32) (arg8_r0 : BitVec 32) (arg9_r0 : BitVec 32) (arg10_r0 : BitVec 32) (arg11_r0 : BitVec 32) (k3_hw1 : k3_chk1 i k3_t1 arg7_r0 arg8_r0 arg9_r0 arg10_r0 arg11_r0), ∀ (k3_h1 : k3_cond1 i = 1#1), ∀ (k3_h9 : k3_cond9 i k3_t1 arg11_r0 = 1#1), ∀ a, (k3_off20 i arg11_r0) a + S128x32.size a ≤ S88064x32.size a := fun i k3_t1 arg7_r0 arg8_r0 arg9_r0 arg10_r0 arg11_r0 k3_hw1 k3_h1 k3_h9 => k3_hw1.2.2.2.2.2.2.2.2.2.2.1 k3_h1 k3_h9
theorem k3_off21_inb : ∀ (i : grid3.Coords) (k3_t1 : Fin (k3_t1_loop i).trips) (arg7_r0 : BitVec 32) (arg8_r0 : BitVec 32) (arg9_r0 : BitVec 32) (arg10_r0 : BitVec 32) (arg11_r0 : BitVec 32) (k3_hw1 : k3_chk1 i k3_t1 arg7_r0 arg8_r0 arg9_r0 arg10_r0 arg11_r0), ∀ (k3_h1 : k3_cond1 i = 1#1), ∀ (k3_h9 : k3_cond9 i k3_t1 arg11_r0 = 1#1), ∀ a, (k3_off21 arg10_r0) a + S1.size a ≤ S2.size a := fun i k3_t1 arg7_r0 arg8_r0 arg9_r0 arg10_r0 arg11_r0 k3_hw1 k3_h1 k3_h9 => k3_hw1.2.2.2.2.2.2.2.2.2.2.2 k3_h1 k3_h9

@[reducible] def k3_t3_loop (i : grid3.Coords) : Scf.Loop 32 :=
  let c0_i32_30_r0 : BitVec 32 := 0#32
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let v43_r0 : BitVec 32 := Scalar.addi c0_i32_30_r0 v42_r0
  let c1_i32_37_r0 : BitVec 32 := 1#32
  ⟨v46_r0, v43_r0, c1_i32_37_r0⟩
def k3_off22 (arg7_r0 : BitVec 32) : Fin 3 → Nat :=
  let c2_i32_105_r0 : BitVec 32 := 2#32
  let v168_r0 : BitVec 32 := Scalar.remui arg7_r0 c2_i32_105_r0
  let c0_i32_107_r0 : BitVec 32 := 0#32
  let c0_i32_108_r0 : BitVec 32 := 0#32
  ![v168_r0.toNat, 0, 0]
def k3_cond10 (i : grid3.Coords) (k3_t3 : Fin (k3_t3_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v101_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg6_r0 : BitVec 32 := Scf.iv v46_r0 c1_i32_37_r0 k3_t3
  let c1_i32_58_r0 : BitVec 32 := 1#32
  let v80_r0 : BitVec 32 := Scalar.muli c1_i32_58_r0 v5
  let c2_i32_r0 : BitVec 32 := 2#32
  let v102_r0 : BitVec 32 := Scalar.subi v80_r0 c2_i32_r0
  let c1_i32_71_r0 : BitVec 32 := 1#32
  let v103_r0 : BitVec 32 := Scalar.addi v102_r0 c1_i32_71_r0
  let v104_r0 : BitVec 1 := Scalar.cmpi .sge arg6_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k3_off23 (i : grid3.Coords) (arg11_r0 : BitVec 32) : Fin 2 → Nat :=
  let c0_i32_109_r0 : BitVec 32 := 0#32
  let c128_i32_106_r0 : BitVec 32 := 128#32
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v93_r0 : BitVec 1 := Scalar.cmpi .eq v92_r0 v5
  let c0_i32_67_r0 : BitVec 32 := 0#32
  let v94_r0 : BitVec 32 := Scalar.select v93_r0 c0_i32_67_r0 v92_r0
  let c16_i32_1 : BitVec 32 := 16#32
  let v6 : BitVec 1 := Scalar.cmpi .slt v3 c16_i32_1
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v95_r0 : BitVec 32 := Scalar.addi v94_r0 v10
  let v169_r0 : BitVec 32 := Scalar.muli c128_i32_106_r0 v95_r0
  ![0, v169_r0.toNat]
def k3_off24 (arg7_r0 : BitVec 32) : Fin 1 → Nat :=
  let c2_i32_105_r0 : BitVec 32 := 2#32
  let v168_r0 : BitVec 32 := Scalar.remui arg7_r0 c2_i32_105_r0
  ![v168_r0.toNat]
def k3_off25 (arg8_r0 : BitVec 32) : Fin 3 → Nat :=
  let c2_i32_106_r0 : BitVec 32 := 2#32
  let v169_r0 : BitVec 32 := Scalar.remui arg8_r0 c2_i32_106_r0
  let c0_i32_107_r0 : BitVec 32 := 0#32
  let c0_i32_108_r0 : BitVec 32 := 0#32
  ![v169_r0.toNat, 0, 0]
def k3_cond11 (i : grid3.Coords) (k3_t3 : Fin (k3_t3_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg6_r0 : BitVec 32 := Scf.iv v46_r0 c1_i32_37_r0 k3_t3
  let c0_i32_59_r0 : BitVec 32 := 0#32
  let v81_r0 : BitVec 1 := Scalar.cmpi .eq arg6_r0 c0_i32_59_r0
  let v120_r0 : BitVec 1 := Scalar.ori v119_r0 v81_r0
  let c0_i32_80_r0 : BitVec 32 := 0#32
  let v121_r0 : BitVec 1 := Scalar.cmpi .sge arg6_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k3_off26 (i : grid3.Coords) (arg11_r0 : BitVec 32) : Fin 2 → Nat :=
  let c0_i32_109_r0 : BitVec 32 := 0#32
  let c128_i32_105_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let v168_r0 : BitVec 32 := Scalar.muli c128_i32_105_r0 v84_r0
  ![0, v168_r0.toNat]
def k3_off27 (arg8_r0 : BitVec 32) : Fin 1 → Nat :=
  let c2_i32_106_r0 : BitVec 32 := 2#32
  let v169_r0 : BitVec 32 := Scalar.remui arg8_r0 c2_i32_106_r0
  ![v169_r0.toNat]
def k3_off28 (arg8_r0 : BitVec 32) : Fin 3 → Nat :=
  let c2_i32_84_r0 : BitVec 32 := 2#32
  let v131_r0 : BitVec 32 := Scalar.remui arg8_r0 c2_i32_84_r0
  let c0_i32_105_r2 : BitVec 32 := 0#32
  let c0_i32_106_r2 : BitVec 32 := 0#32
  ![v131_r0.toNat, 0, 0]

def k3_chk5 (i : grid3.Coords) (k3_t3 : Fin (k3_t3_loop i).trips) (arg8_r0 : BitVec 32) : Prop :=
  (∀ (k3_h1 : k3_cond1 i = 1#1), ∀ a, (k3_off28 arg8_r0) a + S1x1x128.size a ≤ S2x1x128.size a)
theorem k3_off28_inb : ∀ (i : grid3.Coords) (k3_t3 : Fin (k3_t3_loop i).trips) (arg8_r0 : BitVec 32) (k3_hw5 : k3_chk5 i k3_t3 arg8_r0), ∀ (k3_h1 : k3_cond1 i = 1#1), ∀ a, (k3_off28 arg8_r0) a + S1x1x128.size a ≤ S2x1x128.size a := fun i k3_t3 arg8_r0 k3_hw5 k3_h1 => k3_hw5 k3_h1

@[reducible] def k3_t4_loop : Scf.Loop 32 :=
  let c0_i32_87_r0 : BitVec 32 := 0#32
  let c128_i32_r0 : BitVec 32 := 128#32
  let v133_r0 : BitVec 32 := Scalar.addi c0_i32_87_r0 c128_i32_r0
  let c1_i32_88_r0 : BitVec 32 := 1#32
  ⟨c0_i32_87_r0, v133_r0, c1_i32_88_r0⟩
def k3_off29 (k3_t4 : Fin k3_t4_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k3_t4
  let c1_i32_105_r0 : BitVec 32 := 1#32
  let v168_r0 : BitVec 32 := Scalar.muli arg12_r0 c1_i32_105_r0
  let v169_r0 : BitVec 32 := Scalar.addi c0_i32_106_r0 v168_r0
  let v170_r0 : Index := Scalar.indexCast v169_r0
  let c0_r0 : Index := 0#32
  ![v170_r0.toNat, 0]
def k3_off30 (arg9_r0 : BitVec 32) : Fin 3 → Nat :=
  let c2_i32_85_r0 : BitVec 32 := 2#32
  let v132_r0 : BitVec 32 := Scalar.remui arg9_r0 c2_i32_85_r0
  let c0_i32_107_r0 : BitVec 32 := 0#32
  let c0_i32_108_r0 : BitVec 32 := 0#32
  ![v132_r0.toNat, 0, 0]

def k3_chk6 (i : grid3.Coords) (k3_t3 : Fin (k3_t3_loop i).trips) (arg9_r0 : BitVec 32) : Prop :=
  (∀ (k3_h1 : k3_cond1 i = 1#1), ∀ a, (k3_off30 arg9_r0) a + S1x128x32.size a ≤ S2x128x32.size a)
theorem k3_off30_inb : ∀ (i : grid3.Coords) (k3_t3 : Fin (k3_t3_loop i).trips) (arg9_r0 : BitVec 32) (k3_hw6 : k3_chk6 i k3_t3 arg9_r0), ∀ (k3_h1 : k3_cond1 i = 1#1), ∀ a, (k3_off30 arg9_r0) a + S1x128x32.size a ≤ S2x128x32.size a := fun i k3_t3 arg9_r0 k3_hw6 k3_h1 => k3_hw6 k3_h1

def k3_off31 (k3_t4 : Fin k3_t4_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k3_t4
  let c1_i32_105_r0 : BitVec 32 := 1#32
  let v168_r0 : BitVec 32 := Scalar.muli arg12_r0 c1_i32_105_r0
  let v169_r0 : BitVec 32 := Scalar.addi c0_i32_106_r0 v168_r0
  let v175_r0 : Index := Scalar.indexCast v169_r0
  let c0_109_r0 : Index := 0#32
  ![v175_r0.toNat, 0]
def k3_off32 (k3_t4 : Fin k3_t4_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k3_t4
  let c1_i32_105_r0 : BitVec 32 := 1#32
  let v168_r0 : BitVec 32 := Scalar.muli arg12_r0 c1_i32_105_r0
  let v169_r0 : BitVec 32 := Scalar.addi c0_i32_106_r0 v168_r0
  let v179_r0 : Index := Scalar.indexCast v169_r0
  let c16_r0 : Index := 16#32
  ![v179_r0.toNat, 16]
def k3_off33 (k3_t4 : Fin k3_t4_loop.trips) : Fin 2 → Nat :=
  let c0_i32_106_r0 : BitVec 32 := 0#32
  let c0_i32_87_r0 : BitVec 32 := 0#32
  let c1_i32_88_r0 : BitVec 32 := 1#32
  let arg12_r0 : BitVec 32 := Scf.iv c0_i32_87_r0 c1_i32_88_r0 k3_t4
  let c1_i32_105_r0 : BitVec 32 := 1#32
  let v168_r0 : BitVec 32 := Scalar.muli arg12_r0 c1_i32_105_r0
  let v169_r0 : BitVec 32 := Scalar.addi c0_i32_106_r0 v168_r0
  let v184_r0 : Index := Scalar.indexCast v169_r0
  let c16_112_r0 : Index := 16#32
  ![v184_r0.toNat, 16]
def k3_off34 (arg9_r0 : BitVec 32) : Fin 3 → Nat :=
  let c2_i32_105_r0 : BitVec 32 := 2#32
  let v168_r0 : BitVec 32 := Scalar.remui arg9_r0 c2_i32_105_r0
  let c0_i32_107_r0 : BitVec 32 := 0#32
  let c0_i32_108_r0 : BitVec 32 := 0#32
  ![v168_r0.toNat, 0, 0]
def k3_cond14 (i : grid3.Coords) (k3_t3 : Fin (k3_t3_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_66_r0 : BitVec 1 := 1#1
  let c1_i32_65_r0 : BitVec 32 := 1#32
  let v91_r0 : BitVec 32 := Scalar.addi arg11_r0 c1_i32_65_r0
  let v92_r0 : BitVec 32 := Scalar.select true_66_r0 v91_r0 arg11_r0
  let v93_r0 : BitVec 1 := Scalar.cmpi .eq v92_r0 v5
  let c0_i32_67_r0 : BitVec 32 := 0#32
  let v94_r0 : BitVec 32 := Scalar.select v93_r0 c0_i32_67_r0 v92_r0
  let v95_r0 : BitVec 32 := Scalar.addi v94_r0 v10
  let v139_r0 : BitVec 1 := Scalar.cmpi .ne v84_r0 v95_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg6_r0 : BitVec 32 := Scf.iv v46_r0 c1_i32_37_r0 k3_t3
  let c1_i32_58_r0 : BitVec 32 := 1#32
  let v80_r0 : BitVec 32 := Scalar.muli c1_i32_58_r0 v5
  let c1_i32_60_r0 : BitVec 32 := 1#32
  let v82_r0 : BitVec 32 := Scalar.subi v80_r0 c1_i32_60_r0
  let v83_r0 : BitVec 1 := Scalar.cmpi .eq arg6_r0 v82_r0
  let v140_r0 : BitVec 1 := Scalar.ori v139_r0 v83_r0
  let v141_r0 : BitVec 32 := Scalar.extui v140_r0
  let c0_i32_91_r0 : BitVec 32 := 0#32
  let v142_r0 : BitVec 1 := Scalar.cmpi .ne v141_r0 c0_i32_91_r0
  v142_r0

def k3_off35 (i : grid3.Coords) (arg11_r0 : BitVec 32) : Fin 2 → Nat :=
  let c128_i32_106_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let v169_r0 : BitVec 32 := Scalar.muli c128_i32_106_r0 v84_r0
  let c0_i32_109_r0 : BitVec 32 := 0#32
  ![v169_r0.toNat, 0]
def k3_off36 (arg9_r0 : BitVec 32) : Fin 1 → Nat :=
  let c2_i32_105_r0 : BitVec 32 := 2#32
  let v168_r0 : BitVec 32 := Scalar.remui arg9_r0 c2_i32_105_r0
  ![v168_r0.toNat]
def k3_off37 (arg10_r0 : BitVec 32) : Fin 3 → Nat :=
  let c2_i32_105_r0 : BitVec 32 := 2#32
  let v168_r0 : BitVec 32 := Scalar.remui arg10_r0 c2_i32_105_r0
  let c0_i32_107_r0 : BitVec 32 := 0#32
  let c0_i32_108_r0 : BitVec 32 := 0#32
  ![v168_r0.toNat, 0, 0]
def k3_cond16 (i : grid3.Coords) (k3_t3 : Fin (k3_t3_loop i).trips) (arg11_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_1 : BitVec 32 := 16#32
  let v6 : BitVec 1 := Scalar.cmpi .slt v3 c16_i32_1
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v84_r0 : BitVec 32 := Scalar.addi arg11_r0 v10
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c1_i32_64_r0 : BitVec 32 := 1#32
  let v88_r0 : BitVec 32 := Scalar.subi v5 c1_i32_64_r0
  let v89_r0 : BitVec 32 := Scalar.select v87_r0 v88_r0 v86_r0
  let v90_r0 : BitVec 32 := Scalar.addi v89_r0 v10
  let v152_r0 : BitVec 1 := Scalar.cmpi .ne v84_r0 v90_r0
  let c0_i32_30_r0 : BitVec 32 := 0#32
  let c1_i32_4 : BitVec 32 := 1#32
  let v11 : BitVec 32 := Scalar.muli c1_i32_4 v5
  let v42_r0 : BitVec 32 := Scalar.subi v11 c0_i32_30_r0
  let c1_i32_35_r0 : BitVec 32 := 1#32
  let v44_r0 : BitVec 32 := Scalar.divsi v42_r0 c1_i32_35_r0
  let v45_r0 : BitVec 32 := Scalar.muli v44_r0 c1_i32_35_r0
  let v46_r0 : BitVec 32 := Scalar.addi c0_i32_30_r0 v45_r0
  let c1_i32_37_r0 : BitVec 32 := 1#32
  let arg6_r0 : BitVec 32 := Scf.iv v46_r0 c1_i32_37_r0 k3_t3
  let c0_i32_59_r0 : BitVec 32 := 0#32
  let v81_r0 : BitVec 1 := Scalar.cmpi .eq arg6_r0 c0_i32_59_r0
  let true_97_r0 : BitVec 1 := 1#1
  let v153_r0 : BitVec 1 := Scalar.xori v81_r0 true_97_r0
  let v154_r0 : BitVec 1 := Scalar.andi v152_r0 v153_r0
  let v155_r0 : BitVec 32 := Scalar.extui v154_r0
  let c0_i32_98_r0 : BitVec 32 := 0#32
  let v156_r0 : BitVec 1 := Scalar.cmpi .ne v155_r0 c0_i32_98_r0
  v156_r0

def k3_off38 (i : grid3.Coords) (arg11_r0 : BitVec 32) : Fin 2 → Nat :=
  let c128_i32_106_r0 : BitVec 32 := 128#32
  let true_62_r0 : BitVec 1 := 1#1
  let c1_i32_61_r0 : BitVec 32 := 1#32
  let v85_r0 : BitVec 32 := Scalar.subi arg11_r0 c1_i32_61_r0
  let v86_r0 : BitVec 32 := Scalar.select true_62_r0 v85_r0 arg11_r0
  let c_m1_i32_63_r0 : BitVec 32 := 4294967295#32
  let v87_r0 : BitVec 1 := Scalar.cmpi .eq v86_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let c1_i32_64_r0 : BitVec 32 := 1#32
  let v88_r0 : BitVec 32 := Scalar.subi v5 c1_i32_64_r0
  let v89_r0 : BitVec 32 := Scalar.select v87_r0 v88_r0 v86_r0
  let c16_i32_1 : BitVec 32 := 16#32
  let v6 : BitVec 1 := Scalar.cmpi .slt v3 c16_i32_1
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v90_r0 : BitVec 32 := Scalar.addi v89_r0 v10
  let v169_r0 : BitVec 32 := Scalar.muli c128_i32_106_r0 v90_r0
  let c0_i32_109_r0 : BitVec 32 := 0#32
  ![v169_r0.toNat, 0]
def k3_off39 (arg10_r0 : BitVec 32) : Fin 1 → Nat :=
  let c2_i32_105_r0 : BitVec 32 := 2#32
  let v168_r0 : BitVec 32 := Scalar.remui arg10_r0 c2_i32_105_r0
  ![v168_r0.toNat]

def k3_chk4 (i : grid3.Coords) (k3_t3 : Fin (k3_t3_loop i).trips) (arg7_r0 : BitVec 32) (arg8_r0 : BitVec 32) (arg9_r0 : BitVec 32) (arg10_r0 : BitVec 32) (arg11_r0 : BitVec 32) : Prop :=
  (∀ (k3_h1 : k3_cond1 i = 1#1), ∀ (k3_h10 : k3_cond10 i k3_t3 arg11_r0 = 1#1), ∀ a, (k3_off22 arg7_r0) a + S1x1x128.size a ≤ S2x1x128.size a) ∧
  (∀ (k3_h1 : k3_cond1 i = 1#1), ∀ (k3_h10 : k3_cond10 i k3_t3 arg11_r0 = 1#1), ∀ a, (k3_off23 i arg11_r0) a + S1x128.size a ≤ S1x88064.size a) ∧
  (∀ (k3_h1 : k3_cond1 i = 1#1), ∀ (k3_h10 : k3_cond10 i k3_t3 arg11_r0 = 1#1), ∀ a, (k3_off24 arg7_r0) a + S1.size a ≤ S2.size a) ∧
  (∀ (k3_h1 : k3_cond1 i = 1#1), ∀ (k3_h11 : k3_cond11 i k3_t3 arg11_r0 = 1#1), ∀ a, (k3_off25 arg8_r0) a + S1x1x128.size a ≤ S2x1x128.size a) ∧
  (∀ (k3_h1 : k3_cond1 i = 1#1), ∀ (k3_h11 : k3_cond11 i k3_t3 arg11_r0 = 1#1), ∀ a, (k3_off26 i arg11_r0) a + S1x128.size a ≤ S1x88064.size a) ∧
  (∀ (k3_h1 : k3_cond1 i = 1#1), ∀ (k3_h11 : k3_cond11 i k3_t3 arg11_r0 = 1#1), ∀ a, (k3_off27 arg8_r0) a + S1.size a ≤ S2.size a) ∧
  (∀ (k3_h1 : k3_cond1 i = 1#1), ∀ (k3_h14 : k3_cond14 i k3_t3 arg11_r0 = 1#1), ∀ a, (k3_off34 arg9_r0) a + S1x128x32.size a ≤ S2x128x32.size a) ∧
  (∀ (k3_h1 : k3_cond1 i = 1#1), ∀ (k3_h14 : k3_cond14 i k3_t3 arg11_r0 = 1#1), ∀ a, (k3_off35 i arg11_r0) a + S128x32.size a ≤ S88064x32.size a) ∧
  (∀ (k3_h1 : k3_cond1 i = 1#1), ∀ (k3_h14 : k3_cond14 i k3_t3 arg11_r0 = 1#1), ∀ a, (k3_off36 arg9_r0) a + S1.size a ≤ S2.size a) ∧
  (∀ (k3_h1 : k3_cond1 i = 1#1), ∀ (k3_h16 : k3_cond16 i k3_t3 arg11_r0 = 1#1), ∀ a, (k3_off37 arg10_r0) a + S1x128x32.size a ≤ S2x128x32.size a) ∧
  (∀ (k3_h1 : k3_cond1 i = 1#1), ∀ (k3_h16 : k3_cond16 i k3_t3 arg11_r0 = 1#1), ∀ a, (k3_off38 i arg11_r0) a + S128x32.size a ≤ S88064x32.size a) ∧
  (∀ (k3_h1 : k3_cond1 i = 1#1), ∀ (k3_h16 : k3_cond16 i k3_t3 arg11_r0 = 1#1), ∀ a, (k3_off39 arg10_r0) a + S1.size a ≤ S2.size a)
theorem k3_off22_inb : ∀ (i : grid3.Coords) (k3_t3 : Fin (k3_t3_loop i).trips) (arg7_r0 : BitVec 32) (arg8_r0 : BitVec 32) (arg9_r0 : BitVec 32) (arg10_r0 : BitVec 32) (arg11_r0 : BitVec 32) (k3_hw4 : k3_chk4 i k3_t3 arg7_r0 arg8_r0 arg9_r0 arg10_r0 arg11_r0), ∀ (k3_h1 : k3_cond1 i = 1#1), ∀ (k3_h10 : k3_cond10 i k3_t3 arg11_r0 = 1#1), ∀ a, (k3_off22 arg7_r0) a + S1x1x128.size a ≤ S2x1x128.size a := fun i k3_t3 arg7_r0 arg8_r0 arg9_r0 arg10_r0 arg11_r0 k3_hw4 k3_h1 k3_h10 => k3_hw4.1 k3_h1 k3_h10
theorem k3_off23_inb : ∀ (i : grid3.Coords) (k3_t3 : Fin (k3_t3_loop i).trips) (arg7_r0 : BitVec 32) (arg8_r0 : BitVec 32) (arg9_r0 : BitVec 32) (arg10_r0 : BitVec 32) (arg11_r0 : BitVec 32) (k3_hw4 : k3_chk4 i k3_t3 arg7_r0 arg8_r0 arg9_r0 arg10_r0 arg11_r0), ∀ (k3_h1 : k3_cond1 i = 1#1), ∀ (k3_h10 : k3_cond10 i k3_t3 arg11_r0 = 1#1), ∀ a, (k3_off23 i arg11_r0) a + S1x128.size a ≤ S1x88064.size a := fun i k3_t3 arg7_r0 arg8_r0 arg9_r0 arg10_r0 arg11_r0 k3_hw4 k3_h1 k3_h10 => k3_hw4.2.1 k3_h1 k3_h10
theorem k3_off24_inb : ∀ (i : grid3.Coords) (k3_t3 : Fin (k3_t3_loop i).trips) (arg7_r0 : BitVec 32) (arg8_r0 : BitVec 32) (arg9_r0 : BitVec 32) (arg10_r0 : BitVec 32) (arg11_r0 : BitVec 32) (k3_hw4 : k3_chk4 i k3_t3 arg7_r0 arg8_r0 arg9_r0 arg10_r0 arg11_r0), ∀ (k3_h1 : k3_cond1 i = 1#1), ∀ (k3_h10 : k3_cond10 i k3_t3 arg11_r0 = 1#1), ∀ a, (k3_off24 arg7_r0) a + S1.size a ≤ S2.size a := fun i k3_t3 arg7_r0 arg8_r0 arg9_r0 arg10_r0 arg11_r0 k3_hw4 k3_h1 k3_h10 => k3_hw4.2.2.1 k3_h1 k3_h10
theorem k3_off25_inb : ∀ (i : grid3.Coords) (k3_t3 : Fin (k3_t3_loop i).trips) (arg7_r0 : BitVec 32) (arg8_r0 : BitVec 32) (arg9_r0 : BitVec 32) (arg10_r0 : BitVec 32) (arg11_r0 : BitVec 32) (k3_hw4 : k3_chk4 i k3_t3 arg7_r0 arg8_r0 arg9_r0 arg10_r0 arg11_r0), ∀ (k3_h1 : k3_cond1 i = 1#1), ∀ (k3_h11 : k3_cond11 i k3_t3 arg11_r0 = 1#1), ∀ a, (k3_off25 arg8_r0) a + S1x1x128.size a ≤ S2x1x128.size a := fun i k3_t3 arg7_r0 arg8_r0 arg9_r0 arg10_r0 arg11_r0 k3_hw4 k3_h1 k3_h11 => k3_hw4.2.2.2.1 k3_h1 k3_h11
theorem k3_off26_inb : ∀ (i : grid3.Coords) (k3_t3 : Fin (k3_t3_loop i).trips) (arg7_r0 : BitVec 32) (arg8_r0 : BitVec 32) (arg9_r0 : BitVec 32) (arg10_r0 : BitVec 32) (arg11_r0 : BitVec 32) (k3_hw4 : k3_chk4 i k3_t3 arg7_r0 arg8_r0 arg9_r0 arg10_r0 arg11_r0), ∀ (k3_h1 : k3_cond1 i = 1#1), ∀ (k3_h11 : k3_cond11 i k3_t3 arg11_r0 = 1#1), ∀ a, (k3_off26 i arg11_r0) a + S1x128.size a ≤ S1x88064.size a := fun i k3_t3 arg7_r0 arg8_r0 arg9_r0 arg10_r0 arg11_r0 k3_hw4 k3_h1 k3_h11 => k3_hw4.2.2.2.2.1 k3_h1 k3_h11
theorem k3_off27_inb : ∀ (i : grid3.Coords) (k3_t3 : Fin (k3_t3_loop i).trips) (arg7_r0 : BitVec 32) (arg8_r0 : BitVec 32) (arg9_r0 : BitVec 32) (arg10_r0 : BitVec 32) (arg11_r0 : BitVec 32) (k3_hw4 : k3_chk4 i k3_t3 arg7_r0 arg8_r0 arg9_r0 arg10_r0 arg11_r0), ∀ (k3_h1 : k3_cond1 i = 1#1), ∀ (k3_h11 : k3_cond11 i k3_t3 arg11_r0 = 1#1), ∀ a, (k3_off27 arg8_r0) a + S1.size a ≤ S2.size a := fun i k3_t3 arg7_r0 arg8_r0 arg9_r0 arg10_r0 arg11_r0 k3_hw4 k3_h1 k3_h11 => k3_hw4.2.2.2.2.2.1 k3_h1 k3_h11
theorem k3_off34_inb : ∀ (i : grid3.Coords) (k3_t3 : Fin (k3_t3_loop i).trips) (arg7_r0 : BitVec 32) (arg8_r0 : BitVec 32) (arg9_r0 : BitVec 32) (arg10_r0 : BitVec 32) (arg11_r0 : BitVec 32) (k3_hw4 : k3_chk4 i k3_t3 arg7_r0 arg8_r0 arg9_r0 arg10_r0 arg11_r0), ∀ (k3_h1 : k3_cond1 i = 1#1), ∀ (k3_h14 : k3_cond14 i k3_t3 arg11_r0 = 1#1), ∀ a, (k3_off34 arg9_r0) a + S1x128x32.size a ≤ S2x128x32.size a := fun i k3_t3 arg7_r0 arg8_r0 arg9_r0 arg10_r0 arg11_r0 k3_hw4 k3_h1 k3_h14 => k3_hw4.2.2.2.2.2.2.1 k3_h1 k3_h14
theorem k3_off35_inb : ∀ (i : grid3.Coords) (k3_t3 : Fin (k3_t3_loop i).trips) (arg7_r0 : BitVec 32) (arg8_r0 : BitVec 32) (arg9_r0 : BitVec 32) (arg10_r0 : BitVec 32) (arg11_r0 : BitVec 32) (k3_hw4 : k3_chk4 i k3_t3 arg7_r0 arg8_r0 arg9_r0 arg10_r0 arg11_r0), ∀ (k3_h1 : k3_cond1 i = 1#1), ∀ (k3_h14 : k3_cond14 i k3_t3 arg11_r0 = 1#1), ∀ a, (k3_off35 i arg11_r0) a + S128x32.size a ≤ S88064x32.size a := fun i k3_t3 arg7_r0 arg8_r0 arg9_r0 arg10_r0 arg11_r0 k3_hw4 k3_h1 k3_h14 => k3_hw4.2.2.2.2.2.2.2.1 k3_h1 k3_h14
theorem k3_off36_inb : ∀ (i : grid3.Coords) (k3_t3 : Fin (k3_t3_loop i).trips) (arg7_r0 : BitVec 32) (arg8_r0 : BitVec 32) (arg9_r0 : BitVec 32) (arg10_r0 : BitVec 32) (arg11_r0 : BitVec 32) (k3_hw4 : k3_chk4 i k3_t3 arg7_r0 arg8_r0 arg9_r0 arg10_r0 arg11_r0), ∀ (k3_h1 : k3_cond1 i = 1#1), ∀ (k3_h14 : k3_cond14 i k3_t3 arg11_r0 = 1#1), ∀ a, (k3_off36 arg9_r0) a + S1.size a ≤ S2.size a := fun i k3_t3 arg7_r0 arg8_r0 arg9_r0 arg10_r0 arg11_r0 k3_hw4 k3_h1 k3_h14 => k3_hw4.2.2.2.2.2.2.2.2.1 k3_h1 k3_h14
theorem k3_off37_inb : ∀ (i : grid3.Coords) (k3_t3 : Fin (k3_t3_loop i).trips) (arg7_r0 : BitVec 32) (arg8_r0 : BitVec 32) (arg9_r0 : BitVec 32) (arg10_r0 : BitVec 32) (arg11_r0 : BitVec 32) (k3_hw4 : k3_chk4 i k3_t3 arg7_r0 arg8_r0 arg9_r0 arg10_r0 arg11_r0), ∀ (k3_h1 : k3_cond1 i = 1#1), ∀ (k3_h16 : k3_cond16 i k3_t3 arg11_r0 = 1#1), ∀ a, (k3_off37 arg10_r0) a + S1x128x32.size a ≤ S2x128x32.size a := fun i k3_t3 arg7_r0 arg8_r0 arg9_r0 arg10_r0 arg11_r0 k3_hw4 k3_h1 k3_h16 => k3_hw4.2.2.2.2.2.2.2.2.2.1 k3_h1 k3_h16
theorem k3_off38_inb : ∀ (i : grid3.Coords) (k3_t3 : Fin (k3_t3_loop i).trips) (arg7_r0 : BitVec 32) (arg8_r0 : BitVec 32) (arg9_r0 : BitVec 32) (arg10_r0 : BitVec 32) (arg11_r0 : BitVec 32) (k3_hw4 : k3_chk4 i k3_t3 arg7_r0 arg8_r0 arg9_r0 arg10_r0 arg11_r0), ∀ (k3_h1 : k3_cond1 i = 1#1), ∀ (k3_h16 : k3_cond16 i k3_t3 arg11_r0 = 1#1), ∀ a, (k3_off38 i arg11_r0) a + S128x32.size a ≤ S88064x32.size a := fun i k3_t3 arg7_r0 arg8_r0 arg9_r0 arg10_r0 arg11_r0 k3_hw4 k3_h1 k3_h16 => k3_hw4.2.2.2.2.2.2.2.2.2.2.1 k3_h1 k3_h16
theorem k3_off39_inb : ∀ (i : grid3.Coords) (k3_t3 : Fin (k3_t3_loop i).trips) (arg7_r0 : BitVec 32) (arg8_r0 : BitVec 32) (arg9_r0 : BitVec 32) (arg10_r0 : BitVec 32) (arg11_r0 : BitVec 32) (k3_hw4 : k3_chk4 i k3_t3 arg7_r0 arg8_r0 arg9_r0 arg10_r0 arg11_r0), ∀ (k3_h1 : k3_cond1 i = 1#1), ∀ (k3_h16 : k3_cond16 i k3_t3 arg11_r0 = 1#1), ∀ a, (k3_off39 arg10_r0) a + S1.size a ≤ S2.size a := fun i k3_t3 arg7_r0 arg8_r0 arg9_r0 arg10_r0 arg11_r0 k3_hw4 k3_h1 k3_h16 => k3_hw4.2.2.2.2.2.2.2.2.2.2.2 k3_h1 k3_h16

def k3_cond18 (i : grid3.Coords) : BitVec 1 :=
  let c1_i32_4 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let v11 : BitVec 32 := Scalar.muli c1_i32_4 v5
  let c1_i32_42_r0 : BitVec 32 := 1#32
  let v54_r0 : BitVec 32 := Scalar.subi v11 c1_i32_42_r0
  let c1_i32_43_r0 : BitVec 32 := 1#32
  let v55_r0 : BitVec 32 := Scalar.muli c1_i32_43_r0 v5
  let c1_i32_45_r0 : BitVec 32 := 1#32
  let v57_r0 : BitVec 32 := Scalar.subi v55_r0 c1_i32_45_r0
  let v58_r0 : BitVec 1 := Scalar.cmpi .eq v54_r0 v57_r0
  let v78_r0 : BitVec 32 := Scalar.extui v58_r0
  let c0_i32_57_r0 : BitVec 32 := 0#32
  let v79_r0 : BitVec 1 := Scalar.cmpi .ne v78_r0 c0_i32_57_r0
  v79_r0

def k3_off40 (v48_3_r0 : BitVec 32) : Fin 3 → Nat :=
  let c2_i32_r0 : BitVec 32 := 2#32
  let v80_r0 : BitVec 32 := Scalar.remui v48_3_r0 c2_i32_r0
  let c0_i32_58_r0 : BitVec 32 := 0#32
  let c0_i32_59_r0 : BitVec 32 := 0#32
  ![v80_r0.toNat, 0, 0]

def k3_off41 (i : grid3.Coords) (v48_4_r0 : BitVec 32) : Fin 2 → Nat :=
  let c128_i32_r0 : BitVec 32 := 128#32
  let true_39_r0 : BitVec 1 := 1#1
  let c1_i32_38_r0 : BitVec 32 := 1#32
  let v49_r0 : BitVec 32 := Scalar.subi v48_4_r0 c1_i32_38_r0
  let v50_r0 : BitVec 32 := Scalar.select true_39_r0 v49_r0 v48_4_r0
  let c_m1_i32_40_r0 : BitVec 32 := 4294967295#32
  let v51_r0 : BitVec 1 := Scalar.cmpi .eq v50_r0 c_m1_i32_40_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 1 := Scalar.cmpi .slt v3 c16_i32_0
  let c22_i32 : BitVec 32 := 22#32
  let c21_i32 : BitVec 32 := 21#32
  let v5 : BitVec 32 := Scalar.select v4 c22_i32 c21_i32
  let c1_i32_41_r0 : BitVec 32 := 1#32
  let v52_r0 : BitVec 32 := Scalar.subi v5 c1_i32_41_r0
  let v53_r0 : BitVec 32 := Scalar.select v51_r0 v52_r0 v50_r0
  let c16_i32_1 : BitVec 32 := 16#32
  let v6 : BitVec 1 := Scalar.cmpi .slt v3 c16_i32_1
  let v7 : BitVec 32 := Scalar.muli v3 v5
  let c21_i32_2 : BitVec 32 := 21#32
  let v8 : BitVec 32 := Scalar.muli v3 c21_i32_2
  let c16_i32_3 : BitVec 32 := 16#32
  let v9 : BitVec 32 := Scalar.addi v8 c16_i32_3
  let v10 : BitVec 32 := Scalar.select v6 v7 v9
  let v59_r0 : BitVec 32 := Scalar.addi v53_r0 v10
  let v81_r0 : BitVec 32 := Scalar.muli c128_i32_r0 v59_r0
  let c0_i32_60_r0 : BitVec 32 := 0#32
  ![v81_r0.toNat, 0]

def k3_chk8 (i : grid3.Coords) (v48_4_r0 : BitVec 32) : Prop :=
  (∀ (k3_h1 : k3_cond1 i = 1#1), ∀ (k3_h18 : k3_cond18 i = 1#1), ∀ a, (k3_off41 i v48_4_r0) a + S128x32.size a ≤ S88064x32.size a)
theorem k3_off41_inb : ∀ (i : grid3.Coords) (v48_4_r0 : BitVec 32) (k3_hw8 : k3_chk8 i v48_4_r0), ∀ (k3_h1 : k3_cond1 i = 1#1), ∀ (k3_h18 : k3_cond18 i = 1#1), ∀ a, (k3_off41 i v48_4_r0) a + S128x32.size a ≤ S88064x32.size a := fun i v48_4_r0 k3_hw8 k3_h1 k3_h18 => k3_hw8 k3_h1 k3_h18

def k3_off42 (v48_3_r0 : BitVec 32) : Fin 1 → Nat :=
  let c2_i32_r0 : BitVec 32 := 2#32
  let v80_r0 : BitVec 32 := Scalar.remui v48_3_r0 c2_i32_r0
  ![v80_r0.toNat]
def k3_off43 (v48_3_r0 : BitVec 32) : Fin 3 → Nat :=
  let c2_i32_r0 : BitVec 32 := 2#32
  let v80_r0 : BitVec 32 := Scalar.remui v48_3_r0 c2_i32_r0
  let c0_i32_62_r0 : BitVec 32 := 0#32
  let c0_i32_63_r0 : BitVec 32 := 0#32
  ![v80_r0.toNat, 0, 0]

def k3_chk7 (i : grid3.Coords) (v48_3_r0 : BitVec 32) : Prop :=
  (∀ (k3_h1 : k3_cond1 i = 1#1), ∀ (k3_h18 : k3_cond18 i = 1#1), ∀ a, (k3_off40 v48_3_r0) a + S1x128x32.size a ≤ S2x128x32.size a) ∧
  (∀ (k3_h1 : k3_cond1 i = 1#1), ∀ (k3_h18 : k3_cond18 i = 1#1), ∀ a, (k3_off42 v48_3_r0) a + S1.size a ≤ S2.size a) ∧
  (∀ (k3_h1 : k3_cond1 i = 1#1), ∀ (k3_h18 : k3_cond18 i = 1#1), ∀ a, (k3_off43 v48_3_r0) a + S1x128x32.size a ≤ S2x128x32.size a)
theorem k3_off40_inb : ∀ (i : grid3.Coords) (v48_3_r0 : BitVec 32) (k3_hw7 : k3_chk7 i v48_3_r0), ∀ (k3_h1 : k3_cond1 i = 1#1), ∀ (k3_h18 : k3_cond18 i = 1#1), ∀ a, (k3_off40 v48_3_r0) a + S1x128x32.size a ≤ S2x128x32.size a := fun i v48_3_r0 k3_hw7 k3_h1 k3_h18 => k3_hw7.1 k3_h1 k3_h18
theorem k3_off42_inb : ∀ (i : grid3.Coords) (v48_3_r0 : BitVec 32) (k3_hw7 : k3_chk7 i v48_3_r0), ∀ (k3_h1 : k3_cond1 i = 1#1), ∀ (k3_h18 : k3_cond18 i = 1#1), ∀ a, (k3_off42 v48_3_r0) a + S1.size a ≤ S2.size a := fun i v48_3_r0 k3_hw7 k3_h1 k3_h18 => k3_hw7.2.1 k3_h1 k3_h18
theorem k3_off43_inb : ∀ (i : grid3.Coords) (v48_3_r0 : BitVec 32) (k3_hw7 : k3_chk7 i v48_3_r0), ∀ (k3_h1 : k3_cond1 i = 1#1), ∀ (k3_h18 : k3_cond18 i = 1#1), ∀ a, (k3_off43 v48_3_r0) a + S1x128x32.size a ≤ S2x128x32.size a := fun i v48_3_r0 k3_hw7 k3_h1 k3_h18 => k3_hw7.2.2 k3_h1 k3_h18

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== Reference.lean ====
abbrev S8x256x4 : Shape := ⟨3, ![8, 256, 4]⟩
abbrev S352256 : Shape := ⟨1, ![352256]⟩
abbrev S_ : Shape := ⟨0, ![]⟩
abbrev S8x4 : Shape := ⟨2, ![8, 4]⟩
abbrev S8x1x4 : Shape := ⟨3, ![8, 1, 4]⟩
abbrev S352256x1 : Shape := ⟨2, ![352256, 1]⟩
abbrev S8x352256x4 : Shape := ⟨3, ![8, 352256, 4]⟩
abbrev S352256x8x4 : Shape := ⟨3, ![352256, 8, 4]⟩
abbrev S352256x32 : Shape := ⟨2, ![352256, 32]⟩

abbrev nBuf : Space → Nat
  | .hbm => 27
  | .vmem => 0
  | .smem => 0
  | _ => 0

abbrev bufTy : (tb : Table) → Fin (tcTables nBuf tb) → BufTy
  | .hbm, ⟨0, _⟩ => ⟨S8x256x4, .f32⟩
  | .hbm, ⟨1, _⟩ => ⟨S352256, .i32⟩
  | .hbm, ⟨2, _⟩ => ⟨S_, .f32⟩
  | .hbm, ⟨3, _⟩ => ⟨S8x4, .f32⟩
  | .hbm, ⟨4, _⟩ => ⟨S_, .f32⟩
  | .hbm, ⟨5, _⟩ => ⟨S8x4, .f32⟩
  | .hbm, ⟨6, _⟩ => ⟨S8x4, .f32⟩
  | .hbm, ⟨7, _⟩ => ⟨S8x1x4, .f32⟩
  | .hbm, ⟨8, _⟩ => ⟨S8x256x4, .f32⟩
  | .hbm, ⟨9, _⟩ => ⟨S8x256x4, .f32⟩
  | .hbm, ⟨10, _⟩ => ⟨S8x256x4, .f32⟩
  | .hbm, ⟨11, _⟩ => ⟨S_, .f32⟩
  | .hbm, ⟨12, _⟩ => ⟨S8x4, .f32⟩
  | .hbm, ⟨13, _⟩ => ⟨S8x1x4, .f32⟩
  | .hbm, ⟨14, _⟩ => ⟨S8x256x4, .f32⟩
  | .hbm, ⟨15, _⟩ => ⟨S8x256x4, .f32⟩
  | .hbm, ⟨16, _⟩ => ⟨S_, .i32⟩
  | .hbm, ⟨17, _⟩ => ⟨S352256, .i32⟩
  | .hbm, ⟨18, _⟩ => ⟨S352256, .i1⟩
  | .hbm, ⟨19, _⟩ => ⟨S_, .i32⟩
  | .hbm, ⟨20, _⟩ => ⟨S352256, .i32⟩
  | .hbm, ⟨21, _⟩ => ⟨S352256, .i32⟩
  | .hbm, ⟨22, _⟩ => ⟨S352256, .i32⟩
  | .hbm, ⟨23, _⟩ => ⟨S352256x1, .i32⟩
  | .hbm, ⟨24, _⟩ => ⟨S8x352256x4, .f32⟩
  | .hbm, ⟨25, _⟩ => ⟨S352256x8x4, .f32⟩
  | .hbm, ⟨26, _⟩ => ⟨S352256x32, .f32⟩
  | _, _ => ⟨S8x256x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Tree.lean ====
abbrev S8x8x4x4 : Shape := ⟨4, ![8, 8, 4, 4]⟩
abbrev S8x4 : Shape := ⟨2, ![8, 4]⟩
abbrev S88064x32 : Shape := ⟨2, ![88064, 32]⟩
abbrev S128x128 : Shape := ⟨2, ![128, 128]⟩
abbrev S128x4 : Shape := ⟨2, ![128, 4]⟩
abbrev S_ : Shape := ⟨0, ![]⟩
abbrev S8x4x4 : Shape := ⟨3, ![8, 4, 4]⟩
abbrev S1x8x4x4 : Shape := ⟨4, ![1, 8, 4, 4]⟩
abbrev S4 : Shape := ⟨1, ![4]⟩
abbrev S1x4 : Shape := ⟨2, ![1, 4]⟩
abbrev S4x4 : Shape := ⟨2, ![4, 4]⟩
abbrev S8x4x8x4 : Shape := ⟨4, ![8, 4, 8, 4]⟩
abbrev S8x1x4x8x4 : Shape := ⟨5, ![8, 1, 4, 8, 4]⟩
abbrev S1x4x1x1x4 : Shape := ⟨5, ![1, 4, 1, 1, 4]⟩
abbrev S8x4x4x8x4 : Shape := ⟨5, ![8, 4, 4, 8, 4]⟩
abbrev S32x128 : Shape := ⟨2, ![32, 128]⟩
abbrev S1x8x1x4x8x4 : Shape := ⟨6, ![1, 8, 1, 4, 8, 4]⟩
abbrev S4x1x1x4x1x1 : Shape := ⟨6, ![4, 1, 1, 4, 1, 1]⟩
abbrev S4x8x1x4x8x4 : Shape := ⟨6, ![4, 8, 1, 4, 8, 4]⟩
abbrev S1x1x4x1x1x4 : Shape := ⟨6, ![1, 1, 4, 1, 1, 4]⟩
abbrev S4x8x4x4x8x4 : Shape := ⟨6, ![4, 8, 4, 4, 8, 4]⟩
abbrev S1x32 : Shape := ⟨2, ![1, 32]⟩
abbrev S1x1x1x32 : Shape := ⟨4, ![1, 1, 1, 32]⟩
abbrev S4x1x1x32 : Shape := ⟨4, ![4, 1, 1, 32]⟩
abbrev S4x32 : Shape := ⟨2, ![4, 32]⟩
abbrev S4x5504x128 : Shape := ⟨3, ![4, 5504, 128]⟩
abbrev S4x4x4 : Shape := ⟨3, ![4, 4, 4]⟩
abbrev S1x5504x128 : Shape := ⟨3, ![1, 5504, 128]⟩
abbrev S1x4x4 : Shape := ⟨3, ![1, 4, 4]⟩
abbrev S5504x128 : Shape := ⟨2, ![5504, 128]⟩
abbrev S4x128 : Shape := ⟨2, ![4, 128]⟩
abbrev S16x128 : Shape := ⟨2, ![16, 128]⟩
abbrev S16x32 : Shape := ⟨2, ![16, 32]⟩
abbrev S64x128 : Shape := ⟨2, ![64, 128]⟩
abbrev S64x32 : Shape := ⟨2, ![64, 32]⟩
abbrev S256x128 : Shape := ⟨2, ![256, 128]⟩
abbrev S256x32 : Shape := ⟨2, ![256, 32]⟩
abbrev S1024x128 : Shape := ⟨2, ![1024, 128]⟩
abbrev S1024x32 : Shape := ⟨2, ![1024, 32]⟩
abbrev S4096x128 : Shape := ⟨2, ![4096, 128]⟩
abbrev S4x4096 : Shape := ⟨2, ![4, 4096]⟩
abbrev S4096x32 : Shape := ⟨2, ![4096, 32]⟩
abbrev S4x1024 : Shape := ⟨2, ![4, 1024]⟩
abbrev S4x256 : Shape := ⟨2, ![4, 256]⟩
abbrev S4x64 : Shape := ⟨2, ![4, 64]⟩
abbrev S4x16 : Shape := ⟨2, ![4, 16]⟩
abbrev S32x32 : Shape := ⟨2, ![32, 32]⟩
abbrev S32x4 : Shape := ⟨2, ![32, 4]⟩

abbrev nBuf : Space → Nat
  | .hbm => 71
  | .vmem => 9
  | .smem => 0
  | _ => 0

abbrev bufTy : (tb : Table) → Fin (tcTables nBuf tb) → BufTy
  | .hbm, ⟨0, _⟩ => ⟨S8x8x4x4, .f32⟩
  | .hbm, ⟨1, _⟩ => ⟨S8x4, .f32⟩
  | .hbm, ⟨2, _⟩ => ⟨S88064x32, .f32⟩
  | .hbm, ⟨3, _⟩ => ⟨S128x128, .f32⟩
  | .hbm, ⟨4, _⟩ => ⟨S128x4, .f32⟩
  | .hbm, ⟨5, _⟩ => ⟨S_, .f32⟩
  | .hbm, ⟨6, _⟩ => ⟨S8x4x4, .f32⟩
  | .hbm, ⟨7, _⟩ => ⟨S_, .f32⟩
  | .hbm, ⟨8, _⟩ => ⟨S8x4x4, .f32⟩
  | .hbm, ⟨9, _⟩ => ⟨S8x4x4, .f32⟩
  | .hbm, ⟨10, _⟩ => ⟨S1x8x4x4, .f32⟩
  | .hbm, ⟨11, _⟩ => ⟨S8x8x4x4, .f32⟩
  | .hbm, ⟨12, _⟩ => ⟨S8x8x4x4, .f32⟩
  | .hbm, ⟨13, _⟩ => ⟨S8x8x4x4, .f32⟩
  | .hbm, ⟨14, _⟩ => ⟨S_, .f32⟩
  | .hbm, ⟨15, _⟩ => ⟨S8x4x4, .f32⟩
  | .hbm, ⟨16, _⟩ => ⟨S1x8x4x4, .f32⟩
  | .hbm, ⟨17, _⟩ => ⟨S8x8x4x4, .f32⟩
  | .hbm, ⟨18, _⟩ => ⟨S8x8x4x4, .f32⟩
  | .hbm, ⟨19, _⟩ => ⟨S_, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S1x4, .f32⟩
  | .hbm, ⟨25, _⟩ => ⟨S8x4, .f32⟩
  | .hbm, ⟨26, _⟩ => ⟨S8x4, .f32⟩
  | .hbm, ⟨27, _⟩ => ⟨S8x4, .f32⟩
  | .hbm, ⟨28, _⟩ => ⟨S_, .f32⟩
  | .hbm, ⟨29, _⟩ => ⟨S4, .f32⟩
  | .hbm, ⟨30, _⟩ => ⟨S1x4, .f32⟩
  | .hbm, ⟨31, _⟩ => ⟨S8x4, .f32⟩
  | .hbm, ⟨32, _⟩ => ⟨S8x4, .f32⟩
  | .hbm, ⟨33, _⟩ => ⟨S4x4, .i32⟩
  | .hbm, ⟨34, _⟩ => ⟨S4x4, .i32⟩
  | .hbm, ⟨35, _⟩ => ⟨S_, .i32⟩
  | .hbm, ⟨36, _⟩ => ⟨S4x4, .i32⟩
  | .hbm, ⟨37, _⟩ => ⟨S4x4, .i32⟩
  | .hbm, ⟨38, _⟩ => ⟨S4x4, .i1⟩
  | .hbm, ⟨39, _⟩ => ⟨S4x4, .f32⟩
  | .hbm, ⟨40, _⟩ => ⟨S4x4, .i32⟩
  | .hbm, ⟨41, _⟩ => ⟨S4x4, .i32⟩
  | .hbm, ⟨42, _⟩ => ⟨S_, .i32⟩
  | .hbm, ⟨43, _⟩ => ⟨S4x4, .i32⟩
  | .hbm, ⟨44, _⟩ => ⟨S4x4, .i32⟩
  | .hbm, ⟨45, _⟩ => ⟨S4x4, .i1⟩
  | .hbm, ⟨46, _⟩ => ⟨S4x4, .f32⟩
  | .hbm, ⟨47, _⟩ => ⟨S8x4x8x4, .f32⟩
  | .hbm, ⟨48, _⟩ => ⟨S8x1x4x8x4, .f32⟩
  | .hbm, ⟨49, _⟩ => ⟨S1x4x1x1x4, .f32⟩
  | .hbm, ⟨50, _⟩ => ⟨S8x4x4x8x4, .f32⟩
  | .hbm, ⟨51, _⟩ => ⟨S8x4x4x8x4, .f32⟩
  | .hbm, ⟨52, _⟩ => ⟨S8x4x4x8x4, .f32⟩
  | .hbm, ⟨53, _⟩ => ⟨S32x128, .f32⟩
  | .hbm, ⟨54, _⟩ => ⟨S8x4x8x4, .f32⟩
  | .hbm, ⟨55, _⟩ => ⟨S1x8x1x4x8x4, .f32⟩
  | .hbm, ⟨56, _⟩ => ⟨S4x1x1x4x1x1, .f32⟩
  | .hbm, ⟨57, _⟩ => ⟨S4x8x1x4x8x4, .f32⟩
  | .hbm, ⟨58, _⟩ => ⟨S4x8x1x4x8x4, .f32⟩
  | .hbm, ⟨59, _⟩ => ⟨S4x8x1x4x8x4, .f32⟩
  | .hbm, ⟨60, _⟩ => ⟨S1x1x4x1x1x4, .f32⟩
  | .hbm, ⟨61, _⟩ => ⟨S4x8x4x4x8x4, .f32⟩
  | .hbm, ⟨62, _⟩ => ⟨S4x8x4x4x8x4, .f32⟩
  | .hbm, ⟨63, _⟩ => ⟨S4x8x4x4x8x4, .f32⟩
  | .hbm, ⟨64, _⟩ => ⟨S128x128, .f32⟩
  | .hbm, ⟨65, _⟩ => ⟨S1x32, .f32⟩
  | .hbm, ⟨66, _⟩ => ⟨S1x1x1x32, .f32⟩
  | .hbm, ⟨67, _⟩ => ⟨S4x1x1x32, .f32⟩
  | .hbm, ⟨68, _⟩ => ⟨S4x32, .f32⟩
  | .hbm, ⟨69, _⟩ => ⟨S4x5504x128, .f32⟩
  | .hbm, ⟨70, _⟩ => ⟨S4x4x4, .f32⟩
  | .local _ .vmem, ⟨0, _⟩ => ⟨S1x5504x128, .f32⟩
  | .local _ .vmem, ⟨1, _⟩ => ⟨S1x5504x128, .f32⟩
  | .local _ .vmem, ⟨2, _⟩ => ⟨S32x128, .f32⟩
  | .local _ .vmem, ⟨3, _⟩ => ⟨S128x128, .f32⟩
  | .local _ .vmem, ⟨4, _⟩ => ⟨S4x32, .f32⟩
  | .local _ .vmem, ⟨5, _⟩ => ⟨S128x128, .f32⟩
  | .local _ .vmem, ⟨6, _⟩ => ⟨S128x4, .f32⟩
  | .local _ .vmem, ⟨7, _⟩ => ⟨S1x4x4, .f32⟩
  | .local _ .vmem, ⟨8, _⟩ => ⟨S1x4x4, .f32⟩
  | _, _ => ⟨S8x8x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_cst_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5504x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== TreeReferenceIdeal.lean ====
abbrev S8x8x4x4 : Shape := ⟨4, ![8, 8, 4, 4]⟩
abbrev S8x4 : Shape := ⟨2, ![8, 4]⟩
abbrev S88064x32 : Shape := ⟨2, ![88064, 32]⟩
abbrev S_ : Shape := ⟨0, ![]⟩
abbrev S8x4x4 : Shape := ⟨3, ![8, 4, 4]⟩
abbrev S1x8x4x4 : Shape := ⟨4, ![1, 8, 4, 4]⟩
abbrev S4 : Shape := ⟨1, ![4]⟩
abbrev S1x4 : Shape := ⟨2, ![1, 4]⟩
abbrev S4x8x8x4 : Shape := ⟨4, ![4, 8, 8, 4]⟩
abbrev S1x4x1x8x8x4 : Shape := ⟨6, ![1, 4, 1, 8, 8, 4]⟩
abbrev S4x22016x8x4 : Shape := ⟨4, ![4, 22016, 8, 4]⟩
abbrev S4x4x8x4 : Shape := ⟨4, ![4, 4, 8, 4]⟩
abbrev S4x16x8x4 : Shape := ⟨4, ![4, 16, 8, 4]⟩
abbrev S4x4x4x8x4 : Shape := ⟨5, ![4, 4, 4, 8, 4]⟩
abbrev S4x1x4x1x8x4 : Shape := ⟨6, ![4, 1, 4, 1, 8, 4]⟩
abbrev S4x4x4x8x8x4 : Shape := ⟨6, ![4, 4, 4, 8, 8, 4]⟩
abbrev S4x64x8x4 : Shape := ⟨4, ![4, 64, 8, 4]⟩
abbrev S4x16x4x8x4 : Shape := ⟨5, ![4, 16, 4, 8, 4]⟩
abbrev S4x4x16x8x4 : Shape := ⟨5, ![4, 4, 16, 8, 4]⟩
abbrev S4x1x16x1x8x4 : Shape := ⟨6, ![4, 1, 16, 1, 8, 4]⟩
abbrev S4x4x16x8x8x4 : Shape := ⟨6, ![4, 4, 16, 8, 8, 4]⟩
abbrev S4x256x8x4 : Shape := ⟨4, ![4, 256, 8, 4]⟩
abbrev S4x64x4x8x4 : Shape := ⟨5, ![4, 64, 4, 8, 4]⟩
abbrev S4x4x64x8x4 : Shape := ⟨5, ![4, 4, 64, 8, 4]⟩
abbrev S4x1x64x1x8x4 : Shape := ⟨6, ![4, 1, 64, 1, 8, 4]⟩
abbrev S4x4x64x8x8x4 : Shape := ⟨6, ![4, 4, 64, 8, 8, 4]⟩
abbrev S4x1024x8x4 : Shape := ⟨4, ![4, 1024, 8, 4]⟩
abbrev S4x256x4x8x4 : Shape := ⟨5, ![4, 256, 4, 8, 4]⟩
abbrev S4x4x256x8x4 : Shape := ⟨5, ![4, 4, 256, 8, 4]⟩
abbrev S4x1x256x1x8x4 : Shape := ⟨6, ![4, 1, 256, 1, 8, 4]⟩
abbrev S4x4x256x8x8x4 : Shape := ⟨6, ![4, 4, 256, 8, 8, 4]⟩
abbrev S4x4096x8x4 : Shape := ⟨4, ![4, 4096, 8, 4]⟩
abbrev S4x1024x4x8x4 : Shape := ⟨5, ![4, 1024, 4, 8, 4]⟩
abbrev S4x4x1024x8x4 : Shape := ⟨5, ![4, 4, 1024, 8, 4]⟩
abbrev S4x1x1024x1x8x4 : Shape := ⟨6, ![4, 1, 1024, 1, 8, 4]⟩
abbrev S4x4x1024x8x8x4 : Shape := ⟨6, ![4, 4, 1024, 8, 8, 4]⟩
abbrev S4x16384x8x4 : Shape := ⟨4, ![4, 16384, 8, 4]⟩
abbrev S4x4096x4x8x4 : Shape := ⟨5, ![4, 4096, 4, 8, 4]⟩
abbrev S4x4x4096x8x4 : Shape := ⟨5, ![4, 4, 4096, 8, 4]⟩
abbrev S4x1x4096x1x8x4 : Shape := ⟨6, ![4, 1, 4096, 1, 8, 4]⟩
abbrev S4x4x4096x8x8x4 : Shape := ⟨6, ![4, 4, 4096, 8, 8, 4]⟩
abbrev S4x4x4 : Shape := ⟨3, ![4, 4, 4]⟩
abbrev S4x16384x4 : Shape := ⟨3, ![4, 16384, 4]⟩
abbrev S4x4096x4x4 : Shape := ⟨4, ![4, 4096, 4, 4]⟩
abbrev S4x16384x1x4 : Shape := ⟨4, ![4, 16384, 1, 4]⟩
abbrev S4x4x4096x8x1x4 : Shape := ⟨6, ![4, 4, 4096, 8, 1, 4]⟩
abbrev S4x1x4096x8x4 : Shape := ⟨5, ![4, 1, 4096, 8, 4]⟩
abbrev S4x4096x4 : Shape := ⟨3, ![4, 4096, 4]⟩
abbrev S4x1024x4x4 : Shape := ⟨4, ![4, 1024, 4, 4]⟩
abbrev S4x4096x1x4 : Shape := ⟨4, ![4, 4096, 1, 4]⟩
abbrev S4x4x1024x8x1x4 : Shape := ⟨6, ![4, 4, 1024, 8, 1, 4]⟩
abbrev S4x1x1024x8x4 : Shape := ⟨5, ![4, 1, 1024, 8, 4]⟩
abbrev S4x1024x4 : Shape := ⟨3, ![4, 1024, 4]⟩
abbrev S4x256x4x4 : Shape := ⟨4, ![4, 256, 4, 4]⟩
abbrev S4x1024x1x4 : Shape := ⟨4, ![4, 1024, 1, 4]⟩
abbrev S4x4x256x8x1x4 : Shape := ⟨6, ![4, 4, 256, 8, 1, 4]⟩
abbrev S4x1x256x8x4 : Shape := ⟨5, ![4, 1, 256, 8, 4]⟩
abbrev S4x256x4 : Shape := ⟨3, ![4, 256, 4]⟩
abbrev S4x64x4x4 : Shape := ⟨4, ![4, 64, 4, 4]⟩
abbrev S4x256x1x4 : Shape := ⟨4, ![4, 256, 1, 4]⟩
abbrev S4x4x64x8x1x4 : Shape := ⟨6, ![4, 4, 64, 8, 1, 4]⟩
abbrev S4x1x64x8x4 : Shape := ⟨5, ![4, 1, 64, 8, 4]⟩
abbrev S4x64x4 : Shape := ⟨3, ![4, 64, 4]⟩
abbrev S4x16x4x4 : Shape := ⟨4, ![4, 16, 4, 4]⟩
abbrev S4x64x1x4 : Shape := ⟨4, ![4, 64, 1, 4]⟩
abbrev S4x4x16x8x1x4 : Shape := ⟨6, ![4, 4, 16, 8, 1, 4]⟩
abbrev S4x1x16x8x4 : Shape := ⟨5, ![4, 1, 16, 8, 4]⟩
abbrev S4x16x4 : Shape := ⟨3, ![4, 16, 4]⟩
abbrev S4x4x4x4 : Shape := ⟨4, ![4, 4, 4, 4]⟩
abbrev S4x16x1x4 : Shape := ⟨4, ![4, 16, 1, 4]⟩
abbrev S4x4x4x8x1x4 : Shape := ⟨6, ![4, 4, 4, 8, 1, 4]⟩
abbrev S4x1x4x8x4 : Shape := ⟨5, ![4, 1, 4, 8, 4]⟩
abbrev S4x1x4x4 : Shape := ⟨4, ![4, 1, 4, 4]⟩

abbrev nBuf : Space → Nat
  | .hbm => 304
  | .vmem => 0
  | .smem => 0
  | _ => 0

abbrev hbmTy0_0 (i : Nat) : BufTy := match i % 128 with
  | 0 => ⟨S8x8x4x4, .f32⟩
  | 1 => ⟨S8x4, .f32⟩
  | 2 => ⟨S88064x32, .f32⟩
  | 3 => ⟨S_, .f32⟩
  | 4 => ⟨S8x4x4, .f32⟩
  | 5 => ⟨S_, .f32⟩
  | 6 => ⟨S8x4x4, .f32⟩
  | 7 => ⟨S8x4x4, .f32⟩
  | 8 => ⟨S1x8x4x4, .f32⟩
  | 9 => ⟨S8x8x4x4, .f32⟩
  | 10 => ⟨S8x8x4x4, .f32⟩
  | 11 => ⟨S8x8x4x4, .f32⟩
  | 12 => ⟨S_, .f32⟩
  | 13 => ⟨S8x4x4, .f32⟩
  | 14 => ⟨S1x8x4x4, .f32⟩
  | 15 => ⟨S8x8x4x4, .f32⟩
  | 16 => ⟨S8x8x4x4, .f32⟩
  | 17 => ⟨S_, .f32⟩
  | 18 => ⟨S4, .f32⟩
  | 19 => ⟨S_, .f32⟩
  | 20 => ⟨S4, .f32⟩
  | 21 => ⟨S4, .f32⟩
  | 22 => ⟨S1x4, .f32⟩
  | 23 => ⟨S8x4, .f32⟩
  | 24 => ⟨S8x4, .f32⟩
  | 25 => ⟨S8x4, .f32⟩
  | 26 => ⟨S_, .f32⟩
  | 27 => ⟨S4, .f32⟩
  | 28 => ⟨S1x4, .f32⟩
  | 29 => ⟨S8x4, .f32⟩
  | 30 => ⟨S8x4, .f32⟩
  | 31 => ⟨S4x8x8x4, .f32⟩
  | 32 => ⟨S1x4x1x8x8x4, .f32⟩
  | 33 => ⟨S4x22016x8x4, .f32⟩
  | 34 => ⟨S4x4x8x4, .f32⟩
  | 35 => ⟨S4x4x8x4, .f32⟩
  | 36 => ⟨S4x16x8x4, .f32⟩
  | 37 => ⟨S4x4x4x8x4, .f32⟩
  | 38 => ⟨S4x4x4x8x4, .f32⟩
  | 39 => ⟨S4x16x8x4, .f32⟩
  | 40 => ⟨S4x1x4x1x8x4, .f32⟩
  | 41 => ⟨S4x4x4x8x8x4, .f32⟩
  | 42 => ⟨S4x4x4x8x8x4, .f32⟩
  | 43 => ⟨S4x4x4x8x8x4, .f32⟩
  | 44 => ⟨S_, .f32⟩
  | 45 => ⟨S4x4x4x8x4, .f32⟩
  | 46 => ⟨S4x16x8x4, .f32⟩
  | 47 => ⟨S4x64x8x4, .f32⟩
  | 48 => ⟨S4x16x4x8x4, .f32⟩
  | 49 => ⟨S4x4x16x8x4, .f32⟩
  | 50 => ⟨S4x64x8x4, .f32⟩
  | 51 => ⟨S4x1x16x1x8x4, .f32⟩
  | 52 => ⟨S4x4x16x8x8x4, .f32⟩
  | 53 => ⟨S4x4x16x8x8x4, .f32⟩
  | 54 => ⟨S4x4x16x8x8x4, .f32⟩
  | 55 => ⟨S_, .f32⟩
  | 56 => ⟨S4x4x16x8x4, .f32⟩
  | 57 => ⟨S4x64x8x4, .f32⟩
  | 58 => ⟨S4x256x8x4, .f32⟩
  | 59 => ⟨S4x64x4x8x4, .f32⟩
  | 60 => ⟨S4x4x64x8x4, .f32⟩
  | 61 => ⟨S4x256x8x4, .f32⟩
  | 62 => ⟨S4x1x64x1x8x4, .f32⟩
  | 63 => ⟨S4x4x64x8x8x4, .f32⟩
  | 64 => ⟨S4x4x64x8x8x4, .f32⟩
  | 65 => ⟨S4x4x64x8x8x4, .f32⟩
  | 66 => ⟨S_, .f32⟩
  | 67 => ⟨S4x4x64x8x4, .f32⟩
  | 68 => ⟨S4x256x8x4, .f32⟩
  | 69 => ⟨S4x1024x8x4, .f32⟩
  | 70 => ⟨S4x256x4x8x4, .f32⟩
  | 71 => ⟨S4x4x256x8x4, .f32⟩
  | 72 => ⟨S4x1024x8x4, .f32⟩
  | 73 => ⟨S4x1x256x1x8x4, .f32⟩
  | 74 => ⟨S4x4x256x8x8x4, .f32⟩
  | 75 => ⟨S4x4x256x8x8x4, .f32⟩
  | 76 => ⟨S4x4x256x8x8x4, .f32⟩
  | 77 => ⟨S_, .f32⟩
  | 78 => ⟨S4x4x256x8x4, .f32⟩
  | 79 => ⟨S4x1024x8x4, .f32⟩
  | 80 => ⟨S4x4096x8x4, .f32⟩
  | 81 => ⟨S4x1024x4x8x4, .f32⟩
  | 82 => ⟨S4x4x1024x8x4, .f32⟩
  | 83 => ⟨S4x4096x8x4, .f32⟩
  | 84 => ⟨S4x1x1024x1x8x4, .f32⟩
  | 85 => ⟨S4x4x1024x8x8x4, .f32⟩
  | 86 => ⟨S4x4x1024x8x8x4, .f32⟩
  | 87 => ⟨S4x4x1024x8x8x4, .f32⟩
  | 88 => ⟨S_, .f32⟩
  | 89 => ⟨S4x4x1024x8x4, .f32⟩
  | 90 => ⟨S4x4096x8x4, .f32⟩
  | 91 => ⟨S4x16384x8x4, .f32⟩
  | 92 => ⟨S4x4096x4x8x4, .f32⟩
  | 93 => ⟨S4x4x4096x8x4, .f32⟩
  | 94 => ⟨S4x16384x8x4, .f32⟩
  | 95 => ⟨S4x1x4096x1x8x4, .f32⟩
  | 96 => ⟨S4x4x4096x8x8x4, .f32⟩
  | 97 => ⟨S4x4x4096x8x8x4, .f32⟩
  | 98 => ⟨S4x4x4096x8x8x4, .f32⟩
  | 99 => ⟨S_, .f32⟩
  | 100 => ⟨S4x4x4096x8x4, .f32⟩
  | 101 => ⟨S4x16384x8x4, .f32⟩
  | 102 => ⟨S4x16384x8x4, .f32⟩
  | 103 => ⟨S_, .f32⟩
  | 104 => ⟨S4x4x4, .f32⟩
  | 105 => ⟨S_, .f32⟩
  | 106 => ⟨S4x16384x4, .f32⟩
  | 107 => ⟨S4x16384x4, .f32⟩
  | 108 => ⟨S4x4096x4x4, .f32⟩
  | 109 => ⟨S_, .f32⟩
  | 110 => ⟨S4x4x4, .f32⟩
  | 111 => ⟨S4x4x4, .f32⟩
  | 112 => ⟨S4x16384x1x4, .f32⟩
  | 113 => ⟨S4x16384x8x4, .f32⟩
  | 114 => ⟨S4x16384x8x4, .f32⟩
  | 115 => ⟨S4x4x4096x8x1x4, .f32⟩
  | 116 => ⟨S4x4x4096x8x1x4, .f32⟩
  | 117 => ⟨S4x4x4096x8x1x4, .f32⟩
  | 118 => ⟨S4x4x4096x8x8x4, .f32⟩
  | 119 => ⟨S4x4x4096x8x8x4, .f32⟩
  | 120 => ⟨S4x4x4096x8x8x4, .f32⟩
  | 121 => ⟨S_, .f32⟩
  | 122 => ⟨S4x4x4096x8x4, .f32⟩
  | 123 => ⟨S4x4096x8x4, .f32⟩
  | 124 => ⟨S4x1x4096x8x4, .f32⟩
  | 125 => ⟨S4x4096x8x4, .f32⟩
  | 126 => ⟨S4x1x4096x8x4, .f32⟩
  | 127 => ⟨S4x4096x8x4, .f32⟩
  | _ => ⟨S8x8x4x4, .f32⟩

abbrev hbmTy0_1 (i : Nat) : BufTy := match i % 128 with
  | 0 => ⟨S4x4096x8x4, .f32⟩
  | 1 => ⟨S4x1x4096x8x4, .f32⟩
  | 2 => ⟨S4x4096x8x4, .f32⟩
  | 3 => ⟨S4x4096x8x4, .f32⟩
  | 4 => ⟨S4x1x4096x8x4, .f32⟩
  | 5 => ⟨S4x4096x8x4, .f32⟩
  | 6 => ⟨S4x4096x8x4, .f32⟩
  | 7 => ⟨S4x4096x8x4, .f32⟩
  | 8 => ⟨S4x4096x8x4, .f32⟩
  | 9 => ⟨S_, .f32⟩
  | 10 => ⟨S4x4096x4, .f32⟩
  | 11 => ⟨S4x4096x4, .f32⟩
  | 12 => ⟨S4x1024x4x4, .f32⟩
  | 13 => ⟨S_, .f32⟩
  | 14 => ⟨S4x4x4, .f32⟩
  | 15 => ⟨S4x4x4, .f32⟩
  | 16 => ⟨S4x4096x1x4, .f32⟩
  | 17 => ⟨S4x4096x8x4, .f32⟩
  | 18 => ⟨S4x4096x8x4, .f32⟩
  | 19 => ⟨S4x4x1024x8x1x4, .f32⟩
  | 20 => ⟨S4x4x1024x8x1x4, .f32⟩
  | 21 => ⟨S4x4x1024x8x1x4, .f32⟩
  | 22 => ⟨S4x4x1024x8x8x4, .f32⟩
  | 23 => ⟨S4x4x1024x8x8x4, .f32⟩
  | 24 => ⟨S4x4x1024x8x8x4, .f32⟩
  | 25 => ⟨S_, .f32⟩
  | 26 => ⟨S4x4x1024x8x4, .f32⟩
  | 27 => ⟨S4x1024x8x4, .f32⟩
  | 28 => ⟨S4x1x1024x8x4, .f32⟩
  | 29 => ⟨S4x1024x8x4, .f32⟩
  | 30 => ⟨S4x1x1024x8x4, .f32⟩
  | 31 => ⟨S4x1024x8x4, .f32⟩
  | 32 => ⟨S4x1024x8x4, .f32⟩
  | 33 => ⟨S4x1x1024x8x4, .f32⟩
  | 34 => ⟨S4x1024x8x4, .f32⟩
  | 35 => ⟨S4x1024x8x4, .f32⟩
  | 36 => ⟨S4x1x1024x8x4, .f32⟩
  | 37 => ⟨S4x1024x8x4, .f32⟩
  | 38 => ⟨S4x1024x8x4, .f32⟩
  | 39 => ⟨S4x1024x8x4, .f32⟩
  | 40 => ⟨S4x1024x8x4, .f32⟩
  | 41 => ⟨S_, .f32⟩
  | 42 => ⟨S4x1024x4, .f32⟩
  | 43 => ⟨S4x1024x4, .f32⟩
  | 44 => ⟨S4x256x4x4, .f32⟩
  | 45 => ⟨S_, .f32⟩
  | 46 => ⟨S4x4x4, .f32⟩
  | 47 => ⟨S4x4x4, .f32⟩
  | 48 => ⟨S4x1024x1x4, .f32⟩
  | 49 => ⟨S4x1024x8x4, .f32⟩
  | 50 => ⟨S4x1024x8x4, .f32⟩
  | 51 => ⟨S4x4x256x8x1x4, .f32⟩
  | 52 => ⟨S4x4x256x8x1x4, .f32⟩
  | 53 => ⟨S4x4x256x8x1x4, .f32⟩
  | 54 => ⟨S4x4x256x8x8x4, .f32⟩
  | 55 => ⟨S4x4x256x8x8x4, .f32⟩
  | 56 => ⟨S4x4x256x8x8x4, .f32⟩
  | 57 => ⟨S_, .f32⟩
  | 58 => ⟨S4x4x256x8x4, .f32⟩
  | 59 => ⟨S4x256x8x4, .f32⟩
  | 60 => ⟨S4x1x256x8x4, .f32⟩
  | 61 => ⟨S4x256x8x4, .f32⟩
  | 62 => ⟨S4x1x256x8x4, .f32⟩
  | 63 => ⟨S4x256x8x4, .f32⟩
  | 64 => ⟨S4x256x8x4, .f32⟩
  | 65 => ⟨S4x1x256x8x4, .f32⟩
  | 66 => ⟨S4x256x8x4, .f32⟩
  | 67 => ⟨S4x256x8x4, .f32⟩
  | 68 => ⟨S4x1x256x8x4, .f32⟩
  | 69 => ⟨S4x256x8x4, .f32⟩
  | 70 => ⟨S4x256x8x4, .f32⟩
  | 71 => ⟨S4x256x8x4, .f32⟩
  | 72 => ⟨S4x256x8x4, .f32⟩
  | 73 => ⟨S_, .f32⟩
  | 74 => ⟨S4x256x4, .f32⟩
  | 75 => ⟨S4x256x4, .f32⟩
  | 76 => ⟨S4x64x4x4, .f32⟩
  | 77 => ⟨S_, .f32⟩
  | 78 => ⟨S4x4x4, .f32⟩
  | 79 => ⟨S4x4x4, .f32⟩
  | 80 => ⟨S4x256x1x4, .f32⟩
  | 81 => ⟨S4x256x8x4, .f32⟩
  | 82 => ⟨S4x256x8x4, .f32⟩
  | 83 => ⟨S4x4x64x8x1x4, .f32⟩
  | 84 => ⟨S4x4x64x8x1x4, .f32⟩
  | 85 => ⟨S4x4x64x8x1x4, .f32⟩
  | 86 => ⟨S4x4x64x8x8x4, .f32⟩
  | 87 => ⟨S4x4x64x8x8x4, .f32⟩
  | 88 => ⟨S4x4x64x8x8x4, .f32⟩
  | 89 => ⟨S_, .f32⟩
  | 90 => ⟨S4x4x64x8x4, .f32⟩
  | 91 => ⟨S4x64x8x4, .f32⟩
  | 92 => ⟨S4x1x64x8x4, .f32⟩
  | 93 => ⟨S4x64x8x4, .f32⟩
  | 94 => ⟨S4x1x64x8x4, .f32⟩
  | 95 => ⟨S4x64x8x4, .f32⟩
  | 96 => ⟨S4x64x8x4, .f32⟩
  | 97 => ⟨S4x1x64x8x4, .f32⟩
  | 98 => ⟨S4x64x8x4, .f32⟩
  | 99 => ⟨S4x64x8x4, .f32⟩
  | 100 => ⟨S4x1x64x8x4, .f32⟩
  | 101 => ⟨S4x64x8x4, .f32⟩
  | 102 => ⟨S4x64x8x4, .f32⟩
  | 103 => ⟨S4x64x8x4, .f32⟩
  | 104 => ⟨S4x64x8x4, .f32⟩
  | 105 => ⟨S_, .f32⟩
  | 106 => ⟨S4x64x4, .f32⟩
  | 107 => ⟨S4x64x4, .f32⟩
  | 108 => ⟨S4x16x4x4, .f32⟩
  | 109 => ⟨S_, .f32⟩
  | 110 => ⟨S4x4x4, .f32⟩
  | 111 => ⟨S4x4x4, .f32⟩
  | 112 => ⟨S4x64x1x4, .f32⟩
  | 113 => ⟨S4x64x8x4, .f32⟩
  | 114 => ⟨S4x64x8x4, .f32⟩
  | 115 => ⟨S4x4x16x8x1x4, .f32⟩
  | 116 => ⟨S4x4x16x8x1x4, .f32⟩
  | 117 => ⟨S4x4x16x8x1x4, .f32⟩
  | 118 => ⟨S4x4x16x8x8x4, .f32⟩
  | 119 => ⟨S4x4x16x8x8x4, .f32⟩
  | 120 => ⟨S4x4x16x8x8x4, .f32⟩
  | 121 => ⟨S_, .f32⟩
  | 122 => ⟨S4x4x16x8x4, .f32⟩
  | 123 => ⟨S4x16x8x4, .f32⟩
  | 124 => ⟨S4x1x16x8x4, .f32⟩
  | 125 => ⟨S4x16x8x4, .f32⟩
  | 126 => ⟨S4x1x16x8x4, .f32⟩
  | 127 => ⟨S4x16x8x4, .f32⟩
  | _ => ⟨S8x8x4x4, .f32⟩

abbrev hbmTy0_2 (i : Nat) : BufTy := match i % 128 with
  | 0 => ⟨S4x16x8x4, .f32⟩
  | 1 => ⟨S4x1x16x8x4, .f32⟩
  | 2 => ⟨S4x16x8x4, .f32⟩
  | 3 => ⟨S4x16x8x4, .f32⟩
  | 4 => ⟨S4x1x16x8x4, .f32⟩
  | 5 => ⟨S4x16x8x4, .f32⟩
  | 6 => ⟨S4x16x8x4, .f32⟩
  | 7 => ⟨S4x16x8x4, .f32⟩
  | 8 => ⟨S4x16x8x4, .f32⟩
  | 9 => ⟨S_, .f32⟩
  | 10 => ⟨S4x16x4, .f32⟩
  | 11 => ⟨S4x16x4, .f32⟩
  | 12 => ⟨S4x4x4x4, .f32⟩
  | 13 => ⟨S_, .f32⟩
  | 14 => ⟨S4x4x4, .f32⟩
  | 15 => ⟨S4x4x4, .f32⟩
  | 16 => ⟨S4x16x1x4, .f32⟩
  | 17 => ⟨S4x16x8x4, .f32⟩
  | 18 => ⟨S4x16x8x4, .f32⟩
  | 19 => ⟨S4x4x4x8x1x4, .f32⟩
  | 20 => ⟨S4x4x4x8x1x4, .f32⟩
  | 21 => ⟨S4x4x4x8x1x4, .f32⟩
  | 22 => ⟨S4x4x4x8x8x4, .f32⟩
  | 23 => ⟨S4x4x4x8x8x4, .f32⟩
  | 24 => ⟨S4x4x4x8x8x4, .f32⟩
  | 25 => ⟨S_, .f32⟩
  | 26 => ⟨S4x4x4x8x4, .f32⟩
  | 27 => ⟨S4x4x8x4, .f32⟩
  | 28 => ⟨S4x1x4x8x4, .f32⟩
  | 29 => ⟨S4x4x8x4, .f32⟩
  | 30 => ⟨S4x1x4x8x4, .f32⟩
  | 31 => ⟨S4x4x8x4, .f32⟩
  | 32 => ⟨S4x4x8x4, .f32⟩
  | 33 => ⟨S4x1x4x8x4, .f32⟩
  | 34 => ⟨S4x4x8x4, .f32⟩
  | 35 => ⟨S4x4x8x4, .f32⟩
  | 36 => ⟨S4x1x4x8x4, .f32⟩
  | 37 => ⟨S4x4x8x4, .f32⟩
  | 38 => ⟨S4x4x8x4, .f32⟩
  | 39 => ⟨S4x4x8x4, .f32⟩
  | 40 => ⟨S4x4x8x4, .f32⟩
  | 41 => ⟨S_, .f32⟩
  | 42 => ⟨S4x4x4, .f32⟩
  | 43 => ⟨S4x4x4, .f32⟩
  | 44 => ⟨S4x1x4x4, .f32⟩
  | 45 => ⟨S_, .f32⟩
  | 46 => ⟨S4x4x4, .f32⟩
  | 47 => ⟨S4x4x4, .f32⟩
  | _ => ⟨S8x8x4x4, .f32⟩

abbrev hbmTy (i : Nat) : BufTy := match i / 128 with
  | 0 => hbmTy0_0 i
  | 1 => hbmTy0_1 i
  | 2 => hbmTy0_2 i
  | _ => ⟨S8x8x4x4, .f32⟩

abbrev bufTy : (tb : Table) → Fin (tcTables nBuf tb) → BufTy
  | .hbm, ⟨i, _⟩ => hbmTy i
  | _, _ => ⟨S8x8x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_7 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_8 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_9 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_cst_10 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_cst_11 : Ref sig .tc := ⟨.hbm, 103, rfl⟩
abbrev main_v88 : Ref sig .tc := ⟨.hbm, 104, rfl⟩
abbrev main_cst_12 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_13 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_14 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_cst_15 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_cst_16 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_cst_17 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_cst_18 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_cst_19 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_cst_20 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_cst_21 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_cst_22 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_cst_23 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_cst_24 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_cst_25 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_cst_26 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_v230 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_cst_27 : Ref sig .tc := ⟨.hbm, 265, rfl⟩
abbrev main_v234 : Ref sig .tc := ⟨.hbm, 266, rfl⟩
abbrev main_v235 : Ref sig .tc := ⟨.hbm, 267, rfl⟩
abbrev main_v236 : Ref sig .tc := ⟨.hbm, 268, rfl⟩
abbrev main_cst_28 : Ref sig .tc := ⟨.hbm, 269, rfl⟩
abbrev main_v237 : Ref sig .tc := ⟨.hbm, 270, rfl⟩
abbrev main_v238 : Ref sig .tc := ⟨.hbm, 271, rfl⟩
abbrev main_v239 : Ref sig .tc := ⟨.hbm, 272, rfl⟩
abbrev main_v240 : Ref sig .tc := ⟨.hbm, 273, rfl⟩
abbrev main_v241 : Ref sig .tc := ⟨.hbm, 274, rfl⟩
abbrev main_v242 : Ref sig .tc := ⟨.hbm, 275, rfl⟩
abbrev main_v243 : Ref sig .tc := ⟨.hbm, 276, rfl⟩
abbrev main_v244 : Ref sig .tc := ⟨.hbm, 277, rfl⟩
abbrev main_v245 : Ref sig .tc := ⟨.hbm, 278, rfl⟩
abbrev main_v246 : Ref sig .tc := ⟨.hbm, 279, rfl⟩
abbrev main_v247 : Ref sig .tc := ⟨.hbm, 280, rfl⟩
abbrev main_cst_29 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_v260 : Ref sig .tc := ⟨.hbm, 294, rfl⟩
abbrev main_v261 : Ref sig .tc := ⟨.hbm, 295, rfl⟩
abbrev main_v262 : Ref sig .tc := ⟨.hbm, 296, rfl⟩
abbrev main_cst_30 : Ref sig .tc := ⟨.hbm, 297, rfl⟩
abbrev main_v263 : Ref sig .tc := ⟨.hbm, 298, rfl⟩
abbrev main_v264 : Ref sig .tc := ⟨.hbm, 299, rfl⟩
abbrev main_v265 : Ref sig .tc := ⟨.hbm, 300, rfl⟩
abbrev main_cst_31 : Ref sig .tc := ⟨.hbm, 301, rfl⟩
abbrev main_v266 : Ref sig .tc := ⟨.hbm, 302, rfl⟩
abbrev main_v267 : Ref sig .tc := ⟨.hbm, 303, rfl⟩

abbrev nD : Nat := 1
abbrev τ : Topo := Topo.v7x

variable {F : FTy → Type} [FloatOps F]
-- ==== Proof.Own.lean ====
/-
  Memory as the memrefs of a program name it. `own c q m v` says that core `c` holds, at share `q`, the elements that
  the memref `m` selects, and that reading them through `m` gives `v`. The operations of a program that copy, load,
  store and gather through memrefs are restated over it, each with the memrefs of the program on one side and the
  memrefs the proof keeps its books by on the other, equal by a hypothesis.
-/
module

public import Idealize.ShloMosaic.Lib.SparseCore.Stream
public import Idealize.ShloMosaic.Lib.Tactic

@[expose] public section

noncomputable section

namespace Cert.Proof.Own

open Idealize.ShloMosaic
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {F : FTy → Type} {Name : Type} [DecidableEq Name]
variable {U : Type} [URA U] {Lvl : Type} [Preorder Lvl] {Λ : Labels} {defs : Defs nD τ sig (Elt F) Λ}
variable (EC : UEmb Counters (MT nD τ sig Ix (Elt F) Name U Lvl)) (𝒱 : Variants) (c : Thread nD τ) (bd : Option 𝒱.V)
variable {α : Type} {Q : α → sProp (MT nD τ sig Ix (Elt F) Name U Lvl)} {sp sp' : Space} {s : Shape} {e : EltTy}

local notation "𝕄" => MT nD τ sig Ix (Elt F) Name U Lvl

/-- Core `c` holds the elements of `m` at share `q`, and they read `v`. -/
def own (q : PosShare TreeShare) (m : Memref sig c.2.kind sp s e) (v : s.Idx → Elt F e) : sProp 𝕄 :=
  iprop(∃ f : Buf (Elt F) (m.view.loc c), ⌜m.view.read (Elt F) f = v⌝ ∗ (m.view.loc c ↦[m.view.set]{q} f))

omit [Preorder Lvl] in
theorem own_intro (q : PosShare TreeShare) (m : Memref sig c.2.kind sp s e) (f : Buf (Elt F) (m.view.loc c)) :
    (m.view.loc c ↦[m.view.set]{q} f : sProp 𝕄) ⊢ own c q m (m.view.read (Elt F) f) := by
  unfold own
  iintro H
  iexists f
  isplitr
  · ipureintro; rfl
  · iexact H

/-- Two buffers that a view reads alike agree on its elements. -/
theorem eqOn_of_read {κ : Kind} (v : View sig κ sp s e) {f g : v.ty.Contents (Elt F)}
    (h : v.read (Elt F) f = v.read (Elt F) g) : ∀ i ∈ v.set, f i = g i := by
  intro i hi
  simp only [View.set, Finset.mem_map, Finset.mem_univ, true_and] at hi
  obtain ⟨x, rfl⟩ := hi
  have := congrFun h x
  rw [View.read_apply, View.read_apply] at this
  exact (cast_inj _).1 this

omit [Preorder Lvl] in
theorem pts_congr (q : PosShare TreeShare) (m : Memref sig c.2.kind sp s e) {f g : Buf (Elt F) (m.view.loc c)}
    (h : m.view.read (Elt F) f = m.view.read (Elt F) g) :
    (m.view.loc c ↦[m.view.set]{q} f : sProp 𝕄) = (m.view.loc c ↦[m.view.set]{q} g) :=
  pointsTo_congr (eqOn_of_read m.view h)

omit [Preorder Lvl] in
theorem own_elim (q : PosShare TreeShare) (m : Memref sig c.2.kind sp s e) (f : Buf (Elt F) (m.view.loc c))
    {v : s.Idx → Elt F e} (h : m.view.read (Elt F) f = v) :
    own c q m v ⊢ (m.view.loc c ↦[m.view.set]{q} f : sProp 𝕄) := by
  unfold own
  iintro ⟨%g, %hg, H⟩
  ihave H := (Entails.of_eq (pts_congr c q m (hg.trans h.symm))) $$ H
  iexact H

omit [Preorder Lvl] in
/-- The part of a memref that a rectangle selects, lent: it comes out, and giving it back unchanged restores the whole. -/
theorem own_slice (q : PosShare TreeShare) (m : Memref sig c.2.kind sp s e) (r : Rect s) (hr : ∀ a, r.stride a = 1)
    (v : s.Idx → Elt F e) :
    own c q m v ⊢ (iprop(own c q (m.slice r hr) (fun x => v (r.emb x))
      ∗ (own c q (m.slice r hr) (fun x => v (r.emb x)) -∗ own c q m v)) : sProp 𝕄) := by
  have hsub : (m.slice r hr).view.set ⊆ m.view.set := View.set_slice_subset (v := m.view) r
  unfold own
  iintro ⟨%f, %hf, H⟩
  ihave ⟨H1, H2⟩ := ((pointsTo_split_subset hsub).1) $$ H
  have hread : (m.slice r hr).view.read (Elt F) f = fun x => v (r.emb x) := by subst hf; rfl
  isplitl [H1]
  · iexists f
    isplitr
    · ipureintro; exact hread
    · iexact H1
  · iintro ⟨%g, %hg, H1⟩
    ihave H1 := (Entails.of_eq (pts_congr c q (m.slice r hr) (hg.trans hread.symm))) $$ H1
    iexists f
    isplitr
    · ipureintro; exact hf
    · iapply ((pointsTo_split_subset hsub).2)
      isplitl [H1]
      · iexact H1
      · iexact H2

omit [Preorder Lvl] in
/-- Axes of size one dropped: the same elements, read in the same order. -/
theorem own_squeeze (q : PosShare TreeShare) (m : Memref sig c.2.kind sp s e) (s' : Shape) (h : s.Squeezes s')
    (v : s.Idx → Elt F e) :
    own c q m v ⊢ (own c q (m.squeeze s' h) (fun x => v (Shape.reshapeEquiv h.numel_eq x)) : sProp 𝕄) := by
  unfold own
  iintro ⟨%f, %hf, H⟩
  iexists f
  isplitr
  · ipureintro; subst hf; rfl
  · rw [show (m.squeeze s' h).view.set = m.view.set from View.set_reshape (v := m.view) h.numel_eq]
    iexact H

omit [Preorder Lvl] in
theorem own_unsqueeze (q : PosShare TreeShare) (m : Memref sig c.2.kind sp s e) (s' : Shape) (h : s.Squeezes s')
    (v : s.Idx → Elt F e) :
    (own c q (m.squeeze s' h) (fun x => v (Shape.reshapeEquiv h.numel_eq x)) : sProp 𝕄) ⊢ own c q m v := by
  unfold own
  iintro ⟨%f, %hf, H⟩
  iexists f
  isplitr
  · ipureintro
    funext y
    obtain ⟨x, rfl⟩ := (Shape.reshapeEquiv h.numel_eq).surjective y
    exact congrFun hf x
  · rw [show (m.squeeze s' h).view.set = m.view.set from View.set_reshape (v := m.view) h.numel_eq]
    iexact H

omit [Preorder Lvl] in
theorem own_share (q : PosShare TreeShare) (m : Memref sig c.2.kind sp s e) (v : s.Idx → Elt F e) :
    own c q m v ⊢ (iprop(own c q.left m v ∗ own c q.right m v) : sProp 𝕄) := by
  unfold own
  iintro ⟨%f, %hf, H⟩
  ihave ⟨H1, H2⟩ := ((pointsTo_share (PosShare.mem_left_op_right q)).1) $$ H
  isplitl [H1]
  · iexists f
    isplitr
    · ipureintro; exact hf
    · iexact H1
  · iexists f
    isplitr
    · ipureintro; exact hf
    · iexact H2

omit [Preorder Lvl] in
theorem own_unshare (q : PosShare TreeShare) (m : Memref sig c.2.kind sp s e) (v : s.Idx → Elt F e) :
    (iprop(own c q.left m v ∗ own c q.right m v) : sProp 𝕄) ⊢ own c q m v := by
  unfold own
  iintro ⟨⟨%f, %hf, H1⟩, ⟨%g, %hg, H2⟩⟩
  ihave H2 := (Entails.of_eq (pts_congr c q.right m (hg.trans hf.symm))) $$ H2
  iexists f
  isplitr
  · ipureintro; exact hf
  · iapply ((pointsTo_share (PosShare.mem_left_op_right q)).2)
    isplitl [H1]
    · iexact H1
    · iexact H2

omit [Preorder Lvl] in
/-- Two disjoint rectangles that make up a memref: it comes apart into them, -/
theorem own_two (m : Memref sig c.2.kind sp s e) (r₀ r₁ : Rect s) (h₀ h₁)
    (hd : Disjoint r₀.set r₁.set) (hu : r₀.set ∪ r₁.set = Finset.univ) (v : s.Idx → Elt F e) :
    own c fullShare m v ⊢ (iprop((∃ v₀, own c fullShare (m.slice r₀ h₀) v₀) ∗ (∃ v₁, own c fullShare (m.slice r₁ h₁) v₁)) : sProp 𝕄) := by
  have hset : m.view.set = (m.slice r₀ h₀).view.set ∪ (m.slice r₁ h₁).view.set := by
    show m.view.set = (m.view.slice r₀).set ∪ (m.view.slice r₁).set
    rw [View.set_slice, View.set_slice, ← Finset.map_union, hu]; rfl
  have hdis : Disjoint (m.slice r₀ h₀).view.set (m.slice r₁ h₁).view.set := by
    show Disjoint (m.view.slice r₀).set (m.view.slice r₁).set
    rw [View.set_slice, View.set_slice, Finset.disjoint_map]; exact hd
  unfold own
  iintro ⟨%f, %hf, H⟩
  rw [hset]
  ihave ⟨H1, H2⟩ := ((pointsTo_union hdis).1) $$ H
  isplitl [H1]
  · iexists _, f
    isplitr
    · ipureintro; rfl
    · iexact H1
  · iexists _, f
    isplitr
    · ipureintro; rfl
    · iexact H2

omit [Preorder Lvl] in
/-- and together again. -/
theorem own_join (m : Memref sig c.2.kind sp s e) (r₀ r₁ : Rect s) (h₀ h₁)
    (hd : Disjoint r₀.set r₁.set) (hu : r₀.set ∪ r₁.set = Finset.univ) :
    (iprop((∃ v₀, own c fullShare (m.slice r₀ h₀) v₀) ∗ (∃ v₁, own c fullShare (m.slice r₁ h₁) v₁)) : sProp 𝕄)
      ⊢ ∃ v, own c fullShare m v := by
  have hset : m.view.set = (m.slice r₀ h₀).view.set ∪ (m.slice r₁ h₁).view.set := by
    show m.view.set = (m.view.slice r₀).set ∪ (m.view.slice r₁).set
    rw [View.set_slice, View.set_slice, ← Finset.map_union, hu]; rfl
  have hdis : Disjoint (m.slice r₀ h₀).view.set (m.slice r₁ h₁).view.set := by
    show Disjoint (m.view.slice r₀).set (m.view.slice r₁).set
    rw [View.set_slice, View.set_slice, Finset.disjoint_map]; exact hd
  unfold own
  rw [hset]
  iintro ⟨⟨%v₀, %f, %hf, H1⟩, ⟨%v₁, %g, %hg, H2⟩⟩
  ihave H := (pointsTo_join (ℓ := m.view.loc c) (f := f) (g := g) (q := fullShare) hdis) $$ [H1 H2]
  · isplitl [H1]
    · iexact H1
    · iexact H2
  iexists (m.view.read (Elt F) (((m.slice r₁ h₁).view.set).piecewise g f)), (((m.slice r₁ h₁).view.set).piecewise g f)
  isplitr
  · ipureintro; rfl
  · iexact H

/-- Starting a copy. -/
theorem issue [Infinite Name] [EC.LandsIn (upEmb : UEmb _ 𝕄)]
    {src src' : Memref sig c.2.kind sp s e} {dst dst' : Memref sig c.2.kind sp' s e}
    {sm sm' : SemLoc sig} {hsrc : src.view.WordExact} {hdst : dst.view.WordExact} {hsem : DmaTarget.Typed (nD := nD) sp sm (.here dst)}
    {k : PUnit → Prog (TpuEff nD τ sig (Elt F) Λ c.2) α} {q : PosShare TreeShare} {vs : s.Idx → Elt F e}
    (hs : src = src') (hd : dst = dst') (hm : sm = sm') (ι : Ix) (N : ℕ) (hN : dst.view.amount sm = N) (hN0 : 0 < N) :
    iprop(own c q src' vs ∗ (∃ vd, own c fullShare dst' vd) ∗ semVal (c, sm') 0)
      ⊢ iprop((Transfers.Flight EC c sm' ι N iprop(own c fullShare dst' vs ∗ own c q src' vs)
              -∗ wp frame (wpE defs 𝒱 c bd) Set.univ (k ⟨⟩) Q)
          -∗ wp frame (wpE defs 𝒱 c bd) Set.univ (.op (.enqueueDma src (.here dst) sm hsrc hdst hsem) k) Q) := by
  subst hs hd hm
  have key : ∀ (fs : Buf (Elt F) (src.view.loc c)) (fd : Buf (Elt F) (dst.view.loc c)), src.view.read (Elt F) fs = vs →
      iprop((dst.view.loc c ↦[dst.view.set]{fullShare} (dst.view.write (Elt F) fd ((ReadAs.same : ReadAs (Elt F) s e s e).apply (src.view.read (Elt F) fs)) Finset.univ))
        ∗ (src.view.loc c ↦[src.view.set]{q} fs))
      ⊢ (iprop(own c fullShare dst vs ∗ own c q src vs) : sProp 𝕄) := by
    intro fs fd hfs
    unfold own
    iintro ⟨H1, H2⟩
    isplitl [H1]
    · iexists (dst.view.write (Elt F) fd ((ReadAs.same : ReadAs (Elt F) s e s e).apply (src.view.read (Elt F) fs)) Finset.univ)
      isplitr
      · ipureintro; exact (View.read_write_univ (v := dst.view) fd _).trans hfs
      · iexact H1
    · iexists fs
      isplitr
      · ipureintro; exact hfs
      · iexact H2
  iintro ⟨Hs, ⟨%vd, Hd⟩, Hv⟩ Hk
  unfold own at *
  icases Hs with ⟨%fs, %hfs, Hs⟩
  icases Hd with ⟨%fd, %hfd, Hd⟩
  iapply (Transfers.wp_dmaLocal EC 𝒱 c bd ι N hN hN0 (Finset.Subset.refl _)) $$ [Hs Hd Hv]
  · isplitl [Hs]
    · iexact Hs
    isplitl [Hd]
    · iexact Hd
    · iexact Hv
  iintro Hfl
  iapply Hk
  iapply (Transfers.Flight_mono EC c (key fs fd hfs))
  iexact Hfl

/-- Starting a copy out of a rectangle of a memref that is held whole: the delivery brings the whole back. -/
theorem issueFrom [Infinite Name] [EC.LandsIn (upEmb : UEmb _ 𝕄)]
    {m : Memref sig c.2.kind sp s e} {r : Rect s} {hr : ∀ a, r.stride a = 1}
    {src : Memref sig c.2.kind sp r.shape e} {dst dst' : Memref sig c.2.kind sp' r.shape e}
    {sm sm' : SemLoc sig} {hsrc : src.view.WordExact} {hdst : dst.view.WordExact} {hsem : DmaTarget.Typed (nD := nD) sp sm (.here dst)}
    {k : PUnit → Prog (TpuEff nD τ sig (Elt F) Λ c.2) α} {q : PosShare TreeShare} {v : s.Idx → Elt F e}
    (hs : src = m.slice r hr) (hd : dst = dst') (hm : sm = sm') (ι : Ix) (N : ℕ) (hN : dst.view.amount sm = N) (hN0 : 0 < N) :
    iprop(own c q m v ∗ (∃ vd, own c fullShare dst' vd) ∗ semVal (c, sm') 0)
      ⊢ iprop((Transfers.Flight EC c sm' ι N iprop(own c fullShare dst' (fun x => v (r.emb x)) ∗ own c q m v)
              -∗ wp frame (wpE defs 𝒱 c bd) Set.univ (k ⟨⟩) Q)
          -∗ wp frame (wpE defs 𝒱 c bd) Set.univ (.op (.enqueueDma src (.here dst) sm hsrc hdst hsem) k) Q) := by
  have hmono : iprop((own c q (m.slice r hr) (fun x => v (r.emb x)) -∗ own c q m v)
        ∗ (own c fullShare dst' (fun x => v (r.emb x)) ∗ own c q (m.slice r hr) (fun x => v (r.emb x))))
      ⊢ (iprop(own c fullShare dst' (fun x => v (r.emb x)) ∗ own c q m v) : sProp 𝕄) := by
    iintro ⟨Hw, Hd, Hs⟩
    isplitl [Hd]
    · iexact Hd
    · iapply Hw; iexact Hs
  iintro ⟨Hs, Hd, Hv⟩ Hk
  ihave ⟨Hs, Hw⟩ := (own_slice c q m r hr v) $$ Hs
  iapply (issue EC 𝒱 c bd hs hd hm ι N hN hN0) $$ [Hs Hd Hv]
  · isplitl [Hs]
    · iexact Hs
    isplitl [Hd]
    · iexact Hd
    · iexact Hv
  iintro Hfl
  iapply Hk
  iapply (Transfers.Flight_mono EC c hmono)
  iapply (Transfers.Flight_frame EC c)
  iframe Hw Hfl

/-- Waiting for a copy. -/
theorem await [EC.LandsIn (upEmb : UEmb _ 𝕄)] {s' : Shape} {e' : EltTy} {κ' : Kind} {sem sem' : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} (hm : sem = sem') (ι : Ix) {N : ℕ} (hN : dstw.view.dmaCredit = N) {D : sProp 𝕄}
    {O : CellTallies nD τ sig Ix} {W : Waits sig Ix} :
    iprop(Transfers.MayWaits c ι O ∗ Transfers.Flight EC c (.dma sem') ι N D ∗ owes c O W)
      ⊢ iprop((iprop(D ∗ semVal (c, .dma sem') 0 ∗ owes c O (insert (SemLoc.dma sem', ι) W)) -∗ wp frame (wpE defs 𝒱 c bd) Set.univ (k ⟨⟩) Q)
          -∗ wp frame (wpE defs 𝒱 c bd) Set.univ (.op (.waitDma2 sem srcw dstw hsrc hdst) k) Q) := by
  subst hm
  iintro ⟨Hmw, Hf, Ho⟩ Hk
  ihave Hm := (Transfers.MayWaits.elim (SemLoc.dma sem)) $$ Hmw
  iapply (Transfers.wp_waitLocalO EC 𝒱 c bd ι hN) $$ [Hf Ho Hm]
  · isplitl [Hf]
    · iexact Hf
    isplitl [Ho]
    · iexact Ho
    · iexact Hm
  iexact Hk

/-- A load through a rectangle. -/
theorem load {cs : CoreSpace} {m m' : Memref sig c.2.kind cs s e} {r : Rect s} {hl : m.view.LoadsAt r}
    {k : (r.shape.Idx → Elt F e) → Prog (TpuEff nD τ sig (Elt F) Λ c.2) α} {q : PosShare TreeShare} {v : s.Idx → Elt F e} (hm : m = m') :
    own c q m' v
      ⊢ iprop((own c q m' v -∗ wp frame (wpE defs 𝒱 c bd) Set.univ (k (fun x => v (r.emb x))) Q)
        -∗ wp frame (wpE defs 𝒱 c bd) Set.univ (.op (.load m r hl) k) Q) := by
  subst hm
  unfold own
  iintro ⟨%f, %hf, H⟩ Hk
  have hread : (m.access r).read (Elt F) f = fun x => v (r.emb x) := by subst hf; rfl
  rw [← hread]
  iapply (wp_load_rect 𝒱 c bd Set.univ (S := m.view.set) (f := f) (View.set_slice_subset (v := m.view) r)) $$ [H]
  · iexact H
  iintro H
  iapply Hk
  iexists f
  isplitr
  · ipureintro; exact hf
  · iexact H

/-- A store through a rectangle: the memref then reads the payload there and what it read before elsewhere. -/
theorem store {cs : CoreSpace} {m m' : Memref sig c.2.kind cs s e} {r : Rect s} {w : r.shape.Idx → Elt F e} {hx hm'}
    {k : PUnit → Prog (TpuEff nD τ sig (Elt F) Λ c.2) α} {v : s.Idx → Elt F e} (hm : m = m') :
    own c fullShare m' v
      ⊢ iprop((∀ v' : s.Idx → Elt F e, ⌜(∀ x, v' (r.emb x) = w x) ∧ ∀ y, y ∉ r.set → v' y = v y⌝ -∗ own c fullShare m' v'
            -∗ wp frame (wpE defs 𝒱 c bd) Set.univ (k ⟨⟩) Q)
        -∗ wp frame (wpE defs 𝒱 c bd) Set.univ (.op (.store m r w Finset.univ hx hm') k) Q) := by
  subst hm
  unfold own
  iintro ⟨%f, %hf, H⟩ Hk
  iapply (wp_store 𝒱 c bd Set.univ (S := m.view.set) (f := f) (View.set_slice_subset (v := m.view) r)) $$ [H]
  · iexact H
  iintro H
  iapply Hk $$ %(m.view.read (Elt F) ((m.access r).write (Elt F) f w Finset.univ)) %(by
    constructor
    · intro x
      exact View.read_slice_write_emb (v := m.view) r f w (Finset.mem_univ x)
    · intro y hy
      subst hf
      refine View.read_slice_write_of_not_mem (v := m.view) r f w Finset.univ ?_
      rwa [Rect.map_emb_univ])
  iexists _
  isplitr
  · ipureintro; rfl
  · iexact H

/-- Starting an indirect gather. -/
theorem gather [Infinite Name] [EC.LandsIn (upEmb : UEmb _ 𝕄)] {s₀ si : Shape} {a : Nat}
    {src src' : Memref sig c.2.kind sp s₀ e} {dst : Memref sig c.2.kind .vmem s e} {hg : s₀.Gathers a s}
    {offs offs' : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {vs : s₀.Idx → Elt F e} {vd : s.Idx → Elt F e} {vo : si.Idx → Elt F .i32}
    (hs' : src = src') (ho' : offs = offs')
    (ι : Ix) (N : ℕ) (hN : ∑ j, (dst.slice (s.rowRect hg.axis' j) (s.stride_rowRect hg.axis' j)).view.dmaCredit = N)
    (hs : 0 < s.numel) (hin : ∀ x, (vo x).toNat < s₀.size hg.axis) :
    iprop(own c q src' vs ∗ own c fullShare dst vd ∗ own c qo offs' vo ∗ semVal (c, SemLoc.dma sem) 0)
      ⊢ iprop((Transfers.Flight EC c (.dma sem) ι N
                iprop(own c fullShare dst (SparseCore.gatherPayload hg vs (SparseCore.rows vo hn hin)) ∗ own c q src' vs ∗ own c qo offs' vo)
              -∗ wp frame (wpE defs 𝒱 c bd) Set.univ (k ⟨⟩) Q)
          -∗ wp frame (wpE defs 𝒱 c bd) Set.univ (SparseCore.enqueueIndirectGather hp src dst hg offs hn sem hsrc he hsp hr >>= k) Q) := by
  subst hs' ho'
  have key : ∀ (fs : Buf (Elt F) (src.view.loc c)) (fd : Buf (Elt F) (dst.view.loc c)) (fo : Buf (Elt F) (offs.view.loc c))
      (hfs : src.view.read (Elt F) fs = vs) (hfo : offs.view.read (Elt F) fo = vo) (hin' : ∀ x, (offs.view.read (Elt F) fo x).toNat < s₀.size hg.axis),
      iprop((dst.view.loc c ↦[dst.view.set]{fullShare}
                        (dst.view.write (Elt F) fd (SparseCore.gatherPayload hg (src.view.read (Elt F) fs) (SparseCore.rows (offs.view.read (Elt F) fo) hn hin')) Finset.univ))
                  ∗ (src.view.loc c ↦[src.view.set]{q} fs) ∗ (offs.view.loc c ↦[offs.view.set]{qo} fo))
      ⊢ (iprop(own c fullShare dst (SparseCore.gatherPayload hg vs (SparseCore.rows vo hn hin)) ∗ own c q src vs ∗ own c qo offs vo) : sProp 𝕄) := by
    intro fs fd fo hfs hfo hin'
    subst hfs hfo
    unfold own
    iintro ⟨H1, H2, H3⟩
    isplitl [H1]
    · iexists (dst.view.write (Elt F) fd (SparseCore.gatherPayload hg (src.view.read (Elt F) fs) (SparseCore.rows (offs.view.read (Elt F) fo) hn hin')) Finset.univ)
      isplitr
      · ipureintro; exact View.read_write_univ (v := dst.view) fd _
      · iexact H1
    isplitl [H2]
    · iexists fs
      isplitr
      · ipureintro; rfl
      · iexact H2
    · iexists fo
      isplitr
      · ipureintro; rfl
      · iexact H3
  iintro ⟨Hs, Hd, Ho, Hv⟩ Hk
  unfold own at *
  icases Hs with ⟨%fs, %hfs, Hs⟩
  icases Hd with ⟨%fd, %hfd, Hd⟩
  icases Ho with ⟨%fo, %hfo, Ho⟩
  iapply (SparseCore.wp_indirectGatherLocal EC 𝒱 c bd ι N hN hs (hfo.symm ▸ hin)) $$ [Hs Hd Ho Hv]
  · isplitl [Hs]
    · iexact Hs
    isplitl [Hd]
    · iexact Hd
    isplitl [Ho]
    · iexact Ho
    · iexact Hv
  iintro Hfl
  iapply Hk
  iapply (Transfers.Flight_mono EC c (key fs fd fo hfs hfo _))
  iexact Hfl

end Cert.Proof.Own
-- ==== Proof.Words.lean ====
/-
  The words of the gather kernel's pipeline: how many steps a tile does, which block of rows each step is, and what
  the five carried counters are before each trip. Everything here is closed arithmetic on the two coordinates of the
  tile and the number of the trip, decided case by case.
-/
module

public import proofs.«01_k».proof.Proof.Gen.KernelIdeal
public import proofs.«01_k».proof.Proof.Gen.KernelIdeal.Skeleton

@[expose] public section

set_option maxRecDepth 16384

namespace Cert.Proof.Words

open Idealize.ShloMosaic Cert.KernelIdeal Cert.KernelIdeal.Gen

/-- The steps a tile does: the tiles of the first SparseCore do 22, those of the second 21. -/
def nT (i : grid0.Coords) : ℕ := if (i 0).val = 0 then 22 else 21

/-- The first block of rows of a tile. -/
def bT (i : grid0.Coords) : ℕ := if (i 0).val = 0 then 22 * (i 1).val else 352 + 21 * (i 1).val

/-- The carried counters before trip `k`: the next block to fetch, the block to wait for, the block to send, the block
    sent last, and the step itself (which starts over at the end). -/
def w7 (i : grid0.Coords) (k : ℕ) : BitVec 32 := BitVec.ofNat 32 (min (k + 1) (nT i))
def w8 (k : ℕ) : BitVec 32 := BitVec.ofNat 32 k
def w10 (k : ℕ) : BitVec 32 := BitVec.ofNat 32 (k - 1)
def w11 (i : grid0.Coords) (k : ℕ) : BitVec 32 := BitVec.ofNat 32 (k % nT i)

theorem nT_pos (i : grid0.Coords) : 0 < nT i := by unfold nT; split <;> decide
theorem nT_le (i : grid0.Coords) : nT i ≤ 22 := by unfold nT; split <;> decide
theorem bT_add_nT_le : ∀ i : grid0.Coords, bT i + nT i ≤ 688 := by decide +kernel

theorem trips1 : ∀ i : grid0.Coords, (k0_t1_loop i).trips = nT i := by decide +kernel
theorem trips3 : ∀ i : grid0.Coords, (k0_t3_loop i).trips = 0 := by decide +kernel
theorem trips2 : k0_t2_loop.trips = 128 := by decide +kernel

theorem cond1 : ∀ i : grid0.Coords, k0_cond1 i = 1#1 := by decide +kernel
theorem cond2 : ∀ i : grid0.Coords, k0_cond2 i = 1#1 := by decide +kernel
theorem cond18 : ∀ i : grid0.Coords, k0_cond18 i = 1#1 := by decide +kernel
theorem off2 : ∀ i : grid0.Coords, k0_off2 i = ![0, 128 * bT i] := by decide +kernel

theorem cond3 : ∀ (i : grid0.Coords) (k : Fin (k0_t1_loop i).trips),
    k0_cond3 i k (w11 i k) = if k.val + 1 < nT i then 1#1 else 0#1 := by decide +kernel
theorem cond4 : ∀ (i : grid0.Coords) (k : Fin (k0_t1_loop i).trips), k0_cond4 i k (w11 i k) = 1#1 := by decide +kernel
theorem cond7 : ∀ (i : grid0.Coords) (k : Fin (k0_t1_loop i).trips), k0_cond7 i k (w11 i k) = 1#1 := by decide +kernel
theorem cond9 : ∀ (i : grid0.Coords) (k : Fin (k0_t1_loop i).trips),
    k0_cond9 i k (w11 i k) = if k.val = 0 then 0#1 else 1#1 := by decide +kernel

theorem off4 : ∀ (i : grid0.Coords) (k : Fin (k0_t1_loop i).trips), k.val + 1 < nT i → k0_off4 (w7 i k) = ![(k.val + 1) % 2, 0, 0] := by
  decide +kernel
theorem off6 : ∀ (i : grid0.Coords) (k : Fin (k0_t1_loop i).trips), k.val + 1 < nT i → k0_off6 (w7 i k) = ![(k.val + 1) % 2] := by
  decide +kernel
theorem off5 : ∀ (i : grid0.Coords) (k : Fin (k0_t1_loop i).trips), k.val + 1 < nT i →
    k0_off5 i (w11 i k) = ![0, 128 * (bT i + (k.val + 1))] := by decide +kernel
theorem off7 : ∀ k : Fin 22, k0_off7 (w8 k) = ![k.val % 2, 0, 0] := by decide +kernel
theorem off8 : ∀ (i : grid0.Coords) (k : Fin (k0_t1_loop i).trips), k0_off8 i (w11 i k) = ![0, 128 * (bT i + k.val)] := by decide +kernel
theorem off9 : ∀ k : Fin 22, k0_off9 (w8 k) = ![k.val % 2] := by decide +kernel
theorem off10 : ∀ k : Fin 22, k0_off10 (w8 k) = ![k.val % 2, 0, 0] := by decide +kernel
theorem off12 : ∀ k : Fin 22, k0_off12 (w8 k) = ![k.val % 2, 0, 0] := by decide +kernel
theorem off16 : ∀ k : Fin 22, k0_off16 (w8 k) = ![k.val % 2, 0, 0] := by decide +kernel
theorem off17 : ∀ (i : grid0.Coords) (k : Fin (k0_t1_loop i).trips), k0_off17 i (w11 i k) = ![128 * (bT i + k.val), 0] := by decide +kernel
theorem off18 : ∀ k : Fin 22, k0_off18 (w8 k) = ![k.val % 2] := by decide +kernel
theorem off19 : ∀ k : Fin 22, 0 < k.val → k0_off19 (w10 k) = ![(k.val - 1) % 2, 0, 0] := by decide +kernel
theorem off20 : ∀ (i : grid0.Coords) (k : Fin (k0_t1_loop i).trips), 0 < k.val →
    k0_off20 i (w11 i k) = ![128 * (bT i + (k.val - 1)), 0] := by decide +kernel
theorem off21 : ∀ k : Fin 22, 0 < k.val → k0_off21 (w10 k) = ![(k.val - 1) % 2] := by decide +kernel
theorem off41 : ∀ i : grid0.Coords, k0_off41 i (w11 i (nT i)) = ![128 * (bT i + (nT i - 1)), 0] := by decide +kernel
theorem off42 : ∀ i : grid0.Coords, k0_off42 (w10 (nT i)) = ![(nT i - 1) % 2] := by decide +kernel
theorem off43 : ∀ i : grid0.Coords, k0_off43 (w10 (nT i)) = ![(nT i - 1) % 2, 0, 0] := by decide +kernel

/-- The side conditions the kernel assumes of the carried counters. -/
theorem chk1 : ∀ (i : grid0.Coords) (k : Fin (k0_t1_loop i).trips), k0_chk1 i k (w7 i k) (w8 k) (w8 k) (w10 k) (w11 i k) := by
  decide +kernel
theorem chk2 : ∀ (i : grid0.Coords) (k : Fin 22), k0_chk2 i (w8 k) := by decide +kernel
theorem chk3 : ∀ (i : grid0.Coords) (k : Fin 22), k0_chk3 i (w8 k) := by decide +kernel
theorem chk7 : ∀ i : grid0.Coords, k0_chk7 i (w10 (nT i)) := by decide +kernel
theorem chk8 : ∀ i : grid0.Coords, k0_chk8 i (w11 i (nT i)) := by decide +kernel

end Cert.Proof.Words
-- ==== Proof.Tile.lean ====
/-
  One tile of the gather kernel. The tile walks its blocks of 128 rows with two slots for the index words and two for
  the rows: while it gathers the rows of one block, the index words of the next are on their way in and the rows of the
  one before are on their way out. The proof keeps, before each trip, one copy in flight or one free slot on each side
  for each parity of the block's number.
-/
module

public import proofs.«01_k».proof.Proof.Own
public import proofs.«01_k».proof.Proof.Words
public import Idealize.ShloMosaic.Lib.SparseCore.Quiescent
public import Idealize.ShloMosaic.Lib.SparseCore.Ops
public import Idealize.ShloMosaic.Lib.StableHlo.Run
public import Idealize.ShloMosaic.Lib.Pipeline.Kit

@[expose] public section

set_option maxRecDepth 16384

noncomputable section

namespace Cert.Proof.Tile

open Cert.KernelIdeal Cert.KernelIdeal.Gen Cert.Proof.Words Cert.Proof.Own

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

abbrev UH : Type := URounds (GSem nD τ sig) ℕ
abbrev UU : Type := UH × Counters

variable {F : FTy → Type}

local notation "𝕄" => MT nD τ sig (HIx 4) (Elt F) ℕ UU ℕ

/-! ## The memrefs of the pipeline -/

abbrev thr (d : Dev nD) (i : grid0.Coords) : Thread nD τ := (d, .scVector ((i 0).castLE hcore0) ((i 1).castLE hsub0))

theorem inbI (k : ℕ) : ∀ a, (![k % 2, 0, 0] : Fin 3 → ℕ) a + S1x1x128.size a ≤ S2x1x128.size a := by
  intro a
  have : k % 2 < 2 := Nat.mod_lt _ (by decide)
  fin_cases a
  · show k % 2 + 1 ≤ 2; omega
  · show 0 + 1 ≤ 1; omega
  · show 0 + 128 ≤ 128; omega

theorem inbO (k : ℕ) : ∀ a, (![k % 2, 0, 0] : Fin 3 → ℕ) a + S1x128x32.size a ≤ S2x128x32.size a := by
  intro a
  have : k % 2 < 2 := Nat.mod_lt _ (by decide)
  fin_cases a
  · show k % 2 + 1 ≤ 2; omega
  · show 0 + 128 ≤ 128; omega
  · show 0 + 32 ≤ 32; omega

theorem inbS (k : ℕ) : ∀ a, (![k % 2] : Fin 1 → ℕ) a + S1.size a ≤ S2.size a := by
  intro a
  have : k % 2 < 2 := Nat.mod_lt _ (by decide)
  fin_cases a
  show k % 2 + 1 ≤ 2; omega

theorem inbWI (w : ℕ) : ∀ a, (![0, 128 * (w % 688)] : Fin 2 → ℕ) a + S1x128.size a ≤ S1x88064.size a := by
  intro a
  have : w % 688 < 688 := Nat.mod_lt _ (by decide)
  fin_cases a
  · show 0 + 1 ≤ 1; omega
  · show 128 * (w % 688) + 128 ≤ 88064; omega

theorem inbWO (w : ℕ) : ∀ a, (![128 * (w % 688), 0] : Fin 2 → ℕ) a + S128x32.size a ≤ S88064x32.size a := by
  intro a
  have : w % 688 < 688 := Nat.mod_lt _ (by decide)
  fin_cases a
  · show 128 * (w % 688) + 128 ≤ 88064; omega
  · show 0 + 32 ≤ 32; omega

abbrev rI (k : ℕ) : Rect S2x1x128 := Rect.unit (s := S2x1x128) ![k % 2, 0, 0] S1x1x128.size (inbI k)
abbrev rO (k : ℕ) : Rect S2x128x32 := Rect.unit (s := S2x128x32) ![k % 2, 0, 0] S1x128x32.size (inbO k)
abbrev rWI (w : ℕ) : Rect S1x88064 := Rect.unit (s := S1x88064) ![0, 128 * (w % 688)] S1x128.size (inbWI w)
abbrev rWO (w : ℕ) : Rect S88064x32 := Rect.unit (s := S88064x32) ![128 * (w % 688), 0] S128x32.size (inbWO w)

/-- The slot of the index words of step `k`, that of its rows, the semaphore of step `k`, and the rows of block `w`. -/
abbrev slotI (al : Memref sig .scVector .vmem S2x1x128 .i32) (k : ℕ) : Memref sig .scVector .vmem S1x128 .i32 :=
  (al.slice (rI k) (fun _ => rfl)).squeeze S1x128 squeezes_S1x1x128_S1x128
abbrev slotO (ao : Memref sig .scVector .vmem S2x128x32 .f32) (k : ℕ) : Memref sig .scVector .vmem S128x32 .f32 :=
  (ao.slice (rO k) (fun _ => rfl)).squeeze S128x32 squeezes_S1x128x32_S128x32
abbrev semOf (v : DmaSems sig S2) (k : ℕ) : DmaSem sig :=
  ((v.slice (Rect.unit (s := S2) ![k % 2] S1.size (inbS k))).squeeze S_ squeezes_S1_S_).sem
abbrev winO (a4 : Memref sig .scVector .hbm S88064x32 .f32) (w : ℕ) : Memref sig .scVector .hbm S128x32 .f32 :=
  a4.slice (rWO w) (fun _ => rfl)

theorem slotI_congr (al : Memref sig .scVector .vmem S2x1x128 .i32) {k k' : ℕ} (h : k % 2 = k' % 2) : slotI al k = slotI al k' := by
  unfold slotI; rw [Memref.slice_unit_congr al (off' := ![k' % 2, 0, 0]) (by rw [h]) (inbI k) (inbI k')]
theorem slotO_congr (ao : Memref sig .scVector .vmem S2x128x32 .f32) {k k' : ℕ} (h : k % 2 = k' % 2) : slotO ao k = slotO ao k' := by
  unfold slotO; rw [Memref.slice_unit_congr ao (off' := ![k' % 2, 0, 0]) (by rw [h]) (inbO k) (inbO k')]
theorem semOf_congr (v : DmaSems sig S2) {k k' : ℕ} (h : k % 2 = k' % 2) : semOf v k = semOf v k' := by
  unfold semOf; rw [SemArray.slice_unit_congr v (off' := ![k' % 2]) (by rw [h]) (inbS k) (inbS k')]

theorem slotI_eq (al : Memref sig .scVector .vmem S2x1x128 .i32) {k : ℕ} {off : Fin 3 → ℕ} (h : off = ![k % 2, 0, 0]) (p) :
    (al.slice (Rect.unit (s := S2x1x128) off S1x1x128.size p) (fun _ => rfl)).squeeze S1x128 squeezes_S1x1x128_S1x128 = slotI al k := by
  subst h; rfl
theorem slotO_eq (ao : Memref sig .scVector .vmem S2x128x32 .f32) {k : ℕ} {off : Fin 3 → ℕ} (h : off = ![k % 2, 0, 0]) (p) :
    (ao.slice (Rect.unit (s := S2x128x32) off S1x128x32.size p) (fun _ => rfl)).squeeze S128x32 squeezes_S1x128x32_S128x32 = slotO ao k := by
  subst h; rfl
theorem semOf_eq (v : DmaSems sig S2) {k : ℕ} {off : Fin 1 → ℕ} (h : off = ![k % 2]) (p) :
    ((v.slice (Rect.unit (s := S2) off S1.size p)).squeeze S_ squeezes_S1_S_).sem = semOf v k := by
  subst h; rfl
theorem amount_eq {κ : Kind} {sp : Space} {s : Shape} {e : EltTy} {m m' : Memref sig κ sp s e} (h : m = m') (sm : DmaSem sig) :
    m.view.amount (SemLoc.dma sm) = m'.view.dmaCredit := by
  subst h; rfl
theorem winO_eq (a4 : Memref sig .scVector .hbm S88064x32 .f32) {w : ℕ} (hw : w < 688) {off : Fin 2 → ℕ} (h : off = ![128 * w, 0]) (p) :
    a4.slice (Rect.unit (s := S88064x32) off S128x32.size p) (fun _ => rfl) = winO a4 w :=
  Memref.slice_unit_congr a4 (by rw [h, Nat.mod_eq_of_lt hw]) _ _ _ _
theorem winI_eq (a3 : Memref sig .scVector .hbm S1x88064 .i32) {w : ℕ} (hw : w < 688) {off : Fin 2 → ℕ} (h : off = ![0, 128 * w]) (p) :
    a3.slice (Rect.unit (s := S1x88064) off S1x128.size p) (fun _ => rfl) = a3.slice (rWI w) (fun _ => rfl) :=
  Memref.slice_unit_congr a3 (by rw [h, Nat.mod_eq_of_lt hw]) _ _ _ _

/-! ## What the tile reads and what it leaves -/

/-- The rows named by the index words: row `r` of the result is the row of the table that word `r` names, cut to the
    first 32 of its 128 columns. -/
def outV (tab : S256x128.Idx → Elt F .f32) (idx : S1x88064.Idx → Elt F .i32) (hidx : ∀ x, (idx x).toNat < 256) :
    S88064x32.Idx → Elt F .f32 := fun y =>
  tab (Shape.pair (d := ![256, 128]) ⟨(idx (Shape.pair (d := ![1, 88064]) ⟨0, by decide⟩ (y 0))).toNat, hidx _⟩
    ⟨(y 1).val, lt_of_lt_of_le (y 1).isLt (by decide)⟩)

/-- The index words of block `w`, and the rows of block `w`. -/
def idxB (idx : S1x88064.Idx → Elt F .i32) (w : ℕ) : S1x128.Idx → Elt F .i32 := fun x => idx ((rWI w).emb x)
def outB (tab : S256x128.Idx → Elt F .f32) (idx : S1x88064.Idx → Elt F .i32) (hidx : ∀ x, (idx x).toNat < 256) (w : ℕ) :
    S128x32.Idx → Elt F .f32 := fun x => outV tab idx hidx ((rWO w).emb x)

section Body

variable [FloatOps F] (d : Dev nD) (i : grid0.Coords)
variable (a2 : Memref sig .scVector .hbm S256x128 .f32) (h2 : a2.IsWhole) (a3 : Memref sig .scVector .hbm S1x88064 .i32) (h3 : a3.IsWhole)
variable (a4 : Memref sig .scVector .hbm S88064x32 .f32) (h4 : a4.IsWhole) (a5 : Memref sig .scVector .vmem S128x128 .f32) (h5 : a5.IsWhole)
variable (al : Memref sig .scVector .vmem S2x1x128 .i32) (hal : al.IsWhole) (v12 : DmaSems sig S2)
variable (ao : Memref sig .scVector .vmem S2x128x32 .f32) (hao : ao.IsWhole) (v13 : DmaSems sig S2) (v168 v169 : DmaSems sig S_)
variable (q : PosShare TreeShare) (tab : S256x128.Idx → Elt F .f32) (idx : S1x88064.Idx → Elt F .i32) (hidx : ∀ x, (idx x).toNat < 256)
variable (O : CellTallies nD τ sig (HIx 4)) (W : Waits sig (HIx 4))

/-- The half of the share of the index array that the copies of step `k`'s parity use. -/
def qI (k : ℕ) : PosShare TreeShare := if k % 2 = 0 then q.left else q.right

/-- The side of the index words at step `k`: free, or its block on the way in. -/
def freeI (k : ℕ) : sProp 𝕄 :=
  iprop(own (thr d i) (qI q k) a3 idx ∗ (∃ v, own (thr d i) fullShare (slotI al k) v) ∗ semVal (thr d i, SemLoc.dma (semOf v12 k)) 0)
def flyI (k : ℕ) : sProp 𝕄 :=
  Transfers.Flight countersEmb (thr d i) (.dma (semOf v12 k)) default (slotI al k).view.dmaCredit
    iprop(own (thr d i) fullShare (slotI al k) (idxB idx (bT i + k)) ∗ own (thr d i) (qI q k) a3 idx)

/-- The side of the rows at step `k`: free, or its block on the way out. -/
def freeO (k : ℕ) : sProp 𝕄 :=
  iprop((∃ v, own (thr d i) fullShare (slotO ao k) v) ∗ semVal (thr d i, SemLoc.dma (semOf v13 k)) 0)
def flyO (k : ℕ) : sProp 𝕄 :=
  Transfers.Flight countersEmb (thr d i) (.dma (semOf v13 k)) default (winO a4 (bT i + k)).view.dmaCredit
    iprop(own (thr d i) fullShare (winO a4 (bT i + k)) (outB tab idx hidx (bT i + k))
      ∗ own (thr d i) fullShare (slotO ao k) (outB tab idx hidx (bT i + k)))

/-- What the tile has waited for, beyond what it had before. -/
def owesW : sProp 𝕄 := iprop(∃ W', ⌜∀ p ∈ W', p ∈ W ∨ p.2 = none⌝ ∗ owes (thr d i) O W')

theorem freeI_congr {k k' : ℕ} (h : k % 2 = k' % 2) :
    (freeI (F := F) d i a3 al v12 q idx k) = freeI d i a3 al v12 q idx k' := by
  unfold freeI qI; rw [h, slotI_congr al h, semOf_congr v12 h]
theorem freeO_congr {k k' : ℕ} (h : k % 2 = k' % 2) :
    (freeO (F := F) d i ao v13 k) = freeO d i ao v13 k' := by
  unfold freeO; rw [slotO_congr ao h, semOf_congr v13 h]

theorem lt_nT (k : Fin (k0_t1_loop i).trips) : k.val < nT i := lt_of_lt_of_eq k.isLt (trips1 i)
theorem lt_22 (k : Fin (k0_t1_loop i).trips) : k.val < 22 := lt_of_lt_of_le (lt_nT i k) (nT_le i)

/-- Starting the copy of the index words of step `k`. -/
theorem issueIn {k : ℕ} (hk : bT i + k < 688) {oD oS oM} (hD : oD = ![k % 2, 0, 0]) (hS : oS = ![0, 128 * (bT i + k)]) (hM : oM = ![k % 2])
    {pD pS pM} {hsrc hdst hsem} {α : Type} {kk : PUnit → Prog (TpuEff nD τ sig (Elt F) Λ₀ (thr d i).2) α} {Q : α → sProp 𝕄} :
    freeI d i a3 al v12 q idx k
      ⊢ iprop((flyI d i a3 al v12 q idx k -∗ wp frame (wpE (defs₀ (F := F)) Variants.none (thr d i) none) Set.univ (kk ⟨⟩) Q)
          -∗ wp frame (wpE (defs₀ (F := F)) Variants.none (thr d i) none) Set.univ
            (.op (.enqueueDma (a3.slice (Rect.unit (s := S1x88064) oS S1x128.size pS) (fun _ => rfl))
              (.here ((al.slice (Rect.unit (s := S2x1x128) oD S1x1x128.size pD) (fun _ => rfl)).squeeze S1x128 squeezes_S1x1x128_S1x128))
              (.dma ((v12.slice (Rect.unit (s := S2) oM S1.size pM)).squeeze S_ squeezes_S1_S_).sem) hsrc hdst hsem) kk) Q) := by
  subst hD hM
  have hS' : oS = ![0, 128 * ((bT i + k) % 688)] := by rw [hS, Nat.mod_eq_of_lt hk]
  subst hS'
  have hN0 : 0 < (slotI al k).view.dmaCredit := View.dmaCredit_pos _ (by decide)
  have hN : (slotI al k).view.amount (SemLoc.dma (semOf v12 k)) = (slotI al k).view.dmaCredit := amount_eq rfl _
  unfold freeI flyI idxB
  exact issueFrom (m := a3) (r := rWI (bT i + k)) (hr := fun _ => rfl) countersEmb Variants.none (thr d i) none rfl rfl rfl default
    (slotI al k).view.dmaCredit hN hN0

abbrev Ret1 (k : Fin (k0_t1_loop i).trips) : Type :=
  Σ' (k0_hw3 : k0_chk3 i (w8 k)) (k0_hw2 : k0_chk2 i (w8 k)) (k0_hw1 : k0_chk1 i k (w7 i k) (w8 k) (w8 k) (w10 k) (w11 i k)) (arg6_r0 : BitVec 32) (v80_r0 : BitVec 32) (v81_r0 : BitVec 1) (v83_r0 : BitVec 1) (v84_r0 : BitVec 32) (v90_r0 : BitVec 32) (v95_r0 : BitVec 32) (v112_r0 : BitVec 32) (v113_r0 : BitVec 1), BitVec 32

/-- The words of a trip, from the counters before it: its number and whether it is the first or the last, its block
    and the blocks before and after it. -/
def x80 (v5 : BitVec 32) : BitVec 32 := Scalar.muli 1#32 v5
def x6 (k : ℕ) : BitVec 32 := Scf.iv 0#32 1#32 k
def x81 (k : ℕ) : BitVec 1 := Scalar.cmpi .eq (x6 k) 0#32
def x83 (v5 : BitVec 32) (k : ℕ) : BitVec 1 := Scalar.cmpi .eq (x6 k) (Scalar.subi (x80 v5) 1#32)
def x84 (v10 : BitVec 32) (i : grid0.Coords) (k : ℕ) : BitVec 32 := Scalar.addi (w11 i k) v10
def x90 (v5 v10 : BitVec 32) (i : grid0.Coords) (k : ℕ) : BitVec 32 :=
  Scalar.addi (Scalar.select (Scalar.cmpi .eq (Scalar.select 1#1 (Scalar.subi (w11 i k) 1#32) (w11 i k)) 4294967295#32) (Scalar.subi v5 1#32)
    (Scalar.select 1#1 (Scalar.subi (w11 i k) 1#32) (w11 i k))) v10
def x95 (v5 v10 : BitVec 32) (i : grid0.Coords) (k : ℕ) : BitVec 32 :=
  Scalar.addi (Scalar.select (Scalar.cmpi .eq (Scalar.select 1#1 (Scalar.addi (w11 i k) 1#32) (w11 i k)) v5) 0#32
    (Scalar.select 1#1 (Scalar.addi (w11 i k) 1#32) (w11 i k))) v10
def x112 (v5 v10 : BitVec 32) (i : grid0.Coords) (k : ℕ) : BitVec 32 :=
  Scalar.select (Scalar.andi (Scalar.andi (Scalar.cmpi .ne (x84 v10 i k) (x95 v5 v10 i k))
    (Scalar.xori (Scalar.cmpi .sge (x6 k) (Scalar.addi (Scalar.subi (x80 v5) 2#32) 1#32)) 1#1)) 1#1) (Scalar.addi (w7 i k) 1#32) (w7 i k)
def x113 (v5 v10 : BitVec 32) (i : grid0.Coords) (k : ℕ) : BitVec 1 := Scalar.cmpi .ne (x84 v10 i k) (x95 v5 v10 i k)

def ret1 (v5 v10 : BitVec 32) (k : Fin (k0_t1_loop i).trips) : Ret1 i k :=
  ⟨chk3 i ⟨k, lt_22 i k⟩, chk2 i ⟨k, lt_22 i k⟩, chk1 i k, x6 k, x80 v5, x81 k, x83 v5 k, x84 v10 i k, x90 v5 v10 i k, x95 v5 v10 i k,
    x112 v5 v10 i k, x113 v5 v10 i k, 2#32⟩

set_option maxHeartbeats 4000000 in
theorem part1_wp (v5 v10 : BitVec 32) (h1 : k0_cond1 i = 1#1) (k : Fin (k0_t1_loop i).trips) {Ψ : Ret1 i k → sProp 𝕄} :
    freeI d i a3 al v12 q idx (k.val + 1)
      ⊢ iprop(((if k.val + 1 < nT i then flyI d i a3 al v12 q idx (k.val + 1) else freeI d i a3 al v12 q idx (k.val + 1))
            -∗ Ψ (ret1 i v5 v10 k))
          -∗ wp frame (wpE (defs₀ (F := F)) Variants.none (thr d i) none) Set.univ
            (k0_part1 i a2 h2 a3 h3 a4 h4 a5 h5 al hal v12 ao hao v13 v168 v169 v5 v10 h1 0#32 1#32 k (w7 i k) (w8 k) (w8 k) (w10 k) (w11 i k)) Ψ) := by
  rw [k0_part1_eq_skeleton]; unfold k0_part1_skel
  simp only [Prog.lift, Prog.bind_op, Prog.bind_ret]
  unfold ret1 x112 x113 x95 x90 x84 x83 x81 x80 x6
  iintro Hf Hk
  iapply (wp_assume _ _ _ _ (chk3 i ⟨k, lt_22 i k⟩))
  iapply (wp_assume _ _ _ _ (chk2 i ⟨k, lt_22 i k⟩))
  iapply (wp_assume _ _ _ _ (chk1 i k))
  simp only [Prog.bind_op, Prog.bind_ret]
  by_cases hk : k.val + 1 < nT i
  · have hc : k0_cond3 i k (w11 i k) = 1#1 := (cond3 i k).trans (if_pos hk)
    rw [dif_pos hc, if_pos hk]
    iapply (issueIn (k := k.val + 1) d i a3 al v12 q idx (by have := bT_add_nT_le i; omega) (off4 i k hk) (off5 i k hk) (off6 i k hk)) $$ [Hf]
    · iexact Hf
    iintro Hf
    rw [wp_pure]
    imodintro
    iapply Hk
    iexact Hf
  · have hc : ¬ k0_cond3 i k (w11 i k) = 1#1 := by rw [cond3 i k, if_neg hk]; decide
    rw [dif_neg hc, if_neg hk, wp_pure]
    imodintro
    iapply Hk
    iexact Hf

end Body

end Cert.Proof.Tile
-- ==== Proof.Copy.lean ====
/-
  The copy of the gathered rows into the slot of the way out: row by row, two strips of sixteen columns each. After the
  trips the slot holds the first 32 of the 128 columns of the scratch.
-/
module

public import proofs.«01_k».proof.Proof.Tile
public import Idealize.ShloMosaic.Lib.Pipeline.Value

@[expose] public section

set_option maxRecDepth 16384

noncomputable section

namespace Cert.Proof.Tile

open Cert.KernelIdeal Cert.KernelIdeal.Gen Cert.Proof.Words Cert.Proof.Own

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-- The first 32 columns of 128. -/
def cut {α : Type} (g : S128x128.Idx → α) : S128x32.Idx → α := fun y =>
  g (Shape.pair (d := ![128, 128]) (y 0) ⟨(y 1).val, lt_of_lt_of_le (y 1).isLt (by decide)⟩)

/-- The rows before `t` are the scratch's. -/
def copied {α : Type} (g : S128x128.Idx → α) (t : ℕ) (v : S128x32.Idx → α) : Prop := ∀ y, (y 0).val < t → v y = cut g y

/-- One strip stored: sixteen columns of row `t` from column `b` on. -/
theorem strip {α : Type} {g : S128x128.Idx → α} {v v' : S128x32.Idx → α} {t b : ℕ} {o₁ o₂ : Fin 2 → ℕ} (h₁ : o₁ = ![t, b]) (h₂ : o₂ = ![t, b])
    {p₁ p₂}
    (hw : ∀ x, v' ((Rect.unit (s := S128x32) o₂ S1x16.size p₂).emb x) = g ((Rect.unit (s := S128x128) o₁ S1x16.size p₁).emb x))
    (hk : ∀ y, y ∉ (Rect.unit (s := S128x32) o₂ S1x16.size p₂).set → v' y = v y) (y : S128x32.Idx) :
    v' y = if (y 0).val = t ∧ b ≤ (y 1).val ∧ (y 1).val < b + 16 then cut g y else v y := by
  subst h₁ h₂
  split
  case isTrue h =>
    have hx : (Rect.unit (s := S128x32) ![t, b] S1x16.size p₂).emb (Shape.pair (d := ![1, 16]) ⟨0, by decide⟩ ⟨(y 1).val - b, by
        show (y 1).val - b < 16; omega⟩) = y := by
      funext a; apply Fin.ext; fin_cases a
      · show t + 1 * 0 = (y 0).val; omega
      · show b + 1 * ((y 1).val - b) = (y 1).val; omega
    rw [← hx, hw]
    unfold cut
    congr 1
    funext a; fin_cases a <;> rfl
  case isFalse h =>
    refine hk y fun hy => h ?_
    have := Rect.mem_set_unit.1 hy
    have h0 : t ≤ (y 0).val ∧ (y 0).val < t + 1 := this 0
    have h1 : b ≤ (y 1).val ∧ (y 1).val < b + 16 := this 1
    omega

theorem copied_step {α : Type} {g : S128x128.Idx → α} {v v' v'' : S128x32.Idx → α} {t : ℕ} (hv : copied g t v)
    (h₁ : ∀ y : S128x32.Idx, v' y = if (y 0).val = t ∧ 0 ≤ (y 1).val ∧ (y 1).val < 0 + 16 then cut g y else v y)
    (h₂ : ∀ y : S128x32.Idx, v'' y = if (y 0).val = t ∧ 16 ≤ (y 1).val ∧ (y 1).val < 16 + 16 then cut g y else v' y) :
    copied g (t + 1) v'' := by
  intro y hy
  have hlt : (y 1).val < 32 := (y 1).isLt
  rw [h₂, h₁]
  by_cases h : (y 0).val = t
  · by_cases h' : (y 1).val < 16
    · rw [if_neg (by omega), if_pos (by omega)]
    · rw [if_pos (by omega)]
  · rw [if_neg (by omega), if_neg (by omega)]
    exact hv y (by omega)

theorem pay1_eq [FloatOps F] (v : Vec F S1x16 .f32) : k0_pay1 v = v := by
  unfold k0_pay1
  exact (shapeCast_self _ _).trans (shapeCast_self _ _)
theorem pay2_eq [FloatOps F] (v : Vec F S1x16 .f32) : k0_pay2 v = v := by
  unfold k0_pay2
  exact (shapeCast_self _ _).trans (shapeCast_self _ _)

section Body

variable [FloatOps F] (d : Dev nD) (i : grid0.Coords)
variable (a2 : Memref sig .scVector .hbm S256x128 .f32) (h2 : a2.IsWhole) (a3 : Memref sig .scVector .hbm S1x88064 .i32) (h3 : a3.IsWhole)
variable (a4 : Memref sig .scVector .hbm S88064x32 .f32) (h4 : a4.IsWhole) (a5 : Memref sig .scVector .vmem S128x128 .f32) (h5 : a5.IsWhole)
variable (al : Memref sig .scVector .vmem S2x1x128 .i32) (hal : al.IsWhole) (v12 : DmaSems sig S2)
variable (ao : Memref sig .scVector .vmem S2x128x32 .f32) (hao : ao.IsWhole) (v13 : DmaSems sig S2) (v168 v169 : DmaSems sig S_)

theorem copy_trip (h1 : k0_cond1 i = 1#1) (k : Fin (k0_t1_loop i).trips) (hw3 hw2 hw1) (v6 v80 : BitVec 32) (v81 v83 : BitVec 1)
    (v84 v90 v95 : BitVec 32) (v113 : BitVec 1) (c2 : BitVec 32) (g : S128x128.Idx → Elt F .f32) (t : Fin k0_t2_loop.trips) (u : PUnit) :
    iprop(own (thr d i) fullShare a5 g ∗ ∃ v, ⌜copied g t.val v⌝ ∗ own (thr d i) fullShare (slotO ao k.val) v)
      ⊢ (wp frame (wpE (defs₀ (F := F)) Variants.none (thr d i) none) Set.univ
          (k0_t2_body i a2 h2 a3 h3 a4 h4 a5 h5 al hal v12 ao hao v13 v168 v169 h1 k (w7 i k) (w8 k) (w8 k) (w10 k) (w11 i k) hw3 hw2 hw1 v6 v80 v81
            v83 v84 v90 v95 v113 c2 t u)
          (fun _ => iprop(own (thr d i) fullShare a5 g ∗ ∃ v, ⌜copied g (t.val + 1) v⌝ ∗ own (thr d i) fullShare (slotO ao k.val) v)) : sProp 𝕄) := by
  have ho := slotO_eq ao (off12 ⟨k, lt_22 i k⟩)
  unfold k0_t2_body
  simp only [Prog.lift, Prog.bind_op, Prog.bind_ret]
  iintro ⟨Hg, %v, %hv, Ho⟩
  iapply (load Variants.none (thr d i) none (m := a5) rfl) $$ Hg
  iintro Hg
  iapply (load Variants.none (thr d i) none (ho _)) $$ Ho
  iintro Ho
  iapply (store Variants.none (thr d i) none (ho _)) $$ Ho
  iintro %v' %hv' Ho
  iapply (load Variants.none (thr d i) none (m := a5) rfl) $$ Hg
  iintro Hg
  iapply (load Variants.none (thr d i) none (ho _)) $$ Ho
  iintro Ho
  iapply (store Variants.none (thr d i) none (ho _)) $$ Ho
  iintro %v'' %hv'' Ho
  rw [wp_pure]
  imodintro
  isplitl [Hg]
  · iexact Hg
  iexists v''
  isplitr
  · ipureintro
    rw [pay1_eq] at hv'
    rw [pay2_eq] at hv''
    exact copied_step hv (strip (k0_off11_eq t) (k0_off13_eq t) hv'.1 hv'.2) (strip (k0_off14_eq t) (k0_off15_eq t) hv''.1 hv''.2)
  · iexact Ho

end Body

end Cert.Proof.Tile
-- ==== Proof.Steps.lean ====
/-
  The steps of one trip: waiting for the index words, gathering the rows they name, sending the rows out, and waiting
  for the rows of the block before.
-/
module

public import proofs.«01_k».proof.Proof.Copy

@[expose] public section

set_option maxRecDepth 16384

noncomputable section

namespace Cert.Proof.Tile

open Cert.KernelIdeal Cert.KernelIdeal.Gen Cert.Proof.Words Cert.Proof.Own

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

section Body

variable [FloatOps F] (d : Dev nD) (i : grid0.Coords)
variable (a2 : Memref sig .scVector .hbm S256x128 .f32) (h2 : a2.IsWhole) (a3 : Memref sig .scVector .hbm S1x88064 .i32) (h3 : a3.IsWhole)
variable (a4 : Memref sig .scVector .hbm S88064x32 .f32) (h4 : a4.IsWhole) (a5 : Memref sig .scVector .vmem S128x128 .f32) (h5 : a5.IsWhole)
variable (al : Memref sig .scVector .vmem S2x1x128 .i32) (hal : al.IsWhole) (v12 : DmaSems sig S2)
variable (ao : Memref sig .scVector .vmem S2x128x32 .f32) (hao : ao.IsWhole) (v13 : DmaSems sig S2) (v168 v169 : DmaSems sig S_)
variable (q qt : PosShare TreeShare) (tab : S256x128.Idx → Elt F .f32) (idx : S1x88064.Idx → Elt F .i32) (hidx : ∀ x, (idx x).toNat < 256)
variable (O : CellTallies nD τ sig (HIx 4)) (W : Waits sig (HIx 4))

/-- The side of the index words once its block has come. -/
def gotI (k : ℕ) : sProp 𝕄 :=
  iprop(own (thr d i) (qI q k) a3 idx ∗ own (thr d i) fullShare (slotI al k) (idxB idx (bT i + k)) ∗ semVal (thr d i, SemLoc.dma (semOf v12 k)) 0)

theorem gotI_free (k : ℕ) : gotI (F := F) d i a3 al v12 q idx k ⊢ freeI d i a3 al v12 q idx k := by
  unfold gotI freeI
  iintro ⟨H1, H2, H3⟩
  isplitl [H1]
  · iexact H1
  isplitl [H2]
  · iexists _; iexact H2
  · iexact H3

/-- One more wait on a semaphore of the tile's own. -/
theorem owesW_insert (sm : SemLoc sig) {W' : Waits sig (HIx 4)} (h : ∀ p ∈ W', p ∈ W ∨ p.2 = none) :
    (owes (thr d i) O (insert (sm, (default : HIx 4)) W') : sProp 𝕄) ⊢ owesW (F := F) d i O W := by
  unfold owesW
  iintro H
  iexists _
  isplitr
  rotate_left
  · iexact H
  · ipureintro
    intro p hp
    rcases Finset.mem_insert.1 hp with rfl | hp
    · exact Or.inr rfl
    · exact h p hp

theorem awaitIn {k : ℕ} {oD oM} (hD : oD = ![k % 2, 0, 0]) (hM : oM = ![k % 2]) {pD pM} {srcw : Memref sig .scVector .hbm S1x128 .i32} {hsrc hdst}
    {α : Type} {kk : PUnit → Prog (TpuEff nD τ sig (Elt F) Λ₀ (thr d i).2) α} {Q : α → sProp 𝕄} :
    iprop(Transfers.MayWaits (thr d i) default O ∗ flyI d i a3 al v12 q idx k ∗ owesW d i O W)
      ⊢ iprop((iprop(gotI d i a3 al v12 q idx k ∗ owesW d i O W) -∗ wp frame (wpE (defs₀ (F := F)) Variants.none (thr d i) none) Set.univ (kk ⟨⟩) Q)
          -∗ wp frame (wpE (defs₀ (F := F)) Variants.none (thr d i) none) Set.univ
            (.op (.waitDma2 ((v12.slice (Rect.unit (s := S2) oM S1.size pM)).squeeze S_ squeezes_S1_S_).sem srcw
              ((al.slice (Rect.unit (s := S2x1x128) oD S1x1x128.size pD) (fun _ => rfl)).squeeze S1x128 squeezes_S1x1x128_S1x128) hsrc hdst) kk) Q) := by
  subst hD hM
  have hN : (slotI al k).view.dmaCredit = (slotI al k).view.dmaCredit := Eq.refl _
  unfold flyI
  iintro ⟨Hm, Hf, Ho⟩ Hk
  unfold owesW
  icases Ho with ⟨%W', %hW', Ho⟩
  iapply (await countersEmb Variants.none (thr d i) none (sem' := semOf v12 k) (hm := Eq.refl _) default hN (O := O) (W := W')) $$ [Hm Hf Ho]
  · isplitl [Hm]
    · iexact Hm
    isplitl [Hf]
    · iexact Hf
    · iexact Ho
  iintro ⟨⟨Hs, Ha⟩, Hv, Ho⟩
  iapply Hk
  isplitr [Ho]
  · unfold gotI
    isplitl [Ha]
    · iexact Ha
    isplitl [Hs]
    · iexact Hs
    · iexact Hv
  · ihave Ho := (owesW_insert (F := F) d i O W _ hW') $$ Ho
    unfold owesW
    iexact Ho

theorem awaitOut {k : ℕ} (hk : bT i + k < 688) {oD oM} (hD : oD = ![128 * (bT i + k), 0]) (hM : oM = ![k % 2]) {pD pM}
    {srcw : Memref sig .scVector .vmem S128x32 .f32} {hsrc hdst}
    {α : Type} {kk : PUnit → Prog (TpuEff nD τ sig (Elt F) Λ₀ (thr d i).2) α} {Q : α → sProp 𝕄} :
    iprop(Transfers.MayWaits (thr d i) default O ∗ flyO d i a4 ao v13 tab idx hidx k ∗ owesW d i O W)
      ⊢ iprop((iprop(own (thr d i) fullShare (winO a4 (bT i + k)) (outB tab idx hidx (bT i + k)) ∗ freeO d i ao v13 k ∗ owesW d i O W)
              -∗ wp frame (wpE (defs₀ (F := F)) Variants.none (thr d i) none) Set.univ (kk ⟨⟩) Q)
          -∗ wp frame (wpE (defs₀ (F := F)) Variants.none (thr d i) none) Set.univ
            (.op (.waitDma2 ((v13.slice (Rect.unit (s := S2) oM S1.size pM)).squeeze S_ squeezes_S1_S_).sem srcw
              (a4.slice (Rect.unit (s := S88064x32) oD S128x32.size pD) (fun _ => rfl)) hsrc hdst) kk) Q) := by
  subst hM
  have hD' : oD = ![128 * ((bT i + k) % 688), 0] := by rw [hD, Nat.mod_eq_of_lt hk]
  subst hD'
  have hN : (winO a4 (bT i + k)).view.dmaCredit = (winO a4 (bT i + k)).view.dmaCredit := Eq.refl _
  unfold flyO
  iintro ⟨Hm, Hf, Ho⟩ Hk
  unfold owesW
  icases Ho with ⟨%W', %hW', Ho⟩
  iapply (await countersEmb Variants.none (thr d i) none (sem' := semOf v13 k) (hm := Eq.refl _) default hN (O := O) (W := W')) $$ [Hm Hf Ho]
  · isplitl [Hm]
    · iexact Hm
    isplitl [Hf]
    · iexact Hf
    · iexact Ho
  iintro ⟨⟨Hw, Hs⟩, Hv, Ho⟩
  iapply Hk
  isplitl [Hw]
  · iexact Hw
  isplitr [Ho]
  · unfold freeO
    isplitl [Hs]
    · iexists _; iexact Hs
    · iexact Hv
  · ihave Ho := (owesW_insert (F := F) d i O W _ hW') $$ Ho
    unfold owesW
    iexact Ho

theorem issueOut {k : ℕ} (hk : bT i + k < 688) {oS oD oM} (hS : oS = ![k % 2, 0, 0]) (hD : oD = ![128 * (bT i + k), 0]) (hM : oM = ![k % 2])
    {pS pD pM} {hsrc hdst hsem} {α : Type} {kk : PUnit → Prog (TpuEff nD τ sig (Elt F) Λ₀ (thr d i).2) α} {Q : α → sProp 𝕄} :
    iprop(own (thr d i) fullShare (slotO ao k) (outB tab idx hidx (bT i + k)) ∗ (∃ v, own (thr d i) fullShare (winO a4 (bT i + k)) v)
        ∗ semVal (thr d i, SemLoc.dma (semOf v13 k)) 0)
      ⊢ iprop((flyO d i a4 ao v13 tab idx hidx k -∗ wp frame (wpE (defs₀ (F := F)) Variants.none (thr d i) none) Set.univ (kk ⟨⟩) Q)
          -∗ wp frame (wpE (defs₀ (F := F)) Variants.none (thr d i) none) Set.univ
            (.op (.enqueueDma ((ao.slice (Rect.unit (s := S2x128x32) oS S1x128x32.size pS) (fun _ => rfl)).squeeze S128x32 squeezes_S1x128x32_S128x32)
              (.here (a4.slice (Rect.unit (s := S88064x32) oD S128x32.size pD) (fun _ => rfl)))
              (.dma ((v13.slice (Rect.unit (s := S2) oM S1.size pM)).squeeze S_ squeezes_S1_S_).sem) hsrc hdst hsem) kk) Q) := by
  subst hS hM
  have hD' : oD = ![128 * ((bT i + k) % 688), 0] := by rw [hD, Nat.mod_eq_of_lt hk]
  subst hD'
  have hN : (winO a4 (bT i + k)).view.amount (SemLoc.dma (semOf v13 k)) = (winO a4 (bT i + k)).view.dmaCredit := amount_eq (Eq.refl _) _
  have hN0 : 0 < (winO a4 (bT i + k)).view.dmaCredit := View.dmaCredit_pos _ (by decide)
  unfold flyO
  exact issue countersEmb Variants.none (thr d i) none (src' := slotO ao k) (dst' := winO a4 (bT i + k)) (sm' := .dma (semOf v13 k))
    (Eq.refl _) (Eq.refl _) (Eq.refl _) default (winO a4 (bT i + k)).view.dmaCredit hN hN0

end Body

end Cert.Proof.Tile
-- ==== Proof.Gather.lean ====
/-
  The gather of a trip: the table and the list of words are lent to it, and the scratch comes back holding the rows the
  words name.
-/
module

public import proofs.«01_k».proof.Proof.Steps

@[expose] public section

set_option maxRecDepth 16384

noncomputable section

namespace Cert.Proof.Tile

open Cert.KernelIdeal Cert.KernelIdeal.Gen Cert.Proof.Words Cert.Proof.Own

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## The gather -/

abbrev tabS (a2 : Memref sig .scVector .hbm S256x128 .f32) : Memref sig .scVector .hbm S256x128 .f32 :=
  a2.slice (Rect.unit (s := S256x128) ![0, 0] S256x128.size inb_S256x128_S256x128_0_0) (fun _ => rfl)

/-- The list of a slot of index words: its one row. -/
abbrev listS (m : Memref sig .scVector .vmem S1x128 .i32) : Memref sig .scVector .vmem S128 .i32 :=
  (m.slice (Rect.unit (s := S1x128) ![0, 0] S1x128.size inb_S1x128_S1x128_0_0) (fun _ => rfl)).squeeze S128 squeezes_S1x128_S128

/-- The words of a list as the row of its slot. -/
def rowOf {α : Type} (v : S1x128.Idx → α) : S128.Idx → α := fun x => v (Shape.pair (d := ![1, 128]) ⟨0, by decide⟩ (x 0))

theorem embT (x : S256x128.Idx) : (Rect.unit (s := S256x128) ![0, 0] S256x128.size inb_S256x128_S256x128_0_0).emb x = x := by
  funext a; apply Fin.ext; fin_cases a
  · show 0 + 1 * (x 0).val = (x 0).val; omega
  · show 0 + 1 * (x 1).val = (x 1).val; omega

theorem embL1 (x : S1x128.Idx) : (Rect.unit (s := S1x128) ![0, 0] S1x128.size inb_S1x128_S1x128_0_0).emb x = x := by
  funext a; apply Fin.ext; fin_cases a
  · show 0 + 1 * (x 0).val = (x 0).val; omega
  · show 0 + 1 * (x 1).val = (x 1).val; omega

theorem reshL (h : S128.numel = S1x128.numel) (x : S128.Idx) :
    Shape.reshapeEquiv h x = (Shape.pair (d := ![1, 128]) ⟨0, by decide⟩ (x 0) : S1x128.Idx) :=
  Shape.reshapeEquiv_eq_of_rowMajor h (by
    erw [Shape.rowMajor_val_two, Shape.rowMajor_val_one]
    show 0 * 128 + (x 0).val = (x 0).val
    omega)

section Body

variable [FloatOps F] (d : Dev nD) (i : grid0.Coords)
variable (a2 : Memref sig .scVector .hbm S256x128 .f32) (a5 : Memref sig .scVector .vmem S128x128 .f32)
variable (q : PosShare TreeShare) (tab : S256x128.Idx → Elt F .f32)

theorem lend_table : own (thr d i) q a2 tab
    ⊢ (iprop(own (thr d i) q (tabS a2) tab ∗ (own (thr d i) q (tabS a2) tab -∗ own (thr d i) q a2 tab)) : sProp 𝕄) := by
  have h := own_slice (F := F) (Ix := HIx 4) (Name := ℕ) (U := UU) (Lvl := ℕ) (thr d i) q a2
    (Rect.unit (s := S256x128) ![0, 0] S256x128.size inb_S256x128_S256x128_0_0) (fun _ => rfl) tab
  have e : (fun x => tab ((Rect.unit (s := S256x128) ![0, 0] S256x128.size inb_S256x128_S256x128_0_0).emb x)) = tab :=
    funext fun x => congrArg tab (embT x)
  rw [e] at h
  exact h

theorem lend_list (m : Memref sig .scVector .vmem S1x128 .i32) (v : S1x128.Idx → Elt F .i32) : own (thr d i) fullShare m v
    ⊢ (iprop(own (thr d i) fullShare (listS m) (rowOf v) ∗ (own (thr d i) fullShare (listS m) (rowOf v) -∗ own (thr d i) fullShare m v)) : sProp 𝕄) := by
  have h := own_slice (F := F) (Ix := HIx 4) (Name := ℕ) (U := UU) (Lvl := ℕ) (thr d i) fullShare m
    (Rect.unit (s := S1x128) ![0, 0] S1x128.size inb_S1x128_S1x128_0_0) (fun _ => rfl) v
  have e : (fun x => v ((Rect.unit (s := S1x128) ![0, 0] S1x128.size inb_S1x128_S1x128_0_0).emb x)) = v :=
    funext fun x => congrArg v (embL1 x)
  rw [e] at h
  have hs := own_squeeze (F := F) (Ix := HIx 4) (Name := ℕ) (U := UU) (Lvl := ℕ) (thr d i) fullShare
    (m.slice (Rect.unit (s := S1x128) ![0, 0] S1x128.size inb_S1x128_S1x128_0_0) (fun _ => rfl)) S128 squeezes_S1x128_S128 v
  have hu := own_unsqueeze (F := F) (Ix := HIx 4) (Name := ℕ) (U := UU) (Lvl := ℕ) (thr d i) fullShare
    (m.slice (Rect.unit (s := S1x128) ![0, 0] S1x128.size inb_S1x128_S1x128_0_0) (fun _ => rfl)) S128 squeezes_S1x128_S128 v
  have e' : (fun x => v (Shape.reshapeEquiv squeezes_S1x128_S128.numel_eq x)) = rowOf v :=
    funext fun x => congrArg v (reshL _ x)
  rw [e'] at hs hu
  iintro H
  ihave ⟨H, Hw⟩ := h $$ H
  isplitl [H]
  · iapply hs; iexact H
  · iintro H
    iapply Hw
    iapply hu
    iexact H

end Body

/-- The scratch after the gather of block `w`, cut to the first 32 columns, is the block's rows of the result. -/
theorem cut_gather (tab : S256x128.Idx → Elt F .f32) (idx : S1x88064.Idx → Elt F .i32) (hidx : ∀ x, (idx x).toNat < 256) (w : ℕ)
    (hn : S128.numel = S128x128.size gathers_S256x128_S128x128.axis')
    (hin : ∀ x, (rowOf (idxB idx w) x).toNat < S256x128.size gathers_S256x128_S128x128.axis) :
    cut (SparseCore.gatherPayload gathers_S256x128_S128x128 tab (SparseCore.rows (rowOf (idxB idx w)) hn hin)) = outB tab idx hidx w := by
  funext y
  unfold cut SparseCore.gatherPayload outB outV
  congr 1
  funext a
  fin_cases a
  · refine (Shape.Gathers.idx_axis gathers_S256x128_S128x128 _ _).trans ?_
    apply Fin.ext
    have hr : ∀ k : Fin 128, (S128.rowMajor.symm (k.cast hn.symm) 0).val = k.val := by
      intro k
      have h := congrArg Fin.val (S128.rowMajor.apply_symm_apply (k.cast hn.symm))
      have h1 := Shape.rowMajor_val_one (d := ![128]) (S128.rowMajor.symm (k.cast hn.symm))
      exact h1.symm.trans h
    have hx : (rWI w).emb (Shape.pair (d := ![1, 128]) ⟨0, by decide⟩ (S128.rowMajor.symm ((y 0 : Fin 128).cast hn.symm) 0))
        = (Shape.pair (d := ![1, 88064]) ⟨0, by decide⟩ ((rWO w).emb y 0) : S1x88064.Idx) := by
      funext a; apply Fin.ext; fin_cases a
      · rfl
      · show 128 * (w % 688) + 1 * (S128.rowMajor.symm ((y 0 : Fin 128).cast hn.symm) 0).val = 128 * (w % 688) + 1 * (y 0).val
        exact congrArg (fun n => 128 * (w % 688) + 1 * n) (hr (y 0))
    exact congrArg (fun z => (idx z).toNat) hx
  · apply Fin.ext
    refine (Shape.Gathers.idx_of_ne gathers_S256x128_S128x128 _ _ (1 : Fin 2) (by decide)).trans ?_
    show (y 1).val = ((rWO w).emb y 1).val
    show (y 1).val = 0 + 1 * (y 1).val
    omega

section Step

variable [FloatOps F] (d : Dev nD) (i : grid0.Coords)
variable (a2 : Memref sig .scVector .hbm S256x128 .f32) (a5 : Memref sig .scVector .vmem S128x128 .f32) (h5 : a5.IsWhole)
variable (al : Memref sig .scVector .vmem S2x1x128 .i32) (v168 : DmaSems sig S_)
variable (q : PosShare TreeShare) (tab : S256x128.Idx → Elt F .f32) (idx : S1x88064.Idx → Elt F .i32) (hidx : ∀ x, (idx x).toNat < 256)
variable (O : CellTallies nD τ sig (HIx 4)) (W : Waits sig (HIx 4))

/-- What the gather writes to the scratch has for its first 32 columns the block's rows. -/
def gathered (k : ℕ) : sProp 𝕄 :=
  iprop(∃ g, ⌜cut g = outB tab idx hidx (bT i + k)⌝ ∗ own (thr d i) fullShare a5 g)

/-- The rows of the scratch, copied one by one, are paid for as the whole scratch is. -/
def RowsOK (a5 : Memref sig .scVector .vmem S128x128 .f32) : Prop :=
  ∑ j, (a5.slice (S128x128.rowRect gathers_S256x128_S128x128.axis' j)
    (S128x128.stride_rowRect gathers_S256x128_S128x128.axis' j)).view.dmaCredit = a5.view.dmaCredit

theorem gatherStep (hcr : RowsOK a5)
    {k : ℕ} {oL} (hL : oL = ![k % 2, 0, 0]) {pL hn} {he hsp hr} {hsrc hsrc' hdst'}
    {α : Type} {kk : PUnit → Prog (TpuEff nD τ sig (Elt F) Λ₀ (thr d i).2) α} {Q : α → sProp 𝕄} :
    iprop(Transfers.MayWaits (thr d i) default O ∗ own (thr d i) q a2 tab ∗ (∃ v, own (thr d i) fullShare a5 v)
        ∗ own (thr d i) fullShare (slotI al k) (idxB idx (bT i + k)) ∗ semVal (thr d i, SemLoc.dma v168.sem) 0 ∗ owesW d i O W)
      ⊢ iprop((iprop(own (thr d i) q a2 tab ∗ gathered d i a5 tab idx hidx k
              ∗ own (thr d i) fullShare (slotI al k) (idxB idx (bT i + k)) ∗ semVal (thr d i, SemLoc.dma v168.sem) 0 ∗ owesW d i O W)
            -∗ wp frame (wpE (defs₀ (F := F)) Variants.none (thr d i) none) Set.univ (kk ⟨⟩) Q)
          -∗ wp frame (wpE (defs₀ (F := F)) Variants.none (thr d i) none) Set.univ
            (SparseCore.enqueueIndirectGather (p := (thr d i).2) rfl (tabS a2) a5 gathers_S256x128_S128x128
                (listS ((al.slice (Rect.unit (s := S2x1x128) oL S1x1x128.size pL) (fun _ => rfl)).squeeze S1x128 squeezes_S1x1x128_S1x128))
                hn v168.sem hsrc he hsp hr
              >>= fun _ => SparseCore.waitIndirectGather (p := (thr d i).2) v168.sem (tabS a2) a5 hsrc' hdst' >>= kk) Q) := by
  subst hL
  unfold RowsOK at hcr
  have hin : ∀ x, (rowOf (idxB idx (bT i + k)) x).toNat < S256x128.size gathers_S256x128_S128x128.axis := fun x => hidx _
  iintro ⟨Hm, Ht, ⟨%v, H5⟩, Hi, Hs, Ho⟩ Hk
  unfold owesW
  icases Ho with ⟨%W', %hW', Ho⟩
  ihave ⟨Ht, Htw⟩ := (lend_table (F := F) d i a2 q tab) $$ Ht
  ihave ⟨Hi, Hiw⟩ := (lend_list (F := F) d i _ _) $$ Hi
  iapply (gather countersEmb Variants.none (thr d i) none (src' := tabS a2) (offs' := listS (slotI al k)) (Eq.refl _) (Eq.refl _) default
    a5.view.dmaCredit hcr (by decide) hin) $$ [Ht H5 Hi Hs]
  · isplitl [Ht]
    · iexact Ht
    isplitl [H5]
    · iexact H5
    isplitl [Hi]
    · iexact Hi
    · iexact Hs
  iintro Hf
  unfold SparseCore.waitIndirectGather
  simp only [Prog.bind_op, Prog.bind_ret]
  iapply (await countersEmb Variants.none (thr d i) none (sem' := v168.sem) (hm := Eq.refl _) default (Eq.refl _) (O := O) (W := W')) $$ [Hm Hf Ho]
  · isplitl [Hm]
    · iexact Hm
    isplitl [Hf]
    · iexact Hf
    · iexact Ho
  iintro ⟨⟨H5, Ht, Hi⟩, Hs, Ho⟩
  iapply Hk
  isplitl [Ht Htw]
  · iapply Htw; iexact Ht
  isplitl [H5]
  · unfold gathered
    iexists _
    isplitr
    rotate_left
    · iexact H5
    · ipureintro
      exact cut_gather tab idx hidx (bT i + k) _ hin
  isplitl [Hi Hiw]
  · iapply Hiw; iexact Hi
  isplitl [Hs]
  · iexact Hs
  · ihave Ho := (owesW_insert (F := F) d i O W _ hW') $$ Ho
    unfold owesW
    iexact Ho

end Step

end Cert.Proof.Tile
-- ==== Proof.Trip.lean ====
/-
  One trip of the tile: its two parts and the trip itself, from the state before it to the state after it.
-/
module

public import Idealize.SL.BI.BigOpNat
public import proofs.«01_k».proof.Proof.Gather

@[expose] public section

set_option maxRecDepth 16384

noncomputable section

namespace Cert.Proof.Tile

open Cert.KernelIdeal Cert.KernelIdeal.Gen Cert.Proof.Words Cert.Proof.Own

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

section Body

variable [FloatOps F] (d : Dev nD) (i : grid0.Coords)
variable (a2 : Memref sig .scVector .hbm S256x128 .f32) (h2 : a2.IsWhole) (a3 : Memref sig .scVector .hbm S1x88064 .i32) (h3 : a3.IsWhole)
variable (a4 : Memref sig .scVector .hbm S88064x32 .f32) (h4 : a4.IsWhole) (a5 : Memref sig .scVector .vmem S128x128 .f32) (h5 : a5.IsWhole)
variable (al : Memref sig .scVector .vmem S2x1x128 .i32) (hal : al.IsWhole) (v12 : DmaSems sig S2)
variable (ao : Memref sig .scVector .vmem S2x128x32 .f32) (hao : ao.IsWhole) (v13 : DmaSems sig S2) (v168 v169 : DmaSems sig S_)
variable (q qt : PosShare TreeShare) (tab : S256x128.Idx → Elt F .f32) (idx : S1x88064.Idx → Elt F .i32) (hidx : ∀ x, (idx x).toNat < 256)
variable (O : CellTallies nD τ sig (HIx 4)) (W : Waits sig (HIx 4))

set_option maxHeartbeats 4000000 in
theorem part2_wp (hcr : RowsOK a5)
    (h1 : k0_cond1 i = 1#1) (k : Fin (k0_t1_loop i).trips) (hw3 hw2 hw1) (v6 v80 : BitVec 32) (v81 v83 : BitVec 1)
    (v84 v90 v95 : BitVec 32) (v113 : BitVec 1) (c2 : BitVec 32) {Ψ : BitVec 1 → sProp 𝕄} :
    iprop(Transfers.MayWaits (thr d i) default O ∗ flyI d i a3 al v12 q idx k.val ∗ own (thr d i) qt a2 tab ∗ (∃ v, own (thr d i) fullShare a5 v)
        ∗ (∃ v, own (thr d i) fullShare (slotO ao k.val) v) ∗ semVal (thr d i, SemLoc.dma v168.sem) 0 ∗ owesW d i O W)
      ⊢ iprop((iprop(freeI d i a3 al v12 q idx k.val ∗ own (thr d i) qt a2 tab ∗ (∃ v, own (thr d i) fullShare a5 v)
            ∗ own (thr d i) fullShare (slotO ao k.val) (outB tab idx hidx (bT i + k.val)) ∗ semVal (thr d i, SemLoc.dma v168.sem) 0 ∗ owesW d i O W)
            -∗ Ψ (Scalar.ori (Scalar.cmpi .ne v84 v95) v83))
          -∗ wp frame (wpE (defs₀ (F := F)) Variants.none (thr d i) none) Set.univ
            (k0_part2 i a2 h2 a3 h3 a4 h4 a5 h5 al hal v12 ao hao v13 v168 v169 h1 k (w7 i k) (w8 k) (w8 k) (w10 k) (w11 i k) hw3 hw2 hw1 v6 v80 v81
              v83 v84 v90 v95 v113 c2) Ψ) := by
  rw [k0_part2_eq_skeleton]; unfold k0_part2_skel
  simp only [Prog.lift, Prog.bind_op, Prog.bind_ret, ite_self]
  rw [dif_pos (cond4 i k)]
  iintro ⟨#Hm, Hf, Ht, H5, ⟨%v, Hs⟩, Hv, Ho⟩ Hk
  iapply (awaitIn (F := F) (k := k.val) d i a3 al v12 q idx O W (off7 ⟨k, lt_22 i k⟩) (off9 ⟨k, lt_22 i k⟩)) $$ [Hf Ho]
  · isplitl []
    · iexact Hm
    isplitl [Hf]
    · iexact Hf
    · iexact Ho
  iintro ⟨Hg, Ho⟩
  unfold gotI
  icases Hg with ⟨Ha, Hi, Hvi⟩
  iapply (gatherStep (F := F) (k := k.val) d i a2 a5 al v168 qt tab idx hidx O W hcr (off10 ⟨k, lt_22 i k⟩)) $$ [Ht H5 Hi Hv Ho]
  · isplitl []
    · iexact Hm
    isplitl [Ht]
    · iexact Ht
    isplitl [H5]
    · iexact H5
    isplitl [Hi]
    · iexact Hi
    isplitl [Hv]
    · iexact Hv
    · iexact Ho
  iintro ⟨Ht, Hg, Hi, Hv, Ho⟩
  unfold gathered
  icases Hg with ⟨%g, %hg, H5⟩
  iapply (Scf.wp_for_bind _ _ _ _ _ _ _ _ _
    (fun t _ => iprop(own (thr d i) fullShare a5 g ∗ ∃ v, ⌜copied g t v⌝ ∗ own (thr d i) fullShare (slotO ao k.val) v))
    (fun t u => copy_trip (F := F) d i a2 h2 a3 h3 a4 h4 a5 h5 al hal v12 ao hao v13 v168 v169 h1 k hw3 hw2 hw1 v6 v80 v81 v83 v84 v90 v95 v113 c2 g t u)) $$ [H5 Hs]
  · isplitl [H5]
    · iexact H5
    iexists v
    isplitr
    · ipureintro
      exact fun y hy => absurd hy (Nat.not_lt_zero _)
    · iexact Hs
  iintro %u ⟨H5, %v', %hv', Hs⟩
  rw [wp_pure]
  imodintro
  iapply Hk
  isplitl [Ha Hi Hvi]
  · unfold freeI
    isplitl [Ha]
    · iexact Ha
    isplitl [Hi]
    · iexists _; iexact Hi
    · iexact Hvi
  isplitl [Ht]
  · iexact Ht
  isplitl [H5]
  · iexists _; iexact H5
  isplitl [Hs]
  · have e : v' = outB tab idx hidx (bT i + k.val) := by
      rw [← hg]
      funext y
      exact hv' y (lt_of_lt_of_eq (y 0).isLt trips2.symm)
    subst e
    iexact Hs
  isplitl [Hv]
  · iexact Hv
  · iexact Ho

/-- The tile before trip `k`: blocks before `k - 1` done, block `k - 1` on its way out, the words of block `k` on their
    way in. -/
def inv (k : ℕ) : sProp 𝕄 :=
  iprop((if k < nT i then flyI d i a3 al v12 q idx k else freeI d i a3 al v12 q idx k) ∗ freeI d i a3 al v12 q idx (k + 1)
    ∗ freeO d i ao v13 k ∗ (if k = 0 then freeO d i ao v13 (k + 1) else flyO d i a4 ao v13 tab idx hidx (k - 1))
    ∗ bigSep (Finset.Ico k (nT i)) (fun j => iprop(∃ v, own (thr d i) fullShare (winO a4 (bT i + j)) v))
    ∗ bigSep (Finset.range (k - 1)) (fun j => own (thr d i) fullShare (winO a4 (bT i + j)) (outB tab idx hidx (bT i + j)))
    ∗ own (thr d i) qt a2 tab ∗ (∃ v, own (thr d i) fullShare a5 v) ∗ semVal (thr d i, SemLoc.dma v168.sem) 0 ∗ owesW d i O W)

/-- The carried words before trip `k`. -/
def words (k : ℕ) : BitVec 32 × BitVec 32 × BitVec 32 × BitVec 32 × BitVec 32 := (w7 i k, w8 k, w8 k, w10 k, w11 i k)

/-- The words a trip hands on. -/
def nextWords (k : ℕ) : BitVec 32 × BitVec 32 × BitVec 32 × BitVec 32 × BitVec 32 :=
  let v5 := BitVec.ofNat 32 (nT i)
  let v10 := BitVec.ofNat 32 (bT i)
  (x112 v5 v10 i k,
    Scalar.select (Scalar.ori (Scalar.cmpi .ne (x84 v10 i k) (x95 v5 v10 i k)) (x83 v5 k)) (Scalar.addi (w8 k) 1#32) (w8 k),
    Scalar.select (Scalar.andi (Scalar.ori (Scalar.cmpi .ne (x84 v10 i k) (x95 v5 v10 i k)) (x83 v5 k)) 1#1) (Scalar.addi (w8 k) 1#32) (w8 k),
    Scalar.select (Scalar.andi (Scalar.andi (Scalar.cmpi .ne (x84 v10 i k) (x90 v5 v10 i k)) (Scalar.xori (x81 k) 1#1)) 1#1)
      (Scalar.addi (w10 k) 1#32) (w10 k),
    Scalar.select (Scalar.cmpi .eq (Scalar.select 1#1 (Scalar.addi (w11 i k) 1#32) (w11 i k)) v5) 0#32
      (Scalar.select 1#1 (Scalar.addi (w11 i k) 1#32) (w11 i k)))

theorem nextWords_eq : ∀ (i : grid0.Coords) (k : Fin (k0_t1_loop i).trips), nextWords i k.val = words i (k.val + 1) := by decide +kernel

set_option maxHeartbeats 4000000 in
theorem trip_wp (hcr : RowsOK a5)
    (v11 v41 v45 : BitVec 32) (h1 : k0_cond1 i = 1#1) (k : Fin (k0_t1_loop i).trips) :
    iprop(Transfers.MayWaits (thr d i) default O ∗ inv d i a2 a3 a4 a5 al v12 ao v13 v168 q qt tab idx hidx O W k.val)
      ⊢ wp frame (wpE (defs₀ (F := F)) Variants.none (thr d i) none) Set.univ
          (k0_t1_body i a2 h2 a3 h3 a4 h4 a5 h5 al hal v12 ao hao v13 v168 v169 (BitVec.ofNat 32 (nT i)) (BitVec.ofNat 32 (bT i)) v11 h1 v41
            0#32 0#32 0#32 0#32 0#32 v45 k (words i k.val))
          (fun acc => iprop(⌜acc = words i (k.val + 1)⌝ ∗ Transfers.MayWaits (thr d i) default O
            ∗ inv d i a2 a3 a4 a5 al v12 ao v13 v168 q qt tab idx hidx O W (k.val + 1))) := by
  have hkn := lt_nT i k
  have hb := bT_add_nT_le i
  unfold k0_t1_body inv words
  rw [if_pos hkn, bigSep_Ico_succ_bot hkn]
  dsimp only
  rw [wp_bind]
  iintro ⟨#Hm, Hf, Hg, Hs, Hp, ⟨⟨%vw, Hw⟩, Hws⟩, Hd, Ht, H5, Hv, Ho⟩
  iapply (part1_wp (F := F) d i a2 h2 a3 h3 a4 h4 a5 h5 al hal v12 ao hao v13 v168 v169 q idx _ _ h1 k) $$ Hg
  iintro Hg
  unfold ret1
  dsimp only
  simp only [Prog.lift, Prog.bind_op, Prog.bind_ret, ite_self, wp_bind]
  unfold freeO
  icases Hs with ⟨Hs, Hsv⟩
  iapply (part2_wp (F := F) d i a2 h2 a3 h3 a4 h4 a5 h5 al hal v12 ao hao v13 v168 v169 q qt tab idx hidx O W hcr h1 k) $$ [Hf Ht H5 Hs Hv Ho]
  · isplitl []
    · iexact Hm
    isplitl [Hf]
    · iexact Hf
    isplitl [Ht]
    · iexact Ht
    isplitl [H5]
    · iexact H5
    isplitl [Hs]
    · iexact Hs
    isplitl [Hv]
    · iexact Hv
    · iexact Ho
  iintro ⟨Hf, Ht, H5, Hs, Hv, Ho⟩
  rw [dif_pos (cond7 i k)]
  iapply (issueOut (F := F) (k := k.val) d i a4 ao v13 tab idx hidx (by omega) (off16 ⟨k, lt_22 i k⟩) (off17 i k) (off18 ⟨k, lt_22 i k⟩)) $$ [Hs Hw Hsv]
  · isplitl [Hs]
    · iexact Hs
    isplitl [Hw]
    · iexists vw; iexact Hw
    · iexact Hsv
  iintro Hs
  ihave Hf := (Entails.of_eq (freeI_congr (F := F) d i a3 al v12 q idx (k := k.val) (k' := k.val + 1 + 1) (by omega))) $$ Hf
  rw [show k.val + 1 - 1 = k.val from rfl, if_neg (Nat.succ_ne_zero k.val)]
  by_cases h0 : k.val = 0
  · rw [dif_neg (by rw [cond9, if_pos h0]; decide), wp_pure]
    ihave Hp := (Entails.of_eq (if_pos h0)) $$ Hp
    imodintro
    isplitr
    · ipureintro
      exact nextWords_eq i k
    isplitl []
    · iexact Hm
    isplitl [Hg]
    · iexact Hg
    isplitl [Hf]
    · iexact Hf
    isplitl [Hp]
    · iexact Hp
    isplitl [Hs]
    · iexact Hs
    isplitl [Hws]
    · iexact Hws
    isplitl [Hd]
    · rw [h0]; iexact Hd
    isplitl [Ht]
    · iexact Ht
    isplitl [H5]
    · iexact H5
    isplitl [Hv]
    · iexact Hv
    · iexact Ho
  · rw [dif_pos (by rw [cond9, if_neg h0])]
    ihave Hp := (Entails.of_eq (if_neg h0)) $$ Hp
    have hp : 0 < k.val := Nat.pos_of_ne_zero h0
    iapply (awaitOut (F := F) (k := k.val - 1) d i a4 ao v13 tab idx hidx O W (by omega) (off20 i k hp) (off21 ⟨k, lt_22 i k⟩ hp)) $$ [Hp Ho]
    · isplitl []
      · iexact Hm
      isplitl [Hp]
      · iexact Hp
      · iexact Ho
    iintro ⟨Hw, Hp, Ho⟩
    ihave Hp := (Entails.of_eq (freeO_congr (F := F) d i ao v13 (k := k.val - 1) (k' := k.val + 1) (by omega))) $$ Hp
    unfold freeO
    rw [wp_pure]
    imodintro
    isplitr
    · ipureintro
      exact nextWords_eq i k
    isplitl []
    · iexact Hm
    isplitl [Hg]
    · iexact Hg
    isplitl [Hf]
    · iexact Hf
    isplitl [Hp]
    · iexact Hp
    isplitl [Hs]
    · iexact Hs
    isplitl [Hws]
    · iexact Hws
    isplitl [Hd Hw]
    · rw [show k.val = (k.val - 1) + 1 by omega, bigSep_range_succ, Nat.add_sub_cancel]
      isplitl [Hw]
      · iexact Hw
      · iexact Hd
    isplitl [Ht]
    · iexact Ht
    isplitl [H5]
    · iexact H5
    isplitl [Hv]
    · iexact Hv
    · iexact Ho

end Body

end Cert.Proof.Tile
-- ==== Proof.Body.lean ====
/-
  The tile's whole run: the first block of words is sent for, the trips follow, the last block of rows lands.
-/
module

public import proofs.«01_k».proof.Proof.Trip

@[expose] public section

set_option maxRecDepth 16384

noncomputable section

namespace Cert.Proof.Tile

open Cert.KernelIdeal Cert.KernelIdeal.Gen Cert.Proof.Words Cert.Proof.Own

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

section Body

variable [FloatOps F] (d : Dev nD) (i : grid0.Coords)
variable (a2 : Memref sig .scVector .hbm S256x128 .f32) (h2 : a2.IsWhole) (a3 : Memref sig .scVector .hbm S1x88064 .i32) (h3 : a3.IsWhole)
variable (a4 : Memref sig .scVector .hbm S88064x32 .f32) (h4 : a4.IsWhole) (a5 : Memref sig .scVector .vmem S128x128 .f32) (h5 : a5.IsWhole)
variable (al : Memref sig .scVector .vmem S2x1x128 .i32) (hal : al.IsWhole) (v12 : DmaSems sig S2)
variable (ao : Memref sig .scVector .vmem S2x128x32 .f32) (hao : ao.IsWhole) (v13 : DmaSems sig S2) (v168 v169 : DmaSems sig S_)
variable (q qt : PosShare TreeShare) (tab : S256x128.Idx → Elt F .f32) (idx : S1x88064.Idx → Elt F .i32) (hidx : ∀ x, (idx x).toNat < 256)
variable (O : CellTallies nD τ sig (HIx 4)) (W : Waits sig (HIx 4))

/-- The words the tile's own loop bounds come from, and those its first trip takes. -/
def c3 : BitVec 32 := Scalar.addi (Scalar.addi 0#32 (Scalar.muli (BitVec.ofNat 32 (i 1).val) 1#32)) (Scalar.muli (BitVec.ofNat 32 (i 0).val) 16#32)
def c5 : BitVec 32 := Scalar.select (Scalar.cmpi .slt (c3 i) 16#32) 22#32 21#32
def c10 : BitVec 32 :=
  Scalar.select (Scalar.cmpi .slt (c3 i) 16#32) (Scalar.muli (c3 i) (c5 i)) (Scalar.addi (Scalar.muli (c3 i) 21#32) 16#32)

theorem c5_eq : ∀ i : grid0.Coords, c5 i = BitVec.ofNat 32 (nT i) := by decide +kernel
theorem c10_eq : ∀ i : grid0.Coords, c10 i = BitVec.ofNat 32 (bT i) := by decide +kernel
theorem words_zero : ∀ i : grid0.Coords,
    (Scalar.select (Scalar.andi 1#1 (Scalar.cmpi .sgt (Scalar.muli 1#32 (BitVec.ofNat 32 (nT i))) 0#32)) (Scalar.addi 0#32 1#32) 0#32,
      0#32, 0#32, 0#32, 0#32) = words i 0 := by decide +kernel

/-- After the last trip: the sides are free but for the last block of rows, still on its way out. -/
def afterTrips : sProp 𝕄 :=
  iprop(freeI d i a3 al v12 q idx (nT i) ∗ freeI d i a3 al v12 q idx (nT i + 1)
    ∗ freeO d i ao v13 (nT i) ∗ flyO d i a4 ao v13 tab idx hidx (nT i - 1)
    ∗ bigSep (Finset.range (nT i - 1)) (fun j => own (thr d i) fullShare (winO a4 (bT i + j)) (outB tab idx hidx (bT i + j)))
    ∗ own (thr d i) qt a2 tab ∗ (∃ v, own (thr d i) fullShare a5 v) ∗ semVal (thr d i, SemLoc.dma v168.sem) 0 ∗ owesW d i O W)

theorem inv_last : inv d i a2 a3 a4 a5 al v12 ao v13 v168 q qt tab idx hidx O W (nT i)
    ⊢ afterTrips d i a2 a3 a4 a5 al v12 ao v13 v168 q qt tab idx hidx O W := by
  have h0 : nT i ≠ 0 := Nat.pos_iff_ne_zero.mp (nT_pos i)
  unfold inv afterTrips
  rw [if_neg (lt_irrefl _), if_neg h0]
  iintro ⟨Hf, Hg, Hs, Hp, -, Hd, Ht, H5, Hv, Ho⟩
  isplitl [Hf]
  · iexact Hf
  isplitl [Hg]
  · iexact Hg
  isplitl [Hs]
  · iexact Hs
  isplitl [Hp]
  · iexact Hp
  isplitl [Hd]
  · iexact Hd
  isplitl [Ht]
  · iexact Ht
  isplitl [H5]
  · iexact H5
  isplitl [Hv]
  · iexact Hv
  · iexact Ho

/-- After the last block of rows has landed. -/
def afterAll : sProp 𝕄 :=
  iprop(freeI d i a3 al v12 q idx (nT i) ∗ freeI d i a3 al v12 q idx (nT i + 1)
    ∗ freeO d i ao v13 (nT i) ∗ freeO d i ao v13 (nT i - 1)
    ∗ bigSep (Finset.range (nT i)) (fun j => own (thr d i) fullShare (winO a4 (bT i + j)) (outB tab idx hidx (bT i + j)))
    ∗ own (thr d i) qt a2 tab ∗ (∃ v, own (thr d i) fullShare a5 v) ∗ semVal (thr d i, SemLoc.dma v168.sem) 0 ∗ owesW d i O W)

set_option maxHeartbeats 4000000 in
theorem part6_wp (hcr : RowsOK a5)
    (v11 v45 v41 : BitVec 32) (h41 : (v41, 0#32, 0#32, 0#32, 0#32) = words i 0) (h1 : k0_cond1 i = 1#1) {Ψ : PUnit → sProp 𝕄} :
    iprop(Transfers.MayWaits (thr d i) default O ∗ inv d i a2 a3 a4 a5 al v12 ao v13 v168 q qt tab idx hidx O W 0)
      ⊢ iprop((afterAll d i a2 a3 a4 a5 al v12 ao v13 v168 q qt tab idx hidx O W -∗ Ψ ⟨⟩)
        -∗ wp frame (wpE (defs₀ (F := F)) Variants.none (thr d i) none) Set.univ
          (k0_part6 i a2 h2 a3 h3 a4 h4 a5 h5 al hal v12 ao hao v13 v168 v169 (BitVec.ofNat 32 (nT i)) (BitVec.ofNat 32 (bT i)) v11 h1 v41
            0#32 0#32 0#32 0#32 0#32 v45) Ψ) := by
  have hn := nT_pos i
  have hb := bT_add_nT_le i
  rw [k0_part6_eq_skeleton]; unfold k0_part6_skel
  simp only [Prog.lift, Prog.bind_op, Prog.bind_ret, ite_self, dite_eq_ite]
  rw [h41]
  iintro ⟨#Hm, Hi⟩ Hk
  iapply (Scf.wp_for_bind _ _ _ _ _ _ _ _ _
    (fun t acc => iprop(⌜acc = words i t⌝ ∗ Transfers.MayWaits (thr d i) default O
      ∗ inv d i a2 a3 a4 a5 al v12 ao v13 v168 q qt tab idx hidx O W t))
    (fun t acc => by
      iintro ⟨%h, H⟩
      subst h
      iapply (trip_wp (F := F) d i a2 h2 a3 h3 a4 h4 a5 h5 al hal v12 ao hao v13 v168 v169 q qt tab idx hidx O W hcr v11 v41 v45 h1 t)
      iexact H)) $$ [Hi]
  · isplitr
    · ipureintro; rfl
    isplitl []
    · iexact Hm
    · iexact Hi
  iintro %acc ⟨%hacc, -, Hi⟩
  have ht : Scf.trips (k0_t1_loop i).lb (k0_t1_loop i).ub (k0_t1_loop i).st = nT i := trips1 i
  ihave Hi := (Entails.of_eq (congrArg (inv (F := F) d i a2 a3 a4 a5 al v12 ao v13 v168 q qt tab idx hidx O W) ht)) $$ Hi
  ihave Hi := (inv_last (F := F) d i a2 a3 a4 a5 al v12 ao v13 v168 q qt tab idx hidx O W) $$ Hi
  have hacc' : acc = words i (nT i) := by rw [hacc, ht]
  subst hacc'
  unfold words
  dsimp only
  iapply (Scf.wp_for_bind _ _ _ _ _ _ _ _ _
    (fun _ acc => iprop(⌜acc = (w7 i (nT i), w8 (nT i), w8 (nT i), w10 (nT i), w11 i (nT i))⌝))
    (fun t acc => absurd (lt_of_lt_of_eq t.isLt (trips3 i)) (Nat.not_lt_zero _))) $$ []
  · ipureintro; rfl
  iintro %acc %hacc
  subst hacc
  dsimp only
  iapply (wp_assume _ _ _ _ (chk8 i))
  iapply (wp_assume _ _ _ _ (chk7 i))
  simp only [Prog.bind_op, Prog.bind_ret]
  rw [dif_pos (cond18 i)]
  unfold afterTrips
  icases Hi with ⟨Hf, Hg, Hs, Hp, Hd, Ht, H5, Hv, Ho⟩
  iapply (awaitOut (F := F) (k := nT i - 1) d i a4 ao v13 tab idx hidx O W (by omega) (off41 i) (off42 i)) $$ [Hp Ho]
  · isplitl []
    · iexact Hm
    isplitl [Hp]
    · iexact Hp
    · iexact Ho
  iintro ⟨Hw, Hp, Ho⟩
  rw [wp_pure]
  imodintro
  iapply Hk
  unfold afterAll
  isplitl [Hf]
  · iexact Hf
  isplitl [Hg]
  · iexact Hg
  isplitl [Hs]
  · iexact Hs
  isplitl [Hp]
  · iexact Hp
  isplitl [Hd Hw]
  · iapply (Entails.of_eq (show iprop(own (thr d i) fullShare (winO a4 (bT i + (nT i - 1))) (outB tab idx hidx (bT i + (nT i - 1)))
      ∗ bigSep (Finset.range (nT i - 1)) (fun j => own (thr d i) fullShare (winO a4 (bT i + j)) (outB tab idx hidx (bT i + j))))
        = bigSep (Finset.range (nT i)) (fun j => own (thr d i) fullShare (winO a4 (bT i + j)) (outB tab idx hidx (bT i + j))) by
      rw [← bigSep_range_succ (nT i - 1) (fun j => own (thr d i) fullShare (winO a4 (bT i + j)) (outB tab idx hidx (bT i + j))),
        Nat.sub_add_cancel hn]))
    isplitl [Hw]
    · iexact Hw
    · iexact Hd
  isplitl [Ht]
  · iexact Ht
  isplitl [H5]
  · iexact H5
  isplitl [Hv]
  · iexact Hv
  · iexact Ho

theorem rI_disj : Disjoint (rI 0).set (rI 1).set := by
  rw [Finset.disjoint_left]
  intro x h0 h1
  rw [Rect.mem_set_unit] at h0 h1
  have a := (h0 0).2
  have b := (h1 0).1
  exact absurd (lt_of_lt_of_le a b) (lt_irrefl _)
theorem rI_univ : (rI 0).set ∪ (rI 1).set = Finset.univ := by
  ext x
  simp only [Finset.mem_union, Rect.mem_set_unit, Finset.mem_univ, iff_true]
  have h0 : (x 0).val < 2 := (x 0).isLt
  have h1 : (x 1).val < 1 := (x 1).isLt
  have h2 : (x 2).val < 128 := (x 2).isLt
  by_cases h : (x 0).val = 0
  · left; intro a; fin_cases a
    · exact ⟨Nat.zero_le _, by show (x 0).val < 0 + 1; omega⟩
    · exact ⟨Nat.zero_le _, by show (x 1).val < 0 + 1; omega⟩
    · exact ⟨Nat.zero_le _, by show (x 2).val < 0 + 128; omega⟩
  · right; intro a; fin_cases a
    · exact ⟨by show 1 ≤ (x 0).val; omega, by show (x 0).val < 1 + 1; omega⟩
    · exact ⟨Nat.zero_le _, by show (x 1).val < 0 + 1; omega⟩
    · exact ⟨Nat.zero_le _, by show (x 2).val < 0 + 128; omega⟩
theorem rO_disj : Disjoint (rO 0).set (rO 1).set := by
  rw [Finset.disjoint_left]
  intro x h0 h1
  rw [Rect.mem_set_unit] at h0 h1
  have a := (h0 0).2
  have b := (h1 0).1
  exact absurd (lt_of_lt_of_le a b) (lt_irrefl _)
theorem rO_univ : (rO 0).set ∪ (rO 1).set = Finset.univ := by
  ext x
  simp only [Finset.mem_union, Rect.mem_set_unit, Finset.mem_univ, iff_true]
  have h0 : (x 0).val < 2 := (x 0).isLt
  have h1 : (x 1).val < 128 := (x 1).isLt
  have h2 : (x 2).val < 32 := (x 2).isLt
  by_cases h : (x 0).val = 0
  · left; intro a; fin_cases a
    · exact ⟨Nat.zero_le _, by show (x 0).val < 0 + 1; omega⟩
    · exact ⟨Nat.zero_le _, by show (x 1).val < 0 + 128; omega⟩
    · exact ⟨Nat.zero_le _, by show (x 2).val < 0 + 32; omega⟩
  · right; intro a; fin_cases a
    · exact ⟨by show 1 ≤ (x 0).val; omega, by show (x 0).val < 1 + 1; omega⟩
    · exact ⟨Nat.zero_le _, by show (x 1).val < 0 + 128; omega⟩
    · exact ⟨Nat.zero_le _, by show (x 2).val < 0 + 32; omega⟩

/-- The two sides of the words together: the list, both slots, both semaphores. -/
def sidesI : sProp 𝕄 :=
  iprop(own (thr d i) q a3 idx ∗ (∃ v, own (thr d i) fullShare al v) ∗ semVal (thr d i, SemLoc.dma (semOf v12 0)) 0
    ∗ semVal (thr d i, SemLoc.dma (semOf v12 1)) 0)
def sidesO : sProp 𝕄 :=
  iprop((∃ v, own (thr d i) fullShare ao v) ∗ semVal (thr d i, SemLoc.dma (semOf v13 0)) 0 ∗ semVal (thr d i, SemLoc.dma (semOf v13 1)) 0)

theorem own_slot (al : Memref sig .scVector .vmem S2x1x128 .i32) (k : ℕ) :
    (iprop(∃ v, own (F := F) (thr d i) fullShare (al.slice (rI k) (fun _ => rfl)) v) : sProp 𝕄) ⊢ iprop(∃ v, own (thr d i) fullShare (slotI al k) v) := by
  iintro ⟨%v, H⟩
  ihave H := (own_squeeze (thr d i) fullShare (al.slice (rI k) (fun _ => rfl)) S1x128 squeezes_S1x1x128_S1x128 v) $$ H
  iexists _
  iexact H
theorem own_slot' (al : Memref sig .scVector .vmem S2x1x128 .i32) (k : ℕ) :
    (iprop(∃ v, own (F := F) (thr d i) fullShare (slotI al k) v) : sProp 𝕄) ⊢ iprop(∃ v, own (thr d i) fullShare (al.slice (rI k) (fun _ => rfl)) v) := by
  iintro ⟨%v, H⟩
  iexists (fun x => v ((Shape.reshapeEquiv squeezes_S1x1x128_S1x128.numel_eq).symm x))
  iapply (own_unsqueeze (thr d i) fullShare (al.slice (rI k) (fun _ => rfl)) S1x128 squeezes_S1x1x128_S1x128
    (fun x => v ((Shape.reshapeEquiv squeezes_S1x1x128_S1x128.numel_eq).symm x)))
  simp only [Equiv.symm_apply_apply]
  iexact H
theorem own_rows (ao : Memref sig .scVector .vmem S2x128x32 .f32) (k : ℕ) :
    (iprop(∃ v, own (F := F) (thr d i) fullShare (ao.slice (rO k) (fun _ => rfl)) v) : sProp 𝕄) ⊢ iprop(∃ v, own (thr d i) fullShare (slotO ao k) v) := by
  iintro ⟨%v, H⟩
  ihave H := (own_squeeze (thr d i) fullShare (ao.slice (rO k) (fun _ => rfl)) S128x32 squeezes_S1x128x32_S128x32 v) $$ H
  iexists _
  iexact H
theorem own_rows' (ao : Memref sig .scVector .vmem S2x128x32 .f32) (k : ℕ) :
    (iprop(∃ v, own (F := F) (thr d i) fullShare (slotO ao k) v) : sProp 𝕄) ⊢ iprop(∃ v, own (thr d i) fullShare (ao.slice (rO k) (fun _ => rfl)) v) := by
  iintro ⟨%v, H⟩
  iexists (fun x => v ((Shape.reshapeEquiv squeezes_S1x128x32_S128x32.numel_eq).symm x))
  iapply (own_unsqueeze (thr d i) fullShare (ao.slice (rO k) (fun _ => rfl)) S128x32 squeezes_S1x128x32_S128x32
    (fun x => v ((Shape.reshapeEquiv squeezes_S1x128x32_S128x32.numel_eq).symm x)))
  simp only [Equiv.symm_apply_apply]
  iexact H

theorem openI : sidesI d i a3 al v12 q idx ⊢ iprop(freeI d i a3 al v12 q idx 0 ∗ freeI d i a3 al v12 q idx 1) := by
  unfold sidesI freeI qI
  rw [if_pos (Nat.zero_mod 2), if_neg (by decide : ¬ 1 % 2 = 0)]
  iintro ⟨Hi, ⟨%v, Hs⟩, H0, H1⟩
  ihave ⟨Hl, Hr⟩ := (own_share (thr d i) q a3 idx) $$ Hi
  ihave ⟨Ha, Hb⟩ := (own_two (thr d i) al (rI 0) (rI 1) (fun _ => rfl) (fun _ => rfl) rI_disj rI_univ v) $$ Hs
  ihave Ha := (own_slot (F := F) d i al 0) $$ Ha
  ihave Hb := (own_slot (F := F) d i al 1) $$ Hb
  isplitl [Hl Ha H0]
  · isplitl [Hl]
    · iexact Hl
    isplitl [Ha]
    · iexact Ha
    · iexact H0
  · isplitl [Hr]
    · iexact Hr
    isplitl [Hb]
    · iexact Hb
    · iexact H1
theorem closeI : iprop(freeI d i a3 al v12 q idx 0 ∗ freeI d i a3 al v12 q idx 1) ⊢ sidesI d i a3 al v12 q idx := by
  unfold sidesI freeI qI
  rw [if_pos (Nat.zero_mod 2), if_neg (by decide : ¬ 1 % 2 = 0)]
  iintro ⟨⟨Hl, Ha, H0⟩, ⟨Hr, Hb, H1⟩⟩
  ihave Ha := (own_slot' (F := F) d i al 0) $$ Ha
  ihave Hb := (own_slot' (F := F) d i al 1) $$ Hb
  isplitl [Hl Hr]
  · iapply (own_unshare (thr d i) q a3 idx)
    isplitl [Hl]
    · iexact Hl
    · iexact Hr
  isplitl [Ha Hb]
  · iapply (own_join (thr d i) al (rI 0) (rI 1) (fun _ => rfl) (fun _ => rfl) rI_disj rI_univ)
    isplitl [Ha]
    · iexact Ha
    · iexact Hb
  isplitl [H0]
  · iexact H0
  · iexact H1
theorem openO : sidesO (F := F) d i ao v13 ⊢ iprop(freeO d i ao v13 0 ∗ freeO d i ao v13 1) := by
  unfold sidesO freeO
  iintro ⟨⟨%v, Hs⟩, H0, H1⟩
  ihave ⟨Ha, Hb⟩ := (own_two (thr d i) ao (rO 0) (rO 1) (fun _ => rfl) (fun _ => rfl) rO_disj rO_univ v) $$ Hs
  ihave Ha := (own_rows (F := F) d i ao 0) $$ Ha
  ihave Hb := (own_rows (F := F) d i ao 1) $$ Hb
  isplitl [Ha H0]
  · isplitl [Ha]
    · iexact Ha
    · iexact H0
  · isplitl [Hb]
    · iexact Hb
    · iexact H1
theorem closeO : iprop(freeO (F := F) d i ao v13 0 ∗ freeO d i ao v13 1) ⊢ sidesO d i ao v13 := by
  unfold sidesO freeO
  iintro ⟨⟨Ha, H0⟩, ⟨Hb, H1⟩⟩
  ihave Ha := (own_rows' (F := F) d i ao 0) $$ Ha
  ihave Hb := (own_rows' (F := F) d i ao 1) $$ Hb
  isplitl [Ha Hb]
  · iapply (own_join (thr d i) ao (rO 0) (rO 1) (fun _ => rfl) (fun _ => rfl) rO_disj rO_univ)
    isplitl [Ha]
    · iexact Ha
    · iexact Hb
  isplitl [H0]
  · iexact H0
  · iexact H1

/-- Two sides one step apart are the two sides, in one order or the other. -/
theorem shutI (k : ℕ) : iprop(freeI d i a3 al v12 q idx k ∗ freeI d i a3 al v12 q idx (k + 1)) ⊢ sidesI d i a3 al v12 q idx := by
  rcases Nat.mod_two_eq_zero_or_one k with h | h
  · rw [freeI_congr d i a3 al v12 q idx (show k % 2 = 0 % 2 by omega), freeI_congr d i a3 al v12 q idx (show (k + 1) % 2 = 1 % 2 by omega)]
    exact closeI d i a3 al v12 q idx
  · rw [freeI_congr d i a3 al v12 q idx (show k % 2 = 1 % 2 by omega), freeI_congr d i a3 al v12 q idx (show (k + 1) % 2 = 0 % 2 by omega)]
    iintro ⟨H0, H1⟩
    iapply (closeI d i a3 al v12 q idx)
    isplitl [H1]
    · iexact H1
    · iexact H0
theorem shutO (k : ℕ) : iprop(freeO (F := F) d i ao v13 (k + 1) ∗ freeO d i ao v13 k) ⊢ sidesO d i ao v13 := by
  rcases Nat.mod_two_eq_zero_or_one k with h | h
  · rw [freeO_congr d i ao v13 (show k % 2 = 0 % 2 by omega), freeO_congr d i ao v13 (show (k + 1) % 2 = 1 % 2 by omega)]
    iintro ⟨H0, H1⟩
    iapply (closeO d i ao v13)
    isplitl [H1]
    · iexact H1
    · iexact H0
  · rw [freeO_congr d i ao v13 (show k % 2 = 1 % 2 by omega), freeO_congr d i ao v13 (show (k + 1) % 2 = 0 % 2 by omega)]
    exact closeO d i ao v13

set_option maxHeartbeats 4000000 in
/-- The tile's kernel, from its blocks free to its blocks holding the rows their words name. -/
theorem tile_wp (hcr : RowsOK a5) {Ψ : PUnit → sProp 𝕄} :
    iprop(Transfers.MayWaits (thr d i) default O ∗ sidesI d i a3 al v12 q idx ∗ sidesO d i ao v13 ∗ own (thr d i) qt a2 tab
        ∗ bigSep (Finset.range (nT i)) (fun j => iprop(∃ v, own (thr d i) fullShare (winO a4 (bT i + j)) v))
        ∗ (∃ v, own (thr d i) fullShare a5 v) ∗ semVal (thr d i, SemLoc.dma v168.sem) 0 ∗ owes (thr d i) O W)
      ⊢ iprop((iprop(sidesI d i a3 al v12 q idx ∗ sidesO d i ao v13 ∗ own (thr d i) qt a2 tab
          ∗ bigSep (Finset.range (nT i)) (fun j => own (thr d i) fullShare (winO a4 (bT i + j)) (outB tab idx hidx (bT i + j)))
          ∗ (∃ v, own (thr d i) fullShare a5 v) ∗ semVal (thr d i, SemLoc.dma v168.sem) 0 ∗ owesW d i O W) -∗ Ψ ⟨⟩)
        -∗ wp frame (wpE (defs₀ (F := F)) Variants.none (thr d i) none) Set.univ
          (cc0_gather_kernel i a2 h2 a3 h3 a4 h4 a5 h5 al hal v12 ao hao v13 v168 v169) Ψ) := by
  have hn := nT_pos i
  have hb := bT_add_nT_le i
  rw [cc0_gather_kernel_eq_skeleton]; unfold cc0_gather_kernel_skel
  dsimp only
  rw [dif_pos (cond1 i)]
  have e5 : Scalar.select (Scalar.cmpi .slt (Scalar.addi (Scalar.addi 0#32 (Scalar.muli (BitVec.ofNat 32 (i 1).val) 1#32))
      (Scalar.muli (BitVec.ofNat 32 (i 0).val) 16#32)) 16#32) 22#32 21#32 = BitVec.ofNat 32 (nT i) := c5_eq i
  have e10 := c10_eq i
  unfold c10 c5 c3 at e10
  rw [e10, e5]
  rw [k0_part5_eq_skeleton]; unfold k0_part5_skel
  rw [dif_pos (cond2 i)]
  simp only [Prog.lift, Prog.bind_op, Prog.bind_ret, wp_bind]
  iintro ⟨#Hm, Hi, Ho, Ht, Hw, H5, Hv, HO⟩ Hk
  ihave ⟨Hf, Hg⟩ := (openI (F := F) d i a3 al v12 q idx) $$ Hi
  ihave ⟨Hs, Hs'⟩ := (openO (F := F) d i ao v13) $$ Ho
  iapply (issueIn (k := 0) d i a3 al v12 q idx (by omega) k0_off1_eq (off2 i) k0_off3_eq) $$ [Hf]
  · iexact Hf
  iintro Hf
  simp only [wp_bind, wp_pure]
  imodintro
  iapply (part6_wp (F := F) d i a2 h2 a3 h3 a4 h4 a5 h5 al hal v12 ao hao v13 v168 v169 q qt tab idx hidx O W hcr _ _ _ (words_zero i) (cond1 i)) $$ [Hf Hg Hs Hs' Hw Ht H5 Hv HO]
  · isplitl []
    · iexact Hm
    unfold inv
    rw [if_pos hn, if_pos rfl, Finset.range_eq_Ico]
    isplitl [Hf]
    · iexact Hf
    isplitl [Hg]
    · iexact Hg
    isplitl [Hs]
    · iexact Hs
    isplitl [Hs']
    · iexact Hs'
    isplitl [Hw]
    · iexact Hw
    isplitl []
    · rw [show Finset.range (0 - 1) = ∅ from rfl, bigSep_empty]
      iempintro
    isplitl [Ht]
    · iexact Ht
    isplitl [H5]
    · iexact H5
    isplitl [Hv]
    · iexact Hv
    · unfold owesW
      iexists W
      isplitr
      · ipureintro; exact fun p hp => Or.inl hp
      · iexact HO
  unfold afterAll
  iintro ⟨Hf, Hg, Hs, Hp, Hw, Ht, H5, Hv, HO⟩
  imodintro
  iapply Hk
  isplitl [Hf Hg]
  · iapply (shutI (F := F) d i a3 al v12 q idx (nT i))
    isplitl [Hf]
    · iexact Hf
    · iexact Hg
  isplitl [Hs Hp]
  · have e : nT i - 1 + 1 = nT i := Nat.sub_add_cancel hn
    iapply (shutO (F := F) d i ao v13 (nT i - 1))
    rw [e]
    isplitl [Hs]
    · iexact Hs
    · iexact Hp
  isplitl [Ht]
  · iexact Ht
  isplitl [Hw]
  · iexact Hw
  isplitl [H5]
  · iexact H5
  isplitl [Hv]
  · iexact Hv
  · iexact HO

end Body

end Cert.Proof.Tile
-- ==== Proof.Deal.lean ====
/-
  How a call's three arrays are dealt to its 32 tiles and come back. The table and the index words are read by every
  tile, so each tile gets a share of them; the result is written, so each tile gets the blocks of rows it fills. What
  one tile is handed is `goP`, what it hands back is `tdP`; `deal` and `collect` are the two directions for a whole
  call.
-/
module

public import proofs.«01_k».proof.Proof.Body

@[expose] public section

set_option maxRecDepth 16384

noncomputable section

namespace Cert.Proof.Deal

open Cert.KernelIdeal Cert.KernelIdeal.Gen Cert.Proof.Words Cert.Proof.Own Cert.Proof.Tile

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-! ## Sums over initial segments -/

theorem eq_of {P Q : sProp 𝕄} (h : P ⊢ Q) (k : Q ⊢ P) : P = Q := BI.Entails.antisymm h k

theorem sep_emp' (P : sProp 𝕄) : iprop(P ∗ emp) = P := by
  apply eq_of
  · iintro ⟨H, -⟩; iexact H
  · iintro H
    isplitl [H]; · iexact H
    iempintro

theorem sep_swap (P Q R : sProp 𝕄) : iprop(P ∗ Q ∗ R) = iprop(Q ∗ P ∗ R) := by
  apply eq_of
  · iintro ⟨H, K, L⟩
    isplitl [K]; · iexact K
    isplitl [H] <;> iassumption
  · iintro ⟨H, K, L⟩
    isplitl [K]; · iexact K
    isplitl [H] <;> iassumption

theorem sep_flip (P Q : sProp 𝕄) : iprop(P ∗ Q) = iprop(Q ∗ P) := by
  apply eq_of
  · iintro ⟨H, K⟩
    isplitl [K] <;> iassumption
  · iintro ⟨H, K⟩
    isplitl [K] <;> iassumption

theorem range_add (A : ℕ → sProp 𝕄) (a b : ℕ) :
    bigSep (Finset.range (a + b)) A = iprop(bigSep (Finset.range a) A ∗ bigSep (Finset.range b) fun j => A (a + j)) := by
  induction b with
  | zero => rw [Finset.range_zero, bigSep_empty, Nat.add_zero]; exact (sep_emp' _).symm
  | succ b ih => rw [← Nat.add_assoc, bigSep_range_succ, ih, bigSep_range_succ, sep_swap]

theorem range_mul (A : ℕ → sProp 𝕄) (n k : ℕ) :
    bigSep (Finset.range (n * k)) A = bigSep (Finset.range n) fun s => bigSep (Finset.range k) fun j => A (k * s + j) := by
  induction n with
  | zero => rw [Nat.zero_mul, Finset.range_zero, bigSep_empty, bigSep_empty]
  | succ n ih => rw [Nat.succ_mul, range_add, ih, bigSep_range_succ, Nat.mul_comm n k, sep_flip]

/-- A sum over the numbers below `n`, as `Fin n` or as the initial segment. -/
theorem univ_range (n : ℕ) (A : ℕ → sProp 𝕄) : (bigSep Finset.univ fun i : Fin n => A i.val) = bigSep (Finset.range n) A := by
  rw [show Finset.range n = (Finset.univ : Finset (Fin n)).map Fin.valEmbedding from by
    ext x; simp [Fin.exists_iff], bigSep_map]; rfl

/-! ## Shares -/

/-- Share number `k` of the `2 ^ n` equal ones that halving `q` again and again makes. -/
def cut : ℕ → PosShare TreeShare → ℕ → PosShare TreeShare
  | 0, q, _ => q
  | n + 1, q, k => if k % 2 = 0 then (cut n q (k / 2)).left else (cut n q (k / 2)).right

theorem cut_all (A : PosShare TreeShare → sProp 𝕄) (hA : ∀ q, A q = iprop(A q.left ∗ A q.right)) (n : ℕ) (q : PosShare TreeShare) :
    A q = bigSep (Finset.range (2 ^ n)) fun k => A (cut n q k) := by
  induction n with
  | zero => rw [show 2 ^ 0 = 0 + 1 from rfl, bigSep_range_succ, Finset.range_zero, bigSep_empty]; exact (sep_emp' _).symm
  | succ n ih =>
    rw [ih, Nat.pow_succ, range_mul]
    refine bigSep_congr fun s _ => ?_
    have e0 : cut (n + 1) q (2 * s + 0) = (cut n q s).left := by
      rw [cut, if_pos (by omega), show (2 * s + 0) / 2 = s by omega]
    have e1 : cut (n + 1) q (2 * s + 1) = (cut n q s).right := by
      rw [cut, if_neg (by omega), show (2 * s + 1) / 2 = s by omega]
    rw [show Finset.range 2 = Finset.range (0 + 1 + 1) from rfl, bigSep_range_succ, bigSep_range_succ, Finset.range_zero, bigSep_empty, hA,
      sep_flip]
    show _ = iprop(A (cut (n + 1) q (2 * s + 1)) ∗ A (cut (n + 1) q (2 * s + 0)) ∗ emp)
    rw [e0, e1]
    exact congrArg _ (sep_emp' _).symm

/-- The coordinates of a tile. -/
def coords (c : Fin (grid0.bound 0)) (s : Fin (grid0.bound 1)) : grid0.Coords :=
  fun | 0 => c | 1 => s | ⟨_ + 2, h⟩ => absurd h (Nat.not_lt.2 (Nat.le_add_left _ _))

/-- The share of the arrays it reads that a tile gets. -/
def shr (i : grid0.Coords) : PosShare TreeShare := cut 4 (cut 1 fullShare (i 0).val) (i 1).val

theorem shares (A : PosShare TreeShare → sProp 𝕄) (hA : ∀ q, A q = iprop(A q.left ∗ A q.right)) :
    A fullShare = bigSep Finset.univ fun c : Fin 2 => bigSep Finset.univ fun s : Fin 16 => A (shr (coords c s)) := by
  rw [cut_all A hA 1 fullShare, ← univ_range]
  refine bigSep_congr fun c _ => ?_
  rw [cut_all A hA 4 _, ← univ_range]
  rfl

/-! ## Blocks of rows -/

/-- The 688 blocks, tile by tile. -/
theorem blocks (B : ℕ → sProp 𝕄) :
    bigSep (Finset.range 688) B = bigSep Finset.univ fun c : Fin 2 => bigSep Finset.univ fun s : Fin 16 =>
      bigSep (Finset.range (nT (coords c s))) fun j => B (bT (coords c s) + j) := by
  rw [show (688 : ℕ) = 16 * 22 + 16 * 21 from rfl, range_add, range_mul, range_mul, bigSep_fin_two, ← univ_range, ← univ_range]
  refine congrArg₂ _ ?_ ?_
  · rfl
  · refine bigSep_congr fun s _ => bigSep_congr fun j _ => congrArg B ?_
    show 352 + (21 * s.val + j) = 352 + 21 * s.val + j
    omega

/-- The rows of a block, among the rows of the result. -/
abbrev rows (w : ℕ) : Finset S88064x32.Idx := (rWO w).set

theorem rows_disj : ∀ v ∈ Finset.range 688, ∀ w ∈ Finset.range 688, v ≠ w → Disjoint (rows v) (rows w) := by
  intro v hv w hw h
  have hv := Finset.mem_range.mp hv
  have hw := Finset.mem_range.mp hw
  refine Rect.unit_disjoint (a := 0) ?_
  show 128 * (v % 688) + 128 ≤ 128 * (w % 688) ∨ 128 * (w % 688) + 128 ≤ 128 * (v % 688)
  rw [Nat.mod_eq_of_lt hv, Nat.mod_eq_of_lt hw]
  omega

theorem rows_cover : (Finset.range 688).biUnion rows = Finset.univ := by
  ext x
  simp only [Finset.mem_biUnion, Finset.mem_univ, iff_true, Finset.mem_range]
  have h0 : (x 0).val < 88064 := (x 0).isLt
  have h1 : (x 1).val < 32 := (x 1).isLt
  have hw : (x 0).val / 128 < 688 := by omega
  refine ⟨(x 0).val / 128, hw, Rect.mem_set_unit.mpr fun a => ?_⟩
  match a with
  | 0 =>
    show 128 * ((x 0).val / 128 % 688) ≤ (x 0).val ∧ (x 0).val < 128 * ((x 0).val / 128 % 688) + 128
    rw [Nat.mod_eq_of_lt hw]
    omega
  | 1 => exact ⟨Nat.zero_le _, by show (x 1).val < 0 + 32; omega⟩

/-! ## What a tile is handed and hands back -/

section Tiles

variable (d : Dev nD) (a2 : Memref sig .scVector .hbm S256x128 .f32) (a3 : Memref sig .scVector .hbm S1x88064 .i32)
variable (a4 : Memref sig .scVector .hbm S88064x32 .f32)
variable (tab : S256x128.Idx → Elt F .f32) (idx : S1x88064.Idx → Elt F .i32) (res : S88064x32.Idx → Elt F .f32)

/-- A tile gets its share of the table and of the index words, and its blocks of the result at whatever they hold. -/
def goP (i : grid0.Coords) : sProp 𝕄 :=
  iprop(own (thr d i) (shr i) a2 tab ∗ own (thr d i) (shr i) a3 idx
    ∗ bigSep (Finset.range (nT i)) fun j => iprop(∃ v, own (thr d i) fullShare (winO a4 (bT i + j)) v))

/-- It hands the shares back, and its blocks at the rows of `res`. -/
def tdP (i : grid0.Coords) : sProp 𝕄 :=
  iprop(own (thr d i) (shr i) a2 tab ∗ own (thr d i) (shr i) a3 idx
    ∗ bigSep (Finset.range (nT i)) fun j => own (thr d i) fullShare (winO a4 (bT i + j)) fun x => res ((rWO (bT i + j)).emb x))

instance own_storable {sp : Space} {s : Shape} {e : EltTy} (c : Thread nD τ) (q : PosShare TreeShare) (m : Memref sig c.2.kind sp s e)
    (v : s.Idx → Elt F e) : Storable (upEmb : UEmb _ 𝕄) (Own.own c q m v) := by
  unfold Own.own; infer_instance

instance goP_storable (i : grid0.Coords) : Storable (upEmb : UEmb _ 𝕄) (goP d a2 a3 a4 tab idx i) := by
  unfold goP; infer_instance

instance tdP_storable (i : grid0.Coords) : Storable (upEmb : UEmb _ 𝕄) (tdP d a2 a3 a4 tab idx res i) := by
  unfold tdP; infer_instance

/-- A call's arrays, held whole in the forms `A`, `X` and `B`, dealt to its tiles. -/
theorem deal (A X : PosShare TreeShare → sProp 𝕄) (B : ℕ → sProp 𝕄)
    (hA : ∀ q, A q = iprop(A q.left ∗ A q.right)) (hX : ∀ q, X q = iprop(X q.left ∗ X q.right))
    (hA' : ∀ i q, A q ⊢ own (thr d i) q a2 tab) (hX' : ∀ i q, X q ⊢ own (thr d i) q a3 idx)
    (hB : ∀ i w, B w ⊢ iprop(∃ v, own (thr d i) fullShare (winO a4 w) v)) :
    iprop(A fullShare ∗ X fullShare ∗ bigSep (Finset.range 688) B)
      ⊢ bigSep Finset.univ fun c : Fin 2 => bigSep Finset.univ fun s : Fin 16 => goP d a2 a3 a4 tab idx (coords c s) := by
  rw [shares A hA, shares X hX, blocks, ← bigSep_sep', ← bigSep_sep']
  refine bigSep_mono fun c _ => ?_
  rw [← bigSep_sep', ← bigSep_sep']
  refine bigSep_mono fun s _ => ?_
  unfold goP
  exact BI.sep_mono (hA' _ _) (BI.sep_mono (hX' _ _) (bigSep_mono fun j _ => hB _ _))

/-- What the tiles hand back, put together again. -/
theorem collect (A X : PosShare TreeShare → sProp 𝕄) (B : ℕ → sProp 𝕄)
    (hA : ∀ q, A q = iprop(A q.left ∗ A q.right)) (hX : ∀ q, X q = iprop(X q.left ∗ X q.right))
    (hA' : ∀ i q, own (thr d i) q a2 tab ⊢ A q) (hX' : ∀ i q, own (thr d i) q a3 idx ⊢ X q)
    (hB : ∀ i w, own (thr d i) fullShare (winO a4 w) (fun x => res ((rWO w).emb x)) ⊢ B w) :
    (bigSep Finset.univ fun c : Fin 2 => bigSep Finset.univ fun s : Fin 16 => tdP d a2 a3 a4 tab idx res (coords c s))
      ⊢ iprop(A fullShare ∗ X fullShare ∗ bigSep (Finset.range 688) B) := by
  rw [shares A hA, shares X hX, blocks, ← bigSep_sep', ← bigSep_sep']
  refine bigSep_mono fun c _ => ?_
  rw [← bigSep_sep', ← bigSep_sep']
  refine bigSep_mono fun s _ => ?_
  unfold tdP
  exact BI.sep_mono (hA' _ _) (BI.sep_mono (hX' _ _) (bigSep_mono fun j _ => hB _ _))

end Tiles

/-! ## The forms a call's arrays are held in -/

/-- A points-to at a share is the two halves'. -/
theorem pts_half {ℓ : Loc nD τ sig} (I : Finset (Idx ℓ)) (f : Buf (Elt F) ℓ) (q : PosShare TreeShare) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

/-- A buffer held whole, as the memref that is all of it. -/
theorem own_whole (c : Thread nD τ) (q : PosShare TreeShare) (b : Ref sig c.2.kind) (f : Buf (Elt F) (c.loc b)) :
    (c.loc b ↦{q} f : sProp 𝕄) = own c q (Memref.whole b) f := by
  have hs : (Memref.whole b).view.set = Finset.univ := View.set_whole _
  have hr : (Memref.whole b).view.read (Elt F) f = f := View.read_whole _ _
  refine BI.Entails.antisymm ?_ ?_
  · refine BI.Entails.trans ?_ ((own_intro c q (Memref.whole b) f).trans (Entails.of_eq (by rw [hr])))
    rw [hs]
  · refine (own_elim c q (Memref.whole b) f hr).trans ?_
    rw [hs]

end Cert.Proof.Deal

end
-- ==== Proof.Calls.lean ====
/-
  A tile's run as a call asks for it: from what the call hands the tile and the subcore's own buffers and semaphores,
  to what the tile hands back. One statement for all four calls: each names its own arrays, buffers and semaphores.
-/
module

public import proofs.«01_k».proof.Proof.Deal
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Frame

@[expose] public section

set_option maxRecDepth 16384

noncomputable section

namespace Cert.Proof.Calls

open Cert.KernelIdeal Cert.KernelIdeal.Gen Cert.Proof.Words Cert.Proof.Own Cert.Proof.Tile Cert.Proof.Deal

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as its launch sees it -/

abbrev ΛP : Labels := Pipeline.Sig Λ₀ (Fin 0) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 4) (Elt F) ℕ UU ℕ

abbrev EH : Emb UH (MT nD τ sig (HIx 4) (Elt F) ℕ UU ℕ) := embL

/-! ## A subcore's own buffers and semaphores -/

section Own

variable (d : Dev nD) (c : Fin τ.nSC) (j : Fin τ.nSub)

/-- Three buffers of a subcore, at some contents, and the rest of its own. -/
theorem bufs3 (r5 rl ro : Ref sig .scVector)
    (h5 : (Proc.scVector c j).devRef r5 ∈ ownRefs (τ := τ) (sig := sig) (.scVector c j))
    (hl : (Proc.scVector c j).devRef rl ∈ ownRefs (τ := τ) (sig := sig) (.scVector c j))
    (ho : (Proc.scVector c j).devRef ro ∈ ownRefs (τ := τ) (sig := sig) (.scVector c j))
    (hne : rl ≠ r5 ∧ ro ≠ r5 ∧ ro ≠ rl) :
    ∃ R : sProp 𝕄, (ownBufs (V d c j) : sProp 𝕄)
      = iprop((∃ v, Own.own (V d c j) fullShare (Memref.whole r5) v) ∗ (∃ v, Own.own (V d c j) fullShare (Memref.whole rl) v)
          ∗ (∃ v, Own.own (V d c j) fullShare (Memref.whole ro) v) ∗ R) := by
  have e (b : Ref sig .scVector) : (iprop(∃ f, (V d c j).loc b ↦{fullShare} f) : sProp 𝕄)
      = iprop(∃ v, Own.own (V d c j) fullShare (Memref.whole b) v) := by
    congr 1; funext f; exact own_whole (V d c j) fullShare b f
  refine ⟨bigSep (((((ownRefs (τ := τ) (.scVector c j))).erase ((Proc.scVector c j).devRef r5)).erase ((Proc.scVector c j).devRef rl)).erase
    ((Proc.scVector c j).devRef ro)) (fun b => iprop(∃ f, ((d, b) : Loc nD τ sig) ↦{fullShare} f)), ?_⟩
  unfold SparseCore.Cfg.ownBufs
  rw [SparseCore.bigSep_erase' h5,
    SparseCore.bigSep_erase' (Finset.mem_erase.mpr ⟨fun h => hne.1 (Proc.devRef_injective _ h), hl⟩),
    SparseCore.bigSep_erase' (Finset.mem_erase.mpr ⟨fun h => hne.2.2 (Proc.devRef_injective _ h),
      Finset.mem_erase.mpr ⟨fun h => hne.2.1 (Proc.devRef_injective _ h), ho⟩⟩),
    ← e, ← e, ← e]

/-- Five semaphores of a subcore, at zero, and the rest of its own. -/
theorem sems5 (g1 g2 g3 g4 g5 : SemLoc sig) (hd : [g1, g2, g3, g4, g5].Nodup)
    (hs : ∀ g ∈ [g1, g2, g3, g4, g5], g.isScoped .scVector = true) :
    ∃ R : sProp 𝕄, (ownSems0 (V d c j) : sProp 𝕄)
      = iprop((semVal (V d c j, g1) 0 ∗ semVal (V d c j, g2) 0) ∗ (semVal (V d c j, g3) 0 ∗ semVal (V d c j, g4) 0)
          ∗ semVal (V d c j, g5) 0 ∗ R) := by
  have hm (g : SemLoc sig) (h : g ∈ [g1, g2, g3, g4, g5]) : ((V d c j, g) : GSem nD τ sig) ∈ ownCells (V d c j) :=
    mem_ownCells.mpr ⟨rfl, hs g h⟩
  have hn {g g' : SemLoc sig} (h : g ≠ g') : ((V d c j, g) : GSem nD τ sig) ≠ (V d c j, g') := fun e => h (Prod.ext_iff.mp e).2
  simp only [List.nodup_cons, List.mem_cons, List.not_mem_nil, or_false, not_or, List.nodup_nil, and_true, not_false_eq_true] at hd
  obtain ⟨⟨h12, h13, h14, h15⟩, ⟨h23, h24, h25⟩, ⟨h34, h35⟩, h45⟩ := hd
  refine ⟨bigSep ((((((ownCells (V d c j)).erase (V d c j, g1)).erase (V d c j, g2)).erase (V d c j, g3)).erase (V d c j, g4)).erase (V d c j, g5))
    (fun g => semVal g 0), ?_⟩
  unfold SparseCore.Cfg.ownSems0
  rw [SparseCore.bigSep_erase' (hm g1 (by simp)),
    SparseCore.bigSep_erase' (Finset.mem_erase.mpr ⟨hn (Ne.symm h12), hm g2 (by simp)⟩),
    SparseCore.bigSep_erase' (Finset.mem_erase.mpr ⟨hn (Ne.symm h23), Finset.mem_erase.mpr ⟨hn (Ne.symm h13), hm g3 (by simp)⟩⟩),
    SparseCore.bigSep_erase' (Finset.mem_erase.mpr ⟨hn (Ne.symm h34), Finset.mem_erase.mpr ⟨hn (Ne.symm h24),
      Finset.mem_erase.mpr ⟨hn (Ne.symm h14), hm g4 (by simp)⟩⟩⟩),
    SparseCore.bigSep_erase' (Finset.mem_erase.mpr ⟨hn (Ne.symm h45), Finset.mem_erase.mpr ⟨hn (Ne.symm h35),
      Finset.mem_erase.mpr ⟨hn (Ne.symm h25), Finset.mem_erase.mpr ⟨hn (Ne.symm h15), hm g5 (by simp)⟩⟩⟩⟩)]
  apply eq_of
  · iintro ⟨H1, H2, H3, H4, H5, H⟩
    isplitl [H1 H2]; · isplitl [H1] <;> iassumption
    isplitl [H3 H4]; · isplitl [H3] <;> iassumption
    isplitl [H5]; · iexact H5
    iexact H
  · iintro ⟨⟨H1, H2⟩, ⟨H3, H4⟩, H5, H⟩
    isplitl [H1]; · iexact H1
    isplitl [H2]; · iexact H2
    isplitl [H3]; · iexact H3
    isplitl [H4]; · iexact H4
    isplitl [H5]; · iexact H5
    iexact H

end Own

/-! ## The tile of a call -/

section Tile

variable [FloatOps F] (d : Dev nD) (i : grid0.Coords)
variable (a2 : Memref sig .scVector .hbm S256x128 .f32) (h2 : a2.IsWhole) (a3 : Memref sig .scVector .hbm S1x88064 .i32) (h3 : a3.IsWhole)
variable (a4 : Memref sig .scVector .hbm S88064x32 .f32) (h4 : a4.IsWhole) (a5 : Memref sig .scVector .vmem S128x128 .f32) (h5 : a5.IsWhole)
variable (al : Memref sig .scVector .vmem S2x1x128 .i32) (hal : al.IsWhole) (v12 : DmaSems sig S2)
variable (ao : Memref sig .scVector .vmem S2x128x32 .f32) (hao : ao.IsWhole) (v13 : DmaSems sig S2) (v168 v169 : DmaSems sig S_)
variable (tab : S256x128.Idx → Elt F .f32) (idx : S1x88064.Idx → Elt F .i32) (hidx : ∀ x, (idx x).toNat < 256)
variable (O : CellTallies nD τ sig (HIx 4)) (W : Waits sig (HIx 4))

set_option maxHeartbeats 8000000 in
/-- The tile of a call, with what it hands back left to the caller. -/
theorem call_tile_wp (hcr : RowsOK a5) (hO : ∀ g, O g none = 0) {RB RS : sProp 𝕄}
    (hb : (ownBufs (thr d i) : sProp 𝕄) = iprop((∃ v, Own.own (thr d i) fullShare a5 v)
      ∗ (∃ v, Own.own (thr d i) fullShare al v) ∗ (∃ v, Own.own (thr d i) fullShare ao v) ∗ RB))
    (hs : (ownSems0 (thr d i) : sProp 𝕄)
      = iprop((semVal (thr d i, .dma (semOf v12 0)) 0 ∗ semVal (thr d i, .dma (semOf v12 1)) 0)
        ∗ (semVal (thr d i, .dma (semOf v13 0)) 0 ∗ semVal (thr d i, .dma (semOf v13 1)) 0)
        ∗ semVal (thr d i, .dma v168.sem) 0 ∗ RS)) {Ψ : PUnit → sProp 𝕄} :
    iprop(levAts (K (F := F)).L (K (F := F)).lev ∗ emp ∗ goP d a2 a3 a4 tab idx i
        ∗ scopedBufs (thr d i) ∗ scopedSems0 (thr d i) ∗ owes (thr d i) O W)
      ⊢ iprop((iprop(tdP d a2 a3 a4 tab idx (outV tab idx hidx) i ∗ scopedBufs (thr d i) ∗ scopedSems0 (thr d i)
            ∗ owesW d i O W) -∗ Ψ ⟨⟩)
        -∗ wp frame (wpE (defs₀ (F := F)) 𝒱₀ (thr d i) none) Set.univ
          (cc0_gather_kernel i a2 h2 a3 h3 a4 h4 a5 h5 al hal v12 ao hao v13 v168 v169) Ψ) := by
  rw [(K (F := F)).scopedBufs_V facts d _ _, SparseCore.Cfg.scopedSems0_V (Val := Elt F) d _ _, hb, hs]
  unfold goP tdP
  iintro ⟨#Hlv, -, ⟨Ht, Hx, Hw⟩, ⟨H5, Hl, Ho, HB⟩, ⟨⟨Hl0, Hl1⟩, ⟨Ho0, Ho1⟩, Hg, HS⟩, HO⟩ Hk
  ihave #Hmw := (show levAts (K (F := F)).L (K (F := F)).lev ⊢ Transfers.MayWaits (thr d i) (default : HIx 4) O from
    (K (F := F)).mayWaits_none (thr := thr d i) hO) $$ Hlv
  have Hwp := @tile_wp F _ d i a2 h2 a3 h3 a4 h4 a5 h5 al hal v12 ao hao v13 v168 v169 (shr i) (shr i) tab idx hidx O W hcr Ψ
  iapply Hwp $$
    [Hx Hl Hl0 Hl1 Ho Ho0 Ho1 Ht Hw H5 Hg HO]
  · unfold sidesI sidesO
    isplitl []; · iexact Hmw
    isplitl [Hx Hl Hl0 Hl1]
    · isplitl [Hx]; · iexact Hx
      isplitl [Hl]; · iexact Hl
      isplitl [Hl0] <;> iassumption
    isplitl [Ho Ho0 Ho1]
    · isplitl [Ho]; · iexact Ho
      isplitl [Ho0] <;> iassumption
    isplitl [Ht]; · iexact Ht
    isplitl [Hw]; · iexact Hw
    isplitl [H5]; · iexact H5
    isplitl [Hg] <;> iassumption
  unfold sidesI sidesO
  iintro ⟨⟨Hx, Hl, Hl0, Hl1⟩, ⟨Ho, Ho0, Ho1⟩, Ht, Hw, H5, Hg, HO⟩
  iapply Hk
  isplitl [Hx Ht Hw]
  · isplitl [Ht]; · iexact Ht
    isplitl [Hx]; · iexact Hx
    iexact Hw
  isplitl [H5 Hl Ho HB]
  · isplitl [H5]; · iexact H5
    isplitl [Hl]; · iexact Hl
    isplitl [Ho]; · iexact Ho
    iexact HB
  isplitl [Hl0 Hl1 Ho0 Ho1 Hg HS]
  · isplitl [Hl0 Hl1]; · isplitl [Hl0] <;> iassumption
    isplitl [Ho0 Ho1]; · isplitl [Ho0] <;> iassumption
    isplitl [Hg] <;> iassumption
  iexact HO

end Tile

theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.Calls

end
-- ==== Proof.Host.lean ====
/-
  The host program around the four calls: its lines in five stretches, the contents of the buffers after each stretch
  and after each call, and what those are in terms of the two arguments.
-/
module

public import proofs.«01_k».proof.Proof.Tile
public import Idealize.ShloMosaic.Lib.StableHlo.Run
public import Idealize.ShloMosaic.Lib.StableHlo.RunRead
public import Idealize.ShloMosaic.Lib.Pipeline.Frame

@[expose] public section

set_option maxRecDepth 16384

noncomputable section

namespace Cert.Proof.Host

open Cert.KernelIdeal Cert.KernelIdeal.Gen Cert.Proof.Tile
open Idealize.ShloMosaic Idealize.ShloMosaic.StableHlo
open Idealize.SL

variable {F : FTy → Type} [FloatOps F]

/-! ## The stretches -/

/-- The softmax, the table of its rows padded to 128 columns, and the words of the first call. -/
def ops0 : List (HloOp τ sig (Elt F)) :=
  [StableHlo.nullary main_cst (constant S_ .f32 0xFF800000#32),
   StableHlo.binary main_arg0 main_cst main_v0 ((fun x v => Host.reduce FloatOps.maximumf x v reducesTo_S8x256x4_S8x4_d1 h_S_) : (⟨S8x256x4, .f32⟩ : BufTy).Contents (Elt F) → (⟨S_, .f32⟩ : BufTy).Contents (Elt F) → (⟨S8x4, .f32⟩ : BufTy).Contents (Elt F)),
   StableHlo.nullary main_cst_0 (constant S_ .f32 0xFF800000#32),
   StableHlo.unary main_cst_0 main_v1 (broadcastInDim S8x4 ![] bcast_S_S8x4 : (⟨S_, .f32⟩ : BufTy).Contents (Elt F) → (⟨S8x4, .f32⟩ : BufTy).Contents (Elt F)),
   StableHlo.binary main_v1 main_v0 main_v2 (maximumf : (⟨S8x4, .f32⟩ : BufTy).Contents (Elt F) → (⟨S8x4, .f32⟩ : BufTy).Contents (Elt F) → (⟨S8x4, .f32⟩ : BufTy).Contents (Elt F)),
   StableHlo.unary main_v2 main_v3 (broadcastInDim S8x1x4 ![0, 2] bcast_S8x4_S8x1x4_0_2 : (⟨S8x4, .f32⟩ : BufTy).Contents (Elt F) → (⟨S8x1x4, .f32⟩ : BufTy).Contents (Elt F)),
   StableHlo.unary main_v3 main_v4 (broadcastInDim S8x256x4 ![0, 1, 2] bcast_S8x1x4_S8x256x4_0_1_2 : (⟨S8x1x4, .f32⟩ : BufTy).Contents (Elt F) → (⟨S8x256x4, .f32⟩ : BufTy).Contents (Elt F)),
   StableHlo.binary main_arg0 main_v4 main_v5 (subf : (⟨S8x256x4, .f32⟩ : BufTy).Contents (Elt F) → (⟨S8x256x4, .f32⟩ : BufTy).Contents (Elt F) → (⟨S8x256x4, .f32⟩ : BufTy).Contents (Elt F)),
   StableHlo.unary main_v5 main_v6 (Host.exp : (⟨S8x256x4, .f32⟩ : BufTy).Contents (Elt F) → (⟨S8x256x4, .f32⟩ : BufTy).Contents (Elt F)),
   StableHlo.nullary main_cst_1 (constant S_ .f32 0x00000000#32),
   StableHlo.binary main_v6 main_cst_1 main_v7 ((fun x v => Host.reduceAdd x v reducesTo_S8x256x4_S8x4_d1 h_S_) : (⟨S8x256x4, .f32⟩ : BufTy).Contents (Elt F) → (⟨S_, .f32⟩ : BufTy).Contents (Elt F) → (⟨S8x4, .f32⟩ : BufTy).Contents (Elt F)),
   StableHlo.unary main_v7 main_v8 (broadcastInDim S8x1x4 ![0, 2] bcast_S8x4_S8x1x4_0_2 : (⟨S8x4, .f32⟩ : BufTy).Contents (Elt F) → (⟨S8x1x4, .f32⟩ : BufTy).Contents (Elt F)),
   StableHlo.unary main_v8 main_v9 (broadcastInDim S8x256x4 ![0, 1, 2] bcast_S8x1x4_S8x256x4_0_1_2 : (⟨S8x1x4, .f32⟩ : BufTy).Contents (Elt F) → (⟨S8x256x4, .f32⟩ : BufTy).Contents (Elt F)),
   StableHlo.binary main_v6 main_v9 main_v10 (Host.divf : (⟨S8x256x4, .f32⟩ : BufTy).Contents (Elt F) → (⟨S8x256x4, .f32⟩ : BufTy).Contents (Elt F) → (⟨S8x256x4, .f32⟩ : BufTy).Contents (Elt F)),
   StableHlo.unary main_v10 main_v11 ((transpose S256x8x4 [1, 0, 2] · transposes_S8x256x4_S256x8x4_1_0_2) : (⟨S8x256x4, .f32⟩ : BufTy).Contents (Elt F) → (⟨S256x8x4, .f32⟩ : BufTy).Contents (Elt F)),
   StableHlo.reshape main_v11 main_v12 (rfl : (.f32 : EltTy) = .f32) shapeCasts_S256x8x4_S256x32,
   StableHlo.nullary main_c (constantI S_ 32 0#32),
   StableHlo.TRef.unary (.of main_c : StableHlo.TRef sig ⟨S_, .i32⟩) main_call0.v0 (sitofp .f32),
   StableHlo.TRef.binary (.of main_v12 : StableHlo.TRef sig ⟨S256x32, .f32⟩) main_call0.v0 main_call0.v1 (fun x v => pad S256x128 ![0, 0] ![0, 96] ![0, 0] x v pads_S256x32_S256x128_000_0960 h_S_),
   StableHlo.unary main_arg1 main_v14 ((extractStridedSlice S88064 ![0] · slices_S352256_S88064_0) : (⟨S352256, .i32⟩ : BufTy).Contents (Elt F) → (⟨S88064, .i32⟩ : BufTy).Contents (Elt F)),
   StableHlo.reshape main_v14 main_v15 (rfl : (.i32 : EltTy) = .i32) shapeCasts_S88064_S1x88064]

/-- The words of the second call. -/
def ops1 : List (HloOp τ sig (Elt F)) :=
  [StableHlo.unary main_arg1 main_v17 ((extractStridedSlice S88064 ![88064] · slices_S352256_S88064_88064) : (⟨S352256, .i32⟩ : BufTy).Contents (Elt F) → (⟨S88064, .i32⟩ : BufTy).Contents (Elt F)),
   StableHlo.reshape main_v17 main_v18 (rfl : (.i32 : EltTy) = .i32) shapeCasts_S88064_S1x88064]

/-- The words of the third call. -/
def ops2 : List (HloOp τ sig (Elt F)) :=
  [StableHlo.unary main_arg1 main_v20 ((extractStridedSlice S88064 ![176128] · slices_S352256_S88064_176128) : (⟨S352256, .i32⟩ : BufTy).Contents (Elt F) → (⟨S88064, .i32⟩ : BufTy).Contents (Elt F)),
   StableHlo.reshape main_v20 main_v21 (rfl : (.i32 : EltTy) = .i32) shapeCasts_S88064_S1x88064]

/-- The words of the fourth call. -/
def ops3 : List (HloOp τ sig (Elt F)) :=
  [StableHlo.unary main_arg1 main_v23 ((extractStridedSlice S88064 ![264192] · slices_S352256_S88064_264192) : (⟨S352256, .i32⟩ : BufTy).Contents (Elt F) → (⟨S88064, .i32⟩ : BufTy).Contents (Elt F)),
   StableHlo.reshape main_v23 main_v24 (rfl : (.i32 : EltTy) = .i32) shapeCasts_S88064_S1x88064]

/-- The four results, one after another. -/
def ops4 : List (HloOp τ sig (Elt F)) :=
  [StableHlo.nary ![main_v16, main_v19, main_v22, main_v25] main_v26 (fun u => (concatenate S352256x32 0 [⟨S88064x32, (u 0 : (⟨S88064x32, .f32⟩ : BufTy).Contents (Elt F))⟩, ⟨S88064x32, (u 1 : (⟨S88064x32, .f32⟩ : BufTy).Contents (Elt F))⟩, ⟨S88064x32, (u 2 : (⟨S88064x32, .f32⟩ : BufTy).Contents (Elt F))⟩, ⟨S88064x32, (u 3 : (⟨S88064x32, .f32⟩ : BufTy).Contents (Elt F))⟩] concatenates_S88064x32_S88064x32_S88064x32_S88064x32_S352256x32_d0 : (⟨S352256x32, .f32⟩ : BufTy).Contents (Elt F)))]

theorem main_eq (d : Dev nD) : main (F := F) d = seq ops0 >>= fun _ => sc.run d 0 >>= fun _ => seq ops1 >>= fun _ => sc.run d 1 >>= fun _ =>
    seq ops2 >>= fun _ => sc.run d 2 >>= fun _ => seq ops3 >>= fun _ => sc.run d 3 >>= fun _ => seq ops4 >>= fun _ => pure ⟨⟩ := by
  rw [seq_bind_seqK, seq_bind_seqK, seq_bind_seqK, seq_bind_seqK, seq_bind_seqK]
  rfl

/-! ## The contents along the run -/

/-- The same words, each taken below 256: the words of a call are there already, by what is assumed of the arguments. -/
def low (idx : S1x88064.Idx → Elt F .i32) : S1x88064.Idx → Elt F .i32 := fun x => BitVec.ofNat 32 ((idx x : BitVec 32).toNat % 256)

theorem low_lt (idx : S1x88064.Idx → Elt F .i32) (x) : (low (F := F) idx x).toNat < 256 := by
  show (BitVec.ofNat 32 ((idx x : BitVec 32).toNat % 256)).toNat < 256
  rw [BitVec.toNat_ofNat]
  have : (idx x : BitVec 32).toNat % 256 < 256 := Nat.mod_lt _ (by decide)
  omega

theorem low_eq (idx : S1x88064.Idx → Elt F .i32) (h : ∀ x, (idx x : BitVec 32).toNat < 256) : low (F := F) idx = idx := by
  funext x
  show BitVec.ofNat 32 ((idx x : BitVec 32).toNat % 256) = idx x
  rw [Nat.mod_eq_of_lt (h x)]
  simp

/-- What a call leaves: the rows of the table that its words name. -/
def rowsOf (tab : S256x128.Idx → Elt F .f32) (idx : S1x88064.Idx → Elt F .i32) : S88064x32.Idx → Elt F .f32 :=
  outV tab (low idx) (low_lt idx)

theorem rowsOf_eq (tab : S256x128.Idx → Elt F .f32) (idx : S1x88064.Idx → Elt F .i32) (h : ∀ x, (idx x).toNat < 256) :
    rowsOf tab idx = outV tab idx h := by
  unfold rowsOf
  congr 1
  exact low_eq idx h

/-- The contents `V` with `v` at `b`. -/
def put (V : Valuation τ sig (Elt F)) (b : DevRef τ sig) (v : b.ty.Contents (Elt F)) : Valuation τ sig (Elt F) :=
  Function.update V b v

theorem put_self (V : Valuation τ sig (Elt F)) (b : DevRef τ sig) (v) : put V b v b = v := Function.update_self ..
theorem put_ne (V : Valuation τ sig (Elt F)) {x y : Ref sig .tc} (v) (h : y ≠ x) :
    put V (Proc.devRef .tc x) v (Proc.devRef .tc y) = V (Proc.devRef .tc y) :=
  Function.update_of_ne (devRef_ne_of_ne h) ..

variable (m : (ℓ : Loc nD τ sig) → Buf (Elt F) ℓ) (d : Dev nD)

/-- Before each call (`A`) and after it (`B`). -/
def A0 : Valuation τ sig (Elt F) := after ops0 (launchContents m d)
def B0 : Valuation τ sig (Elt F) := put (A0 m d) (Proc.devRef .tc main_v16) (rowsOf (A0 m d (Proc.devRef .tc main_v13)) (A0 m d (Proc.devRef .tc main_v15)))
def A1 : Valuation τ sig (Elt F) := after ops1 (B0 m d)
def B1 : Valuation τ sig (Elt F) := put (A1 m d) (Proc.devRef .tc main_v19) (rowsOf (A1 m d (Proc.devRef .tc main_v13)) (A1 m d (Proc.devRef .tc main_v18)))
def A2 : Valuation τ sig (Elt F) := after ops2 (B1 m d)
def B2 : Valuation τ sig (Elt F) := put (A2 m d) (Proc.devRef .tc main_v22) (rowsOf (A2 m d (Proc.devRef .tc main_v13)) (A2 m d (Proc.devRef .tc main_v21)))
def A3 : Valuation τ sig (Elt F) := after ops3 (B2 m d)
def B3 : Valuation τ sig (Elt F) := put (A3 m d) (Proc.devRef .tc main_v25) (rowsOf (A3 m d (Proc.devRef .tc main_v13)) (A3 m d (Proc.devRef .tc main_v24)))
def fin : Valuation τ sig (Elt F) := after ops4 (B3 m d)

/-! ## What the lines write -/

def wr0 : List (Ref sig .tc) := [main_cst, main_v0, main_cst_0, main_v1, main_v2, main_v3, main_v4, main_v5, main_v6, main_cst_1, main_v7,
  main_v8, main_v9, main_v10, main_v11, main_v12, main_c, main_call0_v0, main_v13, main_v14, main_v15]
def wr1 : List (Ref sig .tc) := [main_v17, main_v18]
def wr2 : List (Ref sig .tc) := [main_v20, main_v21]
def wr3 : List (Ref sig .tc) := [main_v23, main_v24]
def wr4 : List (Ref sig .tc) := [main_v26]

theorem wrote0 (_ : Valuation τ sig (Elt F)) : (ops0 (F := F)).map HloOp.writes = wr0.map fun r => {(Proc.devRef .tc r)} := rfl
theorem keep0 (V : Valuation τ sig (Elt F)) {r : Ref sig .tc} (h : r ∉ wr0) : after ops0 V (Proc.devRef .tc r) = V (Proc.devRef .tc r) :=
  after_of_writes_sub ops0 V (forall_writes_sub_of_map (W := wr0) (wrote0 V)) h
theorem wrote1 (_ : Valuation τ sig (Elt F)) : (ops1 (F := F)).map HloOp.writes = wr1.map fun r => {(Proc.devRef .tc r)} := rfl
theorem keep1 (V : Valuation τ sig (Elt F)) {r : Ref sig .tc} (h : r ∉ wr1) : after ops1 V (Proc.devRef .tc r) = V (Proc.devRef .tc r) :=
  after_of_writes_sub ops1 V (forall_writes_sub_of_map (W := wr1) (wrote1 V)) h
theorem wrote2 (_ : Valuation τ sig (Elt F)) : (ops2 (F := F)).map HloOp.writes = wr2.map fun r => {(Proc.devRef .tc r)} := rfl
theorem keep2 (V : Valuation τ sig (Elt F)) {r : Ref sig .tc} (h : r ∉ wr2) : after ops2 V (Proc.devRef .tc r) = V (Proc.devRef .tc r) :=
  after_of_writes_sub ops2 V (forall_writes_sub_of_map (W := wr2) (wrote2 V)) h
theorem wrote3 (_ : Valuation τ sig (Elt F)) : (ops3 (F := F)).map HloOp.writes = wr3.map fun r => {(Proc.devRef .tc r)} := rfl
theorem keep3 (V : Valuation τ sig (Elt F)) {r : Ref sig .tc} (h : r ∉ wr3) : after ops3 V (Proc.devRef .tc r) = V (Proc.devRef .tc r) :=
  after_of_writes_sub ops3 V (forall_writes_sub_of_map (W := wr3) (wrote3 V)) h
theorem wrote4 (_ : Valuation τ sig (Elt F)) : (ops4 (F := F)).map HloOp.writes = wr4.map fun r => {(Proc.devRef .tc r)} := rfl
theorem keep4 (V : Valuation τ sig (Elt F)) {r : Ref sig .tc} (h : r ∉ wr4) : after ops4 V (Proc.devRef .tc r) = V (Proc.devRef .tc r) :=
  after_of_writes_sub ops4 V (forall_writes_sub_of_map (W := wr4) (wrote4 V)) h

/-- A buffer that neither a line nor a call writes. -/
theorem kept {r : Ref sig .tc} (h0 : r ∉ wr0) (h1 : r ∉ wr1) (h2 : r ∉ wr2) (h3 : r ∉ wr3) (h4 : r ∉ wr4)
    (hc : r ≠ main_v16 ∧ r ≠ main_v19 ∧ r ≠ main_v22 ∧ r ≠ main_v25) : fin m d (Proc.devRef .tc r) = m (d, (Proc.devRef .tc r)) := by
  unfold fin; rw [keep4 _ h4]
  unfold B3; rw [put_ne _ _ hc.2.2.2]
  unfold A3; rw [keep3 _ h3]
  unfold B2; rw [put_ne _ _ hc.2.2.1]
  unfold A2; rw [keep2 _ h2]
  unfold B1; rw [put_ne _ _ hc.2.1]
  unfold A1; rw [keep1 _ h1]
  unfold B0; rw [put_ne _ _ hc.1]
  unfold A0; rw [keep0 _ h0]

theorem fin_arg0 : fin m d (Proc.devRef .tc main_arg0) = m (d, (Proc.devRef .tc main_arg0)) := kept m d (by decide) (by decide) (by decide) (by decide) (by decide) (by decide)
theorem fin_arg1 : fin m d (Proc.devRef .tc main_arg1) = m (d, (Proc.devRef .tc main_arg1)) := kept m d (by decide) (by decide) (by decide) (by decide) (by decide) (by decide)

/-! ## The table and the words of each call -/

/-- The words of the call whose first word is number `o` of the argument. -/
def words (o : ℕ) (h : S352256.Slices ![o] S88064) (x : S352256.Idx → Elt F .i32) : S1x88064.Idx → Elt F .i32 :=
  shapeCast S1x88064 (extractStridedSlice S88064 ![o] x h) shapeCasts_S88064_S1x88064

theorem words_lt (o : ℕ) (h) (x : S352256.Idx → Elt F .i32) (hx : ∀ i, (x i).toNat < 256) (i) : (words (F := F) o h x i).toNat < 256 := hx _

/-- The softmax over the second axis, and the table of its rows: row `k` holds the 32 values at `k`, then 96 zeros. -/
def smx (B : S8x256x4.Idx → Elt F .f32) : S8x256x4.Idx → Elt F .f32 :=
  let top : S8x4.Idx → Elt F .f32 := maximumf (broadcastInDim S8x4 ![] bcast_S_S8x4 (constant S_ .f32 0xFF800000#32))
    (Host.reduce FloatOps.maximumf B (constant S_ .f32 0xFF800000#32) reducesTo_S8x256x4_S8x4_d1 h_S_)
  let e : S8x256x4.Idx → Elt F .f32 := Host.exp (subf B
    (broadcastInDim S8x256x4 ![0, 1, 2] bcast_S8x1x4_S8x256x4_0_1_2 (broadcastInDim S8x1x4 ![0, 2] bcast_S8x4_S8x1x4_0_2 top)))
  Host.divf e (broadcastInDim S8x256x4 ![0, 1, 2] bcast_S8x1x4_S8x256x4_0_1_2 (broadcastInDim S8x1x4 ![0, 2] bcast_S8x4_S8x1x4_0_2
    (Host.reduceAdd e (constant S_ .f32 0x00000000#32) reducesTo_S8x256x4_S8x4_d1 h_S_)))

def tbl (B : S8x256x4.Idx → Elt F .f32) : S256x128.Idx → Elt F .f32 :=
  pad S256x128 ![0, 0] ![0, 96] ![0, 0]
    (shapeCast S256x32 (transpose S256x8x4 [1, 0, 2] (smx B) transposes_S8x256x4_S256x8x4_1_0_2) shapeCasts_S256x8x4_S256x32)
    (sitofp (F := F) .f32 (constantI S_ 32 0#32)) pads_S256x32_S256x128_000_0960 h_S_

theorem tab0 (V : Valuation τ sig (Elt F)) : after ops0 V (Proc.devRef .tc main_v13) = tbl (V (Proc.devRef .tc main_arg0)) := by
  unfold ops0; after_results; rfl
theorem words0 (V : Valuation τ sig (Elt F)) : after ops0 V (Proc.devRef .tc main_v15) = words 0 slices_S352256_S88064_0 (V (Proc.devRef .tc main_arg1)) := by
  unfold ops0; after_results; rfl
theorem words1 (V : Valuation τ sig (Elt F)) : after ops1 V (Proc.devRef .tc main_v18) = words 88064 slices_S352256_S88064_88064 (V (Proc.devRef .tc main_arg1)) := by
  unfold ops1; after_results; rfl
theorem words2 (V : Valuation τ sig (Elt F)) : after ops2 V (Proc.devRef .tc main_v21) = words 176128 slices_S352256_S88064_176128 (V (Proc.devRef .tc main_arg1)) := by
  unfold ops2; after_results; rfl
theorem words3 (V : Valuation τ sig (Elt F)) : after ops3 V (Proc.devRef .tc main_v24) = words 264192 slices_S352256_S88064_264192 (V (Proc.devRef .tc main_arg1)) := by
  unfold ops3; after_results; rfl

/-- The arguments before each call. -/
abbrev argB : S8x256x4.Idx → Elt F .f32 := m (d, (Proc.devRef .tc main_arg0))
abbrev argX : S352256.Idx → Elt F .i32 := m (d, (Proc.devRef .tc main_arg1))

theorem A0_keep {r : Ref sig .tc} (h : r ∉ wr0) : A0 m d (Proc.devRef .tc r) = m (d, (Proc.devRef .tc r)) := keep0 _ h
theorem A1_keep {r : Ref sig .tc} (h : r ∉ wr1) (hc : r ≠ main_v16) : A1 m d (Proc.devRef .tc r) = A0 m d (Proc.devRef .tc r) := by
  unfold A1 B0; rw [keep1 _ h, put_ne _ _ hc]
theorem A2_keep {r : Ref sig .tc} (h : r ∉ wr2) (hc : r ≠ main_v19) : A2 m d (Proc.devRef .tc r) = A1 m d (Proc.devRef .tc r) := by
  unfold A2 B1; rw [keep2 _ h, put_ne _ _ hc]
theorem A3_keep {r : Ref sig .tc} (h : r ∉ wr3) (hc : r ≠ main_v22) : A3 m d (Proc.devRef .tc r) = A2 m d (Proc.devRef .tc r) := by
  unfold A3 B2; rw [keep3 _ h, put_ne _ _ hc]

theorem A0_tab : A0 m d (Proc.devRef .tc main_v13) = tbl (argB m d) := tab0 _
theorem A1_tab : A1 m d (Proc.devRef .tc main_v13) = tbl (argB m d) := (A1_keep m d (by decide) (by decide)).trans (A0_tab m d)
theorem A2_tab : A2 m d (Proc.devRef .tc main_v13) = tbl (argB m d) := (A2_keep m d (by decide) (by decide)).trans (A1_tab m d)
theorem A3_tab : A3 m d (Proc.devRef .tc main_v13) = tbl (argB m d) := (A3_keep m d (by decide) (by decide)).trans (A2_tab m d)

theorem B0_arg : B0 m d (Proc.devRef .tc main_arg1) = argX m d := (put_ne _ _ (by decide)).trans (A0_keep m d (by decide))
theorem B1_arg : B1 m d (Proc.devRef .tc main_arg1) = argX m d := (put_ne _ _ (by decide)).trans ((keep1 _ (by decide)).trans (B0_arg m d))
theorem B2_arg : B2 m d (Proc.devRef .tc main_arg1) = argX m d := (put_ne _ _ (by decide)).trans ((keep2 _ (by decide)).trans (B1_arg m d))

theorem A0_words : A0 m d (Proc.devRef .tc main_v15) = words 0 slices_S352256_S88064_0 (argX m d) := words0 _
theorem A1_words : A1 m d (Proc.devRef .tc main_v18) = words 88064 slices_S352256_S88064_88064 (argX m d) := (words1 _).trans (by rw [B0_arg])
theorem A2_words : A2 m d (Proc.devRef .tc main_v21) = words 176128 slices_S352256_S88064_176128 (argX m d) := (words2 _).trans (by rw [B1_arg])
theorem A3_words : A3 m d (Proc.devRef .tc main_v24) = words 264192 slices_S352256_S88064_264192 (argX m d) := (words3 _).trans (by rw [B2_arg])

/-! ## The result -/

/-- The rows of the call whose first word is number `o` of the argument, and all four calls' one after another. -/
abbrev part (B : S8x256x4.Idx → Elt F .f32) (x : S352256.Idx → Elt F .i32) (o : ℕ) (h : S352256.Slices ![o] S88064) :
    S88064x32.Idx → Elt F .f32 := rowsOf (tbl B) (words o h x)

def cat4 (a b c e : S88064x32.Idx → Elt F .f32) : S352256x32.Idx → Elt F .f32 :=
  concatenate S352256x32 0 [⟨S88064x32, a⟩, ⟨S88064x32, b⟩, ⟨S88064x32, c⟩, ⟨S88064x32, e⟩]
    concatenates_S88064x32_S88064x32_S88064x32_S88064x32_S352256x32_d0

def all (B : S8x256x4.Idx → Elt F .f32) (x : S352256.Idx → Elt F .i32) : S352256x32.Idx → Elt F .f32 :=
  cat4 (part B x 0 slices_S352256_S88064_0) (part B x 88064 slices_S352256_S88064_88064)
    (part B x 176128 slices_S352256_S88064_176128) (part B x 264192 slices_S352256_S88064_264192)

theorem B3_v16 : B3 m d (Proc.devRef .tc main_v16) = part (argB m d) (argX m d) 0 slices_S352256_S88064_0 := by
  unfold B3; rw [put_ne _ _ (by decide), A3_keep m d (by decide) (by decide), A2_keep m d (by decide) (by decide)]
  unfold A1; rw [keep1 _ (by decide)]
  unfold B0; rw [put_self, A0_tab, A0_words]
theorem B3_v19 : B3 m d (Proc.devRef .tc main_v19) = part (argB m d) (argX m d) 88064 slices_S352256_S88064_88064 := by
  unfold B3; rw [put_ne _ _ (by decide), A3_keep m d (by decide) (by decide)]
  unfold A2; rw [keep2 _ (by decide)]
  unfold B1; rw [put_self, A1_tab, A1_words]
theorem B3_v22 : B3 m d (Proc.devRef .tc main_v22) = part (argB m d) (argX m d) 176128 slices_S352256_S88064_176128 := by
  unfold B3; rw [put_ne _ _ (by decide)]
  unfold A3; rw [keep3 _ (by decide)]
  unfold B2; rw [put_self, A2_tab, A2_words]
theorem B3_v25 : B3 m d (Proc.devRef .tc main_v25) = part (argB m d) (argX m d) 264192 slices_S352256_S88064_264192 := by
  unfold B3; rw [put_self, A3_tab, A3_words]

theorem fin_v26 : fin m d (Proc.devRef .tc main_v26) = all (argB m d) (argX m d) := by
  have h : fin m d (Proc.devRef .tc main_v26) = cat4 (B3 m d (Proc.devRef .tc main_v16)) (B3 m d (Proc.devRef .tc main_v19)) (B3 m d (Proc.devRef .tc main_v22)) (B3 m d (Proc.devRef .tc main_v25)) := by
    unfold fin ops4; after_results; rfl
  rw [h, B3_v16, B3_v19, B3_v22, B3_v25]; rfl

end Cert.Proof.Host

end
-- ==== Proof.Same.lean ====
/-
  The four calls run one function: the text printed for each is the same.
-/
module

public import proofs.«01_k».proof.Proof.Gen.KernelIdeal
public import proofs.«01_k».proof.Proof.Gen.KernelIdeal.Skeleton

@[expose] public section

set_option maxRecDepth 65536

namespace Cert.Proof.Same

open Idealize.ShloMosaic Cert.KernelIdeal Cert.KernelIdeal.Gen

variable {F : FTy → Type} [FloatOps F]

theorem call1 : cc1_gather_kernel (F := F) = cc0_gather_kernel (F := F) := rfl
theorem call2 : cc2_gather_kernel (F := F) = cc0_gather_kernel (F := F) := rfl
theorem call3 : cc3_gather_kernel (F := F) = cc0_gather_kernel (F := F) := rfl

end Cert.Proof.Same
-- ==== Proof.Launch.lean ====
/-
  The four calls as the launch sees them: what each hands its tiles and gets back, and that each tile does its part.
-/
module

public import proofs.«01_k».proof.Proof.Calls
public import proofs.«01_k».proof.Proof.Host
public import proofs.«01_k».proof.Proof.Same

@[expose] public section

set_option maxRecDepth 16384

noncomputable section

namespace Cert.Proof.Launch

open Cert.KernelIdeal Cert.KernelIdeal.Gen Cert.Proof.Words Cert.Proof.Own Cert.Proof.Tile Cert.Proof.Deal Cert.Proof.Calls Cert.Proof.Host

open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ
variable (m : (ℓ : Loc nD τ sig) → Buf (Elt F) ℓ)

/-! ## What a call hands over -/

/-- The table and the words of call `q`, as they are when it starts. -/
def tabQ (q : Fin 4) (d : Dev nD) : S256x128.Idx → Elt F .f32 := match q with
  | 0 => A0 m d (Proc.devRef .tc main_v13)
  | 1 => A1 m d (Proc.devRef .tc main_v13)
  | 2 => A2 m d (Proc.devRef .tc main_v13)
  | 3 => A3 m d (Proc.devRef .tc main_v13)
def idxQ (q : Fin 4) (d : Dev nD) : S1x88064.Idx → Elt F .i32 := match q with
  | 0 => A0 m d (Proc.devRef .tc main_v15)
  | 1 => A1 m d (Proc.devRef .tc main_v18)
  | 2 => A2 m d (Proc.devRef .tc main_v21)
  | 3 => A3 m d (Proc.devRef .tc main_v24)

/-- The arrays of call `q`: the table, the words, and the rows it writes. -/
abbrev tabM : Memref sig .scVector .hbm S256x128 .f32 := Memref.whole main_v13_scv
def idxM (q : Fin 4) : Memref sig .scVector .hbm S1x88064 .i32 := match q with
  | 0 => Memref.whole main_v15_scv
  | 1 => Memref.whole main_v18_scv
  | 2 => Memref.whole main_v21_scv
  | 3 => Memref.whole main_v24_scv
def outM (q : Fin 4) : Memref sig .scVector .hbm S88064x32 .f32 := match q with
  | 0 => Memref.whole main_v16_scv
  | 1 => Memref.whole main_v19_scv
  | 2 => Memref.whole main_v22_scv
  | 3 => Memref.whole main_v25_scv

/-- What a tile of call `q` is handed, and what it hands back. -/
def goQ (q : Fin 4) (d : Dev nD) (i : grid0.Coords) : sProp 𝕄 := goP d tabM (idxM q) (outM q) (tabQ m q d) (idxQ m q d) i
def tdQ (q : Fin 4) (d : Dev nD) (i : grid0.Coords) : sProp 𝕄 :=
  tdP d tabM (idxM q) (outM q) (tabQ m q d) (idxQ m q d) (rowsOf (tabQ m q d) (idxQ m q d)) i

instance goQ_storable (q : Fin 4) (d : Dev nD) (i : grid0.Coords) : Storable (upEmb : UEmb _ 𝕄) (goQ m q d i) := by
  unfold goQ; infer_instance
instance tdQ_storable (q : Fin 4) (d : Dev nD) (i : grid0.Coords) : Storable (upEmb : UEmb _ 𝕄) (tdQ m q d i) := by
  unfold tdQ; infer_instance

theorem nCore_eq (q : Fin 4) : (K (F := F)).nCore q = 2 := by fin_cases q <;> rfl
theorem nSub_eq (q : Fin 4) : (K (F := F)).nSub q = 16 := by fin_cases q <;> rfl

/-- The tile that a call's SparseCore `c` and subcore `s` are. -/
abbrev at' (q : Fin 4) (c : Fin ((K (F := F)).nCore q)) (s : Fin ((K (F := F)).nSub q)) : grid0.Coords :=
  coords (Fin.cast (nCore_eq q) c) (Fin.cast (nSub_eq q) s)

def P : (K (F := F)).Pay (nD := nD) (Val := Elt F) (Name := ℕ) (U := UU) where
  st := fun q d c => bigSep Finset.univ fun s => goQ m q d (at' q c s)
  dn := fun q d c => bigSep Finset.univ fun s => tdQ m q d (at' q c s)
  go := fun q d c s => goQ m q d (at' q c s)
  td := fun q d c s => tdQ m q d (at' q c s)
  x := fun _ _ => iprop(emp)

instance P_storable : (P (F := F) m).IsStorable where
  st q d c := (inferInstance : Storable (upEmb : UEmb _ 𝕄) (bigSep Finset.univ fun s => goQ m q d (at' q c s)))
  dn q d c := (inferInstance : Storable (upEmb : UEmb _ 𝕄) (bigSep Finset.univ fun s => tdQ m q d (at' q c s)))
  go q d c s := (inferInstance : Storable (upEmb : UEmb _ 𝕄) (goQ m q d (at' q c s)))
  td q d c s := (inferInstance : Storable (upEmb : UEmb _ 𝕄) (tdQ m q d (at' q c s)))

/-- What is asked of the launch memory: every index word is below 256. -/
def PreOK : Prop := ∀ (d : Dev nD) (x : S352256.Idx), (argX m d x).toNat < 256

variable {m} in
theorem idx_lt (hok : PreOK m) (q : Fin 4) (d : Dev nD) : ∀ x, (idxQ m q d x).toNat < 256 := by
  match q with
  | 0 => show ∀ x, (A0 m d (Proc.devRef .tc main_v15) x : BitVec 32).toNat < 256; rw [A0_words]; exact words_lt _ _ _ (hok d)
  | 1 => show ∀ x, (A1 m d (Proc.devRef .tc main_v18) x : BitVec 32).toNat < 256; rw [A1_words]; exact words_lt _ _ _ (hok d)
  | 2 => show ∀ x, (A2 m d (Proc.devRef .tc main_v21) x : BitVec 32).toNat < 256; rw [A2_words]; exact words_lt _ _ _ (hok d)
  | 3 => show ∀ x, (A3 m d (Proc.devRef .tc main_v24) x : BitVec 32).toNat < 256; rw [A3_words]; exact words_lt _ _ _ (hok d)

/-! ## The tiles -/

theorem use_wp {X Y Z W : sProp 𝕄} (h : X ⊢ iprop((Y -∗ Z) -∗ W)) (hy : Y ⊢ Z) : X ⊢ W := by
  iintro H
  iapply h $$ H
  iintro Hy
  iapply hy
  iexact Hy

section Tile

variable (d : Dev nD) (i : grid0.Coords) (q : Fin 4)
variable (h2 : tabM.IsWhole) (h3 : (idxM q).IsWhole)
variable (h4 : (outM q).IsWhole) (a5 : Memref sig .scVector .vmem S128x128 .f32) (h5 : a5.IsWhole)
variable (al : Memref sig .scVector .vmem S2x1x128 .i32) (hal : al.IsWhole) (v12 : DmaSems sig S2)
variable (ao : Memref sig .scVector .vmem S2x128x32 .f32) (hao : ao.IsWhole) (v13 : DmaSems sig S2) (v168 v169 : DmaSems sig S_)
variable (O : CellTallies nD τ sig (HIx 4)) (W : Waits sig (HIx 4))

set_option maxHeartbeats 8000000 in
/-- A tile of call `q`, from what the call hands it to what it hands back. -/
theorem tile_body (hok : PreOK m) (hcr : RowsOK a5) (hO : ∀ g, O g none = 0)
    (hb : ∃ RB, (ownBufs (thr d i) : sProp 𝕄) = iprop((∃ v, Own.own (thr d i) fullShare a5 v)
      ∗ (∃ v, Own.own (thr d i) fullShare al v) ∗ (∃ v, Own.own (thr d i) fullShare ao v) ∗ RB))
    (hs : ∃ RS, (ownSems0 (thr d i) : sProp 𝕄)
      = iprop((semVal (thr d i, .dma (semOf v12 0)) 0 ∗ semVal (thr d i, .dma (semOf v12 1)) 0)
        ∗ (semVal (thr d i, .dma (semOf v13 0)) 0 ∗ semVal (thr d i, .dma (semOf v13 1)) 0)
        ∗ semVal (thr d i, .dma v168.sem) 0 ∗ RS)) :
    iprop(levAts (K (F := F)).L (K (F := F)).lev ∗ emp ∗ goQ m q d i
        ∗ scopedBufs (thr d i) ∗ scopedSems0 (thr d i) ∗ owes (thr d i) O W)
      ⊢ wp frame (wpE (defs₀ (F := F)) 𝒱₀ (thr d i) none) Set.univ
          (cc0_gather_kernel i tabM h2 (idxM q) h3 (outM q) h4 a5 h5 al hal v12 ao hao v13 v168 v169)
          (fun _ => iprop(tdQ m q d i ∗ scopedBufs (thr d i) ∗ scopedSems0 (thr d i)
            ∗ ∃ W', ⌜∀ p ∈ W', p ∈ W ∨ p.2 = none ∨ p.2 = some q⌝ ∗ owes (thr d i) O W')) := by
  obtain ⟨RB, hb⟩ := hb
  obtain ⟨RS, hs⟩ := hs
  have hidx := idx_lt hok q d
  have H := @call_tile_wp F _ d i tabM h2 (idxM q) h3 (outM q) h4 a5 h5 al hal v12 ao hao v13 v168 v169 (tabQ m q d) (idxQ m q d) hidx O W
    hcr hO RB RS hb hs (fun _ => iprop(tdQ m q d i ∗ scopedBufs (thr d i) ∗ scopedSems0 (thr d i)
            ∗ ∃ W', ⌜∀ p ∈ W', p ∈ W ∨ p.2 = none ∨ p.2 = some q⌝ ∗ owes (thr d i) O W'))
  refine use_wp H ?_
  rw [← rowsOf_eq (tabQ m q d) (idxQ m q d) hidx]
  exact obl_post

end Tile

theorem vec0 (c : Fin τ.nSC) (s : Fin τ.nSub) : defs₀ (F := F) (.scVector c s) 0 ()
    = SparseCore.onTile hcore0 hsub0 (fun c s => cc0_gather_kernel (coords c s)
        tabM (Memref.isWhole_whole _) (idxM 0) (Memref.isWhole_whole _) (outM 0) (Memref.isWhole_whole _)
        (Memref.whole cc0_scratch0) (Memref.isWhole_whole _) (Memref.whole cc0_scoped0) (Memref.isWhole_whole _) cc0_scoped1
        (Memref.whole cc0_scoped2) (Memref.isWhole_whole _) cc0_scoped3 cc0_scoped4 cc0_scoped5) ⟨⟩ c s := rfl
theorem vec1 (c : Fin τ.nSC) (s : Fin τ.nSub) : defs₀ (F := F) (.scVector c s) 1 ()
    = SparseCore.onTile hcore0 hsub0 (fun c s => cc0_gather_kernel (coords c s)
        tabM (Memref.isWhole_whole _) (idxM 1) (Memref.isWhole_whole _) (outM 1) (Memref.isWhole_whole _)
        (Memref.whole cc1_scratch0) (Memref.isWhole_whole _) (Memref.whole cc1_scoped0) (Memref.isWhole_whole _) cc1_scoped1
        (Memref.whole cc1_scoped2) (Memref.isWhole_whole _) cc1_scoped3 cc1_scoped4 cc1_scoped5) ⟨⟩ c s := by
  rw [← Same.call1]; rfl
theorem vec2 (c : Fin τ.nSC) (s : Fin τ.nSub) : defs₀ (F := F) (.scVector c s) 2 ()
    = SparseCore.onTile hcore0 hsub0 (fun c s => cc0_gather_kernel (coords c s)
        tabM (Memref.isWhole_whole _) (idxM 2) (Memref.isWhole_whole _) (outM 2) (Memref.isWhole_whole _)
        (Memref.whole cc2_scratch0) (Memref.isWhole_whole _) (Memref.whole cc2_scoped0) (Memref.isWhole_whole _) cc2_scoped1
        (Memref.whole cc2_scoped2) (Memref.isWhole_whole _) cc2_scoped3 cc2_scoped4 cc2_scoped5) ⟨⟩ c s := by
  rw [← Same.call2]; rfl
theorem vec3 (c : Fin τ.nSC) (s : Fin τ.nSub) : defs₀ (F := F) (.scVector c s) 3 ()
    = SparseCore.onTile hcore0 hsub0 (fun c s => cc0_gather_kernel (coords c s)
        tabM (Memref.isWhole_whole _) (idxM 3) (Memref.isWhole_whole _) (outM 3) (Memref.isWhole_whole _)
        (Memref.whole cc3_scratch0) (Memref.isWhole_whole _) (Memref.whole cc3_scoped0) (Memref.isWhole_whole _) cc3_scoped1
        (Memref.whole cc3_scoped2) (Memref.isWhole_whole _) cc3_scoped3 cc3_scoped4 cc3_scoped5) ⟨⟩ c s := by
  rw [← Same.call3]; rfl

set_option maxHeartbeats 8000000 in
theorem tileObl0 (hok : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [vec0]; simp only [SparseCore.onTile, hci, and_self, ↓reduceDIte]
  exact tile_body m d (coords ⟨_, hci.1⟩ ⟨_, hci.2⟩) 0 _ _ _ (Memref.whole cc0_scratch0) _ (Memref.whole cc0_scoped0) _ cc0_scoped1
    (Memref.whole cc0_scoped2) _ cc0_scoped3 cc0_scoped4 cc0_scoped5 O W hok (by unfold RowsOK; decide) hO
    (bufs3 d _ _ cc0_scratch0 cc0_scoped0 cc0_scoped2 (SparseCore.Cfg.mem_ownRefs_of_owner rfl) (SparseCore.Cfg.mem_ownRefs_of_owner rfl)
      (SparseCore.Cfg.mem_ownRefs_of_owner rfl) (by decide))
    (sems5 d _ _ _ _ _ _ _ (by decide) (by decide))

set_option maxHeartbeats 8000000 in
theorem tileObl1 (hok : PreOK m) : (K (F := F)).TileObl (D (F := F)) 𝒱 (P m) v₀ 1 := by
  intro d c i O W hO _ _
  simp only [show (P m).ox = fun _ _ => 0 from rfl, add_zero]
  have hci : ((K (F := F)).core 1 c).val < grid0.bound 0 ∧ ((K (F := F)).sub 1 i).val < grid0.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [vec1]; simp only [SparseCore.onTile, hci, and_self, ↓reduceDIte]
  exact tile_body m d (coords ⟨_, hci.1⟩ ⟨_, hci.2⟩) 1 _ _ _ (Memref.whole cc1_scratch0) _ (Memref.whole cc1_scoped0) _ cc1_scoped1
    (Memref.whole cc1_scoped2) _ cc1_scoped3 cc1_scoped4 cc1_scoped5 O W hok (by unfold RowsOK; decide) hO
    (bufs3 d _ _ cc1_scratch0 cc1_scoped0 cc1_scoped2 (SparseCore.Cfg.mem_ownRefs_of_owner rfl) (SparseCore.Cfg.mem_ownRefs_of_owner rfl)
      (SparseCore.Cfg.mem_ownRefs_of_owner rfl) (by decide))
    (sems5 d _ _ _ _ _ _ _ (by decide) (by decide))

set_option maxHeartbeats 8000000 in
theorem tileObl2 (hok : PreOK m) : (K (F := F)).TileObl (D (F := F)) 𝒱 (P m) v₀ 2 := by
  intro d c i O W hO _ _
  simp only [show (P m).ox = fun _ _ => 0 from rfl, add_zero]
  have hci : ((K (F := F)).core 2 c).val < grid0.bound 0 ∧ ((K (F := F)).sub 2 i).val < grid0.bound 1 := ⟨c.isLt, i.isLt⟩
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  rw [vec2]; simp only [SparseCore.onTile, hci, and_self, ↓reduceDIte]
  exact tile_body m d (coords ⟨_, hci.1⟩ ⟨_, hci.2⟩) 2 _ _ _ (Memref.whole cc2_scratch0) _ (Memref.whole cc2_scoped0) _ cc2_scoped1
    (Memref.whole cc2_scoped2) _ cc2_scoped3 cc2_scoped4 cc2_scoped5 O W hok (by unfold RowsOK; decide) hO
    (bufs3 d _ _ cc2_scratch0 cc2_scoped0 cc2_scoped2 (SparseCore.Cfg.mem_ownRefs_of_owner rfl) (SparseCore.Cfg.mem_ownRefs_of_owner rfl)
      (SparseCore.Cfg.mem_ownRefs_of_owner rfl) (by decide))
    (sems5 d _ _ _ _ _ _ _ (by decide) (by decide))

set_option maxHeartbeats 8000000 in
theorem tileObl3 (hok : PreOK m) : (K (F := F)).TileObl (D (F := F)) 𝒱 (P m) v₀ 3 := by
  intro d c i O W hO _ _
  simp only [show (P m).ox = fun _ _ => 0 from rfl, add_zero]
  have hci : ((K (F := F)).core 3 c).val < grid0.bound 0 ∧ ((K (F := F)).sub 3 i).val < grid0.bound 1 := ⟨c.isLt, i.isLt⟩
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  rw [vec3]; simp only [SparseCore.onTile, hci, and_self, ↓reduceDIte]
  exact tile_body m d (coords ⟨_, hci.1⟩ ⟨_, hci.2⟩) 3 _ _ _ (Memref.whole cc3_scratch0) _ (Memref.whole cc3_scoped0) _ cc3_scoped1
    (Memref.whole cc3_scoped2) _ cc3_scoped3 cc3_scoped4 cc3_scoped5 O W hok (by unfold RowsOK; decide) hO
    (bufs3 d _ _ cc3_scratch0 cc3_scoped0 cc3_scoped2 (SparseCore.Cfg.mem_ownRefs_of_owner rfl) (SparseCore.Cfg.mem_ownRefs_of_owner rfl)
      (SparseCore.Cfg.mem_ownRefs_of_owner rfl) (by decide))
    (sems5 d _ _ _ _ _ _ _ (by decide) (by decide))

theorem vecSplit (q : Fin 4) : (K (F := F)).VecSplit' (P m) q := by
  intro d c
  show (bigSep Finset.univ fun s => goQ m q d (at' q c s)) ⊢ |={Set.univ}=> iprop((bigSep Finset.univ fun s => goQ m q d (at' q c s))
    ∗ ((bigSep Finset.univ fun s => tdQ m q d (at' q c s)) -∗ bigSep Finset.univ fun s => tdQ m q d (at' q c s)))
  iintro H; imodintro
  isplitl [H]; · iexact H
  iintro H; iexact H

/-! ## The launch element of the ghost state -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (F := F) (initOf (K (F := F)).hsCells (K (F := F)).hsToks)) ∗ (bigSep Finset.univ fun _ : Dev nD => iprop(emp))
        ∗ bigSep Finset.univ fun thr : Thread nD τ => bigSep Finset.univ fun q : Fin 4 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 4 => (P (F := F) m).x q thr) = bigSep Finset.univ fun _ => iprop(emp) from
    bigSep_congr fun _ _ => emps _, emps]
  iempintro

end Cert.Proof.Launch

end
-- ==== Proof.Main.lean ====
/-
  The program on the TensorCore: its host lines and its four calls, one after another, and what a run of the whole
  program ends with.
-/
module

public import proofs.«01_k».proof.Proof.Launch

@[expose] public section

set_option maxRecDepth 16384

noncomputable section

namespace Cert.Proof.Main

open Cert.KernelIdeal Cert.KernelIdeal.Gen Cert.Proof.Words Cert.Proof.Own Cert.Proof.Tile Cert.Proof.Deal Cert.Proof.Calls Cert.Proof.Host
open Cert.Proof.Launch

open Idealize.ShloMosaic
open Idealize.ShloMosaic.SparseCore (S V T)
open Idealize.ShloMosaic.SparseCore.Cfg (HIx Pay ownBufs ownSems0)
open Idealize.ShloMosaic.StableHlo (held held_congr after seq wp_seq)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 4) (Elt F) ℕ UU ℕ
/-! ## Around a call -/

/-- A window of a whole array, as a set of its elements or as a memref. -/
theorem own_win (c : Thread nD τ) (q : PosShare TreeShare) (b : Ref sig c.2.kind) (r : Rect b.ty.shape) (hr : ∀ a, r.stride a = 1)
    (f : Buf (Elt F) (c.loc b)) :
    (c.loc b ↦[r.set]{q} f : sProp 𝕄) = Own.own c q ((Memref.whole b).slice r hr) fun x => f (r.emb x) := by
  have hs : ((Memref.whole b).slice r hr).view.set = r.set := by
    show ((View.whole b).slice r).set = _
    rw [View.set_slice]; exact Finset.map_refl
  apply eq_of
  · rw [← hs]; exact own_intro c q ((Memref.whole b).slice r hr) f
  · rw [← hs]; exact own_elim c q ((Memref.whole b).slice r hr) f rfl

/-- The rows a call writes, held whole or block by block. -/
theorem out_blocks (ℓ : Loc nD τ sig) (R : ℕ → Finset (Idx ℓ)) (hd : ∀ v ∈ Finset.range 688, ∀ w ∈ Finset.range 688, v ≠ w → Disjoint (R v) (R w))
    (hc : (Finset.range 688).biUnion R = Finset.univ) (f : Buf (Elt F) ℓ) :
    (ℓ ↦{fullShare} f : sProp 𝕄) = bigSep (Finset.range 688) fun w => ℓ ↦[R w]{fullShare} f := by
  rw [← pointsTo_biUnion (Finset.range 688) (ℓ := ℓ) R hd, hc]

section Around

variable (d : Dev nD) (S : Finset (DevRef τ sig)) (V : Valuation τ sig (Elt F))
variable {t x o : DevRef τ sig}

theorem held_three (ht : t ∈ S) (hx : x ∈ S) (ho : o ∈ S) (hxt : x ≠ t) (hot : o ≠ t) (hox : o ≠ x) : (held (d.tc : Thread nD τ) S V : sProp 𝕄)
    = iprop((((d, t) : Loc nD τ sig) ↦{fullShare} V t) ∗ (((d, x) : Loc nD τ sig) ↦{fullShare} V x)
      ∗ (((d, o) : Loc nD τ sig) ↦{fullShare} V o) ∗ held (d.tc : Thread nD τ) (((S.erase t).erase x).erase o) V) := by
  unfold StableHlo.held
  rw [SparseCore.bigSep_erase' ht, SparseCore.bigSep_erase' (Finset.mem_erase.mpr ⟨hxt, hx⟩),
    SparseCore.bigSep_erase' (Finset.mem_erase.mpr ⟨hox, Finset.mem_erase.mpr ⟨hot, ho⟩⟩)]

variable (a2 : Memref sig .scVector .hbm S256x128 .f32) (a3 : Memref sig .scVector .hbm S1x88064 .i32) (a4 : Memref sig .scVector .hbm S88064x32 .f32)
variable (tab : S256x128.Idx → Elt F .f32) (idx : S1x88064.Idx → Elt F .i32) (res : S88064x32.Idx → Elt F .f32)
variable (r : o.ty.Contents (Elt F)) (R : ℕ → Finset (Idx ((d, o) : Loc nD τ sig)))

/-- What a call takes out of the buffers, and how they stand when it is back. -/
theorem call_held (ht : t ∈ S) (hx : x ∈ S) (ho : o ∈ S) (hxt : x ≠ t) (hot : o ≠ t) (hox : o ≠ x)
    (hd : ∀ v ∈ Finset.range 688, ∀ w ∈ Finset.range 688, v ≠ w → Disjoint (R v) (R w))
    (hc : (Finset.range 688).biUnion R = Finset.univ)
    (hA : ∀ i q, (((d, t) : Loc nD τ sig) ↦{q} V t : sProp 𝕄) = Own.own (thr d i) q a2 tab)
    (hX : ∀ i q, (((d, x) : Loc nD τ sig) ↦{q} V x : sProp 𝕄) = Own.own (thr d i) q a3 idx)
    (hB : ∀ i w, (((d, o) : Loc nD τ sig) ↦[R w]{fullShare} V o : sProp 𝕄) ⊢ iprop(∃ v, Own.own (thr d i) fullShare (winO a4 w) v))
    (hB' : ∀ i w, Own.own (thr d i) fullShare (winO a4 w) (fun y => res ((rWO w).emb y)) ⊢ (((d, o) : Loc nD τ sig) ↦[R w]{fullShare} r : sProp 𝕄)) :
    (held (d.tc : Thread nD τ) S V : sProp 𝕄)
      ⊢ iprop((bigSep Finset.univ fun c : Fin 2 => bigSep Finset.univ fun s : Fin 16 => goP d a2 a3 a4 tab idx (coords c s))
        ∗ ((bigSep Finset.univ fun c : Fin 2 => bigSep Finset.univ fun s : Fin 16 => tdP d a2 a3 a4 tab idx res (coords c s))
          -∗ held (d.tc : Thread nD τ) S (put V o r))) := by
  rw [held_three d S V ht hx ho hxt hot hox, held_three d S (put V o r) ht hx ho hxt hot hox]
  have e1 : put V o r t = V t := Function.update_of_ne (Ne.symm hot) ..
  have e2 : put V o r x = V x := Function.update_of_ne (Ne.symm hox) ..
  rw [e1, e2, put_self, held_congr (V := put V o r) (V' := V) (d.tc : Thread nD τ) (S := ((S.erase t).erase x).erase o)
    (fun b hb => Function.update_of_ne (Finset.mem_erase.mp hb).1 ..)]
  have hdeal := deal d a2 a3 a4 tab idx (fun q => (((d, t) : Loc nD τ sig) ↦{q} V t)) (fun q => (((d, x) : Loc nD τ sig) ↦{q} V x))
    (fun w => (((d, o) : Loc nD τ sig) ↦[R w]{fullShare} V o)) (fun q => pts_half _ _ q) (fun q => pts_half _ _ q)
    (fun i q => Entails.of_eq (hA i q)) (fun i q => Entails.of_eq (hX i q)) hB
  have hcoll := collect d a2 a3 a4 tab idx res (fun q => (((d, t) : Loc nD τ sig) ↦{q} V t)) (fun q => (((d, x) : Loc nD τ sig) ↦{q} V x))
    (fun w => (((d, o) : Loc nD τ sig) ↦[R w]{fullShare} r)) (fun q => pts_half _ _ q) (fun q => pts_half _ _ q)
    (fun i q => Entails.of_eq (hA i q).symm) (fun i q => Entails.of_eq (hX i q).symm) hB'
  rw [out_blocks ((d, o) : Loc nD τ sig) R hd hc (V o), out_blocks ((d, o) : Loc nD τ sig) R hd hc r]
  iintro ⟨Ht, Hx, Ho, HR⟩
  isplitl [Ht Hx Ho]
  · iapply hdeal
    isplitl [Ht]; · iexact Ht
    isplitl [Hx]; · iexact Hx
    iexact Ho
  iintro Htd
  ihave H := hcoll $$ Htd
  icases H with ⟨Ht, Hx, Ho⟩
  isplitl [Ht]; · iexact Ht
  isplitl [Hx]; · iexact Hx
  isplitl [Ho]; · iexact Ho
  iexact HR

end Around

/-! ## The four calls -/

variable (m : (ℓ : Loc nD τ sig) → Buf (Elt F) ℓ) (ρ : Dev nD → PrngReg) (d : Dev nD)

/-- The buffers the host program holds. -/
abbrev U : Finset (DevRef τ sig) := Pipeline.ucRefs τ sig

theorem mem_U {r : Ref sig .tc} (h : r.isScoped = false) : (Proc.devRef .tc r) ∈ U :=
  Finset.mem_filter.mpr ⟨StableHlo.devRef_mem_tcRefs r, fun h' => Bool.false_ne_true (h.symm.trans h')⟩

theorem recast {N M : ℕ} (h : N = 2) (h' : M = 16) (G : grid0.Coords → sProp 𝕄) :
    (bigSep Finset.univ fun c : Fin N => bigSep Finset.univ fun s : Fin M => G (coords (Fin.cast h c) (Fin.cast h' s)))
      = bigSep Finset.univ fun c : Fin 2 => bigSep Finset.univ fun s : Fin 16 => G (coords c s) := by
  subst h; subst h'; rfl

/-- A call's starts, from the two SparseCores' sixteen tiles each, and its ends to them. -/
theorem starts (q : Fin 4) : (bigSep Finset.univ fun c : Fin ((K (F := F)).nCore q) => (P m).st q d c)
    = bigSep Finset.univ fun c : Fin 2 => bigSep Finset.univ fun s : Fin 16 => goQ m q d (coords c s) :=
  recast (nCore_eq q) (nSub_eq q) (goQ m q d)
theorem ends (q : Fin 4) : (bigSep Finset.univ fun c : Fin ((K (F := F)).nCore q) => (P m).dn q d c)
    = bigSep Finset.univ fun c : Fin 2 => bigSep Finset.univ fun s : Fin 16 => tdQ m q d (coords c s) :=
  recast (nCore_eq q) (nSub_eq q) (tdQ m q d)

theorem around0 : (held (d.tc : Thread nD τ) U (A0 m d) : sProp 𝕄)
    ⊢ iprop((bigSep Finset.univ fun c : Fin 2 => bigSep Finset.univ fun s : Fin 16 => goQ m 0 d (coords c s))
      ∗ ((bigSep Finset.univ fun c : Fin 2 => bigSep Finset.univ fun s : Fin 16 => tdQ m 0 d (coords c s)) -∗ held (d.tc : Thread nD τ) U (B0 m d))) :=
  call_held (t := (Proc.devRef .tc main_v13)) (x := (Proc.devRef .tc main_v15)) (o := (Proc.devRef .tc main_v16)) d U (A0 m d)
    tabM (idxM 0) (outM 0) (tabQ m 0 d) (idxQ m 0 d) (rowsOf (tabQ m 0 d) (idxQ m 0 d)) (rowsOf (tabQ m 0 d) (idxQ m 0 d)) rows
    (mem_U rfl) (mem_U rfl) (mem_U rfl)
    (StableHlo.devRef_ne_of_ne (by decide)) (StableHlo.devRef_ne_of_ne (by decide)) (StableHlo.devRef_ne_of_ne (by decide))
    rows_disj rows_cover
    (fun i q => own_whole (thr d i) q main_v13_scv (A0 m d (Proc.devRef .tc main_v13))) (fun i q => own_whole (thr d i) q main_v15_scv (A0 m d (Proc.devRef .tc main_v15)))
    (fun i w => (Entails.of_eq (own_win (thr d i) fullShare main_v16_scv (rWO w) (fun _ => rfl) (A0 m d (Proc.devRef .tc main_v16)))).trans (exists_intro _))
    (fun i w => Entails.of_eq (own_win (thr d i) fullShare main_v16_scv (rWO w) (fun _ => rfl) (rowsOf (tabQ m 0 d) (idxQ m 0 d))).symm)

theorem around1 : (held (d.tc : Thread nD τ) U (A1 m d) : sProp 𝕄)
    ⊢ iprop((bigSep Finset.univ fun c : Fin 2 => bigSep Finset.univ fun s : Fin 16 => goQ m 1 d (coords c s))
      ∗ ((bigSep Finset.univ fun c : Fin 2 => bigSep Finset.univ fun s : Fin 16 => tdQ m 1 d (coords c s)) -∗ held (d.tc : Thread nD τ) U (B1 m d))) :=
  call_held (t := (Proc.devRef .tc main_v13)) (x := (Proc.devRef .tc main_v18)) (o := (Proc.devRef .tc main_v19)) d U (A1 m d)
    tabM (idxM 1) (outM 1) (tabQ m 1 d) (idxQ m 1 d) (rowsOf (tabQ m 1 d) (idxQ m 1 d)) (rowsOf (tabQ m 1 d) (idxQ m 1 d)) rows
    (mem_U rfl) (mem_U rfl) (mem_U rfl)
    (StableHlo.devRef_ne_of_ne (by decide)) (StableHlo.devRef_ne_of_ne (by decide)) (StableHlo.devRef_ne_of_ne (by decide))
    rows_disj rows_cover
    (fun i q => own_whole (thr d i) q main_v13_scv (A1 m d (Proc.devRef .tc main_v13))) (fun i q => own_whole (thr d i) q main_v18_scv (A1 m d (Proc.devRef .tc main_v18)))
    (fun i w => (Entails.of_eq (own_win (thr d i) fullShare main_v19_scv (rWO w) (fun _ => rfl) (A1 m d (Proc.devRef .tc main_v19)))).trans (exists_intro _))
    (fun i w => Entails.of_eq (own_win (thr d i) fullShare main_v19_scv (rWO w) (fun _ => rfl) (rowsOf (tabQ m 1 d) (idxQ m 1 d))).symm)

theorem around2 : (held (d.tc : Thread nD τ) U (A2 m d) : sProp 𝕄)
    ⊢ iprop((bigSep Finset.univ fun c : Fin 2 => bigSep Finset.univ fun s : Fin 16 => goQ m 2 d (coords c s))
      ∗ ((bigSep Finset.univ fun c : Fin 2 => bigSep Finset.univ fun s : Fin 16 => tdQ m 2 d (coords c s)) -∗ held (d.tc : Thread nD τ) U (B2 m d))) :=
  call_held (t := (Proc.devRef .tc main_v13)) (x := (Proc.devRef .tc main_v21)) (o := (Proc.devRef .tc main_v22)) d U (A2 m d)
    tabM (idxM 2) (outM 2) (tabQ m 2 d) (idxQ m 2 d) (rowsOf (tabQ m 2 d) (idxQ m 2 d)) (rowsOf (tabQ m 2 d) (idxQ m 2 d)) rows
    (mem_U rfl) (mem_U rfl) (mem_U rfl)
    (StableHlo.devRef_ne_of_ne (by decide)) (StableHlo.devRef_ne_of_ne (by decide)) (StableHlo.devRef_ne_of_ne (by decide))
    rows_disj rows_cover
    (fun i q => own_whole (thr d i) q main_v13_scv (A2 m d (Proc.devRef .tc main_v13))) (fun i q => own_whole (thr d i) q main_v21_scv (A2 m d (Proc.devRef .tc main_v21)))
    (fun i w => (Entails.of_eq (own_win (thr d i) fullShare main_v22_scv (rWO w) (fun _ => rfl) (A2 m d (Proc.devRef .tc main_v22)))).trans (exists_intro _))
    (fun i w => Entails.of_eq (own_win (thr d i) fullShare main_v22_scv (rWO w) (fun _ => rfl) (rowsOf (tabQ m 2 d) (idxQ m 2 d))).symm)

theorem around3 : (held (d.tc : Thread nD τ) U (A3 m d) : sProp 𝕄)
    ⊢ iprop((bigSep Finset.univ fun c : Fin 2 => bigSep Finset.univ fun s : Fin 16 => goQ m 3 d (coords c s))
      ∗ ((bigSep Finset.univ fun c : Fin 2 => bigSep Finset.univ fun s : Fin 16 => tdQ m 3 d (coords c s)) -∗ held (d.tc : Thread nD τ) U (B3 m d))) :=
  call_held (t := (Proc.devRef .tc main_v13)) (x := (Proc.devRef .tc main_v24)) (o := (Proc.devRef .tc main_v25)) d U (A3 m d)
    tabM (idxM 3) (outM 3) (tabQ m 3 d) (idxQ m 3 d) (rowsOf (tabQ m 3 d) (idxQ m 3 d)) (rowsOf (tabQ m 3 d) (idxQ m 3 d)) rows
    (mem_U rfl) (mem_U rfl) (mem_U rfl)
    (StableHlo.devRef_ne_of_ne (by decide)) (StableHlo.devRef_ne_of_ne (by decide)) (StableHlo.devRef_ne_of_ne (by decide))
    rows_disj rows_cover
    (fun i q => own_whole (thr d i) q main_v13_scv (A3 m d (Proc.devRef .tc main_v13))) (fun i q => own_whole (thr d i) q main_v24_scv (A3 m d (Proc.devRef .tc main_v24)))
    (fun i w => (Entails.of_eq (own_win (thr d i) fullShare main_v25_scv (rWO w) (fun _ => rfl) (A3 m d (Proc.devRef .tc main_v25)))).trans (exists_intro _))
    (fun i w => Entails.of_eq (own_win (thr d i) fullShare main_v25_scv (rWO w) (fun _ => rfl) (rowsOf (tabQ m 3 d) (idxQ m 3 d))).symm)

/-- A call at the head of what is left of the program. -/
theorem call_step (κ : GSem nD τ sig → ℕ) (q : Fin 4) {Va Vb : Valuation τ sig (Elt F)}
    (h : (held (d.tc : Thread nD τ) U Va : sProp 𝕄)
      ⊢ iprop((bigSep Finset.univ fun c : Fin 2 => bigSep Finset.univ fun s : Fin 16 => goQ m q d (coords c s))
        ∗ ((bigSep Finset.univ fun c : Fin 2 => bigSep Finset.univ fun s : Fin 16 => tdQ m q d (coords c s)) -∗ held (d.tc : Thread nD τ) U Vb)))
    {k : PUnit → Prog (TpuEff nD τ sig (Elt F) (SparseCore.Sig (ΛP (F := F)) 4) .tc) PUnit} {Φ : PUnit → sProp 𝕄} :
    iprop((K (F := F)).ctx EH (P m) κ ∗ (K (F := F)).tcSt EH d q.val ∗ boundary (d.tc : Thread nD τ) ∗ held (d.tc : Thread nD τ) U Va)
      ⊢ iprop((((K (F := F)).tcSt EH d (q.val + 1) ∗ boundary (d.tc : Thread nD τ) ∗ held (d.tc : Thread nD τ) U Vb)
          -∗ wp frame (wpE ((K (F := F)).defs (D (F := F))) 𝒱 (SparseCore.T d) none) Set.univ (k ⟨⟩) Φ)
        -∗ wp frame (wpE ((K (F := F)).defs (D (F := F))) 𝒱 (SparseCore.T d) none) Set.univ ((K (F := F)).run d q >>= k) Φ) := by
  rw [wp_bind]
  iintro ⟨#Hctx, Hst, Hb, Hh⟩ Hk
  ihave H := h $$ Hh
  icases H with ⟨Hgo, Hback⟩
  iapply ((K (F := F)).wp_run (D (F := F)) 𝒱 (EH := EH) (P := P m) κ d q) $$ [Hst Hgo Hb Hback Hk]
  isplitr; · iexact Hctx
  isplitl [Hst]; · iexact Hst
  isplitl [Hgo]
  · ihave H := (Entails.of_eq (starts m d q).symm) $$ Hgo
    iexact H
  iintro ⟨Hst, Hdn⟩
  ihave Hdn := (Entails.of_eq (ends m d q)) $$ Hdn
  iapply Hk
  isplitl [Hst]; · iexact Hst
  isplitl [Hb]; · iexact Hb
  iapply Hback
  iexact Hdn

/-! ## The whole program -/

theorem within {ops : List (HloOp τ sig (Elt F))} (h : ops.Forall fun op => op.bufs ⊆ StableHlo.tcRefs τ sig) : ∀ op ∈ ops, op.bufs ⊆ U :=
  fun op ho => Pipeline.sub_ucRefs op (List.forall_iff_forall_mem.mp h op ho)
theorem nofresh {ops : List (HloOp τ sig (Elt F))} (h : ops.map HloOp.fresh = ops.map fun _ => (∅ : Finset (DevRef τ sig))) :
    ∀ op ∈ ops, op.fresh = ∅ := List.forall_iff_forall_mem.mp (StableHlo.forall_fresh_of_map h)

theorem in0 : (ops0 (F := F)).Forall fun op => op.bufs ⊆ StableHlo.tcRefs τ sig := by simp [ops0, List.Forall]
theorem in1 : (ops1 (F := F)).Forall fun op => op.bufs ⊆ StableHlo.tcRefs τ sig := by simp [ops1, List.Forall]
theorem in2 : (ops2 (F := F)).Forall fun op => op.bufs ⊆ StableHlo.tcRefs τ sig := by simp [ops2, List.Forall]
theorem in3 : (ops3 (F := F)).Forall fun op => op.bufs ⊆ StableHlo.tcRefs τ sig := by simp [ops3, List.Forall]
theorem in4 : (ops4 (F := F)).Forall fun op => op.bufs ⊆ StableHlo.tcRefs τ sig := by simp [ops4, List.Forall]

/-- What the TensorCore ends with: every buffer of the host program, at its last contents. -/
abbrev FIN : sProp 𝕄 := held (d.tc : Thread nD τ) U (fin m d)

theorem line (ops : List (HloOp τ sig (Elt F))) (h : ops.Forall fun op => op.bufs ⊆ StableHlo.tcRefs τ sig)
    (hf : ops.map HloOp.fresh = ops.map fun _ => (∅ : Finset (DevRef τ sig))) (V : Valuation τ sig (Elt F))
    (k : PUnit → Prog (TpuEff nD τ sig (Elt F) (SparseCore.Sig (ΛP (F := F)) 4) .tc) PUnit) {Φ : PUnit → sProp 𝕄} :
    iprop(boundary (d.tc : Thread nD τ) ∗ (held (d.tc : Thread nD τ) U V : sProp 𝕄))
      ⊢ iprop(((boundary (d.tc : Thread nD τ) ∗ held (d.tc : Thread nD τ) U (after ops V))
          -∗ wp frame (wpE ((K (F := F)).defs (D (F := F))) 𝒱 (SparseCore.T d) none) Set.univ (k ⟨⟩) Φ)
        -∗ wp frame (wpE ((K (F := F)).defs (D (F := F))) 𝒱 (SparseCore.T d) none) Set.univ (seq ops >>= k) Φ) :=
  wp_seq 𝒱 none Set.univ d U k ops (within h) (nofresh hf) V

theorem hmain (κ : GSem nD τ sig → ℕ) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 4 ∗ FIN m d ∗ (K (F := F)).tcEnd d) := by
  unfold SparseCore.Cfg.tcRes SparseCore.Cfg.tcEnd
  rw [main_eq]
  iintro ⟨#Hctx, Hst, ⟨Hb, Hu, Hts, -⟩, -⟩
  ihave Hh := (Entails.of_eq (Pipeline.unscopedBufs_held (Ix := HIx 4) (Name := ℕ) (U := UU) (Lvl := ℕ) d (StableHlo.launchContents m d))) $$ Hu
  iapply (line d ops0 in0 rfl (StableHlo.launchContents m d) _) $$ [Hb Hh]
  · isplitl [Hb] <;> iassumption
  iintro ⟨Hb, Hh⟩
  ihave Hh := (Entails.of_eq (show held (d.tc : Thread nD τ) U (after ops0 (StableHlo.launchContents m d)) = (held (d.tc : Thread nD τ) U (A0 m d) : sProp 𝕄) from rfl)) $$ Hh
  iapply (call_step m d κ 0 (around0 m d)) $$ [Hst Hb Hh]
  · isplitr; · iexact Hctx
    isplitl [Hst]; · iexact Hst
    isplitl [Hb] <;> iassumption
  iintro ⟨Hst, Hb, Hh⟩
  iapply (line d ops1 in1 rfl (B0 m d) _) $$ [Hb Hh]
  · isplitl [Hb] <;> iassumption
  iintro ⟨Hb, Hh⟩
  ihave Hh := (Entails.of_eq (show held (d.tc : Thread nD τ) U (after ops1 (B0 m d)) = (held (d.tc : Thread nD τ) U (A1 m d) : sProp 𝕄) from rfl)) $$ Hh
  iapply (call_step m d κ 1 (around1 m d)) $$ [Hst Hb Hh]
  · isplitr; · iexact Hctx
    isplitl [Hst]; · iexact Hst
    isplitl [Hb] <;> iassumption
  iintro ⟨Hst, Hb, Hh⟩
  iapply (line d ops2 in2 rfl (B1 m d) _) $$ [Hb Hh]
  · isplitl [Hb] <;> iassumption
  iintro ⟨Hb, Hh⟩
  ihave Hh := (Entails.of_eq (show held (d.tc : Thread nD τ) U (after ops2 (B1 m d)) = (held (d.tc : Thread nD τ) U (A2 m d) : sProp 𝕄) from rfl)) $$ Hh
  iapply (call_step m d κ 2 (around2 m d)) $$ [Hst Hb Hh]
  · isplitr; · iexact Hctx
    isplitl [Hst]; · iexact Hst
    isplitl [Hb] <;> iassumption
  iintro ⟨Hst, Hb, Hh⟩
  iapply (line d ops3 in3 rfl (B2 m d) _) $$ [Hb Hh]
  · isplitl [Hb] <;> iassumption
  iintro ⟨Hb, Hh⟩
  ihave Hh := (Entails.of_eq (show held (d.tc : Thread nD τ) U (after ops3 (B2 m d)) = (held (d.tc : Thread nD τ) U (A3 m d) : sProp 𝕄) from rfl)) $$ Hh
  iapply (call_step m d κ 3 (around3 m d)) $$ [Hst Hb Hh]
  · isplitr; · iexact Hctx
    isplitl [Hst]; · iexact Hst
    isplitl [Hb] <;> iassumption
  iintro ⟨Hst, Hb, Hh⟩
  iapply (line d ops4 in4 rfl (B3 m d) _) $$ [Hb Hh]
  · isplitl [Hb] <;> iassumption
  iintro ⟨Hb, Hh⟩
  rw [wp_pure]
  imodintro
  isplitl [Hst]; · iexact Hst
  isplitl [Hh]; · iexact Hh
  isplitl [Hb] <;> iassumption

def fq (s' : Phys nD τ sig (Elt F)) : Prop := ∀ b ∈ (U : Finset (DevRef τ sig)), s'.mem.mem (d, b) = fin m d b

theorem hfin (s' : Phys nD τ sig (Elt F)) : iprop(FIN m d ∗ SI s') ⊢ (⌜fq m d s'⌝ : sProp 𝕄) := by
  iintro ⟨H, HSI⟩
  ihave %h := (SI_pointsTo_bufs_agree (st := s') (c := d) (qs := fun _ => fullShare) (F := fin m d) U) $$ [HSI H]
  · isplitl [HSI]; · iexact HSI
    ihave H := (Entails.of_eq (show FIN m d = (bigSep U fun b => ((d, b) : Loc nD τ sig) ↦{fullShare} fin m d b : sProp 𝕄) from rfl)) $$ H
    iexact H
  ipureintro
  exact h

/-- What a run ends with: every buffer of the host program at its last contents, every semaphore at zero. -/
def QC : PUnit × MemSt nD τ sig (Elt F) → Prop := fun r =>
  (∀ (c : Dev nD), ∀ b ∈ (U : Finset (DevRef τ sig)), r.2.mem (c, b) = fin m c b) ∧ r.2.sem = fun _ => 0

theorem run_main [∀ e, Nonempty (Elt F e)] (hok : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq | 2 => nomatch hq | 3 => nomatch hq)
    (fun q _ => match q with | 0 => tileObl0 m hok | 1 => tileObl1 m hok | 2 => tileObl2 m hok | 3 => tileObl3 m hok)
    (fun q _ => SparseCore.Cfg.VecSplit.of_plain (vecSplit m q))
    m ρ main (fun _ => iprop(emp)) (FIN m) (u₀ (F := F)) (sep_elim_left.trans (hu₀ m)) (fun κ d => hmain m ρ d κ) (fq m) (hfin m) (QC m)
    (fun _ h hz => ⟨h, hz⟩)

end Cert.Proof.Main

end
-- ==== Proof.Pre.lean ====
/-
  What is assumed of the arguments: every index word lies in `[0, 256)`.
-/
module

public import proofs.«01_k».proof.Proof.Main
public import proofs.«01_k».proof.Proof.Gen.Pre_in_range
public import proofs.«01_k».proof.Pre_in_range
public import Idealize.ShloMosaic.Lib.ReduceAll
public import Idealize.ShloMosaic.Lib.ValueIdxCore

@[expose] public section

set_option maxRecDepth 16384

noncomputable section

namespace Cert.Proof.Pre

open Cert.Pre_in_range Cert.Pre_in_range.Gen
open Idealize.ShloMosaic Idealize.ShloMosaic.ValueIdx

variable {F : FTy → Type} [FloatOps F]

theorem lt_of_fn (B : FVec F S8x256x4 .f32) (x : IVec S352256 32) (h : fn B x = fun _ => 1#1) (i : S352256.Idx) : (x i).toNat < 256 := by
  have e := congrFun h ix0
  dsimp only [fn] at e
  haveI : Subsingleton S_.Idx := ⟨fun a b => funext fun k => k.elim0⟩
  have k : IntOp.andi (IntOp.cmpi .sge (x i) 0#32) (IntOp.cmpi .slt (x i) 256#32) = 1#1 :=
    Host.reduce_andi_all _ _ _ _ _ e i
  obtain ⟨h0, h1⟩ := IntOp.andi_eq_one.1 k
  rw [IntOp.cmpi_sge] at h0
  rw [IntOp.cmpi_slt] at h1
  simp only [BitVec.toInt_eq_toNat_cond, BitVec.toNat_ofNat, Nat.reducePow, Nat.reduceMod] at h0 h1
  omega

theorem ok (m : (ℓ : Loc Cert.KernelIdeal.nD Cert.KernelIdeal.τ Cert.KernelIdeal.sig) → Buf (Elt F) ℓ)
    (h : ∀ d, fn (Host.argB m d) (Host.argX m d) = fun _ => 1#1) : Launch.PreOK m :=
  fun d i => lt_of_fn _ _ (h d) i

end Cert.Proof.Pre

end
-- ==== Proof.Ref.lean ====
/-
  The reference: its lines, what they leave, and its run.
-/
module

public import proofs.«01_k».proof.Proof.Host
public import proofs.«01_k».proof.Proof.Gen.Reference
public import proofs.«01_k».proof.Proof.Gen.ReferenceIdeal
public import Idealize.ShloMosaic.Lib.StableHlo.RunHlo
public import Idealize.ShloMosaic.Lib.Quiescent

@[expose] public section

set_option maxRecDepth 16384

noncomputable section

namespace Cert.Proof.Ref

open Cert.Reference Cert.Reference.Gen
open Idealize.ShloMosaic Idealize.ShloMosaic.StableHlo
open Idealize.SL.Sem

variable {F : FTy → Type} [FloatOps F]

/-- The lines of the reference. -/
def ops : List (HloOp τ sig (Elt F)) :=
  [StableHlo.nullary main_cst (constant S_ .f32 0xFF800000#32),
   StableHlo.binary main_arg0 main_cst main_v0 ((fun x v => Host.reduce FloatOps.maximumf x v reducesTo_S8x256x4_S8x4_d1 h_S_) : (⟨S8x256x4, .f32⟩ : BufTy).Contents (Elt F) → (⟨S_, .f32⟩ : BufTy).Contents (Elt F) → (⟨S8x4, .f32⟩ : BufTy).Contents (Elt F)),
   StableHlo.nullary main_cst_0 (constant S_ .f32 0xFF800000#32),
   StableHlo.unary main_cst_0 main_v1 (broadcastInDim S8x4 ![] bcast_S_S8x4 : (⟨S_, .f32⟩ : BufTy).Contents (Elt F) → (⟨S8x4, .f32⟩ : BufTy).Contents (Elt F)),
   StableHlo.binary main_v1 main_v0 main_v2 (maximumf : (⟨S8x4, .f32⟩ : BufTy).Contents (Elt F) → (⟨S8x4, .f32⟩ : BufTy).Contents (Elt F) → (⟨S8x4, .f32⟩ : BufTy).Contents (Elt F)),
   StableHlo.unary main_v2 main_v3 (broadcastInDim S8x1x4 ![0, 2] bcast_S8x4_S8x1x4_0_2 : (⟨S8x4, .f32⟩ : BufTy).Contents (Elt F) → (⟨S8x1x4, .f32⟩ : BufTy).Contents (Elt F)),
   StableHlo.unary main_v3 main_v4 (broadcastInDim S8x256x4 ![0, 1, 2] bcast_S8x1x4_S8x256x4_0_1_2 : (⟨S8x1x4, .f32⟩ : BufTy).Contents (Elt F) → (⟨S8x256x4, .f32⟩ : BufTy).Contents (Elt F)),
   StableHlo.binary main_arg0 main_v4 main_v5 (subf : (⟨S8x256x4, .f32⟩ : BufTy).Contents (Elt F) → (⟨S8x256x4, .f32⟩ : BufTy).Contents (Elt F) → (⟨S8x256x4, .f32⟩ : BufTy).Contents (Elt F)),
   StableHlo.unary main_v5 main_v6 (Host.exp : (⟨S8x256x4, .f32⟩ : BufTy).Contents (Elt F) → (⟨S8x256x4, .f32⟩ : BufTy).Contents (Elt F)),
   StableHlo.nullary main_cst_1 (constant S_ .f32 0x00000000#32),
   StableHlo.binary main_v6 main_cst_1 main_v7 ((fun x v => Host.reduceAdd x v reducesTo_S8x256x4_S8x4_d1 h_S_) : (⟨S8x256x4, .f32⟩ : BufTy).Contents (Elt F) → (⟨S_, .f32⟩ : BufTy).Contents (Elt F) → (⟨S8x4, .f32⟩ : BufTy).Contents (Elt F)),
   StableHlo.unary main_v7 main_v8 (broadcastInDim S8x1x4 ![0, 2] bcast_S8x4_S8x1x4_0_2 : (⟨S8x4, .f32⟩ : BufTy).Contents (Elt F) → (⟨S8x1x4, .f32⟩ : BufTy).Contents (Elt F)),
   StableHlo.unary main_v8 main_v9 (broadcastInDim S8x256x4 ![0, 1, 2] bcast_S8x1x4_S8x256x4_0_1_2 : (⟨S8x1x4, .f32⟩ : BufTy).Contents (Elt F) → (⟨S8x256x4, .f32⟩ : BufTy).Contents (Elt F)),
   StableHlo.binary main_v6 main_v9 main_v10 (Host.divf : (⟨S8x256x4, .f32⟩ : BufTy).Contents (Elt F) → (⟨S8x256x4, .f32⟩ : BufTy).Contents (Elt F) → (⟨S8x256x4, .f32⟩ : BufTy).Contents (Elt F)),
   StableHlo.nullary main_c (constantI S_ 32 0#32),
   StableHlo.unary main_c main_v11 (broadcastInDim S352256 ![] bcast_S_S352256 : (⟨S_, .i32⟩ : BufTy).Contents (Elt F) → (⟨S352256, .i32⟩ : BufTy).Contents (Elt F)),
   StableHlo.binary main_arg1 main_v11 main_v12 (cmpi .slt : (⟨S352256, .i32⟩ : BufTy).Contents (Elt F) → (⟨S352256, .i32⟩ : BufTy).Contents (Elt F) → (⟨S352256, .i1⟩ : BufTy).Contents (Elt F)),
   StableHlo.nullary main_c_2 (constantI S_ 32 256#32),
   StableHlo.unary main_c_2 main_v13 (broadcastInDim S352256 ![] bcast_S_S352256 : (⟨S_, .i32⟩ : BufTy).Contents (Elt F) → (⟨S352256, .i32⟩ : BufTy).Contents (Elt F)),
   StableHlo.binary main_arg1 main_v13 main_v14 (addi : (⟨S352256, .i32⟩ : BufTy).Contents (Elt F) → (⟨S352256, .i32⟩ : BufTy).Contents (Elt F) → (⟨S352256, .i32⟩ : BufTy).Contents (Elt F)),
   StableHlo.ternary main_v12 main_v14 main_arg1 main_v15 (select : (⟨S352256, .i1⟩ : BufTy).Contents (Elt F) → (⟨S352256, .i32⟩ : BufTy).Contents (Elt F) → (⟨S352256, .i32⟩ : BufTy).Contents (Elt F) → (⟨S352256, .i32⟩ : BufTy).Contents (Elt F)),
   StableHlo.unary main_v15 main_v16 (broadcastInDim S352256x1 ![0] bcast_S352256_S352256x1_0 : (⟨S352256, .i32⟩ : BufTy).Contents (Elt F) → (⟨S352256x1, .i32⟩ : BufTy).Contents (Elt F)),
   StableHlo.binary main_v10 main_v16 main_v17 ((fun x i => Host.gather gather_S8x256x4_S352256x1_S8x352256x4_02_1_n_n_1_1_814 x i) : (⟨S8x256x4, .f32⟩ : BufTy).Contents (Elt F) → (⟨S352256x1, .i32⟩ : BufTy).Contents (Elt F) → (⟨S8x352256x4, .f32⟩ : BufTy).Contents (Elt F)),
   StableHlo.unary main_v17 main_v18 ((transpose S352256x8x4 [1, 0, 2] · transposes_S8x352256x4_S352256x8x4_1_0_2) : (⟨S8x352256x4, .f32⟩ : BufTy).Contents (Elt F) → (⟨S352256x8x4, .f32⟩ : BufTy).Contents (Elt F)),
   StableHlo.reshape main_v18 main_v19 (rfl : (.f32 : EltTy) = .f32) shapeCasts_S352256x8x4_S352256x32]

theorem main_eq (d : Dev nD) : main (F := F) d = seq ops := rfl

/-- The words with a negative one moved up by 256, as a column. -/
def wrap (x : S352256.Idx → Elt F .i32) : S352256x1.Idx → Elt F .i32 :=
  broadcastInDim S352256x1 ![0] bcast_S352256_S352256x1_0
    (select (cmpi .slt x (broadcastInDim S352256 ![] bcast_S_S352256 (constantI S_ 32 0#32)))
      (addi x (broadcastInDim S352256 ![] bcast_S_S352256 (constantI S_ 32 256#32))) x)

/-- The result of the reference, of its two arguments. -/
def val (B : S8x256x4.Idx → Elt F .f32) (x : S352256.Idx → Elt F .i32) : S352256x32.Idx → Elt F .f32 :=
  shapeCast S352256x32 (transpose S352256x8x4 [1, 0, 2]
    (Host.gather gather_S8x256x4_S352256x1_S8x352256x4_02_1_n_n_1_1_814 (Host.smx B) (wrap (F := F) x))
    transposes_S8x352256x4_S352256x8x4_1_0_2) shapeCasts_S352256x8x4_S352256x32

variable (V : Valuation τ sig (Elt F))

theorem out_eq : after ops V (Proc.devRef .tc main_v19) = val (V (Proc.devRef .tc main_arg0)) (V (Proc.devRef .tc main_arg1)) := by
  unfold ops; after_results; rfl
theorem arg0_eq : after ops V (Proc.devRef .tc main_arg0) = V (Proc.devRef .tc main_arg0) := by
  unfold ops; after_results
theorem arg1_eq : after ops V (Proc.devRef .tc main_arg1) = V (Proc.devRef .tc main_arg1) := by
  unfold ops; after_results

theorem bufs_sub : (ops (F := F)).Forall fun op => op.bufs ⊆ tcRefs τ sig := by
  simp [ops, List.Forall]

theorem nofresh : ∀ op ∈ ops (F := F), op.fresh = ∅ := by
  intro op h
  unfold ops at h
  repeat (cases h with | head => rfl | tail _ h => ?_)
  exact nomatch h

variable (m : (ℓ : Loc nD τ sig) → Buf (Elt F) ℓ) (ρ : Dev nD → PrngReg)

theorem run : θ_run (defs (F := F)) (onTc (τ := τ) (main (F := F))) ⟨m, fun _ => 0, ρ⟩ (fun r =>
    (∀ c : Dev nD, r.2.mem ((c.tc : Thread nD τ).loc main_v19) = val (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) := by
  refine θ_run_mono (run_hlo (defs (F := F)) main (fun d => main_eq d) (by decide) (by decide) bufs_sub nofresh m ρ) ?_
  intro r h
  refine ⟨fun c => ⟨(h c main_v19).trans (out_eq _), (h c main_arg0).trans (arg0_eq _), (h c main_arg1).trans (arg1_eq _)⟩, ?_⟩

  exact sem_eq_zero_of_no_sems (by decide) _

end Cert.Proof.Ref

end
-- ==== Proof.Value.lean ====
/-
  The four calls' rows, one after another, are the reference's result: element `(r, c)` of either is the softmax at
  `(c / 4, word r, c % 4)`.
-/
module

public import proofs.«01_k».proof.Proof.Ref
public import Idealize.ShloMosaic.Lib.ValueIdxCore
public import Idealize.ShloMosaic.Lib.Pipeline.Value
public import Idealize.ShloMosaic.Lib.KernelVsHost
public import Idealize.ShloMosaic.Lib.WordCmp

@[expose] public section

set_option maxRecDepth 16384

noncomputable section

namespace Cert.Proof.Value

open Cert.KernelIdeal Cert.KernelIdeal.Gen Cert.Proof.Tile Cert.Proof.Host
open Idealize.ShloMosaic Idealize.ShloMosaic.ValueIdx

variable {F : FTy → Type} [FloatOps F]

/-- The place in the softmax of column `c` of the row of word `w`. -/
def spot (w : Fin 256) (c : Fin 32) : S8x256x4.Idx := ix3 ⟨c.val / 4, by omega⟩ w ⟨c.val % 4, by omega⟩

/-- The table at row `w`, column `c < 32`. -/
theorem tbl_at (B : S8x256x4.Idx → Elt F .f32) (w : Fin 256) (c : Fin 32) (j : S256x128.Idx) (h0 : (j 0).val = w.val) (h1 : (j 1).val = c.val) :
    tbl B j = smx B (spot w c) := by
  unfold tbl
  rw [pad_apply_of_inside _ _ _ _ _ _ _ j (ix2 w c : S256x32.Idx) (fun a => by
    match a with
    | ⟨0, _⟩ => show (j 0).val = 0 + w.val * (0 + 1); omega
    | ⟨1, _⟩ => show (j 1).val = 0 + c.val * (0 + 1); omega)]
  rw [shapeCast_apply _ _ _ (ix3 w ⟨c.val / 4, by omega⟩ ⟨c.val % 4, by omega⟩ : S256x8x4.Idx) (by
    rw [Shape.rowMajor_val_three, Shape.rowMajor_val_two]
    show (w.val * 8 + c.val / 4) * 4 + c.val % 4 = w.val * 32 + c.val
    omega)]
  exact transpose_apply _ _ _ _ (spot w c) (fun b => by
    match b with
    | ⟨0, _⟩ => rfl
    | ⟨1, _⟩ => rfl
    | ⟨2, _⟩ => rfl)

variable (B : S8x256x4.Idx → Elt F .f32) (x : S352256.Idx → Elt F .i32) (hx : ∀ i, (x i).toNat < 256)

/-- Row `r` of the call whose words begin at number `o`. -/
theorem part_at (o : ℕ) (h : S352256.Slices ![o] S88064) (y : S88064x32.Idx) (r : Fin 352256) (hr : r.val = o + (y 0).val) :
    part B x o h y = smx B (spot ⟨(x (ix1 r)).toNat, hx _⟩ (y 1)) := by
  unfold part
  rw [rowsOf_eq _ _ (words_lt o h x hx)]
  refine tbl_at B ⟨(x (ix1 r)).toNat, hx _⟩ (y 1) _ ?_ rfl
  show (words o h x _).toNat = (x (ix1 r)).toNat
  congr 1
  unfold words
  rw [shapeCast_apply _ _ _ (ix1 (y 0) : S88064.Idx) (by
    rw [Shape.rowMajor_val_one, Shape.rowMajor_val_two]
    show (y 0).val = 0 * 88064 + (y 0).val
    omega)]
  unfold extractStridedSlice
  congr 1
  funext a
  match a with
  | ⟨0, _⟩ => exact Fin.ext hr.symm

/-- Row `y` of piece `k` of the four. -/
theorem cat_at (p0 p1 p2 p3 p : S88064x32.Idx → Elt F .f32) (k n : ℕ) (hk : k < 4)
    (hp : ([⟨S88064x32, p0⟩, ⟨S88064x32, p1⟩, ⟨S88064x32, p2⟩, ⟨S88064x32, p3⟩] : List ((s : Shape) × (s.Idx → Elt F .f32)))[k]'hk = ⟨S88064x32, p⟩)
    (hn : n = k * 88064) (y : Fin 88064) (c : Fin 32) (r : Fin 352256) (hr : r.val = n + y.val) :
    cat4 p0 p1 p2 p3 (ix2 r c : S352256x32.Idx) = p (ix2 y c : S88064x32.Idx) := by
  unfold cat4
  refine concatenate_apply_piece (t := S352256x32) 0 [⟨S88064x32, p0⟩, ⟨S88064x32, p1⟩, ⟨S88064x32, p2⟩, ⟨S88064x32, p3⟩] _ (ix2 r c) k
      hk S88064x32 p hp rfl n ?_ (ix2 y c) (fun b hb => ?_) ?_
  · subst hn
    have h4 : k = 0 ∨ k = 1 ∨ k = 2 ∨ k = 3 := by omega
    rcases h4 with h | h | h | h <;> subst h <;> simp
  · match b with
    | ⟨0, _⟩ => exact absurd rfl hb
    | ⟨1, _⟩ => rfl
  · show n + y.val = r.val
    exact hr.symm

theorem all_at (r : Fin 352256) (c : Fin 32) : all B x (ix2 r c : S352256x32.Idx) = smx B (spot ⟨(x (ix1 r)).toNat, hx _⟩ c) := by
  have hr := r.isLt
  unfold all
  by_cases h1 : r.val < 88064
  · have e : r.val = 0 + (⟨r.val, h1⟩ : Fin 88064).val := by show r.val = 0 + r.val; omega
    exact (cat_at _ _ _ _ _ 0 0 (by omega) rfl rfl ⟨r.val, h1⟩ c r e).trans (part_at B x hx 0 _ _ r e)
  by_cases h2 : r.val < 176128
  · have h : r.val - 88064 < 88064 := by omega
    have e : r.val = 88064 + (⟨r.val - 88064, h⟩ : Fin 88064).val := by show r.val = 88064 + (r.val - 88064); omega
    exact (cat_at _ _ _ _ _ 1 88064 (by omega) rfl rfl ⟨r.val - 88064, h⟩ c r e).trans (part_at B x hx 88064 _ _ r e)
  by_cases h3 : r.val < 264192
  · have h : r.val - 176128 < 88064 := by omega
    have e : r.val = 176128 + (⟨r.val - 176128, h⟩ : Fin 88064).val := by show r.val = 176128 + (r.val - 176128); omega
    exact (cat_at _ _ _ _ _ 2 176128 (by omega) rfl rfl ⟨r.val - 176128, h⟩ c r e).trans (part_at B x hx 176128 _ _ r e)
  · have h : r.val - 264192 < 88064 := by omega
    have e : r.val = 264192 + (⟨r.val - 264192, h⟩ : Fin 88064).val := by show r.val = 264192 + (r.val - 264192); omega
    exact (cat_at _ _ _ _ _ 3 264192 (by omega) rfl rfl ⟨r.val - 264192, h⟩ c r e).trans (part_at B x hx 264192 _ _ r e)

/-! ## The reference -/

include hx in
/-- A word below 256 is not negative: the column of words is the words themselves. -/
theorem wrap_at (r : Fin 352256) : Ref.wrap (F := F) x (ix2 r 0 : Cert.Reference.S352256x1.Idx) = x (ix1 r) := by
  have e : ∀ i, select (cmpi .slt x (broadcastInDim S352256 ![] Cert.Reference.Gen.bcast_S_S352256 (constantI S_ 32 0#32)))
      (addi x (broadcastInDim S352256 ![] Cert.Reference.Gen.bcast_S_S352256 (constantI S_ 32 256#32))) x i = x i := by
    intro i
    have h := hx i
    show (if IntOp.cmpi .slt (x i) 0#32 = 1#1 then _ else x i) = x i
    rw [if_neg]
    rw [IntOp.cmpi_slt]
    simp only [BitVec.toInt_eq_toNat_cond, BitVec.toNat_ofNat,
      Nat.reducePow, Nat.reduceMod]
    omega
  unfold Ref.wrap
  show select _ _ x _ = _
  refine (e _).trans ?_
  congr 1
  funext a
  match a with
  | ⟨0, _⟩ => rfl

open Cert.Reference in
/-- The gather at `(a, r, b)`, of a column of words that holds `w` at `r`. -/
theorem gather_at (t : Cert.Reference.S8x256x4.Idx → Elt F .f32) (idx : S352256x1.Idx → BitVec 32) (a : Fin 8) (r : Fin 352256) (b : Fin 4)
    (hw : (idx (ix2 r 0)).toNat < 256) :
    Host.gather gather_S8x256x4_S352256x1_S8x352256x4_02_1_n_n_1_1_814 t idx (ix3 a r b)
      = t (ix3 a ⟨(idx (ix2 r 0)).toNat, hw⟩ b) := by
  unfold Host.gather
  congr 1
  set d := gather_S8x256x4_S352256x1_S8x352256x4_02_1_n_n_1_1_814 with hd
  have h0 : (d.operandIdx (ix3 a r b) idx (0 : Fin 3)).val = a.val := by
    show d.start (ix3 a r b) idx 0 + d.batchCoord (ix3 a r b) 0 + d.offCoord (ix3 a r b) 0 = _
    rw [GatherDims.batchCoord_eq_zero _ _ _ List.not_mem_nil]
    unfold GatherDims.start
    rw [dif_neg (show (0 : Fin 3) ∉ d.startIndexMap by decide)]
    unfold GatherDims.offCoord
    rw [dif_pos (show (0 : Fin 3) ∈ d.sKept by decide)]
    show 0 + 0 + a.val = a.val
    omega
  have h1 : (d.operandIdx (ix3 a r b) idx (1 : Fin 3)).val = (idx (ix2 r 0)).toNat := by
    show d.start (ix3 a r b) idx 1 + d.batchCoord (ix3 a r b) 1 + d.offCoord (ix3 a r b) 1 = _
    rw [GatherDims.batchCoord_eq_zero _ _ _ List.not_mem_nil,
      GatherDims.offCoord_eq_zero _ _ _ (show (1 : Fin 3) ∉ d.sKept by decide)]
    unfold GatherDims.start
    rw [dif_pos (show (1 : Fin 3) ∈ d.startIndexMap by decide)]
    have hi : d.siIdx (ix3 a r b) ⟨List.idxOf (1 : Fin 3) d.startIndexMap, by decide⟩ = (ix2 r 0 : S352256x1.Idx) := by
      funext j
      match j with
      | ⟨0, _⟩ => rfl
      | ⟨1, _⟩ => rfl
    rw [hi]
    show min (idx (ix2 r 0)).toInt.toNat (256 - 1) + 0 + 0 = (idx (ix2 r 0)).toNat
    rw [BitVec.toInt_eq_toNat_cond]
    split <;> omega
  have h2 : (d.operandIdx (ix3 a r b) idx (2 : Fin 3)).val = b.val := by
    show d.start (ix3 a r b) idx 2 + d.batchCoord (ix3 a r b) 2 + d.offCoord (ix3 a r b) 2 = _
    rw [GatherDims.batchCoord_eq_zero _ _ _ List.not_mem_nil]
    unfold GatherDims.start
    rw [dif_neg (show (2 : Fin 3) ∉ d.startIndexMap by decide)]
    unfold GatherDims.offCoord
    rw [dif_pos (show (2 : Fin 3) ∈ d.sKept by decide)]
    show 0 + 0 + b.val = b.val
    omega
  funext k
  match k with
  | ⟨0, _⟩ => exact Fin.ext h0
  | ⟨1, _⟩ => exact Fin.ext h1
  | ⟨2, _⟩ => exact Fin.ext h2

theorem val_at (r : Fin 352256) (c : Fin 32) : Ref.val B x (ix2 r c : S352256x32.Idx) = smx B (spot ⟨(x (ix1 r)).toNat, hx _⟩ c) := by
  unfold Ref.val
  rw [shapeCast_apply _ _ _ (ix3 r ⟨c.val / 4, by omega⟩ ⟨c.val % 4, by omega⟩ : Cert.Reference.S352256x8x4.Idx) (by
    rw [Shape.rowMajor_val_three, Shape.rowMajor_val_two]
    show (r.val * 8 + c.val / 4) * 4 + c.val % 4 = r.val * 32 + c.val
    omega)]
  rw [transpose_apply _ _ _ _ (ix3 ⟨c.val / 4, by omega⟩ r ⟨c.val % 4, by omega⟩ : Cert.Reference.S8x352256x4.Idx) (fun b => by
    match b with
    | ⟨0, _⟩ => rfl
    | ⟨1, _⟩ => rfl
    | ⟨2, _⟩ => rfl)]
  rw [gather_at (smx B) (Ref.wrap (F := F) x) _ r _ (by rw [wrap_at x hx r]; exact hx _)]
  unfold spot
  congr 2
  exact Fin.ext (congrArg BitVec.toNat (wrap_at x hx r))

include hx in
/-- The kernel's result is the reference's. -/
theorem all_eq : all B x = Ref.val B x := by
  funext y
  rw [eq_ix2 y]
  exact (all_at B x hx (y 0) (y 1)).trans (val_at B x hx (y 0) (y 1)).symm

end Cert.Proof.Value

end
-- ==== Proof.TreeSpec.lean ====
/-
  The upward pass on a tree of nodes as plain functions: what one level's priors, normalisers, messages and
  log-likelihoods are, each node given by its position in its level. A level of `N` parents has `4 * N` children, child
  `q` of parent `p` at position `q * N + p`.
-/
module

public import Idealize.ShloMosaic.Lib.ValueIdx
public import Idealize.ShloMosaic.Lib.MatmulPlain

@[expose] public section

noncomputable section

namespace Cert.Proof.Tree

open Idealize.ShloMosaic

/-- A value for each node (by position), state and generator. -/
abbrev Fn := ℕ → Fin 8 → Fin 4 → EReal

/-- The transition probabilities: child's state, parent's state, child number, generator. -/
abbrev Tr := Fin 8 → Fin 8 → Fin 4 → Fin 4 → EReal

/-- The child number of the node at a position, below `N` parents. -/
def num (N pos : ℕ) : Fin 4 := ⟨pos / N % 4, Nat.mod_lt _ (by decide)⟩

/-- The priors of the children of `N` parents with the priors `f`. -/
def downF (N : ℕ) (A : Tr) (f : Fn) : Fn := fun pos i g => ∑ j, A i j (num N pos) g * f (pos % N) j g

/-- The normaliser of a node. -/
def nuF (f : Fn) : ℕ → Fin 4 → EReal := fun pos g => ∑ i, f pos i g

/-- The normalised likelihoods. -/
def betaF (f : Fn) : Fn := fun pos i g => Ideal.div (f pos i g) (nuF f pos g)

/-- The message of child `q` to its parent, from the children's likelihoods and priors. -/
def msgF (N : ℕ) (A : Tr) (fb fp : Fn) (q : Fin 4) : Fn := fun pos j g =>
  ∑ i, A i j q g * Ideal.div (fb (q.val * N + pos) i g) (fp (q.val * N + pos) i g)

/-- The product of the four children's messages. -/
def upF (N : ℕ) (A : Tr) (fb fp : Fn) : Fn := fun pos j g =>
  (msgF N A fb fp 0 pos j g * msgF N A fb fp 1 pos j g) * (msgF N A fb fp 2 pos j g * msgF N A fb fp 3 pos j g)

/-- The product of two values. -/
def mulF (f h : Fn) : Fn := fun pos i g => f pos i g * h pos i g

/-- The log-likelihoods of a level of `N` nodes, summed over the nodes of tree `t`: those at the positions `t`, `t + 4`, … -/
def llF (N : ℕ) (f : Fn) : Fin 4 → Fin 4 → EReal := fun t g =>
  ∑ p : Fin N, if p.val % 4 = t.val then Ideal.log (nuF f p.val g) else 0

/-- The packed lane of a child number, state and generator. -/
def lane (q : Fin 4) (i : Fin 8) (g : Fin 4) : Fin 128 := ⟨q.val * 32 + i.val * 4 + g.val, by omega⟩

/-- The first packed row of the level at depth `d`: those above it have one row for every four nodes. -/
def first : ℕ → ℕ
  | 0 => 0
  | d + 1 => first d + 4 ^ d

/-- The emissions at depth `d`, from the packed rows of all levels. -/
def emF (E : ℕ → Fin 128 → EReal) (d : ℕ) : Fn := fun pos i g => E (first d + pos % 4 ^ d) (lane (num (4 ^ d) pos) i g)

/-- The priors at depth `d`. -/
def priorF (A : Tr) (Pi : Fin 8 → Fin 4 → EReal) : ℕ → Fn
  | 0 => fun _ i g => Pi i g
  | d + 1 => downF (4 * 4 ^ d) A (priorF A Pi d)

/-- The unnormalised likelihoods `k` levels above the leaves, which are at depth 6. -/
def unF (A : Tr) (Pi : Fin 8 → Fin 4 → EReal) (e : ℕ → Fn) : ℕ → Fn
  | 0 => mulF (priorF A Pi 6) (e 6)
  | k + 1 => mulF (mulF (priorF A Pi (5 - k)) (e (5 - k))) (mulF (mulF (priorF A Pi (5 - k)) (e (5 - k)))
      (upF (4 * 4 ^ (5 - k)) A (betaF (unF A Pi e k)) (priorF A Pi (5 - k + 1))))

/-- The log-likelihood of tree `t`: the levels' sums, the leaves' first. -/
def total (A : Tr) (Pi : Fin 8 → Fin 4 → EReal) (e : ℕ → Fn) (t g : Fin 4) : EReal :=
  llF 16384 (unF A Pi e 0) t g + llF 4096 (unF A Pi e 1) t g + llF 1024 (unF A Pi e 2) t g + llF 256 (unF A Pi e 3) t g
    + llF 64 (unF A Pi e 4) t g + llF 16 (unF A Pi e 5) t g + llF 4 (unF A Pi e 6) t g

/-- A sum over `a * b` is the sum over both, the second running fastest. -/
theorem sum_mul {a b n : ℕ} (h : n = a * b) (f : ℕ → EReal) : ∑ k : Fin n, f k.val = ∑ x : Fin a, ∑ y : Fin b, f (x.val * b + y.val) := by
  subst h
  rw [← Equiv.sum_comp finProdFinEquiv, Fintype.sum_prod_type]
  refine Finset.sum_congr rfl fun x _ => Finset.sum_congr rfl fun y _ => ?_
  congr 1
  simp [finProdFinEquiv, Nat.mul_comm, Nat.add_comm]

/-- The four roots: each tree has one. -/
theorem llF_root (f : Fn) (t g : Fin 4) : llF 4 f t g = Ideal.log (nuF f t.val g) := by
  unfold llF
  rw [Finset.sum_eq_single t]
  · simp [Nat.mod_eq_of_lt t.isLt]
  · intro b _ hb
    rw [if_neg]
    rw [Nat.mod_eq_of_lt b.isLt]
    exact fun h => hb (Fin.ext h)
  · simp

/-- The sum over a tree's nodes from the sums over the rows of each quarter of the level. -/
theorem llF_quarters {n : ℕ} (hn : n % 4 = 0) (f : Fn) (t g : Fin 4) :
    llF (4 * n) f t g = ∑ q : Fin 4, ∑ p : Fin n, if p.val % 4 = t.val then Ideal.log (nuF f (q.val * n + p.val) g) else 0 := by
  unfold llF
  rw [sum_mul (a := 4) (b := n) rfl (fun k => if k % 4 = t.val then Ideal.log (nuF f k g) else 0)]
  refine Finset.sum_congr rfl fun q _ => Finset.sum_congr rfl fun p _ => ?_
  have : (q.val * n + p.val) % 4 = p.val % 4 := by
    obtain ⟨m, rfl⟩ : ∃ m, n = 4 * m := ⟨n / 4, by omega⟩
    rw [show q.val * (4 * m) = 4 * (q.val * m) by ring]; omega
  rw [this]

/-- The sum over a tree's nodes, every fourth. -/
theorem llF_strided {m : ℕ} (f : Fn) (t g : Fin 4) :
    llF (m * 4) f t g = ∑ k : Fin m, Ideal.log (nuF f (k.val * 4 + t.val) g) := by
  unfold llF
  rw [sum_mul (a := m) (b := 4) rfl (fun k => if k % 4 = t.val then Ideal.log (nuF f k g) else 0)]
  refine Finset.sum_congr rfl fun k _ => ?_
  rw [Finset.sum_eq_single t]
  · rw [if_pos (by have := t.isLt; omega)]
  · intro b _ hb
    rw [if_neg]
    have := b.isLt; have := t.isLt
    intro h; exact hb (Fin.ext (by omega))
  · simp

end Cert.Proof.Tree

end
-- ==== Proof.TreeSteps.lean ====
/-
  The steps of the pass on packed arrays: a level of `4 * n` nodes is held in `n` rows of 128 lanes, the node at position
  `q * n + p` with state `i` and generator `g` in row `p`, lane `q * 32 + i * 4 + g`. Each step is given the way the
  launch computes it, and what it leaves is read from the levels' functions.
-/
module

public import Idealize.ShloMosaic.Lib.ValueIdx
public import Idealize.ShloMosaic.Lib.MatmulPlain
public import Idealize.ShloMosaic.Lib.Pipeline.Value
public import Idealize.ShloMosaic.Lib.Pipeline.ValueKit.Basic
public import Idealize.ShloMosaic.Lib.Affine
public import proofs.«01_k».proof.Proof.TreeSpec

@[expose] public section

noncomputable section

namespace Cert.Proof.Tree

open Idealize.ShloMosaic Idealize.ShloMosaic.ValueIdx

variable {F : FTy → Type} [FloatOps F]

/-- A matrix's shape. -/
abbrev M2 (n k : ℕ) : Shape := ⟨2, ![n, k]⟩

/-- The lane of a state and generator. -/
def slot (i : Fin 8) (g : Fin 4) : Fin 32 := ⟨i.val * 4 + g.val, by omega⟩

theorem sum_slot (f : Fin 32 → EReal) : ∑ l, f l = ∑ i, ∑ g, f (slot i g) := by
  rw [← Equiv.sum_comp (finProdFinEquiv : Fin 8 × Fin 4 ≃ Fin 32), Fintype.sum_prod_type]
  refine Finset.sum_congr rfl fun i _ => Finset.sum_congr rfl fun g _ => congrArg f (Fin.ext ?_)
  show g.val + 4 * i.val = i.val * 4 + g.val
  omega

theorem sum_lane (f : Fin 128 → EReal) : ∑ l, f l = ∑ q, ∑ i, ∑ g, f (lane q i g) := by
  rw [← Equiv.sum_comp (finProdFinEquiv : Fin 4 × Fin 32 ≃ Fin 128), Fintype.sum_prod_type]
  refine Finset.sum_congr rfl fun q _ => ?_
  rw [sum_slot]
  refine Finset.sum_congr rfl fun i _ => Finset.sum_congr rfl fun g _ => congrArg f (Fin.ext ?_)
  show i.val * 4 + g.val + 32 * q.val = q.val * 32 + i.val * 4 + g.val
  omega

/-- Every lane is some child's, state's and generator's. -/
theorem lane_surj (l : Fin 128) : ∃ q i g, l = lane q i g :=
  ⟨⟨l.val / 32, by omega⟩, ⟨l.val % 32 / 4, by omega⟩, ⟨l.val % 4, by omega⟩, Fin.ext (by show l.val = l.val / 32 * 32 + l.val % 32 / 4 * 4 + l.val % 4; omega)⟩

/-- A packed level. -/
def Packs (n : ℕ) (v : FVec Ideal (M2 n 128) .f32) (f : Fn) : Prop :=
  ∀ (p : Fin n) (q : Fin 4) (i : Fin 8) (g : Fin 4), v (ix2 p (lane q i g)) = f (q.val * n + p.val) i g

/-- A level held one node to a row. -/
def Flat (n : ℕ) (v : FVec Ideal (M2 n 32) .f32) (f : Fn) : Prop :=
  ∀ (p : Fin n) (i : Fin 8) (g : Fin 4), v (ix2 p (slot i g)) = f p.val i g

/-! ## The product of two matrices -/

/-- A matrix product onto zeros. -/
def mm {n k m : ℕ} (x : FVec F (M2 n k) .f32) (y : FVec F (M2 k m) .f32) : FVec F (M2 n m) .f32 :=
  matmul (DotDims.plain n k m) none x y (constant (M2 n m) .f32 0x00000000#32)

theorem zero_at (s : Shape) (i : s.Idx) : (constant s .f32 0x00000000#32 : FVec Ideal s .f32) i = 0 := by
  rw [constant_apply]; exact Ideal.ofBits_zero_f32

theorem mm_at {n k m : ℕ} (x : FVec Ideal (M2 n k) .f32) (y : FVec Ideal (M2 k m) .f32) (r : Fin n) (c : Fin m) :
    mm x y (ix2 r c) = ∑ l : Fin k, x (ix2 r l) * y (ix2 l c) := by
  unfold mm
  simp only [matmul]
  rw [Ideal.matmul_plain_apply, zero_at, zero_add]

/-! ## The four constant matrices -/

/-- The block matrix of the downward products. -/
def IsW (A : Tr) (W : FVec Ideal (M2 32 128) .f32) : Prop :=
  ∀ j c q i g, W (ix2 (slot j c) (lane q i g)) = A i j q g * if c = g then 1 else 0

/-- The block matrix of the upward products. -/
def IsV (A : Tr) (V : FVec Ideal (M2 128 128) .f32) : Prop :=
  ∀ a i c q j g, V (ix2 (lane a i c) (lane q j g)) = if a = q then A i j q g * (if c = g then 1 else 0) else 0

/-- The matrix summing over the states. -/
def IsRed (R : FVec Ideal (M2 128 128) .f32) : Prop :=
  ∀ a i c q j g, R (ix2 (lane a i c) (lane q j g)) = if a = q ∧ c = g then 1 else 0

/-- The matrix picking the generators. -/
def IsSel (S : FVec Ideal (M2 128 4) .f32) : Prop :=
  ∀ a i c g, S (ix2 (lane a i c) g) = if i = 0 ∧ c = g then 1 else 0

/-! ## Going down -/

theorem num_at (n : ℕ) (q : Fin 4) (p : Fin n) : num n (q.val * n + p.val) = q := by
  apply Fin.ext
  show (q.val * n + p.val) / n % 4 = q.val
  have hn : 0 < n := p.pos
  rw [Nat.mul_comm, Nat.mul_add_div hn, Nat.div_eq_of_lt p.isLt]; have := q.isLt; omega

theorem mod_at (n : ℕ) (q : Fin 4) (p : Fin n) : (q.val * n + p.val) % n = p.val := by
  rw [Nat.mul_comm, Nat.mul_add_mod, Nat.mod_eq_of_lt p.isLt]

/-- The children of the rows' nodes. -/
theorem mm_W {n : ℕ} {A : Tr} {W : FVec Ideal (M2 32 128) .f32} (hW : IsW A W) {x : FVec Ideal (M2 n 32) .f32} {f : Fn} (hx : Flat n x f)
    (p : Fin n) (q : Fin 4) (i : Fin 8) (g : Fin 4) : mm x W (ix2 p (lane q i g)) = ∑ j, A i j q g * f p.val j g := by
  rw [mm_at, sum_slot]
  refine Finset.sum_congr rfl fun j _ => ?_
  rw [Finset.sum_eq_single g]
  · rw [hx, hW, if_pos rfl, mul_one, mul_comm]
  · intro c _ hc
    rw [hW, if_neg hc, mul_zero, mul_zero]
  · simp

theorem mm_W_packs {n : ℕ} {A : Tr} {W : FVec Ideal (M2 32 128) .f32} (hW : IsW A W) {x : FVec Ideal (M2 n 32) .f32} {f : Fn} (hx : Flat n x f) :
    Packs n (mm x W) (downF n A f) := fun p q i g => by
  rw [mm_W hW hx]; unfold downF; rw [num_at, mod_at]

/-- The lanes of one child number. -/
theorem lanes_flat {n : ℕ} {v : FVec Ideal (M2 n 128) .f32} {f : Fn} (hv : Packs n v f) (q : Fin 4) (o : ℕ) (ho : o = 32 * q.val)
    (h : (M2 n 128).Slices ![0, o] (M2 n 32)) : Flat n (extractStridedSlice (M2 n 32) ![0, o] v h) (fun p => f (q.val * n + p)) := fun p i g => by
  rw [extractStridedSlice_apply _ _ _ _ (ix2 p (lane q i g) : (M2 n 128).Idx) (fun a => by
    match a with
    | ⟨0, _⟩ => exact (Nat.zero_add _).symm
    | ⟨1, _⟩ => show q.val * 32 + i.val * 4 + g.val = o + (i.val * 4 + g.val); omega), hv]

/-- The four pieces one below the other. -/
theorem cat_rows {n n4 : ℕ} (hn : n4 = 4 * n) (p : Fin 4 → (M2 n 128).Idx → F .f32)
    (hc : Shape.Concatenates [M2 n 128, M2 n 128, M2 n 128, M2 n 128] (M2 n4 128) 0) (q : Fin 4) (r : Fin n) (l : Fin 128) (R : Fin n4)
    (hR : R.val = q.val * n + r.val) :
    concatenate (M2 n4 128) 0 [⟨M2 n 128, p 0⟩, ⟨M2 n 128, p 1⟩, ⟨M2 n 128, p 2⟩, ⟨M2 n 128, p 3⟩] hc (ix2 R l) = p q (ix2 r l) := by
  refine concatenate_apply_piece (t := M2 n4 128) 0 [⟨M2 n 128, p 0⟩, ⟨M2 n 128, p 1⟩, ⟨M2 n 128, p 2⟩, ⟨M2 n 128, p 3⟩] _ (ix2 R l) q.val
    q.isLt (M2 n 128) (p q) ?_ rfl (q.val * n) ?_ (ix2 r l) (fun b hb => ?_) ?_
  · fin_cases q <;> rfl
  · fin_cases q <;> simp <;> omega
  · match b with
    | ⟨0, _⟩ => exact absurd rfl hb
    | ⟨1, _⟩ => rfl
  · exact hR.symm

/-- The four pieces side by side. -/
theorem cat_lanes {n : ℕ} (p : Fin 4 → (M2 n 32).Idx → F .f32)
    (hc : Shape.Concatenates [M2 n 32, M2 n 32, M2 n 32, M2 n 32] (M2 n 128) 1) (q : Fin 4) (r : Fin n) (i : Fin 8) (g : Fin 4) :
    concatenate (M2 n 128) 1 [⟨M2 n 32, p 0⟩, ⟨M2 n 32, p 1⟩, ⟨M2 n 32, p 2⟩, ⟨M2 n 32, p 3⟩] hc (ix2 r (lane q i g)) = p q (ix2 r (slot i g)) := by
  refine concatenate_apply_piece (t := M2 n 128) 1 [⟨M2 n 32, p 0⟩, ⟨M2 n 32, p 1⟩, ⟨M2 n 32, p 2⟩, ⟨M2 n 32, p 3⟩] _ (ix2 r (lane q i g)) q.val
    q.isLt (M2 n 32) (p q) ?_ rfl (q.val * 32) ?_ (ix2 r (slot i g)) (fun b hb => ?_) ?_
  · fin_cases q <;> rfl
  · fin_cases q <;> simp
  · match b with
    | ⟨0, _⟩ => rfl
    | ⟨1, _⟩ => exact absurd rfl hb
  · show q.val * 32 + (i.val * 4 + g.val) = q.val * 32 + i.val * 4 + g.val
    omega

/-- A level's priors from those of the level above. -/
def down {n n4 : ℕ} (h0 : (M2 n 128).Slices ![0, 0] (M2 n 32)) (h1 : (M2 n 128).Slices ![0, 32] (M2 n 32))
    (h2 : (M2 n 128).Slices ![0, 64] (M2 n 32)) (h3 : (M2 n 128).Slices ![0, 96] (M2 n 32))
    (hc : Shape.Concatenates [M2 n 128, M2 n 128, M2 n 128, M2 n 128] (M2 n4 128) 0)
    (W : FVec F (M2 32 128) .f32) (P : FVec F (M2 n 128) .f32) : FVec F (M2 n4 128) .f32 :=
  concatenate (M2 n4 128) 0 [⟨M2 n 128, mm (extractStridedSlice (M2 n 32) ![0, 0] P h0) W⟩, ⟨M2 n 128, mm (extractStridedSlice (M2 n 32) ![0, 32] P h1) W⟩,
    ⟨M2 n 128, mm (extractStridedSlice (M2 n 32) ![0, 64] P h2) W⟩, ⟨M2 n 128, mm (extractStridedSlice (M2 n 32) ![0, 96] P h3) W⟩] hc

theorem down_packs {n n4 : ℕ} (hn : n4 = 4 * n) (h0 : (M2 n 128).Slices ![0, 0] (M2 n 32)) (h1 : (M2 n 128).Slices ![0, 32] (M2 n 32))
    (h2 : (M2 n 128).Slices ![0, 64] (M2 n 32)) (h3 : (M2 n 128).Slices ![0, 96] (M2 n 32))
    (hc : Shape.Concatenates [M2 n 128, M2 n 128, M2 n 128, M2 n 128] (M2 n4 128) 0) {A : Tr}
    {W : FVec Ideal (M2 32 128) .f32} (hW : IsW A W) {P : FVec Ideal (M2 n 128) .f32} {f : Fn} (hP : Packs n P f) :
    Packs n4 (down h0 h1 h2 h3 hc W P) (downF n4 A f) := fun R q i g => by
  have hn0 : 0 < n := by have := R.pos; omega
  have hR := R.isLt
  have hk : R.val / n < 4 := Nat.div_lt_of_lt_mul (by rw [Nat.mul_comm]; omega)
  have key := cat_rows (F := Ideal) hn ![mm (extractStridedSlice (M2 n 32) ![0, 0] P h0) W, mm (extractStridedSlice (M2 n 32) ![0, 32] P h1) W,
    mm (extractStridedSlice (M2 n 32) ![0, 64] P h2) W, mm (extractStridedSlice (M2 n 32) ![0, 96] P h3) W] hc ⟨R.val / n, hk⟩ ⟨R.val % n, Nat.mod_lt _ hn0⟩
    (lane q i g) R (by show R.val = R.val / n * n + R.val % n; rw [Nat.mul_comm]; exact (Nat.div_add_mod _ _).symm)
  refine key.trans ?_
  unfold downF
  rw [num_at, mod_at]
  have hf : R.val = (⟨R.val / n, hk⟩ : Fin 4).val * n + (⟨R.val % n, Nat.mod_lt _ hn0⟩ : Fin n).val := by
    show R.val = R.val / n * n + R.val % n; rw [Nat.mul_comm]; exact (Nat.div_add_mod _ _).symm
  refine Eq.trans ?_ (congrArg (fun m => ∑ j, A i j q g * f m j g) hf.symm)
  generalize (⟨R.val / n, hk⟩ : Fin 4) = a
  generalize (⟨R.val % n, Nat.mod_lt _ hn0⟩ : Fin n) = b
  match a with
  | 0 => exact mm_W hW (lanes_flat hP 0 0 rfl h0) b q i g
  | 1 => exact mm_W hW (lanes_flat hP 1 32 rfl h1) b q i g
  | 2 => exact mm_W hW (lanes_flat hP 2 64 rfl h2) b q i g
  | 3 => exact mm_W hW (lanes_flat hP 3 96 rfl h3) b q i g

/-! ## Within a level -/

theorem Packs.mulf {n : ℕ} {v w : FVec Ideal (M2 n 128) .f32} {f h : Fn} (hv : Packs n v f) (hw : Packs n w h) :
    Packs n (mulf v w) (mulF f h) := fun p q i g => by rw [mulf_apply, hv, hw]; rfl

theorem Flat.mulf {n : ℕ} {v w : FVec Ideal (M2 n 32) .f32} {f h : Fn} (hv : Flat n v f) (hw : Flat n w h) :
    Flat n (Idealize.ShloMosaic.mulf v w) (mulF f h) := fun p i g => by rw [mulf_apply, hv, hw]; rfl

/-- The normalisers, on every lane of their node. -/
theorem nu_packs {n : ℕ} {R : FVec Ideal (M2 128 128) .f32} (hR : IsRed R) {u : FVec Ideal (M2 n 128) .f32} {f : Fn} (hu : Packs n u f) :
    Packs n (mm u R) (fun pos _ g => nuF f pos g) := fun p q i g => by
  rw [mm_at, sum_lane]
  rw [Finset.sum_eq_single q]
  · unfold nuF
    refine Finset.sum_congr rfl fun j _ => ?_
    rw [Finset.sum_eq_single g]
    · rw [hu, hR, if_pos ⟨rfl, rfl⟩, mul_one]
    · intro c _ hc
      rw [hR, if_neg (fun h => hc h.2), mul_zero]
    · simp
  · intro a _ ha
    refine Finset.sum_eq_zero fun j _ => Finset.sum_eq_zero fun c _ => ?_
    rw [hR, if_neg (fun h => ha h.1), mul_zero]
  · simp

theorem beta_packs {n : ℕ} {u v : FVec Ideal (M2 n 128) .f32} {f : Fn} (hu : Packs n u f) (hv : Packs n v (fun pos _ g => nuF f pos g)) :
    Packs n (divf u v) (betaF f) := fun p q i g => by
  rw [divf_apply, hu, hv]; rfl

theorem log_packs {n : ℕ} {v : FVec Ideal (M2 n 128) .f32} {f : Fn} (hv : Packs n v f) :
    Packs n (log v) (fun pos i g => Ideal.log (f pos i g)) := fun p q i g => by
  show Ideal.log (v (ix2 p (lane q i g))) = _
  rw [hv]

/-! ## Going up -/

/-- The product of the four children's messages, from the ratios of likelihood and prior: one row per parent. -/
def prod4 {n : ℕ} (h0 : (M2 n 128).Slices ![0, 0] (M2 n 32)) (h1 : (M2 n 128).Slices ![0, 32] (M2 n 32))
    (h2 : (M2 n 128).Slices ![0, 64] (M2 n 32)) (h3 : (M2 n 128).Slices ![0, 96] (M2 n 32)) (U : FVec F (M2 n 128) .f32) : FVec F (M2 n 32) .f32 :=
  mulf (mulf (extractStridedSlice (M2 n 32) ![0, 0] U h0) (extractStridedSlice (M2 n 32) ![0, 32] U h1))
    (mulf (extractStridedSlice (M2 n 32) ![0, 64] U h2) (extractStridedSlice (M2 n 32) ![0, 96] U h3))

/-- The rows of the parents, packed. -/
def pack4 {n n4 : ℕ} (o1 o2 o3 : ℕ) (h0 : (M2 n4 32).Slices ![0, 0] (M2 n 32)) (h1 : (M2 n4 32).Slices ![o1, 0] (M2 n 32))
    (h2 : (M2 n4 32).Slices ![o2, 0] (M2 n 32)) (h3 : (M2 n4 32).Slices ![o3, 0] (M2 n 32))
    (hc : Shape.Concatenates [M2 n 32, M2 n 32, M2 n 32, M2 n 32] (M2 n 128) 1) (v : FVec F (M2 n4 32) .f32) : FVec F (M2 n 128) .f32 :=
  concatenate (M2 n 128) 1 [⟨M2 n 32, extractStridedSlice (M2 n 32) ![0, 0] v h0⟩, ⟨M2 n 32, extractStridedSlice (M2 n 32) ![o1, 0] v h1⟩,
    ⟨M2 n 32, extractStridedSlice (M2 n 32) ![o2, 0] v h2⟩, ⟨M2 n 32, extractStridedSlice (M2 n 32) ![o3, 0] v h3⟩] hc

/-- The messages: row `p` has those of parent `p`'s four children. -/
theorem msg_at {n : ℕ} {A : Tr} {V : FVec Ideal (M2 128 128) .f32} (hV : IsV A V) {b p : FVec Ideal (M2 n 128) .f32} {fb fp : Fn} (hb : Packs n b fb)
    (hp : Packs n p fp) : Packs n (mm (divf b p) V) (fun pos j g => msgF n A fb fp (num n pos) (pos % n) j g) := fun r q j g => by
  dsimp only
  rw [num_at, mod_at, mm_at, sum_lane]
  rw [Finset.sum_eq_single q]
  · unfold msgF
    refine Finset.sum_congr rfl fun i _ => ?_
    rw [Finset.sum_eq_single g]
    · rw [divf_apply, hb, hp, hV, if_pos rfl, if_pos rfl, mul_one, mul_comm]
    · intro c _ hc
      rw [hV, if_pos rfl, if_neg hc, mul_zero, mul_zero]
    · simp
  · intro a _ ha
    refine Finset.sum_eq_zero fun j _ => Finset.sum_eq_zero fun c _ => ?_
    rw [hV, if_neg ha, mul_zero]
  · simp

theorem prod4_flat {n : ℕ} (h0 : (M2 n 128).Slices ![0, 0] (M2 n 32)) (h1 : (M2 n 128).Slices ![0, 32] (M2 n 32))
    (h2 : (M2 n 128).Slices ![0, 64] (M2 n 32)) (h3 : (M2 n 128).Slices ![0, 96] (M2 n 32)) {A : Tr} {V : FVec Ideal (M2 128 128) .f32} (hV : IsV A V)
    {b p : FVec Ideal (M2 n 128) .f32} {fb fp : Fn} (hb : Packs n b fb) (hp : Packs n p fp) :
    Flat n (prod4 h0 h1 h2 h3 (mm (divf b p) V)) (upF n A fb fp) := fun r j g => by
  have m := msg_at hV hb hp
  have k0 := lanes_flat m 0 0 rfl h0 r j g
  have k1 := lanes_flat m 1 32 rfl h1 r j g
  have k2 := lanes_flat m 2 64 rfl h2 r j g
  have k3 := lanes_flat m 3 96 rfl h3 r j g
  unfold prod4
  rw [mulf_apply, mulf_apply, mulf_apply, k0, k1, k2, k3]
  show msgF n A fb fp (num n ((0 : Fin 4).val * n + r.val)) (((0 : Fin 4).val * n + r.val) % n) j g * msgF n A fb fp (num n ((1 : Fin 4).val * n + r.val)) (((1 : Fin 4).val * n + r.val) % n) j g
    * (msgF n A fb fp (num n ((2 : Fin 4).val * n + r.val)) (((2 : Fin 4).val * n + r.val) % n) j g * msgF n A fb fp (num n ((3 : Fin 4).val * n + r.val)) (((3 : Fin 4).val * n + r.val) % n) j g) = _
  rw [num_at, num_at, num_at, num_at, mod_at, mod_at, mod_at, mod_at]
  rfl

theorem rows_flat {n n4 : ℕ} {v : FVec Ideal (M2 n4 32) .f32} {f : Fn} (hv : Flat n4 v f) (hn : n4 = 4 * n) (q : Fin 4) (o : ℕ) (ho : o = q.val * n)
    (h : (M2 n4 32).Slices ![o, 0] (M2 n 32)) : Flat n (extractStridedSlice (M2 n 32) ![o, 0] v h) (fun p => f (q.val * n + p)) := fun p i g => by
  have hp := p.isLt
  have hq : q.val * n ≤ 3 * n := Nat.mul_le_mul_right n (by omega)
  rw [extractStridedSlice_apply _ _ _ _ (ix2 ⟨q.val * n + p.val, by omega⟩ (slot i g) : (M2 n4 32).Idx) (fun a => by
    match a with
    | ⟨0, _⟩ => show q.val * n + p.val = o + p.val; omega
    | ⟨1, _⟩ => exact (Nat.zero_add _).symm), hv]

theorem pack4_packs {n n4 : ℕ} (hn : n4 = 4 * n) (o1 o2 o3 : ℕ) (e1 : o1 = n) (e2 : o2 = 2 * n) (e3 : o3 = 3 * n) (h0 : (M2 n4 32).Slices ![0, 0] (M2 n 32))
    (h1 : (M2 n4 32).Slices ![o1, 0] (M2 n 32)) (h2 : (M2 n4 32).Slices ![o2, 0] (M2 n 32)) (h3 : (M2 n4 32).Slices ![o3, 0] (M2 n 32))
    (hc : Shape.Concatenates [M2 n 32, M2 n 32, M2 n 32, M2 n 32] (M2 n 128) 1) {v : FVec Ideal (M2 n4 32) .f32} {f : Fn} (hv : Flat n4 v f) :
    Packs n (pack4 o1 o2 o3 h0 h1 h2 h3 hc v) f := fun r q i g => by
  have key := cat_lanes (F := Ideal) ![extractStridedSlice (M2 n 32) ![0, 0] v h0, extractStridedSlice (M2 n 32) ![o1, 0] v h1,
    extractStridedSlice (M2 n 32) ![o2, 0] v h2, extractStridedSlice (M2 n 32) ![o3, 0] v h3] hc q r i g
  refine key.trans ?_
  match q with
  | 0 => exact rows_flat hv hn 0 0 (Nat.zero_mul _).symm h0 r i g
  | 1 => exact rows_flat hv hn 1 o1 (by rw [e1]; exact (Nat.one_mul _).symm) h1 r i g
  | 2 => exact rows_flat hv hn 2 o2 e2 h2 r i g
  | 3 => exact rows_flat hv hn 3 o3 e3 h3 r i g

/-- A level's unnormalised likelihoods from the level below. -/
theorem rise_packs {n n4 : ℕ} (hn : n4 = 4 * n) (o1 o2 o3 : ℕ) (e1 : o1 = n) (e2 : o2 = 2 * n) (e3 : o3 = 3 * n) (h0 : (M2 n4 32).Slices ![0, 0] (M2 n 32))
    (h1 : (M2 n4 32).Slices ![o1, 0] (M2 n 32)) (h2 : (M2 n4 32).Slices ![o2, 0] (M2 n 32)) (h3 : (M2 n4 32).Slices ![o3, 0] (M2 n 32))
    (hc : Shape.Concatenates [M2 n 32, M2 n 32, M2 n 32, M2 n 32] (M2 n 128) 1) (k0 : (M2 n4 128).Slices ![0, 0] (M2 n4 32))
    (k1 : (M2 n4 128).Slices ![0, 32] (M2 n4 32)) (k2 : (M2 n4 128).Slices ![0, 64] (M2 n4 32)) (k3 : (M2 n4 128).Slices ![0, 96] (M2 n4 32))
    {A : Tr} {V : FVec Ideal (M2 128 128) .f32} (hV : IsV A V) {b Q : FVec Ideal (M2 n4 128) .f32} {fb fq : Fn} (hb : Packs n4 b fb) (hq : Packs n4 Q fq)
    {P B : FVec Ideal (M2 n 128) .f32} {f e : Fn} (hP : Packs n P f) (hB : Packs n B e) :
    Packs n (mulf (mulf P B) (mulf (mulf P B) (pack4 o1 o2 o3 h0 h1 h2 h3 hc (prod4 k0 k1 k2 k3 (mm (divf b Q) V)))))
      (mulF (mulF f e) (mulF (mulF f e) (upF n4 A fb fq))) :=
  (hP.mulf hB).mulf ((hP.mulf hB).mulf (pack4_packs hn o1 o2 o3 e1 e2 e3 h0 h1 h2 h3 hc (prod4_flat k0 k1 k2 k3 hV hb hq)))

/-- A level's emissions, cut from the packed rows. -/
theorem em_packs {n N d o : ℕ} (hn : n = 4 ^ d) (ho : o = first d) (hN : o + n ≤ N) {b : FVec Ideal (M2 N 128) .f32} {E : ℕ → Fin 128 → EReal}
    (hb : ∀ (r : Fin N) (l : Fin 128), b (ix2 r l) = E r.val l) (h : (M2 N 128).Slices ![o, 0] (M2 n 128)) :
    Packs n (extractStridedSlice (M2 n 128) ![o, 0] b h) (emF E d) := fun p q i g => by
  have hp := p.isLt
  rw [extractStridedSlice_apply _ _ _ _ (ix2 ⟨o + p.val, by omega⟩ (lane q i g) : (M2 N 128).Idx) (fun a => by
    match a with
    | ⟨0, _⟩ => rfl
    | ⟨1, _⟩ => exact (Nat.zero_add _).symm), hb]
  unfold emF
  subst hn ho
  rw [num_at, mod_at]

/-- The roots' emissions: the four pieces of the first packed row. -/
def roots {N : ℕ} (h0 : (M2 N 128).Slices ![0, 0] (M2 1 32)) (h1 : (M2 N 128).Slices ![0, 32] (M2 1 32)) (h2 : (M2 N 128).Slices ![0, 64] (M2 1 32))
    (h3 : (M2 N 128).Slices ![0, 96] (M2 1 32)) (hc : Shape.Concatenates [M2 1 32, M2 1 32, M2 1 32, M2 1 32] (M2 4 32) 0) (b : FVec F (M2 N 128) .f32) :
    FVec F (M2 4 32) .f32 :=
  concatenate (M2 4 32) 0 [⟨M2 1 32, extractStridedSlice (M2 1 32) ![0, 0] b h0⟩, ⟨M2 1 32, extractStridedSlice (M2 1 32) ![0, 32] b h1⟩,
    ⟨M2 1 32, extractStridedSlice (M2 1 32) ![0, 64] b h2⟩, ⟨M2 1 32, extractStridedSlice (M2 1 32) ![0, 96] b h3⟩] hc

theorem roots_flat {N : ℕ} (hN : 0 < N) (h0 : (M2 N 128).Slices ![0, 0] (M2 1 32)) (h1 : (M2 N 128).Slices ![0, 32] (M2 1 32)) (h2 : (M2 N 128).Slices ![0, 64] (M2 1 32))
    (h3 : (M2 N 128).Slices ![0, 96] (M2 1 32)) (hc : Shape.Concatenates [M2 1 32, M2 1 32, M2 1 32, M2 1 32] (M2 4 32) 0) {b : FVec Ideal (M2 N 128) .f32}
    {E : ℕ → Fin 128 → EReal} (hb : ∀ (r : Fin N) (l : Fin 128), b (ix2 r l) = E r.val l) : Flat 4 (roots h0 h1 h2 h3 hc b) (emF E 0) := fun t i g => by
  have at_ (q : Fin 4) (o : ℕ) (ho : o = 32 * q.val) (h : (M2 N 128).Slices ![0, o] (M2 1 32)) :
      extractStridedSlice (M2 1 32) ![0, o] b h (ix2 0 (slot i g)) = emF E 0 q.val i g := by
    rw [extractStridedSlice_apply _ _ _ _ (ix2 ⟨0, hN⟩ (lane q i g) : (M2 N 128).Idx) (fun a => by
      match a with
      | ⟨0, _⟩ => rfl
      | ⟨1, _⟩ => show q.val * 32 + i.val * 4 + g.val = o + (i.val * 4 + g.val); omega), hb]
    unfold emF
    have : num (4 ^ 0) q.val = q := by
      apply Fin.ext
      show q.val / 1 % 4 = q.val
      have := q.isLt; omega
    rw [this]
    show E 0 _ = E (0 + q.val % 1) _
    rw [Nat.mod_one]
  unfold roots
  refine (concatenate_apply_piece (t := M2 4 32) 0 [⟨M2 1 32, extractStridedSlice (M2 1 32) ![0, 0] b h0⟩, ⟨M2 1 32, extractStridedSlice (M2 1 32) ![0, 32] b h1⟩,
    ⟨M2 1 32, extractStridedSlice (M2 1 32) ![0, 64] b h2⟩, ⟨M2 1 32, extractStridedSlice (M2 1 32) ![0, 96] b h3⟩] _ (ix2 t (slot i g)) t.val t.isLt (M2 1 32) (![extractStridedSlice (M2 1 32) ![0, 0] b h0,
    extractStridedSlice (M2 1 32) ![0, 32] b h1, extractStridedSlice (M2 1 32) ![0, 64] b h2, extractStridedSlice (M2 1 32) ![0, 96] b h3] t) ?_ rfl t.val ?_
    (ix2 0 (slot i g)) (fun b hb => ?_) ?_).trans ?_
  · fin_cases t <;> rfl
  · fin_cases t <;> simp
  · match b with
    | ⟨0, _⟩ => exact absurd rfl hb
    | ⟨1, _⟩ => rfl
  · rfl
  · match t with
    | 0 => exact at_ 0 0 rfl h0
    | 1 => exact at_ 1 32 rfl h1
    | 2 => exact at_ 2 64 rfl h2
    | 3 => exact at_ 3 96 rfl h3

/-! ## The log-likelihoods -/

/-- Column `p` of the matrix picking a tree's rows. -/
def IsPick (n : ℕ) (s : FVec Ideal (M2 4 n) .f32) : Prop :=
  ∀ (t : Fin 4) (p : Fin n), s (ix2 t p) = if p.val % 4 = t.val then 1 else 0

/-- The level's sum over each tree. -/
theorem ll_at {n N : ℕ} (hn : n % 4 = 0) (hN : N = 4 * n) {s : FVec Ideal (M2 4 n) .f32} (hs : IsPick n s) {S : FVec Ideal (M2 128 4) .f32} (hS : IsSel S)
    {v : FVec Ideal (M2 n 128) .f32} {f : Fn} (hv : Packs n v (fun pos _ g => Ideal.log (nuF f pos g))) (t g : Fin 4) :
    mm (mm s v) S (ix2 t g) = llF N f t g := by
  subst hN
  rw [llF_quarters hn, mm_at, sum_lane]
  refine Finset.sum_congr rfl fun q _ => ?_
  rw [Finset.sum_eq_single 0]
  · rw [Finset.sum_eq_single g]
    · rw [hS, if_pos ⟨rfl, rfl⟩, mul_one, mm_at]
      refine Finset.sum_congr rfl fun p _ => ?_
      rw [hs, hv]
      by_cases h : p.val % 4 = t.val
      · rw [if_pos h, if_pos h, one_mul]
      · rw [if_neg h, if_neg h, zero_mul]
    · intro c _ hc
      rw [hS, if_neg (fun h => hc h.2), mul_zero]
    · simp
  · intro i _ hi
    refine Finset.sum_eq_zero fun c _ => ?_
    rw [hS, if_neg (fun h => hi h.1), mul_zero]
  · simp

/-- The roots' normalisers and log-likelihoods, one row per tree. -/
theorem root_at {R : FVec Ideal (M2 128 128) .f32} (hR : IsRed R) {S : FVec Ideal (M2 128 4) .f32} (hS : IsSel S) (h : (M2 128 128).Slices ![0, 0] (M2 32 32))
    (h' : (M2 128 4).Slices ![0, 0] (M2 32 4)) {u : FVec Ideal (M2 4 32) .f32} {f : Fn} (hu : Flat 4 u f) (t g : Fin 4) :
    mm (log (mm u (extractStridedSlice (M2 32 32) ![0, 0] R h))) (extractStridedSlice (M2 32 4) ![0, 0] S h') (ix2 t g) = llF 4 f t g := by
  have eR : ∀ i c j g', extractStridedSlice (M2 32 32) ![0, 0] R h (ix2 (slot i c) (slot j g')) = if c = g' then 1 else 0 := fun i c j g' => by
    rw [extractStridedSlice_apply _ _ _ _ (ix2 (lane 0 i c) (lane 0 j g') : (M2 128 128).Idx) (fun a => by
      match a with
      | ⟨0, _⟩ => show 0 * 32 + i.val * 4 + c.val = 0 + (i.val * 4 + c.val); omega
      | ⟨1, _⟩ => show 0 * 32 + j.val * 4 + g'.val = 0 + (j.val * 4 + g'.val); omega), hR]
    simp
  have eS : ∀ i c g', extractStridedSlice (M2 32 4) ![0, 0] S h' (ix2 (slot i c) g') = if i = 0 ∧ c = g' then 1 else 0 := fun i c g' => by
    rw [extractStridedSlice_apply _ _ _ _ (ix2 (lane 0 i c) g' : (M2 128 4).Idx) (fun a => by
      match a with
      | ⟨0, _⟩ => show 0 * 32 + i.val * 4 + c.val = 0 + (i.val * 4 + c.val); omega
      | ⟨1, _⟩ => exact (Nat.zero_add _).symm), hS]
  have nu : ∀ i c, mm u (extractStridedSlice (M2 32 32) ![0, 0] R h) (ix2 t (slot i c)) = nuF f t.val c := fun i c => by
    rw [mm_at, sum_slot]
    unfold nuF
    refine Finset.sum_congr rfl fun j _ => ?_
    rw [Finset.sum_eq_single c]
    · rw [hu, eR, if_pos rfl, mul_one]
    · intro a _ ha
      rw [eR, if_neg ha, mul_zero]
    · simp
  rw [llF_root, mm_at, sum_slot, Finset.sum_eq_single 0]
  · rw [Finset.sum_eq_single g]
    · rw [eS, if_pos ⟨rfl, rfl⟩, mul_one]
      show Ideal.log (mm u (extractStridedSlice (M2 32 32) ![0, 0] R h) (ix2 t (slot 0 g))) = _
      rw [nu]
    · intro c _ hc
      rw [eS, if_neg (fun h => hc h.2), mul_zero]
    · simp
  · intro i _ hi
    refine Finset.sum_eq_zero fun c _ => ?_
    rw [eS, if_neg (fun h => hi h.1), mul_zero]
  · simp

/-! ## Which rows are a tree's -/

/-- The rows' numbers modulo four. -/
def rem4 {n : ℕ} (hi : (M2 4 n).Iotas .tc 32 [1]) (hb : (M2 4 n).Broadcasts (M2 4 n)) : IVec (M2 4 n) 32 :=
  have v61 : IVec (M2 4 n) 32 := iota .tc (M2 4 n) 32 [1] hi
  let v62 : BitVec 1 := Scalar.cmpi .eq 4#32 0#32
  let v63 : BitVec 32 := Scalar.select v62 1#32 4#32
  have v64 : IVec (M2 4 n) 32 := broadcast (M2 4 n) v63
  have v65 : IVec (M2 4 n) 32 := remsi v61 v64
  have v66 : IVec (M2 4 n) 32 := broadcast (M2 4 n) 0#32
  have v67 : IVec (M2 4 n) 1 := cmpi .ne v65 v66
  have v68 : IVec (M2 4 n) 32 := broadcast (M2 4 n) 0#32
  have v69 : IVec (M2 4 n) 1 := cmpi .slt v65 v68
  let v70 : BitVec 1 := Scalar.cmpi .slt v63 0#32
  have v71 : IVec (M2 4 n) 1 := broadcast (M2 4 n) v70
  have v72 : IVec (M2 4 n) 1 := broadcastTo (M2 4 n) v71 hb
  have v73 : IVec (M2 4 n) 1 := xori v69 v72
  have v74 : IVec (M2 4 n) 1 := andi v73 v67
  have v75 : IVec (M2 4 n) 32 := broadcast (M2 4 n) v63
  have v76 : IVec (M2 4 n) 32 := addi v65 v75
  have v77 : IVec (M2 4 n) 32 := select v74 v76 v65
  v77

/-- One where a row is the tree's. -/
def pick {n : ℕ} (hi : (M2 4 n).Iotas .tc 32 [1]) (hi' : (M2 4 n).Iotas .tc 32 [0]) (hb : (M2 4 n).Broadcasts (M2 4 n)) (hw : 1 < 32) : FVec F (M2 4 n) .f32 :=
  have v78 : IVec (M2 4 n) 32 := iota .tc (M2 4 n) 32 [0] hi'
  have v79 : IVec (M2 4 n) 1 := cmpi .eq (rem4 hi hb) v78
  have v80 : IVec (M2 4 n) 32 := extui 32 v79 hw
  sitofp .f32 v80

/-- The remainder's correction for the signs, which a remainder of naturals does not need. -/
def fixed (r : BitVec 32) : BitVec 32 :=
  Scalar.select (IntOp.andi (IntOp.xori (IntOp.cmpi .slt r 0#32) (Scalar.cmpi .slt (Scalar.select (Scalar.cmpi .eq 4#32 0#32) 1#32 4#32) 0#32)) (IntOp.cmpi .ne r 0#32))
    (IntOp.addi r (Scalar.select (Scalar.cmpi .eq 4#32 0#32) 1#32 4#32)) r

theorem rem4_at {n : ℕ} (hi : (M2 4 n).Iotas .tc 32 [1]) (hb : (M2 4 n).Broadcasts (M2 4 n)) (t : Fin 4) (p : Fin n) :
    rem4 hi hb (ix2 t p) = fixed (IntOp.remsi .vector (BitVec.ofNat 32 p.val) 4#32) := by
  have e : iota .tc (M2 4 n) 32 [1] hi (ix2 t p) = BitVec.ofNat 32 p.val := by
    show BitVec.ofNat 32 (0 * n + p.val) = _
    rw [Nat.zero_mul, Nat.zero_add]
  rw [← e]
  rfl

theorem pick_isPick {n : ℕ} (hn : n ≤ 4096) (hi : (M2 4 n).Iotas .tc 32 [1]) (hi' : (M2 4 n).Iotas .tc 32 [0]) (hb : (M2 4 n).Broadcasts (M2 4 n)) (hw : 1 < 32) :
    IsPick n (pick hi hi' hb hw) := fun t p => by
  have hp := p.isLt
  have e : iota .tc (M2 4 n) 32 [0] hi' (ix2 t p) = BitVec.ofNat 32 t.val := by
    show BitVec.ofNat 32 (0 * 4 + t.val) = _
    rw [Nat.zero_mul, Nat.zero_add]
  have h : (pick hi hi' hb hw : FVec Ideal (M2 4 n) .f32) (ix2 t p)
      = (((BitVec.setWidth 32 (IntOp.cmpi .eq (rem4 hi hb (ix2 t p)) (iota .tc (M2 4 n) 32 [0] hi' (ix2 t p)))).toInt : ℝ) : EReal) := rfl
  rw [h, e, rem4_at]
  have hr : (IntOp.remsi .vector (BitVec.ofNat 32 p.val) 4#32).toNat = p.val % 4 := by
    have := IntOp.toNat_remsi .vector (x := BitVec.ofNat 32 p.val) (by rw [BitVec.toNat_ofNat]; omega) 4 (by decide) (by decide)
    rw [this, BitVec.toNat_ofNat]; omega
  have hr' : IntOp.remsi .vector (BitVec.ofNat 32 p.val) 4#32 = BitVec.ofNat 32 (p.val % 4) := by
    apply BitVec.eq_of_toNat_eq
    rw [hr, BitVec.toNat_ofNat]; omega
  rw [hr']
  have h4 : p.val % 4 < 4 := Nat.mod_lt _ (by decide)
  generalize p.val % 4 = k at h4
  have hc : ∀ (k t : Fin 4), (BitVec.setWidth 32 (IntOp.cmpi .eq (fixed (BitVec.ofNat 32 k.val)) (BitVec.ofNat 32 t.val))).toInt = if k.val = t.val then 1 else 0 := by
    decide
  rw [hc ⟨k, h4⟩ t]
  by_cases hk : k = t.val
  · rw [if_pos hk, if_pos hk]; simp
  · rw [if_neg hk, if_neg hk]; simp

end Cert.Proof.Tree

end
-- ==== Proof.TreeBody.lean ====
/-
  What one grid point of the pass computes from its blocks: the total log-likelihood of the block's four trees.
-/
module

public import proofs.«01_k».proof.Proof.TreeSteps
public import proofs.«01_k».proof.Proof.Gen.TreeIdeal.Value

@[expose] public section

noncomputable section

namespace Cert.Proof.Tree

open Idealize.ShloMosaic Idealize.ShloMosaic.ValueIdx
open Cert.TreeIdeal Cert.TreeIdeal.Gen

/-- What the blocks hold. -/
structure Holds (A : Tr) (Pi : Fin 8 → Fin 4 → EReal) (E : ℕ → Fin 128 → EReal) (x0 : Vec Ideal S1x5504x128 .f32) (x1 : Vec Ideal S32x128 .f32)
    (x2 : Vec Ideal S128x128 .f32) (x3 : Vec Ideal S4x32 .f32) (x4 : Vec Ideal S128x128 .f32) (x5 : Vec Ideal S128x4 .f32) : Prop where
  rows : ∀ (r : Fin 5504) (l : Fin 128), x0 (ix3 0 r l) = E r.val l
  w : IsW A x1
  v : IsV A x2
  pi : Flat 4 x3 (priorF A Pi 0)
  red : IsRed x4
  sel : IsSel x5

variable {A : Tr} {Pi : Fin 8 → Fin 4 → EReal} {E : ℕ → Fin 128 → EReal} {x0 : Vec Ideal S1x5504x128 .f32} {x1 : Vec Ideal S32x128 .f32}
  {x2 : Vec Ideal S128x128 .f32} {x3 : Vec Ideal S4x32 .f32} {x4 : Vec Ideal S128x128 .f32} {x5 : Vec Ideal S128x4 .f32}

namespace Holds

variable (h : Holds A Pi E x0 x1 x2 x3 x4 x5)

include h

/-! ## The blocks as loaded -/

theorem b_at (r : Fin 5504) (l : Fin 128) : k0_pay49 x0 x1 x2 x3 x4 x5 (ix2 r l) = E r.val l := by
  unfold k0_pay49 k0_pay4
  rw [View.ld_unit_lit _ _ (by decide)]
  rw [shapeCast_apply _ _ _ (ix3 0 r l : S1x5504x128.Idx) (by
    rw [Shape.rowMajor_val_three, Shape.rowMajor_val_two]
    show (0 * 5504 + r.val) * 128 + l.val = r.val * 128 + l.val
    omega)]
  exact h.rows r l

theorem isW : IsW A (k0_pay2 (View.ld x1 r0_0)) := by
  unfold k0_pay2
  rw [shapeCast_self, View.ld_unit_lit _ _ (by decide)]
  exact h.w

theorem isV : IsV A (k0_pay48 x0 x1 x2 x3 x4 x5) := by
  unfold k0_pay48 k0_pay3
  rw [shapeCast_self, View.ld_unit_lit _ _ (by decide)]
  exact h.v

theorem isPi : Flat 4 (k0_pay5 (View.ld x3 r0_3)) (priorF A Pi 0) := by
  unfold k0_pay5
  rw [shapeCast_self, View.ld_unit_lit _ _ (by decide)]
  exact h.pi

theorem isRed : IsRed (View.ld x4 r0_1) := by
  rw [View.ld_unit_lit _ _ (by decide)]
  exact h.red

theorem isSel : IsSel (View.ld x5 r0_4) := by
  rw [View.ld_unit_lit _ _ (by decide)]
  exact h.sel

/-! ## The priors -/

theorem p1 : Packs 4 (k0_pay51 x0 x1 x2 x3 x4 x5) (priorF A Pi 1) := by
  unfold k0_pay51 k0_pay6
  exact mm_W_packs h.isW h.isPi

theorem p2 : Packs 16 (k0_pay52 x0 x1 x2 x3 x4 x5) (priorF A Pi 2) :=
  down_packs (n := 4) (n4 := 16) rfl slices_S4x128_o0_0_S4x32 slices_S4x128_o0_32_S4x32 slices_S4x128_o0_64_S4x32 slices_S4x128_o0_96_S4x32
    concatenates_S4x128_S4x128_S4x128_S4x128_S16x128_d0 h.isW h.p1

theorem p3 : Packs 64 (k0_pay53 x0 x1 x2 x3 x4 x5) (priorF A Pi 3) :=
  down_packs (n := 16) (n4 := 64) rfl slices_S16x128_o0_0_S16x32 slices_S16x128_o0_32_S16x32 slices_S16x128_o0_64_S16x32 slices_S16x128_o0_96_S16x32
    concatenates_S16x128_S16x128_S16x128_S16x128_S64x128_d0 h.isW h.p2

theorem p4 : Packs 256 (k0_pay57 x0 x1 x2 x3 x4 x5) (priorF A Pi 4) :=
  down_packs (n := 64) (n4 := 256) rfl slices_S64x128_o0_0_S64x32 slices_S64x128_o0_32_S64x32 slices_S64x128_o0_64_S64x32 slices_S64x128_o0_96_S64x32
    concatenates_S64x128_S64x128_S64x128_S64x128_S256x128_d0 h.isW h.p3

theorem p5 : Packs 1024 (k0_pay58 x0 x1 x2 x3 x4 x5) (priorF A Pi 5) :=
  down_packs (n := 256) (n4 := 1024) rfl slices_S256x128_o0_0_S256x32 slices_S256x128_o0_32_S256x32 slices_S256x128_o0_64_S256x32 slices_S256x128_o0_96_S256x32
    concatenates_S256x128_S256x128_S256x128_S256x128_S1024x128_d0 h.isW h.p4

theorem p6 : Packs 4096 (k0_pay59 x0 x1 x2 x3 x4 x5) (priorF A Pi 6) :=
  down_packs (n := 1024) (n4 := 4096) rfl slices_S1024x128_o0_0_S1024x32 slices_S1024x128_o0_32_S1024x32 slices_S1024x128_o0_64_S1024x32 slices_S1024x128_o0_96_S1024x32
    concatenates_S1024x128_S1024x128_S1024x128_S1024x128_S4096x128_d0 h.isW h.p5

/-! ## The leaves -/

/-- The leaves' unnormalised likelihoods. -/
theorem u6 : Packs 4096 (k0_pay15 (k0_pay47 x0 x1 x2 x3 x4 x5) (k0_pay49 x0 x1 x2 x3 x4 x5) (k0_pay53 x0 x1 x2 x3 x4 x5) (k0_pay54 x0 x1 x2 x3 x4 x5)
    (k0_pay55 x0 x1 x2 x3 x4 x5) (k0_pay56 x0 x1 x2 x3 x4 x5) (k0_pay46 x0 x1 x2 x3 x4 x5)) (unF A Pi (emF E) 0) :=
  Packs.mulf h.p6 (em_packs (d := 6) (o := 1365) rfl rfl (by decide) h.b_at slices_S5504x128_o1365_0_S4096x128)

theorem n6 : Packs 4096 (k0_pay16 (k0_pay47 x0 x1 x2 x3 x4 x5) (k0_pay49 x0 x1 x2 x3 x4 x5) (View.ld x4 r0_1) (k0_pay53 x0 x1 x2 x3 x4 x5) (k0_pay54 x0 x1 x2 x3 x4 x5)
    (k0_pay55 x0 x1 x2 x3 x4 x5) (k0_pay56 x0 x1 x2 x3 x4 x5) (k0_pay46 x0 x1 x2 x3 x4 x5)) (fun pos _ g => nuF (unF A Pi (emF E) 0) pos g) :=
  nu_packs h.isRed h.u6

theorem b6 : Packs 4096 (k0_pay60 x0 x1 x2 x3 x4 x5) (betaF (unF A Pi (emF E) 0)) :=
  beta_packs h.u6 h.n6

theorem l6 (t g : Fin 4) : k0_pay20 (View.ld x5 r0_4) (k0_pay18 (k0_pay47 x0 x1 x2 x3 x4 x5) (k0_pay49 x0 x1 x2 x3 x4 x5) (View.ld x4 r0_1) (k0_pay53 x0 x1 x2 x3 x4 x5)
    (k0_pay54 x0 x1 x2 x3 x4 x5) (k0_pay55 x0 x1 x2 x3 x4 x5) (k0_pay56 x0 x1 x2 x3 x4 x5) (k0_pay46 x0 x1 x2 x3 x4 x5)) k0_pay19 (ix2 t g)
      = llF 16384 (unF A Pi (emF E) 0) t g :=
  ll_at (n := 4096) rfl rfl (pick_isPick (by decide) iota_S4x4096_d1_w32 iota_S4x4096_d0_w32 broadcasts_S4x4096_S4x4096 natLt_1_32) h.isSel (log_packs h.n6) t g

/-! ## The levels above -/

theorem u5 : Packs 1024 (k0_pay21 (k0_pay48 x0 x1 x2 x3 x4 x5) (k0_pay49 x0 x1 x2 x3 x4 x5) (k0_pay58 x0 x1 x2 x3 x4 x5) (k0_pay59 x0 x1 x2 x3 x4 x5)
    (k0_pay60 x0 x1 x2 x3 x4 x5)) (unF A Pi (emF E) 1) :=
  rise_packs (n := 1024) (n4 := 4096) rfl 1024 2048 3072 rfl rfl rfl slices_S4096x32_o0_0_S1024x32 slices_S4096x32_o1024_0_S1024x32 slices_S4096x32_o2048_0_S1024x32
    slices_S4096x32_o3072_0_S1024x32 concatenates_S1024x32_S1024x32_S1024x32_S1024x32_S1024x128_d1 slices_S4096x128_o0_0_S4096x32 slices_S4096x128_o0_32_S4096x32
    slices_S4096x128_o0_64_S4096x32 slices_S4096x128_o0_96_S4096x32 h.isV h.b6 h.p6 h.p5
    (em_packs (d := 5) (o := 341) rfl rfl (by decide) h.b_at slices_S5504x128_o341_0_S1024x128)

theorem n5 : Packs 1024 (k0_pay22 (k0_pay48 x0 x1 x2 x3 x4 x5) (k0_pay49 x0 x1 x2 x3 x4 x5) (View.ld x4 r0_1) (k0_pay58 x0 x1 x2 x3 x4 x5) (k0_pay59 x0 x1 x2 x3 x4 x5)
    (k0_pay60 x0 x1 x2 x3 x4 x5)) (fun pos _ g => nuF (unF A Pi (emF E) 1) pos g) :=
  nu_packs h.isRed h.u5

theorem b5 : Packs 1024 (k0_pay61 x0 x1 x2 x3 x4 x5) (betaF (unF A Pi (emF E) 1)) :=
  beta_packs h.u5 h.n5

theorem u4 : Packs 256 (k0_pay25 (k0_pay48 x0 x1 x2 x3 x4 x5) (k0_pay49 x0 x1 x2 x3 x4 x5) (k0_pay57 x0 x1 x2 x3 x4 x5) (k0_pay58 x0 x1 x2 x3 x4 x5)
    (k0_pay61 x0 x1 x2 x3 x4 x5)) (unF A Pi (emF E) 2) :=
  rise_packs (n := 256) (n4 := 1024) rfl 256 512 768 rfl rfl rfl slices_S1024x32_o0_0_S256x32 slices_S1024x32_o256_0_S256x32 slices_S1024x32_o512_0_S256x32
    slices_S1024x32_o768_0_S256x32 concatenates_S256x32_S256x32_S256x32_S256x32_S256x128_d1 slices_S1024x128_o0_0_S1024x32 slices_S1024x128_o0_32_S1024x32
    slices_S1024x128_o0_64_S1024x32 slices_S1024x128_o0_96_S1024x32 h.isV h.b5 h.p5 h.p4
    (em_packs (d := 4) (o := 85) rfl rfl (by decide) h.b_at slices_S5504x128_o85_0_S256x128)

theorem n4 : Packs 256 (k0_pay26 (k0_pay48 x0 x1 x2 x3 x4 x5) (k0_pay49 x0 x1 x2 x3 x4 x5) (View.ld x4 r0_1) (k0_pay57 x0 x1 x2 x3 x4 x5) (k0_pay58 x0 x1 x2 x3 x4 x5)
    (k0_pay61 x0 x1 x2 x3 x4 x5)) (fun pos _ g => nuF (unF A Pi (emF E) 2) pos g) :=
  nu_packs h.isRed h.u4

theorem b4 : Packs 256 (divf (k0_pay25 (k0_pay48 x0 x1 x2 x3 x4 x5) (k0_pay49 x0 x1 x2 x3 x4 x5) (k0_pay57 x0 x1 x2 x3 x4 x5) (k0_pay58 x0 x1 x2 x3 x4 x5)
    (k0_pay61 x0 x1 x2 x3 x4 x5)) (k0_pay26 (k0_pay48 x0 x1 x2 x3 x4 x5) (k0_pay49 x0 x1 x2 x3 x4 x5) (View.ld x4 r0_1) (k0_pay57 x0 x1 x2 x3 x4 x5) (k0_pay58 x0 x1 x2 x3 x4 x5)
    (k0_pay61 x0 x1 x2 x3 x4 x5))) (betaF (unF A Pi (emF E) 2)) :=
  beta_packs h.u4 h.n4

theorem l54 (v83 : FVec Ideal S4x4 .f32) (t g : Fin 4) : k0_pay27 (k0_pay48 x0 x1 x2 x3 x4 x5) (k0_pay49 x0 x1 x2 x3 x4 x5) (View.ld x4 r0_1) (View.ld x5 r0_4) (k0_pay57 x0 x1 x2 x3 x4 x5)
    (k0_pay58 x0 x1 x2 x3 x4 x5) v83 (k0_pay61 x0 x1 x2 x3 x4 x5) (k0_pay24 (k0_pay48 x0 x1 x2 x3 x4 x5) (k0_pay49 x0 x1 x2 x3 x4 x5) (View.ld x4 r0_1) (k0_pay58 x0 x1 x2 x3 x4 x5)
      (k0_pay59 x0 x1 x2 x3 x4 x5) (k0_pay60 x0 x1 x2 x3 x4 x5)) (ix2 t g)
      = v83 (ix2 t g) + llF 4096 (unF A Pi (emF E) 1) t g + llF 1024 (unF A Pi (emF E) 2) t g := by
  have a := ll_at (n := 1024) (N := 4096) rfl rfl (pick_isPick (by decide) iota_S4x1024_d1_w32 iota_S4x1024_d0_w32 broadcasts_S4x1024_S4x1024 natLt_1_32) h.isSel (log_packs h.n5) t g
  have b := ll_at (n := 256) (N := 1024) rfl rfl (pick_isPick (by decide) iota_S4x256_d1_w32 iota_S4x256_d0_w32 broadcasts_S4x256_S4x256 natLt_1_32) h.isSel (log_packs h.n4) t g
  rw [← a, ← b]
  rfl

theorem u3 : Packs 64 (k0_pay29 (k0_pay48 x0 x1 x2 x3 x4 x5) (k0_pay49 x0 x1 x2 x3 x4 x5) (k0_pay53 x0 x1 x2 x3 x4 x5) (k0_pay63 x0 x1 x2 x3 x4 x5)
    (k0_pay62 x0 x1 x2 x3 x4 x5)) (unF A Pi (emF E) 3) :=
  rise_packs (n := 64) (n4 := 256) rfl 64 128 192 rfl rfl rfl slices_S256x32_o0_0_S64x32 slices_S256x32_o64_0_S64x32 slices_S256x32_o128_0_S64x32
    slices_S256x32_o192_0_S64x32 concatenates_S64x32_S64x32_S64x32_S64x32_S64x128_d1 slices_S256x128_o0_0_S256x32 slices_S256x128_o0_32_S256x32
    slices_S256x128_o0_64_S256x32 slices_S256x128_o0_96_S256x32 h.isV h.b4 h.p4 h.p3
    (em_packs (d := 3) (o := 21) rfl rfl (by decide) h.b_at slices_S5504x128_o21_0_S64x128)

theorem n3 : Packs 64 (k0_pay30 (k0_pay48 x0 x1 x2 x3 x4 x5) (k0_pay49 x0 x1 x2 x3 x4 x5) (View.ld x4 r0_1) (k0_pay53 x0 x1 x2 x3 x4 x5) (k0_pay63 x0 x1 x2 x3 x4 x5)
    (k0_pay62 x0 x1 x2 x3 x4 x5)) (fun pos _ g => nuF (unF A Pi (emF E) 3) pos g) :=
  nu_packs h.isRed h.u3

theorem l3 (v : FVec Ideal S4x4 .f32) (t g : Fin 4) : k0_pay31 (k0_pay48 x0 x1 x2 x3 x4 x5) (k0_pay49 x0 x1 x2 x3 x4 x5) (View.ld x4 r0_1) (View.ld x5 r0_4) (k0_pay53 x0 x1 x2 x3 x4 x5) v
    (k0_pay63 x0 x1 x2 x3 x4 x5) (k0_pay62 x0 x1 x2 x3 x4 x5) (ix2 t g) = v (ix2 t g) + llF 256 (unF A Pi (emF E) 3) t g := by
  have a := ll_at (n := 64) (N := 256) rfl rfl (pick_isPick (by decide) iota_S4x64_d1_w32 iota_S4x64_d0_w32 broadcasts_S4x64_S4x64 natLt_1_32) h.isSel (log_packs h.n3) t g
  rw [← a]
  rfl

theorem u2 : Packs 16 (k0_pay35 (k0_pay49 x0 x1 x2 x3 x4 x5) (k0_pay52 x0 x1 x2 x3 x4 x5) (k0_pay64 x0 x1 x2 x3 x4 x5) (k0_pay65 x0 x1 x2 x3 x4 x5)
    (k0_pay66 x0 x1 x2 x3 x4 x5)) (unF A Pi (emF E) 4) :=
  rise_packs (n := 16) (n4 := 64) rfl 16 32 48 rfl rfl rfl slices_S64x32_o0_0_S16x32 slices_S64x32_o16_0_S16x32 slices_S64x32_o32_0_S16x32
    slices_S64x32_o48_0_S16x32 concatenates_S16x32_S16x32_S16x32_S16x32_S16x128_d1 slices_S64x128_o0_0_S64x32 slices_S64x128_o0_32_S64x32
    slices_S64x128_o0_64_S64x32 slices_S64x128_o0_96_S64x32 h.isV (beta_packs h.u3 h.n3) h.p3 h.p2
    (em_packs (d := 2) (o := 5) rfl rfl (by decide) h.b_at slices_S5504x128_o5_0_S16x128)

theorem n2 : Packs 16 (k0_pay36 (k0_pay49 x0 x1 x2 x3 x4 x5) (View.ld x4 r0_1) (k0_pay52 x0 x1 x2 x3 x4 x5) (k0_pay64 x0 x1 x2 x3 x4 x5) (k0_pay65 x0 x1 x2 x3 x4 x5)
    (k0_pay66 x0 x1 x2 x3 x4 x5)) (fun pos _ g => nuF (unF A Pi (emF E) 4) pos g) :=
  nu_packs h.isRed h.u2

theorem l2 (v : FVec Ideal S4x4 .f32) (t g : Fin 4) : k0_pay37 (k0_pay49 x0 x1 x2 x3 x4 x5) (View.ld x4 r0_1) (View.ld x5 r0_4) (k0_pay52 x0 x1 x2 x3 x4 x5) v
    (k0_pay64 x0 x1 x2 x3 x4 x5) (k0_pay65 x0 x1 x2 x3 x4 x5) (k0_pay66 x0 x1 x2 x3 x4 x5) (ix2 t g) = v (ix2 t g) + llF 64 (unF A Pi (emF E) 4) t g := by
  have a := ll_at (n := 16) (N := 64) rfl rfl (pick_isPick (by decide) iota_S4x16_d1_w32 iota_S4x16_d0_w32 broadcasts_S4x16_S4x16 natLt_1_32) h.isSel (log_packs h.n2) t g
  rw [← a]
  rfl

theorem u1 : Packs 4 (k0_pay41 (k0_pay49 x0 x1 x2 x3 x4 x5) (k0_pay51 x0 x1 x2 x3 x4 x5) (k0_pay67 x0 x1 x2 x3 x4 x5) (k0_pay68 x0 x1 x2 x3 x4 x5)
    (k0_pay69 x0 x1 x2 x3 x4 x5)) (unF A Pi (emF E) 5) :=
  rise_packs (n := 4) (n4 := 16) rfl 4 8 12 rfl rfl rfl slices_S16x32_o0_0_S4x32 slices_S16x32_o4_0_S4x32 slices_S16x32_o8_0_S4x32
    slices_S16x32_o12_0_S4x32 concatenates_S4x32_S4x32_S4x32_S4x32_S4x128_d1 slices_S16x128_o0_0_S16x32 slices_S16x128_o0_32_S16x32
    slices_S16x128_o0_64_S16x32 slices_S16x128_o0_96_S16x32 h.isV (beta_packs h.u2 h.n2) h.p2 h.p1
    (em_packs (d := 1) (o := 1) rfl rfl (by decide) h.b_at slices_S5504x128_o1_0_S4x128)

theorem n1 : Packs 4 (k0_pay42 (k0_pay49 x0 x1 x2 x3 x4 x5) (View.ld x4 r0_1) (k0_pay51 x0 x1 x2 x3 x4 x5) (k0_pay67 x0 x1 x2 x3 x4 x5) (k0_pay68 x0 x1 x2 x3 x4 x5)
    (k0_pay69 x0 x1 x2 x3 x4 x5)) (fun pos _ g => nuF (unF A Pi (emF E) 5) pos g) :=
  nu_packs h.isRed h.u1

theorem l1 (v : FVec Ideal S4x4 .f32) (t g : Fin 4) : k0_pay43 (k0_pay49 x0 x1 x2 x3 x4 x5) (View.ld x4 r0_1) (View.ld x5 r0_4) (k0_pay51 x0 x1 x2 x3 x4 x5) v
    (k0_pay67 x0 x1 x2 x3 x4 x5) (k0_pay68 x0 x1 x2 x3 x4 x5) (k0_pay69 x0 x1 x2 x3 x4 x5) (ix2 t g) = v (ix2 t g) + llF 16 (unF A Pi (emF E) 5) t g := by
  have a := ll_at (n := 4) (N := 16) rfl rfl (pick_isPick (by decide) iota_S4x4_d1_w32 iota_S4x4_d0_w32 broadcasts_S4x4_S4x4 natLt_1_32) h.isSel (log_packs h.n1) t g
  rw [← a]
  rfl

/-! ## The roots -/

theorem r0 : Flat 4 (k0_pay44 (k0_pay49 x0 x1 x2 x3 x4 x5) (k0_pay50 x0 x1 x2 x3 x4 x5)) (mulF (priorF A Pi 0) (emF E 0)) :=
  Flat.mulf h.isPi (roots_flat (by decide) slices_S5504x128_o0_0_S1x32 slices_S5504x128_o0_32_S1x32 slices_S5504x128_o0_64_S1x32 slices_S5504x128_o0_96_S1x32
    concatenates_S1x32_S1x32_S1x32_S1x32_S4x32_d0 h.b_at)

theorem u0 : Flat 4 (mulf (k0_pay44 (k0_pay49 x0 x1 x2 x3 x4 x5) (k0_pay50 x0 x1 x2 x3 x4 x5)) (k0_pay45 (k0_pay48 x0 x1 x2 x3 x4 x5) (k0_pay49 x0 x1 x2 x3 x4 x5) (k0_pay50 x0 x1 x2 x3 x4 x5)
    (View.ld x4 r0_1) (k0_pay51 x0 x1 x2 x3 x4 x5) (k0_pay67 x0 x1 x2 x3 x4 x5) (k0_pay68 x0 x1 x2 x3 x4 x5) (k0_pay69 x0 x1 x2 x3 x4 x5))) (unF A Pi (emF E) 6) :=
  h.r0.mulf (Flat.mulf h.r0 (prod4_flat (n := 4) slices_S4x128_o0_0_S4x32 slices_S4x128_o0_32_S4x32 slices_S4x128_o0_64_S4x32 slices_S4x128_o0_96_S4x32 h.isV
    (beta_packs h.u1 h.n1) h.p1))

theorem l0 (v : FVec Ideal S4x4 .f32) (t g : Fin 4) : k0_pay1 (View.ld x4 r0_1) (View.ld x5 r0_4) v (k0_pay44 (k0_pay49 x0 x1 x2 x3 x4 x5) (k0_pay50 x0 x1 x2 x3 x4 x5))
    (k0_pay45 (k0_pay48 x0 x1 x2 x3 x4 x5) (k0_pay49 x0 x1 x2 x3 x4 x5) (k0_pay50 x0 x1 x2 x3 x4 x5) (View.ld x4 r0_1) (k0_pay51 x0 x1 x2 x3 x4 x5) (k0_pay67 x0 x1 x2 x3 x4 x5)
      (k0_pay68 x0 x1 x2 x3 x4 x5) (k0_pay69 x0 x1 x2 x3 x4 x5)) (ix3 0 t g) = v (ix2 t g) + llF 4 (unF A Pi (emF E) 6) t g := by
  have a := root_at h.isRed h.isSel slices_S128x128_o0_0_S32x32 slices_S128x4_o0_0_S32x4 h.u0 t g
  rw [← a]
  unfold k0_pay1
  refine (shapeCast_apply _ _ _ (ix2 t g : S4x4.Idx) (by
    rw [Shape.rowMajor_val_three, Shape.rowMajor_val_two]
    show t.val * 4 + g.val = (0 * 4 + t.val) * 4 + g.val
    omega)).trans ?_
  rfl

/-- What the point leaves. -/
theorem out_at (t g : Fin 4) : out0_6 x0 x1 x2 x3 x4 x5 (ix3 0 t g) = total A Pi (emF E) t g := by
  unfold out0_6
  rw [View.canon_cons_unit_lit _ _ _ (by decide), h.l0, h.l1, h.l2, h.l3, h.l54, h.l6]
  rfl

end Holds

end Cert.Proof.Tree

end
-- ==== Proof.TreeTable.lean ====
/-
  The two constant matrices' tables, as words: the ones are where the lanes agree in child and generator, and where a lane
  of the first state meets its generator.
-/
module

public import proofs.«01_k».proof.TreeIdeal

@[expose] public section

noncomputable section

namespace Cert.Proof.Tree.Host

open Cert.TreeIdeal

theorem table0 : ∀ k l : Fin 128, lit0t (k.val * 128 + l.val) = if k.val / 32 = l.val / 32 ∧ k.val % 4 = l.val % 4 then 0x3F800000#32 else 0x00000000#32 := by
  decide +kernel

theorem table1 : ∀ (k : Fin 128) (g : Fin 4), lit1t (k.val * 4 + g.val) = if k.val / 4 % 8 = 0 ∧ k.val % 4 = g.val then 0x3F800000#32 else 0x00000000#32 := by
  decide +kernel

end Cert.Proof.Tree.Host

end
-- ==== Proof.TreeRef.lean ====
/-
  The steps of the plain pass, on arrays with the group, the node, the state and the generator on axes of their own: what
  each leaves is read, for one group, from the levels' functions. A level of `4 * n` nodes is seen as `4` by `n` where a
  node meets its parent, the child's number first.
-/
module

public import Idealize.ShloMosaic.Lib.ValueIdx
public import Idealize.ShloMosaic.Lib.ValueIdxRank6
public import Idealize.ShloMosaic.Lib.IdealHost
public import Idealize.ShloMosaic.Lib.Pipeline.Value
public import Idealize.ShloMosaic.PureOps.Ideal.Laws
public import proofs.«01_k».proof.Proof.TreeSteps

@[expose] public section

noncomputable section

namespace Cert.Proof.Tree

open Idealize.ShloMosaic Idealize.ShloMosaic.ValueIdx

abbrev R0 : Shape := ⟨0, ![]⟩
abbrev R3 (n : ℕ) : Shape := ⟨3, ![4, n, 4]⟩
abbrev R4 (n : ℕ) : Shape := ⟨4, ![4, n, 8, 4]⟩
abbrev R5 (n : ℕ) : Shape := ⟨5, ![4, 4, n, 8, 4]⟩
abbrev R6 (n : ℕ) : Shape := ⟨6, ![4, 4, n, 8, 8, 4]⟩
abbrev A6 : Shape := ⟨6, ![1, 4, 1, 8, 8, 4]⟩

/-- Group `c` of an array holds a level's values. -/
def Held (c : Fin 4) (N : ℕ) (v : FVec Ideal (R4 N) .f32) (f : Fn) : Prop :=
  ∀ (p : Fin N) (i : Fin 8) (g : Fin 4), v (ix4 c p i g) = f p.val i g

/-- The transition probabilities, spread out for a product with a level. -/
def IsA (A : Tr) (a : FVec Ideal A6 .f32) : Prop :=
  ∀ (q : Fin 4) (i j : Fin 8) (g : Fin 4), a (ix6 0 q 0 i j g) = A i j q g

theorem unit_or {n : ℕ} (p : Fin n) : p.val = if n = 1 then 0 else p.val := by
  split
  · omega
  · rfl

theorem spread_at {n : ℕ} {A : Tr} {a : FVec Ideal A6 .f32} (ha : IsA A a) (h : A6.BroadcastsInDim (R6 n) ![0, 1, 2, 3, 4, 5])
    (c q : Fin 4) (p : Fin n) (i j : Fin 8) (g : Fin 4) :
    broadcastInDim (R6 n) ![0, 1, 2, 3, 4, 5] h a (ix6 c q p i j g) = A i j q g := by
  rw [broadcastInDim_apply _ _ _ _ (ix6 0 q 0 i j g : A6.Idx) (fun b => by
    match b with
    | ⟨0, _⟩ => rfl
    | ⟨1, _⟩ => rfl
    | ⟨2, _⟩ => rfl
    | ⟨3, _⟩ => rfl
    | ⟨4, _⟩ => rfl
    | ⟨5, _⟩ => rfl)]
  exact ha q i j g

/-- A sum over one axis, from a zero of rank zero. -/
theorem sum_at {s t : Shape} {a : Fin s.rank} (x : FVec Ideal s .f32) (h : s.ReducesTo [a] t) (ht : 0 < t.rank) (hu : 0 < R0.numel) (j : t.Idx)
    (k : Fin (s.size a) → s.Idx)
    (hk : ∀ y b, (Shape.Reduces.lift ⟨h.1, ht, h.2⟩ j y b).val = (k y b).val) :
    Host.reduceAdd x (constant R0 .f32 0x00000000#32) h hu j = ∑ y, x (k y) := by
  rw [hostReduceAdd_apply, Ideal.hostReduceAdd_single h ⟨h.1, ht, h.2⟩, zero_at, zero_add]
  exact Finset.sum_congr rfl fun y _ => congrArg x (funext fun b => Fin.ext (hk y b))

theorem sum_parent {n : ℕ} (x : FVec Ideal (R6 n) .f32) (h : (R6 n).ReducesTo [4] (R5 n)) (hu : 0 < R0.numel)
    (c q : Fin 4) (p : Fin n) (i : Fin 8) (g : Fin 4) :
    Host.reduceAdd x (constant R0 .f32 0x00000000#32) h hu (ix5 c q p i g) = ∑ j : Fin 8, x (ix6 c q p i j g) :=
  sum_at x h (Nat.succ_pos _) hu _ (fun j => ix6 c q p i j g) fun y b => by
    match b with
    | ⟨0, _⟩ => rfl
    | ⟨1, _⟩ => rfl
    | ⟨2, _⟩ => rfl
    | ⟨3, _⟩ => rfl
    | ⟨4, _⟩ => rfl
    | ⟨5, _⟩ => rfl

theorem sum_child {n : ℕ} (x : FVec Ideal (R6 n) .f32) (h : (R6 n).ReducesTo [3] (R5 n)) (hu : 0 < R0.numel)
    (c q : Fin 4) (p : Fin n) (j : Fin 8) (g : Fin 4) :
    Host.reduceAdd x (constant R0 .f32 0x00000000#32) h hu (ix5 c q p j g) = ∑ i : Fin 8, x (ix6 c q p i j g) :=
  sum_at x h (Nat.succ_pos _) hu _ (fun i => ix6 c q p i j g) fun y b => by
    match b with
    | ⟨0, _⟩ => rfl
    | ⟨1, _⟩ => rfl
    | ⟨2, _⟩ => rfl
    | ⟨3, _⟩ => rfl
    | ⟨4, _⟩ => rfl
    | ⟨5, _⟩ => rfl

theorem sum_state {n : ℕ} (x : FVec Ideal (R4 n) .f32) (h : (R4 n).ReducesTo [2] (R3 n)) (hu : 0 < R0.numel)
    (c : Fin 4) (p : Fin n) (g : Fin 4) :
    Host.reduceAdd x (constant R0 .f32 0x00000000#32) h hu (ix3 c p g) = ∑ i : Fin 8, x (ix4 c p i g) :=
  sum_at x h (Nat.succ_pos _) hu _ (fun i => ix4 c p i g) fun y b => by
    match b with
    | ⟨0, _⟩ => rfl
    | ⟨1, _⟩ => rfl
    | ⟨2, _⟩ => rfl
    | ⟨3, _⟩ => rfl

theorem sum_node {n : ℕ} (x : FVec Ideal ⟨4, ![4, n, 4, 4]⟩ .f32) (h : Shape.ReducesTo ⟨4, ![4, n, 4, 4]⟩ [1] (R3 4)) (hu : 0 < R0.numel)
    (c t g : Fin 4) :
    Host.reduceAdd x (constant R0 .f32 0x00000000#32) h hu (ix3 c t g) = ∑ k : Fin n, x (ix4 c k t g) :=
  sum_at x h (Nat.succ_pos _) hu _ (fun k => ix4 c k t g) fun y b => by
    match b with
    | ⟨0, _⟩ => rfl
    | ⟨1, _⟩ => rfl
    | ⟨2, _⟩ => rfl
    | ⟨3, _⟩ => rfl

/-- The position below `n` of a node of `4 * n`. -/
def below {n n4 : ℕ} (hn : n4 = 4 * n) (x : Fin n4) : Fin n := ⟨x.val % n, Nat.mod_lt _ (by have := x.isLt; omega)⟩

theorem num_mul {n n4 : ℕ} (hn : n4 = 4 * n) (x : Fin n4) : (num n x.val).val * n + (below hn x).val = x.val := by
  have h : x.val / n < 4 := Nat.div_lt_of_lt_mul (by have := x.isLt; rw [Nat.mul_comm]; omega)
  show x.val / n % 4 * n + x.val % n = x.val
  rw [Nat.mod_eq_of_lt h, Nat.mul_comm]
  exact Nat.div_add_mod _ _

/-- A level put together from its four quarters. -/
theorem join_at {n n4 : ℕ} (hn : n4 = 4 * n) (v : FVec Ideal (R5 n) .f32) (h : (R5 n).ShapeCasts (R4 n4)) (c : Fin 4) (x : Fin n4)
    (i : Fin 8) (g : Fin 4) : shapeCast (R4 n4) v h (ix4 c x i g) = v (ix5 c (num n x.val) (below hn x) i g) :=
  shapeCast_apply _ _ _ _ (by
    rw [Shape.rowMajor_val_five, Shape.rowMajor_val_four]
    show (((c.val * 4 + (num n x.val).val) * n + (below hn x).val) * 8 + i.val) * 4 + g.val = ((c.val * n4 + x.val) * 8 + i.val) * 4 + g.val
    have h1 := num_mul hn x
    have h2 : (c.val * 4 + (num n x.val).val) * n = c.val * n4 + (num n x.val).val * n := by
      rw [Nat.add_mul, Nat.mul_assoc, ← hn]
    omega)

/-- A level's priors from the level above. -/
theorem down_held {n n4 : ℕ} (hn : n4 = 4 * n) {A : Tr} {a : FVec Ideal A6 .f32} (ha : IsA A a) {c : Fin 4}
    {P : FVec Ideal (R4 n) .f32} {f : Fn} (hP : Held c n P f)
    (h1 : A6.BroadcastsInDim (R6 n) ![0, 1, 2, 3, 4, 5]) (h2 : Shape.BroadcastsInDim ⟨6, ![4, 1, n, 1, 8, 4]⟩ (R6 n) ![0, 1, 2, 3, 4, 5])
    (h3 : (R4 n).BroadcastsInDim ⟨6, ![4, 1, n, 1, 8, 4]⟩ ![0, 2, 4, 5]) (hr : (R6 n).ReducesTo [4] (R5 n)) (hu : 0 < R0.numel)
    (hs : (R5 n).ShapeCasts (R4 n4)) :
    Held c n4 (shapeCast (R4 n4) (Host.reduceAdd (mulf (broadcastInDim (R6 n) ![0, 1, 2, 3, 4, 5] h1 a)
      (broadcastInDim (R6 n) ![0, 1, 2, 3, 4, 5] h2 (broadcastInDim ⟨6, ![4, 1, n, 1, 8, 4]⟩ ![0, 2, 4, 5] h3 P)))
      (constant R0 .f32 0x00000000#32) hr hu) hs) (downF n A f) := fun x i g => by
  rw [join_at hn, sum_parent]
  refine Finset.sum_congr rfl fun j _ => ?_
  rw [mulf_apply, spread_at ha, broadcastInDim_apply _ _ _ _ (ix6 c 0 (below hn x) 0 j g : Shape.Idx ⟨6, ![4, 1, n, 1, 8, 4]⟩) (fun b => by
    match b with
    | ⟨0, _⟩ => rfl
    | ⟨1, _⟩ => rfl
    | ⟨2, _⟩ => exact unit_or _
    | ⟨3, _⟩ => rfl
    | ⟨4, _⟩ => rfl
    | ⟨5, _⟩ => rfl), broadcastInDim_apply _ _ _ _ (ix4 c (below hn x) j g : (R4 n).Idx) (fun b => by
    match b with
    | ⟨0, _⟩ => rfl
    | ⟨1, _⟩ => exact unit_or _
    | ⟨2, _⟩ => rfl
    | ⟨3, _⟩ => rfl), hP]
  rfl

theorem Held.mulf {c : Fin 4} {N : ℕ} {v w : FVec Ideal (R4 N) .f32} {f h : Fn} (hv : Held c N v f) (hw : Held c N w h) :
    Held c N (mulf v w) (mulF f h) := fun p i g => by
  rw [mulf_apply, hv, hw]; rfl

/-- A level's normalisers. -/
def Norms (c : Fin 4) (N : ℕ) (v : FVec Ideal (R3 N) .f32) (f : Fn) : Prop :=
  ∀ (p : Fin N) (g : Fin 4), v (ix3 c p g) = nuF f p.val g

theorem norms_held {c : Fin 4} {N : ℕ} {u : FVec Ideal (R4 N) .f32} {f : Fn} (hv : Held c N u f) (h : (R4 N).ReducesTo [2] (R3 N))
    (hu : 0 < R0.numel) : Norms c N (Host.reduceAdd u (constant R0 .f32 0x00000000#32) h hu) f := fun p g => by
  rw [sum_state]
  exact Finset.sum_congr rfl fun i _ => hv p i g

/-- The normalised likelihoods. -/
theorem beta_held {c : Fin 4} {N : ℕ} {u : FVec Ideal (R4 N) .f32} {v : FVec Ideal (R3 N) .f32} {f : Fn} (hu : Held c N u f) (hv : Norms c N v f)
    (h1 : Shape.BroadcastsInDim ⟨4, ![4, N, 1, 4]⟩ (R4 N) ![0, 1, 2, 3]) (h2 : (R3 N).BroadcastsInDim ⟨4, ![4, N, 1, 4]⟩ ![0, 1, 3]) :
    Held c N (Host.divf u (broadcastInDim (R4 N) ![0, 1, 2, 3] h1 (broadcastInDim ⟨4, ![4, N, 1, 4]⟩ ![0, 1, 3] h2 v))) (betaF f) := fun p i g => by
  show Ideal.div (u (ix4 c p i g)) (broadcastInDim (R4 N) ![0, 1, 2, 3] h1 (broadcastInDim ⟨4, ![4, N, 1, 4]⟩ ![0, 1, 3] h2 v) (ix4 c p i g)) = _
  rw [broadcastInDim_apply _ _ _ _ (ix4 c p 0 g : Shape.Idx ⟨4, ![4, N, 1, 4]⟩) (fun b => by
    match b with
    | ⟨0, _⟩ => rfl
    | ⟨1, _⟩ => exact unit_or _
    | ⟨2, _⟩ => rfl
    | ⟨3, _⟩ => rfl), broadcastInDim_apply _ _ _ _ (ix3 c p g : (R3 N).Idx) (fun b => by
    match b with
    | ⟨0, _⟩ => rfl
    | ⟨1, _⟩ => exact unit_or _
    | ⟨2, _⟩ => rfl), hu, hv]
  rfl

/-- A level taken apart in its four quarters. -/
theorem split_at {n n4 : ℕ} (hn : n4 = 4 * n) {c : Fin 4} {v : FVec Ideal (R4 n4) .f32} {f : Fn} (hv : Held c n4 v f)
    (h : (R4 n4).ShapeCasts ⟨6, ![4, 4, n, 8, 1, 4]⟩) (q : Fin 4) (p : Fin n) (i : Fin 8) (g : Fin 4) :
    shapeCast ⟨6, ![4, 4, n, 8, 1, 4]⟩ v h (ix6 c q p i 0 g) = f (q.val * n + p.val) i g := by
  have hlt : q.val * n + p.val < n4 := by
    have := Nat.mul_le_mul_right n (show q.val ≤ 3 by omega); have := p.isLt; omega
  rw [shapeCast_apply _ _ _ (ix4 c ⟨q.val * n + p.val, hlt⟩ i g : (R4 n4).Idx) (by
    rw [Shape.rowMajor_val_six, Shape.rowMajor_val_four]
    show ((c.val * n4 + (q.val * n + p.val)) * 8 + i.val) * 4 + g.val = ((((c.val * 4 + q.val) * n + p.val) * 8 + i.val) * 1 + 0) * 4 + g.val
    have h2 : (c.val * 4 + q.val) * n = c.val * n4 + q.val * n := by rw [hn]; ring
    omega)]
  exact hv _ i g

/-- The messages to a level of `n` parents. -/
def Msgs (c : Fin 4) (n : ℕ) (A : Tr) (fb fp : Fn) (M : FVec Ideal (R5 n) .f32) : Prop :=
  ∀ (q : Fin 4) (p : Fin n) (j : Fin 8) (g : Fin 4), M (ix5 c q p j g) = msgF n A fb fp q p.val j g

theorem msgs_held {n n4 : ℕ} (hn : n4 = 4 * n) {A : Tr} {a : FVec Ideal A6 .f32} (ha : IsA A a) {c : Fin 4}
    {b P : FVec Ideal (R4 n4) .f32} {fb fp : Fn} (hb : Held c n4 b fb) (hP : Held c n4 P fp)
    (h1 : A6.BroadcastsInDim (R6 n) ![0, 1, 2, 3, 4, 5]) (h2 : Shape.BroadcastsInDim ⟨6, ![4, 4, n, 8, 1, 4]⟩ (R6 n) ![0, 1, 2, 3, 4, 5])
    (h3 h4 : (R4 n4).ShapeCasts ⟨6, ![4, 4, n, 8, 1, 4]⟩) (hr : (R6 n).ReducesTo [3] (R5 n)) (hu : 0 < R0.numel) :
    Msgs c n A fb fp (Host.reduceAdd (mulf (broadcastInDim (R6 n) ![0, 1, 2, 3, 4, 5] h1 a)
      (broadcastInDim (R6 n) ![0, 1, 2, 3, 4, 5] h2 (Host.divf (shapeCast ⟨6, ![4, 4, n, 8, 1, 4]⟩ b h3) (shapeCast ⟨6, ![4, 4, n, 8, 1, 4]⟩ P h4))))
      (constant R0 .f32 0x00000000#32) hr hu) := fun q p j g => by
  rw [sum_child]
  refine Finset.sum_congr rfl fun i _ => ?_
  rw [mulf_apply, spread_at ha, broadcastInDim_apply _ _ _ _ (ix6 c q p i 0 g : Shape.Idx ⟨6, ![4, 4, n, 8, 1, 4]⟩) (fun b => by
    match b with
    | ⟨0, _⟩ => rfl
    | ⟨1, _⟩ => rfl
    | ⟨2, _⟩ => exact unit_or _
    | ⟨3, _⟩ => rfl
    | ⟨4, _⟩ => rfl
    | ⟨5, _⟩ => rfl)]
  show A i j q g * Ideal.div (shapeCast ⟨6, ![4, 4, n, 8, 1, 4]⟩ b h3 (ix6 c q p i 0 g)) (shapeCast ⟨6, ![4, 4, n, 8, 1, 4]⟩ P h4 (ix6 c q p i 0 g)) = _
  rw [split_at hn hb, split_at hn hP]

theorem msg_held {n : ℕ} {A : Tr} {c : Fin 4} {fb fp : Fn} {M : FVec Ideal (R5 n) .f32} (hM : Msgs c n A fb fp M) (q : Fin 4) (o : ℕ) (ho : o = q.val)
    (h1 : (R5 n).Slices ![0, o, 0, 0, 0] ⟨5, ![4, 1, n, 8, 4]⟩) (h2 : Shape.ShapeCasts ⟨5, ![4, 1, n, 8, 4]⟩ (R4 n)) :
    Held c n (shapeCast (R4 n) (extractStridedSlice ⟨5, ![4, 1, n, 8, 4]⟩ ![0, o, 0, 0, 0] M h1) h2) (msgF n A fb fp q) := fun p j g => by
  rw [shapeCast_apply _ _ _ (ix5 c 0 p j g : Shape.Idx ⟨5, ![4, 1, n, 8, 4]⟩) (by
    rw [Shape.rowMajor_val_five, Shape.rowMajor_val_four]
    show (((c.val * 1 + 0) * n + p.val) * 8 + j.val) * 4 + g.val = ((c.val * n + p.val) * 8 + j.val) * 4 + g.val
    rw [Nat.mul_one, Nat.add_zero]), extractStridedSlice_apply _ _ _ _ (ix5 c q p j g : (R5 n).Idx) (fun b => by
    match b with
    | ⟨0, _⟩ => exact (Nat.zero_add _).symm
    | ⟨1, _⟩ => exact ho.symm
    | ⟨2, _⟩ => exact (Nat.zero_add _).symm
    | ⟨3, _⟩ => exact (Nat.zero_add _).symm
    | ⟨4, _⟩ => exact (Nat.zero_add _).symm)]
  exact hM q p j g

/-- A level's unnormalised likelihoods from the messages of the level below. -/
theorem rise_held {n : ℕ} {A : Tr} {c : Fin 4} {fb fp fe : Fn} {M : FVec Ideal (R5 n) .f32} (hM : Msgs c n A fb fp M)
    {e : FVec Ideal (R4 n) .f32} (he : Held c n e fe)
    (h0 : (R5 n).Slices ![0, 0, 0, 0, 0] ⟨5, ![4, 1, n, 8, 4]⟩) (h1 : (R5 n).Slices ![0, 1, 0, 0, 0] ⟨5, ![4, 1, n, 8, 4]⟩)
    (h2 : (R5 n).Slices ![0, 2, 0, 0, 0] ⟨5, ![4, 1, n, 8, 4]⟩) (h3 : (R5 n).Slices ![0, 3, 0, 0, 0] ⟨5, ![4, 1, n, 8, 4]⟩)
    (hc : Shape.ShapeCasts ⟨5, ![4, 1, n, 8, 4]⟩ (R4 n)) :
    Held c n (mulf e (mulf e (mulf (mulf (mulf (shapeCast (R4 n) (extractStridedSlice ⟨5, ![4, 1, n, 8, 4]⟩ ![0, 0, 0, 0, 0] M h0) hc)
      (shapeCast (R4 n) (extractStridedSlice ⟨5, ![4, 1, n, 8, 4]⟩ ![0, 1, 0, 0, 0] M h1) hc))
      (shapeCast (R4 n) (extractStridedSlice ⟨5, ![4, 1, n, 8, 4]⟩ ![0, 2, 0, 0, 0] M h2) hc))
      (shapeCast (R4 n) (extractStridedSlice ⟨5, ![4, 1, n, 8, 4]⟩ ![0, 3, 0, 0, 0] M h3) hc)))) (mulF fe (mulF fe (upF n A fb fp))) := fun p j g => by
  rw [mulf_apply, mulf_apply, mulf_apply, mulf_apply, mulf_apply, he, msg_held hM 0 0 rfl, msg_held hM 1 1 rfl, msg_held hM 2 2 rfl,
    msg_held hM 3 3 rfl]
  show _ = fe p.val j g * (fe p.val j g * upF n A fb fp p.val j g)
  unfold upF
  rw [← mul_assoc (msgF n A fb fp 0 p.val j g * msgF n A fb fp 1 p.val j g)]

/-- A level's log-likelihoods. -/
theorem ll_held {m N : ℕ} (hN : N = m * 4) {c : Fin 4} {v : FVec Ideal (R3 N) .f32} {f : Fn} (hv : Norms c N v f)
    (hs : (R3 N).ShapeCasts ⟨4, ![4, m, 4, 4]⟩) (hr : Shape.ReducesTo ⟨4, ![4, m, 4, 4]⟩ [1] (R3 4)) (hu : 0 < R0.numel) (t g : Fin 4) :
    Host.reduceAdd (shapeCast ⟨4, ![4, m, 4, 4]⟩ (Host.log v) hs) (constant R0 .f32 0x00000000#32) hr hu (ix3 c t g) = llF N f t g := by
  subst hN
  rw [sum_node, llF_strided]
  refine Finset.sum_congr rfl fun k _ => ?_
  rw [shapeCast_apply _ _ _ (ix3 c ⟨k.val * 4 + t.val, by omega⟩ g : (R3 (m * 4)).Idx) (by
    rw [Shape.rowMajor_val_three, Shape.rowMajor_val_four]
    show (c.val * (m * 4) + (k.val * 4 + t.val)) * 4 + g.val = ((c.val * m + k.val) * 4 + t.val) * 4 + g.val
    ring)]
  exact congrArg Ideal.log (hv _ g)

/-- The rows of one group, four nodes to a row: node `4 * r + q` of the group is row `r`, lanes `q * 32` on. -/
def rowsOf (b : FVec Ideal (M2 88064 32) .f32) (c : Fin 4) (r : ℕ) (l : Fin 128) : EReal :=
  b (ix2 ⟨(c.val * 22016 + 4 * r + l.val / 32) % 88064, Nat.mod_lt _ (by decide)⟩ ⟨l.val % 32, Nat.mod_lt _ (by decide)⟩)

theorem rowsOf_lane (b : FVec Ideal (M2 88064 32) .f32) (c : Fin 4) (r : ℕ) (q : Fin 4) (i : Fin 8) (g : Fin 4)
    (h : c.val * 22016 + (4 * r + q.val) < 88064) :
    rowsOf b c r (lane q i g) = b (ix2 ⟨c.val * 22016 + (4 * r + q.val), h⟩ (slot i g)) := by
  unfold rowsOf
  refine congrArg b (funext fun a => ?_)
  match a with
  | ⟨0, _⟩ =>
    refine Fin.ext ?_
    show (c.val * 22016 + 4 * r + (q.val * 32 + i.val * 4 + g.val) / 32) % 88064 = c.val * 22016 + (4 * r + q.val)
    omega
  | ⟨1, _⟩ =>
    refine Fin.ext ?_
    show (q.val * 32 + i.val * 4 + g.val) % 32 = i.val * 4 + g.val
    omega

theorem node_at (b : FVec Ideal (M2 88064 32) .f32) (h : (M2 88064 32).ShapeCasts (R4 22016)) (c : Fin 4) (r : ℕ) (q : Fin 4) (hr : 4 * r + q.val < 22016)
    (i : Fin 8) (g : Fin 4) : shapeCast (R4 22016) b h (ix4 c ⟨4 * r + q.val, hr⟩ i g) = rowsOf b c r (lane q i g) := by
  rw [rowsOf_lane b c r q i g (by omega)]
  exact shapeCast_apply _ _ _ _ (by
    rw [Shape.rowMajor_val_two, Shape.rowMajor_val_four]
    show (c.val * 22016 + (4 * r + q.val)) * 32 + (i.val * 4 + g.val) = ((c.val * 22016 + (4 * r + q.val)) * 8 + i.val) * 4 + g.val
    omega)

/-- A level's emissions. -/
theorem em_held {n n4 d o : ℕ} (hn : n4 = 4 * n) (hd : n = 4 ^ d) (ho : o = 4 * first d) (hlt : o + n4 ≤ 22016) (b : FVec Ideal (M2 88064 32) .f32)
    (c : Fin 4) (h : (M2 88064 32).ShapeCasts (R4 22016)) (h1 : (R4 22016).Slices ![0, o, 0, 0] (R4 n4)) (h2 : (R4 n4).ShapeCasts ⟨5, ![4, n, 4, 8, 4]⟩)
    (h3 : Shape.Transposes ⟨5, ![4, n, 4, 8, 4]⟩ [0, 2, 1, 3, 4] (R5 n)) (h4 : (R5 n).ShapeCasts (R4 n4)) :
    Held c n4 (shapeCast (R4 n4) (transpose (R5 n) [0, 2, 1, 3, 4] (shapeCast ⟨5, ![4, n, 4, 8, 4]⟩
      (extractStridedSlice (R4 n4) ![0, o, 0, 0] (shapeCast (R4 22016) b h) h1) h2) h3) h4) (emF (rowsOf b c) d) := fun x i g => by
  have hb := (below hn x).isLt
  have hx : 4 * (below hn x).val + (num n x.val).val < n4 := by omega
  rw [join_at hn, transpose_apply _ _ _ _ (ix5 c (below hn x) (num n x.val) i g : Shape.Idx ⟨5, ![4, n, 4, 8, 4]⟩) (fun a => by
    match a with
    | ⟨0, _⟩ => rfl
    | ⟨1, _⟩ => rfl
    | ⟨2, _⟩ => rfl
    | ⟨3, _⟩ => rfl
    | ⟨4, _⟩ => rfl), shapeCast_apply _ _ _ (ix4 c ⟨4 * (below hn x).val + (num n x.val).val, hx⟩ i g : (R4 n4).Idx) (by
    rw [Shape.rowMajor_val_five, Shape.rowMajor_val_four]
    show ((c.val * n4 + (4 * (below hn x).val + (num n x.val).val)) * 8 + i.val) * 4 + g.val
      = (((c.val * n + (below hn x).val) * 4 + (num n x.val).val) * 8 + i.val) * 4 + g.val
    have h5 : c.val * n4 = c.val * n * 4 := by rw [Nat.mul_assoc, Nat.mul_comm n, ← hn]
    omega), extractStridedSlice_apply _ _ _ _
      (ix4 c ⟨4 * (first d + (below hn x).val) + (num n x.val).val, by omega⟩ i g : (R4 22016).Idx) (fun a => by
    match a with
    | ⟨0, _⟩ => exact (Nat.zero_add _).symm
    | ⟨1, _⟩ =>
      show 4 * (first d + (below hn x).val) + (num n x.val).val = o + (4 * (below hn x).val + (num n x.val).val)
      omega
    | ⟨2, _⟩ => exact (Nat.zero_add _).symm
    | ⟨3, _⟩ => exact (Nat.zero_add _).symm), node_at]
  subst hd
  rfl

/-- The roots' emissions: the group's first four nodes. -/
theorem em_root (b : FVec Ideal (M2 88064 32) .f32) (c : Fin 4) (h : (M2 88064 32).ShapeCasts (R4 22016)) (h1 : (R4 22016).Slices ![0, 0, 0, 0] (R4 4)) :
    Held c 4 (extractStridedSlice (R4 4) ![0, 0, 0, 0] (shapeCast (R4 22016) b h) h1) (emF (rowsOf b c) 0) := fun x i g => by
  have hx := x.isLt
  rw [extractStridedSlice_apply _ _ _ _ (ix4 c ⟨4 * 0 + x.val, by omega⟩ i g : (R4 22016).Idx) (fun a => by
    match a with
    | ⟨0, _⟩ => exact (Nat.zero_add _).symm
    | ⟨1, _⟩ => rfl
    | ⟨2, _⟩ => exact (Nat.zero_add _).symm
    | ⟨3, _⟩ => exact (Nat.zero_add _).symm), node_at]
  have h1 : first 0 + x.val % 4 ^ 0 = 0 := by rw [pow_zero, Nat.mod_one]; rfl
  have h2 : num (4 ^ 0) x.val = x := Fin.ext (by show x.val / 4 ^ 0 % 4 = x.val; rw [pow_zero]; omega)
  unfold emF
  rw [h1, h2]

end Cert.Proof.Tree

end
-- ==== Proof.TreeRefRun.lean ====
/-
  The plain pass's result: for each group, tree and generator, the levels' function of the softmax of the transition and
  root parameters and of the group's rows.
-/
module

public import proofs.«01_k».proof.Proof.Gen.TreeReferenceIdeal.Run
public import proofs.«01_k».proof.Proof.TreeRef

@[expose] public section

noncomputable section

namespace Cert.Proof.Tree.Ref

open Idealize.ShloMosaic Idealize.ShloMosaic.ValueIdx Idealize.ShloMosaic.TcCoe
open Cert.TreeReferenceIdeal Cert.TreeReferenceIdeal.Gen Cert.TreeReferenceIdeal.Value

/-- The softmax of the transition parameters over the child's state. -/
def softA (x : FVec Ideal S8x8x4x4 .f32) : FVec Ideal S8x8x4x4 .f32 :=
  Host.divf (Host.exp (subf x (broadcastInDim S8x8x4x4 ![0, 1, 2, 3] bcast_S1x8x4x4_S8x8x4x4_0_1_2_3 (broadcastInDim S1x8x4x4 ![1, 2, 3] bcast_S8x4x4_S1x8x4x4_1_2_3 (maximumf (broadcastInDim S8x4x4 ![] bcast_S_S8x4x4 (constant S_ .f32 0xFF800000#32)) (Host.reduce FloatOps.maximumf x (constant S_ .f32 0xFF800000#32) reducesTo_S8x8x4x4_S8x4x4_d0 h_S_))))))
    (broadcastInDim S8x8x4x4 ![0, 1, 2, 3] bcast_S1x8x4x4_S8x8x4x4_0_1_2_3 (broadcastInDim S1x8x4x4 ![1, 2, 3] bcast_S8x4x4_S1x8x4x4_1_2_3 (Host.reduceAdd (Host.exp (subf x (broadcastInDim S8x8x4x4 ![0, 1, 2, 3] bcast_S1x8x4x4_S8x8x4x4_0_1_2_3 (broadcastInDim S1x8x4x4 ![1, 2, 3] bcast_S8x4x4_S1x8x4x4_1_2_3 (maximumf (broadcastInDim S8x4x4 ![] bcast_S_S8x4x4 (constant S_ .f32 0xFF800000#32)) (Host.reduce FloatOps.maximumf x (constant S_ .f32 0xFF800000#32) reducesTo_S8x8x4x4_S8x4x4_d0 h_S_)))))) (constant S_ .f32 0x00000000#32) reducesTo_S8x8x4x4_S8x4x4_d0 h_S_)))

/-- The softmax of the root parameters over the state. -/
def softPi (x : FVec Ideal S8x4 .f32) : FVec Ideal S8x4 .f32 :=
  Host.divf (Host.exp (subf x (broadcastInDim S8x4 ![0, 1] bcast_S1x4_S8x4_0_1 (broadcastInDim S1x4 ![1] bcast_S4_S1x4_1 (maximumf (broadcastInDim S4 ![] bcast_S_S4 (constant S_ .f32 0xFF800000#32)) (Host.reduce FloatOps.maximumf x (constant S_ .f32 0xFF800000#32) reducesTo_S8x4_S4_d0 h_S_))))))
    (broadcastInDim S8x4 ![0, 1] bcast_S1x4_S8x4_0_1 (broadcastInDim S1x4 ![1] bcast_S4_S1x4_1 (Host.reduceAdd (Host.exp (subf x (broadcastInDim S8x4 ![0, 1] bcast_S1x4_S8x4_0_1 (broadcastInDim S1x4 ![1] bcast_S4_S1x4_1 (maximumf (broadcastInDim S4 ![] bcast_S_S4 (constant S_ .f32 0xFF800000#32)) (Host.reduce FloatOps.maximumf x (constant S_ .f32 0xFF800000#32) reducesTo_S8x4_S4_d0 h_S_)))))) (constant S_ .f32 0x00000000#32) reducesTo_S8x4_S4_d0 h_S_)))

/-- The transition probabilities. -/
def trOf (x : FVec Ideal S8x8x4x4 .f32) : Tr := fun i j q g => softA x (ix4 i j q g)

/-- The roots' priors. -/
def piOf (x : FVec Ideal S8x4 .f32) : Fin 8 → Fin 4 → EReal := fun i g => softPi x (ix2 i g)

/-- The result from the arguments. -/
def result (x : FVec Ideal S8x8x4x4 .f32) (y : FVec Ideal S8x4 .f32) (b : FVec Ideal S88064x32 .f32) : FVec Ideal S4x4x4 .f32 :=
  fun k => total (trOf x) (piOf y) (emF (rowsOf b (k 0))) (k 1) (k 2)

theorem prior_succ (A : Tr) (Pi : Fin 8 → Fin 4 → EReal) {n d : ℕ} (h : n = 4 * 4 ^ d) : priorF A Pi (d + 1) = downF n A (priorF A Pi d) := by
  subst h; rfl

theorem un_succ (A : Tr) (Pi : Fin 8 → Fin 4 → EReal) (e : ℕ → Fn) {n d k : ℕ} (hd : 5 - k = d) (h : n = 4 * 4 ^ d) :
    unF A Pi e (k + 1) = mulF (mulF (priorF A Pi d) (e d)) (mulF (mulF (priorF A Pi d) (e d))
      (upF n A (betaF (unF A Pi e k)) (priorF A Pi (d + 1)))) := by
  subst hd h; rfl

variable (V0 : Valuation τ sig (Elt Ideal)) (c : Fin 4)

abbrev tA : Tr := trOf (V0 (Proc.devRef .tc main_arg0))
abbrev tPi : Fin 8 → Fin 4 → EReal := piOf (V0 (Proc.devRef .tc main_arg1))
abbrev tE : ℕ → Fn := emF (rowsOf (V0 (Proc.devRef .tc main_arg2)) c)

theorem isA : IsA (tA V0) (res_main_v23 V0) := fun q i j g => by
  unfold res_main_v23
  rw [broadcastInDim_apply _ _ _ _ (ix4 q i j g : S4x8x8x4.Idx) (fun b => by
    match b with
    | ⟨0, _⟩ => rfl
    | ⟨1, _⟩ => rfl
    | ⟨2, _⟩ => rfl
    | ⟨3, _⟩ => rfl), transpose_apply _ _ _ _ (ix4 i j q g : S8x8x4x4.Idx) (fun b => by
    match b with
    | ⟨0, _⟩ => rfl
    | ⟨1, _⟩ => rfl
    | ⟨2, _⟩ => rfl
    | ⟨3, _⟩ => rfl)]
  rfl

theorem prior0 : Held c 4 (res_main_v26 V0) (priorF (tA V0) (tPi V0) 0) := fun p i g => by
  unfold res_main_v26
  rw [broadcastInDim_apply _ _ _ _ (ix2 i g : S8x4.Idx) (fun b => by
    match b with
    | ⟨0, _⟩ => rfl
    | ⟨1, _⟩ => rfl)]
  rfl

theorem prior1 : Held c 16 (res_main_v36 V0) (priorF (tA V0) (tPi V0) 1) := by
  rw [prior_succ (n := 4) (d := 0) _ _ (by norm_num)]
  unfold res_main_v36
  exact down_held (by norm_num) (isA V0) (prior0 V0 c) _ _ _ _ _ _

theorem prior2 : Held c 64 (res_main_v46 V0) (priorF (tA V0) (tPi V0) 2) := by
  rw [prior_succ (n := 16) (d := 1) _ _ (by norm_num)]
  unfold res_main_v46
  exact down_held (by norm_num) (isA V0) (prior1 V0 c) _ _ _ _ _ _

theorem prior3 : Held c 256 (res_main_v56 V0) (priorF (tA V0) (tPi V0) 3) := by
  rw [prior_succ (n := 64) (d := 2) _ _ (by norm_num)]
  unfold res_main_v56
  exact down_held (by norm_num) (isA V0) (prior2 V0 c) _ _ _ _ _ _

theorem prior4 : Held c 1024 (res_main_v66 V0) (priorF (tA V0) (tPi V0) 4) := by
  rw [prior_succ (n := 256) (d := 3) _ _ (by norm_num)]
  unfold res_main_v66
  exact down_held (by norm_num) (isA V0) (prior3 V0 c) _ _ _ _ _ _

theorem prior5 : Held c 4096 (res_main_v76 V0) (priorF (tA V0) (tPi V0) 5) := by
  rw [prior_succ (n := 1024) (d := 4) _ _ (by norm_num)]
  unfold res_main_v76
  exact down_held (by norm_num) (isA V0) (prior4 V0 c) _ _ _ _ _ _

theorem prior6 : Held c 16384 (res_main_v86 V0) (priorF (tA V0) (tPi V0) 6) := by
  rw [prior_succ (n := 4096) (d := 5) _ _ (by norm_num)]
  unfold res_main_v86
  exact down_held (by norm_num) (isA V0) (prior5 V0 c) _ _ _ _ _ _

theorem un0 : Held c 16384 (res_main_v87 V0) (unF (tA V0) (tPi V0) (tE V0 c) 0) := by
  unfold res_main_v87 res_main_v24
  exact (prior6 V0 c).mulf (em_held (n := 4096) (d := 6) (o := 5460) (by norm_num) (by norm_num) (by norm_num [first]) (by norm_num) _ c _ _ _ _ _)

theorem nu0 : Norms c 16384 (res_main_v89 V0) (unF (tA V0) (tPi V0) (tE V0 c) 0) := by
  unfold res_main_v89
  exact norms_held (un0 V0 c) _ _

theorem msgs0 : Msgs c 4096 (tA V0) (betaF (unF (tA V0) (tPi V0) (tE V0 c) 0)) (priorF (tA V0) (tPi V0) 6) (res_main_v103 V0) := by
  unfold res_main_v103
  exact msgs_held (by norm_num) (isA V0) (beta_held (un0 V0 c) (nu0 V0 c) _ _) (prior6 V0 c) _ _ _ _ _ _

theorem prev5 : Held c 4096 (res_main_v104 V0) (mulF (priorF (tA V0) (tPi V0) 5) (tE V0 c 5)) := by
  unfold res_main_v104 res_main_v24
  exact (prior5 V0 c).mulf (em_held (n := 1024) (d := 5) (o := 1364) (by norm_num) (by norm_num) (by norm_num [first]) (by norm_num) _ c _ _ _ _ _)

theorem un1 : Held c 4096 (res_main_v117 V0) (unF (tA V0) (tPi V0) (tE V0 c) 1) := by
  rw [un_succ (n := 4096) (d := 5) (k := 0) _ _ _ rfl (by norm_num)]
  unfold res_main_v117
  exact rise_held (msgs0 V0 c) (prev5 V0 c) _ _ _ _ _

theorem nu1 : Norms c 4096 (res_main_v118 V0) (unF (tA V0) (tPi V0) (tE V0 c) 1) := by
  unfold res_main_v118
  exact norms_held (un1 V0 c) _ _

theorem msgs1 : Msgs c 1024 (tA V0) (betaF (unF (tA V0) (tPi V0) (tE V0 c) 1)) (priorF (tA V0) (tPi V0) 5) (res_main_v132 V0) := by
  unfold res_main_v132
  exact msgs_held (by norm_num) (isA V0) (beta_held (un1 V0 c) (nu1 V0 c) _ _) (prior5 V0 c) _ _ _ _ _ _

theorem prev4 : Held c 1024 (res_main_v133 V0) (mulF (priorF (tA V0) (tPi V0) 4) (tE V0 c 4)) := by
  unfold res_main_v133 res_main_v24
  exact (prior4 V0 c).mulf (em_held (n := 256) (d := 4) (o := 340) (by norm_num) (by norm_num) (by norm_num [first]) (by norm_num) _ c _ _ _ _ _)

theorem un2 : Held c 1024 (res_main_v146 V0) (unF (tA V0) (tPi V0) (tE V0 c) 2) := by
  rw [un_succ (n := 1024) (d := 4) (k := 1) _ _ _ rfl (by norm_num)]
  unfold res_main_v146
  exact rise_held (msgs1 V0 c) (prev4 V0 c) _ _ _ _ _

theorem nu2 : Norms c 1024 (res_main_v147 V0) (unF (tA V0) (tPi V0) (tE V0 c) 2) := by
  unfold res_main_v147
  exact norms_held (un2 V0 c) _ _

theorem msgs2 : Msgs c 256 (tA V0) (betaF (unF (tA V0) (tPi V0) (tE V0 c) 2)) (priorF (tA V0) (tPi V0) 4) (res_main_v161 V0) := by
  unfold res_main_v161
  exact msgs_held (by norm_num) (isA V0) (beta_held (un2 V0 c) (nu2 V0 c) _ _) (prior4 V0 c) _ _ _ _ _ _

theorem prev3 : Held c 256 (res_main_v162 V0) (mulF (priorF (tA V0) (tPi V0) 3) (tE V0 c 3)) := by
  unfold res_main_v162 res_main_v24
  exact (prior3 V0 c).mulf (em_held (n := 64) (d := 3) (o := 84) (by norm_num) (by norm_num) (by norm_num [first]) (by norm_num) _ c _ _ _ _ _)

theorem un3 : Held c 256 (res_main_v175 V0) (unF (tA V0) (tPi V0) (tE V0 c) 3) := by
  rw [un_succ (n := 256) (d := 3) (k := 2) _ _ _ rfl (by norm_num)]
  unfold res_main_v175
  exact rise_held (msgs2 V0 c) (prev3 V0 c) _ _ _ _ _

theorem nu3 : Norms c 256 (res_main_v176 V0) (unF (tA V0) (tPi V0) (tE V0 c) 3) := by
  unfold res_main_v176
  exact norms_held (un3 V0 c) _ _

theorem msgs3 : Msgs c 64 (tA V0) (betaF (unF (tA V0) (tPi V0) (tE V0 c) 3)) (priorF (tA V0) (tPi V0) 3) (res_main_v190 V0) := by
  unfold res_main_v190
  exact msgs_held (by norm_num) (isA V0) (beta_held (un3 V0 c) (nu3 V0 c) _ _) (prior3 V0 c) _ _ _ _ _ _

theorem prev2 : Held c 64 (res_main_v191 V0) (mulF (priorF (tA V0) (tPi V0) 2) (tE V0 c 2)) := by
  unfold res_main_v191 res_main_v24
  exact (prior2 V0 c).mulf (em_held (n := 16) (d := 2) (o := 20) (by norm_num) (by norm_num) (by norm_num [first]) (by norm_num) _ c _ _ _ _ _)

theorem un4 : Held c 64 (res_main_v204 V0) (unF (tA V0) (tPi V0) (tE V0 c) 4) := by
  rw [un_succ (n := 64) (d := 2) (k := 3) _ _ _ rfl (by norm_num)]
  unfold res_main_v204
  exact rise_held (msgs3 V0 c) (prev2 V0 c) _ _ _ _ _

theorem nu4 : Norms c 64 (res_main_v205 V0) (unF (tA V0) (tPi V0) (tE V0 c) 4) := by
  unfold res_main_v205
  exact norms_held (un4 V0 c) _ _

theorem msgs4 : Msgs c 16 (tA V0) (betaF (unF (tA V0) (tPi V0) (tE V0 c) 4)) (priorF (tA V0) (tPi V0) 2) (res_main_v219 V0) := by
  unfold res_main_v219
  exact msgs_held (by norm_num) (isA V0) (beta_held (un4 V0 c) (nu4 V0 c) _ _) (prior2 V0 c) _ _ _ _ _ _

theorem prev1 : Held c 16 (res_main_v220 V0) (mulF (priorF (tA V0) (tPi V0) 1) (tE V0 c 1)) := by
  unfold res_main_v220 res_main_v24
  exact (prior1 V0 c).mulf (em_held (n := 4) (d := 1) (o := 4) (by norm_num) (by norm_num) (by norm_num [first]) (by norm_num) _ c _ _ _ _ _)

theorem un5 : Held c 16 (res_main_v233 V0) (unF (tA V0) (tPi V0) (tE V0 c) 5) := by
  rw [un_succ (n := 16) (d := 1) (k := 4) _ _ _ rfl (by norm_num)]
  unfold res_main_v233
  exact rise_held (msgs4 V0 c) (prev1 V0 c) _ _ _ _ _

theorem nu5 : Norms c 16 (res_main_v234 V0) (unF (tA V0) (tPi V0) (tE V0 c) 5) := by
  unfold res_main_v234
  exact norms_held (un5 V0 c) _ _

theorem msgs5 : Msgs c 4 (tA V0) (betaF (unF (tA V0) (tPi V0) (tE V0 c) 5)) (priorF (tA V0) (tPi V0) 1) (res_main_v248 V0) := by
  unfold res_main_v248
  exact msgs_held (by norm_num) (isA V0) (beta_held (un5 V0 c) (nu5 V0 c) _ _) (prior1 V0 c) _ _ _ _ _ _

theorem prev0 : Held c 4 (res_main_v249 V0) (mulF (priorF (tA V0) (tPi V0) 0) (tE V0 c 0)) := by
  unfold res_main_v249 res_main_v24
  exact (prior0 V0 c).mulf (em_root _ c _ _)

/-- The pass's result as the program computes it. -/
def value : FVec Ideal S4x4x4 .f32 :=
  addf (addf (addf (addf (addf (addf (addf (broadcastInDim S4x4x4 ![] bcast_S_S4x4x4 (constant S_ .f32 0x00000000#32)) (Host.reduceAdd (shapeCast _ (Host.log (res_main_v89 V0)) shapeCasts_S4x16384x4_S4x4096x4x4) (constant S_ .f32 0x00000000#32) reducesTo_S4x4096x4x4_S4x4x4_d1 h_S_)) (Host.reduceAdd (shapeCast _ (Host.log (res_main_v118 V0)) shapeCasts_S4x4096x4_S4x1024x4x4) (constant S_ .f32 0x00000000#32) reducesTo_S4x1024x4x4_S4x4x4_d1 h_S_)) (Host.reduceAdd (shapeCast _ (Host.log (res_main_v147 V0)) shapeCasts_S4x1024x4_S4x256x4x4) (constant S_ .f32 0x00000000#32) reducesTo_S4x256x4x4_S4x4x4_d1 h_S_)) (Host.reduceAdd (shapeCast _ (Host.log (res_main_v176 V0)) shapeCasts_S4x256x4_S4x64x4x4) (constant S_ .f32 0x00000000#32) reducesTo_S4x64x4x4_S4x4x4_d1 h_S_)) (Host.reduceAdd (shapeCast _ (Host.log (res_main_v205 V0)) shapeCasts_S4x64x4_S4x16x4x4) (constant S_ .f32 0x00000000#32) reducesTo_S4x16x4x4_S4x4x4_d1 h_S_)) (Host.reduceAdd (shapeCast _ (Host.log (res_main_v234 V0)) shapeCasts_S4x16x4_S4x4x4x4) (constant S_ .f32 0x00000000#32) reducesTo_S4x4x4x4_S4x4x4_d1 h_S_)) (Host.reduceAdd (shapeCast _ (Host.log (Host.reduceAdd (mulf (res_main_v249 V0) (mulf (res_main_v249 V0) (mulf (mulf (mulf (shapeCast _ (extractStridedSlice S4x1x4x8x4 ![0, 0, 0, 0, 0] (res_main_v248 V0) slices_S4x4x4x8x4_S4x1x4x8x4_0_0_0_0_0) shapeCasts_S4x1x4x8x4_S4x4x8x4) (shapeCast _ (extractStridedSlice S4x1x4x8x4 ![0, 1, 0, 0, 0] (res_main_v248 V0) slices_S4x4x4x8x4_S4x1x4x8x4_0_1_0_0_0) shapeCasts_S4x1x4x8x4_S4x4x8x4)) (shapeCast _ (extractStridedSlice S4x1x4x8x4 ![0, 2, 0, 0, 0] (res_main_v248 V0) slices_S4x4x4x8x4_S4x1x4x8x4_0_2_0_0_0) shapeCasts_S4x1x4x8x4_S4x4x8x4)) (shapeCast _ (extractStridedSlice S4x1x4x8x4 ![0, 3, 0, 0, 0] (res_main_v248 V0) slices_S4x4x4x8x4_S4x1x4x8x4_0_3_0_0_0) shapeCasts_S4x1x4x8x4_S4x4x8x4)))) (constant S_ .f32 0x00000000#32) reducesTo_S4x4x8x4_S4x4x4_d2 h_S_)) shapeCasts_S4x4x4_S4x1x4x4) (constant S_ .f32 0x00000000#32) reducesTo_S4x1x4x4_S4x4x4_d1 h_S_)

theorem nu6 : Norms c 4 (Host.reduceAdd (mulf (res_main_v249 V0) (mulf (res_main_v249 V0) (mulf (mulf (mulf (shapeCast _ (extractStridedSlice S4x1x4x8x4 ![0, 0, 0, 0, 0] (res_main_v248 V0) slices_S4x4x4x8x4_S4x1x4x8x4_0_0_0_0_0) shapeCasts_S4x1x4x8x4_S4x4x8x4) (shapeCast _ (extractStridedSlice S4x1x4x8x4 ![0, 1, 0, 0, 0] (res_main_v248 V0) slices_S4x4x4x8x4_S4x1x4x8x4_0_1_0_0_0) shapeCasts_S4x1x4x8x4_S4x4x8x4)) (shapeCast _ (extractStridedSlice S4x1x4x8x4 ![0, 2, 0, 0, 0] (res_main_v248 V0) slices_S4x4x4x8x4_S4x1x4x8x4_0_2_0_0_0) shapeCasts_S4x1x4x8x4_S4x4x8x4)) (shapeCast _ (extractStridedSlice S4x1x4x8x4 ![0, 3, 0, 0, 0] (res_main_v248 V0) slices_S4x4x4x8x4_S4x1x4x8x4_0_3_0_0_0) shapeCasts_S4x1x4x8x4_S4x4x8x4)))) (constant S_ .f32 0x00000000#32) reducesTo_S4x4x8x4_S4x4x4_d2 h_S_)
    (unF (tA V0) (tPi V0) (tE V0 c) 6) := by
  rw [un_succ (n := 4) (d := 0) (k := 5) _ _ _ rfl (by norm_num)]
  exact norms_held (rise_held (msgs5 V0 c) (prev0 V0 c) _ _ _ _ _) _ _

theorem value_at (t g : Fin 4) : value V0 (ix3 c t g) = total (tA V0) (tPi V0) (tE V0 c) t g := by
  unfold value
  rw [addf_apply, addf_apply, addf_apply, addf_apply, addf_apply, addf_apply, addf_apply,
    ll_held (by norm_num) (nu0 V0 c), ll_held (by norm_num) (nu1 V0 c), ll_held (by norm_num) (nu2 V0 c), ll_held (by norm_num) (nu3 V0 c),
    ll_held (by norm_num) (nu4 V0 c), ll_held (by norm_num) (nu5 V0 c), ll_held (by norm_num) (nu6 V0 c),
    broadcastInDim_scalar_apply, zero_at, zero_add]
  rfl

theorem value_eq : value V0 = result (V0 (Proc.devRef .tc main_arg0)) (V0 (Proc.devRef .tc main_arg1)) (V0 (Proc.devRef .tc main_arg2)) :=
  funext fun k => (congrArg (value V0) (eq_ix3 k)).trans (value_at V0 (k 0) (k 1) (k 2))

end Cert.Proof.Tree.Ref

end
-- ==== Proof.TreeHost.lean ====
/-
  What the launch of the pass finds: the two block matrices and the priors are products of the softmaxes with unit
  matrices, the two constant matrices are read off their tables, and each point's rows are those of its group. The result
  array is the levels' function of these.
-/
module

public import proofs.«01_k».proof.Proof.Gen.TreeIdeal.Value
public import proofs.«01_k».proof.Proof.TreeBody
public import proofs.«01_k».proof.Proof.TreeTable
public import proofs.«01_k».proof.Proof.TreeRefRun

@[expose] public section

noncomputable section

namespace Cert.Proof.Tree.Host

open Idealize.ShloMosaic Idealize.ShloMosaic.ValueIdx Idealize.ShloMosaic.TcCoe Idealize.ShloMosaic.StableHlo
open Cert.TreeIdeal Cert.TreeIdeal.Gen Cert.Proof.Tree.Ref

variable (m : (ℓ : Loc nD τ sig) → Buf (Elt Ideal) ℓ) (d : Dev nD)

/-- The unit matrix, as the host builds it. -/
def eye : FVec Ideal S4x4 .f32 :=
  uitofp .f32 (cmpi .eq (addi (iotaInDim S4x4 32 0) (broadcastInDim S4x4 ![] bcast_S_S4x4 (constantI S_ 32 0#32))) (iotaInDim S4x4 32 1))

theorem eye_at (a b : Fin 4) : eye (ix2 a b) = if a = b then 1 else 0 := by
  have h : eye (ix2 a b) = (((IntOp.cmpi .eq (IntOp.addi (BitVec.ofNat 32 a.val) 0#32) (BitVec.ofNat 32 b.val)).toNat : ℝ) : EReal) := rfl
  have hc : ∀ a b : Fin 4, (IntOp.cmpi .eq (IntOp.addi (BitVec.ofNat 32 a.val) 0#32) (BitVec.ofNat 32 b.val)).toNat = if a = b then 1 else 0 := by decide
  rw [h, hc]
  by_cases e : a = b
  · rw [if_pos e, if_pos e]; simp
  · rw [if_neg e, if_neg e]; simp

/-- The first block matrix, from the transition probabilities. -/
def mkW (s : FVec Ideal S8x8x4x4 .f32) : FVec Ideal S32x128 .f32 :=
  shapeCast S32x128 (mulf
    (broadcastInDim S8x4x4x8x4 ![0, 1, 2, 3, 4] bcast_S8x1x4x8x4_S8x4x4x8x4_0_1_2_3_4 (broadcastInDim S8x1x4x8x4 ![0, 2, 3, 4] bcast_S8x4x8x4_S8x1x4x8x4_0_2_3_4 (transpose S8x4x8x4 [1, 2, 0, 3] s transposes_S8x8x4x4_S8x4x8x4_1_2_0_3)))
    (broadcastInDim S8x4x4x8x4 ![0, 1, 2, 3, 4] bcast_S1x4x1x1x4_S8x4x4x8x4_0_1_2_3_4 (broadcastInDim S1x4x1x1x4 ![1, 4] bcast_S4x4_S1x4x1x1x4_1_4 eye)))
    shapeCasts_S8x4x4x8x4_S32x128

/-- The second. -/
def mkV (s : FVec Ideal S8x8x4x4 .f32) : FVec Ideal S128x128 .f32 :=
  shapeCast S128x128 (mulf
    (broadcastInDim S4x8x4x4x8x4 ![0, 1, 2, 3, 4, 5] bcast_S4x8x1x4x8x4_S4x8x4x4x8x4_0_1_2_3_4_5 (mulf
      (broadcastInDim S4x8x1x4x8x4 ![0, 1, 2, 3, 4, 5] bcast_S1x8x1x4x8x4_S4x8x1x4x8x4_0_1_2_3_4_5 (broadcastInDim S1x8x1x4x8x4 ![1, 3, 4, 5] bcast_S8x4x8x4_S1x8x1x4x8x4_1_3_4_5 (transpose S8x4x8x4 [0, 2, 1, 3] s transposes_S8x8x4x4_S8x4x8x4_0_2_1_3)))
      (broadcastInDim S4x8x1x4x8x4 ![0, 1, 2, 3, 4, 5] bcast_S4x1x1x4x1x1_S4x8x1x4x8x4_0_1_2_3_4_5 (broadcastInDim S4x1x1x4x1x1 ![0, 3] bcast_S4x4_S4x1x1x4x1x1_0_3 eye))))
    (broadcastInDim S4x8x4x4x8x4 ![0, 1, 2, 3, 4, 5] bcast_S1x1x4x1x1x4_S4x8x4x4x8x4_0_1_2_3_4_5 (broadcastInDim S1x1x4x1x1x4 ![2, 5] bcast_S4x4_S1x1x4x1x1x4_2_5 eye)))
    shapeCasts_S4x8x4x4x8x4_S128x128

/-- The roots' priors, one row for each tree. -/
def mkP (s : FVec Ideal S8x4 .f32) : FVec Ideal S4x32 .f32 :=
  shapeCast S4x32 (broadcastInDim S4x1x1x32 ![0, 1, 2, 3] bcast_S1x1x1x32_S4x1x1x32_0_1_2_3
    (shapeCast S1x1x1x32 (shapeCast S1x32 s shapeCasts_S8x4_S1x32) shapeCasts_S1x32_S1x1x1x32)) shapeCasts_S4x1x1x32_S4x32

/-- The matrix that sums over the states, from its table. -/
def red : FVec Ideal S128x128 .f32 := fun i => FloatOps.ofBits .f32 (lit0 (S128x128.rowMajor i))

/-- The matrix that picks the generators, from its table. -/
def sel : FVec Ideal S128x4 .f32 := fun i => FloatOps.ofBits .f32 (lit1 (S128x4.rowMajor i))

abbrev arg0 : FVec Ideal S8x8x4x4 .f32 := m ((d.tc : Thread nD τ).loc main_arg0)
abbrev arg1 : FVec Ideal S8x4 .f32 := m ((d.tc : Thread nD τ).loc main_arg1)
abbrev arg2 : FVec Ideal S88064x32 .f32 := m ((d.tc : Thread nD τ).loc main_arg2)

/-! ## The arrays as the launch finds them -/

theorem V_W : V m d main_v40 = mkW (softA (arg0 m d)) := by
  show after hostOps0 _ _ = _
  after_results_simp
  rfl

theorem V_V : V m d main_v51 = mkV (softA (arg0 m d)) := by
  show after hostOps0 _ _ = _
  after_results_simp
  rfl

theorem V_P : V m d main_v55 = mkP (softPi (arg1 m d)) := by
  show after hostOps0 _ _ = _
  after_results_simp
  rfl

theorem V_b : V m d main_v56 = shapeCast S4x5504x128 (arg2 m d) shapeCasts_S88064x32_S4x5504x128 := by
  show after hostOps0 _ _ = _
  after_results_simp
  rfl

theorem V_red : V m d main_cst = red := by
  show after hostOps0 _ _ = _
  after_results_simp
  rfl

theorem V_sel : V m d main_cst_0 = sel := by
  show after hostOps0 _ _ = _
  after_results_simp
  rfl

/-! ## Read at an index -/

variable {A : Tr} {s : FVec Ideal S8x8x4x4 .f32}

theorem mkW_isW (hs : ∀ i j q g, s (ix4 i j q g) = A i j q g) : IsW A (mkW s) := fun j c q i g => by
  unfold mkW
  rw [shapeCast_apply _ _ _ (ix5 j c q i g : S8x4x4x8x4.Idx) (by
    rw [Shape.rowMajor_val_five, Shape.rowMajor_val_two]
    show (((j.val * 4 + c.val) * 4 + q.val) * 8 + i.val) * 4 + g.val = (j.val * 4 + c.val) * 128 + (q.val * 32 + i.val * 4 + g.val)
    omega), mulf_apply,
    broadcastInDim_apply _ _ _ _ (ix5 j 0 q i g : S8x1x4x8x4.Idx) (fun b => by
      match b with
      | ⟨0, _⟩ => rfl
      | ⟨1, _⟩ => rfl
      | ⟨2, _⟩ => rfl
      | ⟨3, _⟩ => rfl
      | ⟨4, _⟩ => rfl),
    broadcastInDim_apply _ _ _ _ (ix4 j q i g : S8x4x8x4.Idx) (fun b => by
      match b with
      | ⟨0, _⟩ => rfl
      | ⟨1, _⟩ => rfl
      | ⟨2, _⟩ => rfl
      | ⟨3, _⟩ => rfl),
    transpose_apply _ _ _ _ (ix4 i j q g : S8x8x4x4.Idx) (fun b => by
      match b with
      | ⟨0, _⟩ => rfl
      | ⟨1, _⟩ => rfl
      | ⟨2, _⟩ => rfl
      | ⟨3, _⟩ => rfl), hs,
    broadcastInDim_apply _ _ _ _ (ix5 0 c 0 0 g : S1x4x1x1x4.Idx) (fun b => by
      match b with
      | ⟨0, _⟩ => rfl
      | ⟨1, _⟩ => rfl
      | ⟨2, _⟩ => rfl
      | ⟨3, _⟩ => rfl
      | ⟨4, _⟩ => rfl),
    broadcastInDim_apply _ _ _ _ (ix2 c g : S4x4.Idx) (fun b => by
      match b with
      | ⟨0, _⟩ => rfl
      | ⟨1, _⟩ => rfl), eye_at]

theorem mkV_isV (hs : ∀ i j q g, s (ix4 i j q g) = A i j q g) : IsV A (mkV s) := fun a i c q j g => by
  unfold mkV
  rw [shapeCast_apply _ _ _ (ix6 a i c q j g : S4x8x4x4x8x4.Idx) (by
    rw [Shape.rowMajor_val_six, Shape.rowMajor_val_two]
    show ((((a.val * 8 + i.val) * 4 + c.val) * 4 + q.val) * 8 + j.val) * 4 + g.val = (a.val * 32 + i.val * 4 + c.val) * 128 + (q.val * 32 + j.val * 4 + g.val)
    omega), mulf_apply,
    broadcastInDim_apply _ _ _ _ (ix6 a i 0 q j g : S4x8x1x4x8x4.Idx) (fun b => by
      match b with
      | ⟨0, _⟩ => rfl
      | ⟨1, _⟩ => rfl
      | ⟨2, _⟩ => rfl
      | ⟨3, _⟩ => rfl
      | ⟨4, _⟩ => rfl
      | ⟨5, _⟩ => rfl), mulf_apply,
    broadcastInDim_apply _ _ _ _ (ix6 0 i 0 q j g : S1x8x1x4x8x4.Idx) (fun b => by
      match b with
      | ⟨0, _⟩ => rfl
      | ⟨1, _⟩ => rfl
      | ⟨2, _⟩ => rfl
      | ⟨3, _⟩ => rfl
      | ⟨4, _⟩ => rfl
      | ⟨5, _⟩ => rfl),
    broadcastInDim_apply _ _ _ _ (ix4 i q j g : S8x4x8x4.Idx) (fun b => by
      match b with
      | ⟨0, _⟩ => rfl
      | ⟨1, _⟩ => rfl
      | ⟨2, _⟩ => rfl
      | ⟨3, _⟩ => rfl),
    transpose_apply _ _ _ _ (ix4 i j q g : S8x8x4x4.Idx) (fun b => by
      match b with
      | ⟨0, _⟩ => rfl
      | ⟨1, _⟩ => rfl
      | ⟨2, _⟩ => rfl
      | ⟨3, _⟩ => rfl), hs,
    broadcastInDim_apply _ _ _ _ (ix6 a 0 0 q 0 0 : S4x1x1x4x1x1.Idx) (fun b => by
      match b with
      | ⟨0, _⟩ => rfl
      | ⟨1, _⟩ => rfl
      | ⟨2, _⟩ => rfl
      | ⟨3, _⟩ => rfl
      | ⟨4, _⟩ => rfl
      | ⟨5, _⟩ => rfl),
    broadcastInDim_apply _ _ _ _ (ix2 a q : S4x4.Idx) (fun b => by
      match b with
      | ⟨0, _⟩ => rfl
      | ⟨1, _⟩ => rfl), eye_at,
    broadcastInDim_apply _ _ _ _ (ix6 0 0 c 0 0 g : S1x1x4x1x1x4.Idx) (fun b => by
      match b with
      | ⟨0, _⟩ => rfl
      | ⟨1, _⟩ => rfl
      | ⟨2, _⟩ => rfl
      | ⟨3, _⟩ => rfl
      | ⟨4, _⟩ => rfl
      | ⟨5, _⟩ => rfl),
    broadcastInDim_apply _ _ _ _ (ix2 c g : S4x4.Idx) (fun b => by
      match b with
      | ⟨0, _⟩ => rfl
      | ⟨1, _⟩ => rfl), eye_at]
  by_cases e : a = q
  · rw [if_pos e, if_pos e, mul_one]
  · rw [if_neg e, if_neg e, mul_zero, zero_mul]

theorem mkP_flat {Pi : Fin 8 → Fin 4 → EReal} {s : FVec Ideal S8x4 .f32} (hs : ∀ i g, s (ix2 i g) = Pi i g) :
    Flat 4 (mkP s) (priorF A Pi 0) := fun t i g => by
  unfold mkP
  rw [shapeCast_apply _ _ _ (ix4 t 0 0 (slot i g) : S4x1x1x32.Idx) (by
    rw [Shape.rowMajor_val_four, Shape.rowMajor_val_two]
    show ((t.val * 1 + 0) * 1 + 0) * 32 + (i.val * 4 + g.val) = t.val * 32 + (i.val * 4 + g.val)
    omega),
    broadcastInDim_apply _ _ _ _ (ix4 0 0 0 (slot i g) : S1x1x1x32.Idx) (fun b => by
      match b with
      | ⟨0, _⟩ => rfl
      | ⟨1, _⟩ => rfl
      | ⟨2, _⟩ => rfl
      | ⟨3, _⟩ => rfl),
    shapeCast_apply _ _ _ (ix2 0 (slot i g) : S1x32.Idx) (by
      rw [Shape.rowMajor_val_four, Shape.rowMajor_val_two]
      show 0 * 32 + (i.val * 4 + g.val) = ((0 * 1 + 0) * 1 + 0) * 32 + (i.val * 4 + g.val)
      omega),
    shapeCast_apply _ _ _ (ix2 i g : S8x4.Idx) (by
      rw [Shape.rowMajor_val_two, Shape.rowMajor_val_two]
      show i.val * 4 + g.val = 0 * 32 + (i.val * 4 + g.val)
      omega), hs]
  rfl

theorem red_isRed : IsRed red := fun a i c q j g => by
  have h : red (ix2 (lane a i c) (lane q j g)) = Ideal.ofBits .f32 (lit0t ((lane a i c).val * 128 + (lane q j g).val)) :=
    congrArg (fun n => Ideal.ofBits .f32 (lit0t n)) (Shape.rowMajor_val_two (ix2 (lane a i c) (lane q j g) : S128x128.Idx))
  rw [h, table0]
  by_cases e : a = q ∧ c = g
  · rw [if_pos e, if_pos (by obtain ⟨rfl, rfl⟩ := e; simp only [lane]; omega)]
    exact Ideal.ofBits_one_f32
  · rw [if_neg e, if_neg (by
      intro h; apply e
      simp only [lane] at h
      exact ⟨Fin.ext (by omega), Fin.ext (by omega)⟩)]
    exact Ideal.ofBits_zero_f32

theorem sel_isSel : IsSel sel := fun a i c g => by
  have h : sel (ix2 (lane a i c) g) = Ideal.ofBits .f32 (lit1t ((lane a i c).val * 4 + g.val)) :=
    congrArg (fun n => Ideal.ofBits .f32 (lit1t n)) (Shape.rowMajor_val_two (ix2 (lane a i c) g : S128x4.Idx))
  rw [h, table1]
  by_cases e : i = 0 ∧ c = g
  · rw [if_pos e, if_pos (by obtain ⟨rfl, rfl⟩ := e; simp only [lane]; constructor <;> [(show (a.val * 32 + 0 * 4 + c.val) / 4 % 8 = 0); skip] <;> omega)]
    exact Ideal.ofBits_one_f32
  · rw [if_neg e, if_neg (by
      intro h; apply e
      simp only [lane] at h
      exact ⟨Fin.ext (by show i.val = 0; omega), Fin.ext (by omega)⟩)]
    exact Ideal.ofBits_zero_f32

/-! ## The windows' blocks -/

theorem index0 : ∀ t : Fin grid0.N, win0_0.index t = ![t.val, 0, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![t.val, 0, 0] := by decide +kernel

theorem flush6 : ∀ t : Fin grid0.N, win0_6.flush t = true := by decide +kernel

theorem blk0_at (t : Fin 4) (r : Fin 5504) (l : Fin 128) : iblk m d 0 t (ix3 0 r l) = V m d main_v56 (ix3 t r l : S4x5504x128.Idx) := by
  show V m d main_v56 (((cfg0.win 0).blk t).view.emb (ix3 0 r l)) = _
  refine congrArg (V m d main_v56) (funext fun b => Fin.ext ?_)
  match b with
  | ⟨0, _⟩ =>
    exact (congrArg (· * 1 + 1 * 0) (congrFun (index0 t) 0)).trans (by show t.val * 1 + 1 * 0 = t.val; omega)
  | ⟨1, _⟩ =>
    exact (congrArg (· * 5504 + 1 * r.val) (congrFun (index0 t) 1)).trans (by show 0 * 5504 + 1 * r.val = r.val; omega)
  | ⟨2, _⟩ =>
    exact (congrArg (· * 128 + 1 * l.val) (congrFun (index0 t) 2)).trans (by show 0 * 128 + 1 * l.val = l.val; omega)

theorem blk1_eq (t : Fin 4) : iblk m d 1 t = V m d main_v40 := funext fun k => by
  show V m d main_v40 (((cfg0.win 1).blk t).view.emb k) = _
  refine congrArg (V m d main_v40) (funext fun b => Fin.ext ?_)
  match b with
  | ⟨0, _⟩ =>
    exact (congrArg (· * 32 + 1 * (k 0).val) (congrFun (index1 t) 0)).trans (by show 0 * 32 + 1 * (k 0).val = (k 0).val; omega)
  | ⟨1, _⟩ =>
    exact (congrArg (· * 128 + 1 * (k 1).val) (congrFun (index1 t) 1)).trans (by show 0 * 128 + 1 * (k 1).val = (k 1).val; omega)

theorem blk2_eq (t : Fin 4) : iblk m d 2 t = V m d main_v51 := funext fun k => by
  show V m d main_v51 (((cfg0.win 2).blk t).view.emb k) = _
  refine congrArg (V m d main_v51) (funext fun b => Fin.ext ?_)
  match b with
  | ⟨0, _⟩ =>
    exact (congrArg (· * 128 + 1 * (k 0).val) (congrFun (index2 t) 0)).trans (by show 0 * 128 + 1 * (k 0).val = (k 0).val; omega)
  | ⟨1, _⟩ =>
    exact (congrArg (· * 128 + 1 * (k 1).val) (congrFun (index2 t) 1)).trans (by show 0 * 128 + 1 * (k 1).val = (k 1).val; omega)

theorem blk3_eq (t : Fin 4) : iblk m d 3 t = V m d main_v55 := funext fun k => by
  show V m d main_v55 (((cfg0.win 3).blk t).view.emb k) = _
  refine congrArg (V m d main_v55) (funext fun b => Fin.ext ?_)
  match b with
  | ⟨0, _⟩ =>
    exact (congrArg (· * 4 + 1 * (k 0).val) (congrFun (index3 t) 0)).trans (by show 0 * 4 + 1 * (k 0).val = (k 0).val; omega)
  | ⟨1, _⟩ =>
    exact (congrArg (· * 32 + 1 * (k 1).val) (congrFun (index3 t) 1)).trans (by show 0 * 32 + 1 * (k 1).val = (k 1).val; omega)

theorem blk4_eq (t : Fin 4) : iblk m d 4 t = V m d main_cst := funext fun k => by
  show V m d main_cst (((cfg0.win 4).blk t).view.emb k) = _
  refine congrArg (V m d main_cst) (funext fun b => Fin.ext ?_)
  match b with
  | ⟨0, _⟩ =>
    exact (congrArg (· * 128 + 1 * (k 0).val) (congrFun (index4 t) 0)).trans (by show 0 * 128 + 1 * (k 0).val = (k 0).val; omega)
  | ⟨1, _⟩ =>
    exact (congrArg (· * 128 + 1 * (k 1).val) (congrFun (index4 t) 1)).trans (by show 0 * 128 + 1 * (k 1).val = (k 1).val; omega)

theorem blk5_eq (t : Fin 4) : iblk m d 5 t = V m d main_cst_0 := funext fun k => by
  show V m d main_cst_0 (((cfg0.win 5).blk t).view.emb k) = _
  refine congrArg (V m d main_cst_0) (funext fun b => Fin.ext ?_)
  match b with
  | ⟨0, _⟩ =>
    exact (congrArg (· * 128 + 1 * (k 0).val) (congrFun (index5 t) 0)).trans (by show 0 * 128 + 1 * (k 0).val = (k 0).val; omega)
  | ⟨1, _⟩ =>
    exact (congrArg (· * 4 + 1 * (k 1).val) (congrFun (index5 t) 1)).trans (by show 0 * 4 + 1 * (k 1).val = (k 1).val; omega)

/-- What a point finds in its blocks. -/
theorem holds (t : Fin 4) : Holds (trOf (arg0 m d)) (piOf (arg1 m d)) (rowsOf (arg2 m d) t)
    (iblk m d 0 t) (iblk m d 1 t) (iblk m d 2 t) (iblk m d 3 t) (iblk m d 4 t) (iblk m d 5 t) where
  rows r l := by
    rw [blk0_at, V_b]
    exact shapeCast_apply _ _ _ _ (by
      rw [Shape.rowMajor_val_two, Shape.rowMajor_val_three]
      show (t.val * 22016 + 4 * r.val + l.val / 32) % 88064 * 32 + l.val % 32 = (t.val * 5504 + r.val) * 128 + l.val
      omega)
  w := by rw [blk1_eq, V_W]; exact mkW_isW fun _ _ _ _ => rfl
  v := by rw [blk2_eq, V_V]; exact mkV_isV fun _ _ _ _ => rfl
  pi := by rw [blk3_eq, V_P]; exact mkP_flat fun _ _ => rfl
  red := by rw [blk4_eq, V_red]; exact red_isRed
  sel := by rw [blk5_eq, V_sel]; exact sel_isSel

/-- The result array after the run. -/
theorem final : (dats m 0 d).arrAt 6 cfg0.N = result (arg0 m d) (arg1 m d) (arg2 m d) := funext fun (k : S4x4x4.Idx) => by
  have hb := (congrFun (Value.blocks6 m d (k 0) (flush6 (k 0))) (ix3 0 (k 1) (k 2) : S1x4x4.Idx)).trans
    (congrFun (Value.flushed6 m d (k 0)) (ix3 0 (k 1) (k 2) : S1x4x4.Idx))
  refine Eq.trans ?_ (hb.trans ((holds m d (k 0)).out_at (k 1) (k 2)))
  show (dats m 0 d).arrAt 6 cfg0.N k = (dats m 0 d).arrAt 6 cfg0.N (((cfg0.win 6).blk (k 0)).view.emb (ix3 0 (k 1) (k 2)))
  refine congrArg ((dats m 0 d).arrAt 6 cfg0.N) (funext fun b => Fin.ext ?_)
  match b with
  | ⟨0, _⟩ =>
    exact ((congrArg (· * 1 + 1 * 0) (congrFun (index6 (k 0)) 0)).trans (by show (k 0).val * 1 + 1 * 0 = (k 0).val; omega)).symm
  | ⟨1, _⟩ =>
    exact ((congrArg (· * 4 + 1 * (k 1).val) (congrFun (index6 (k 0)) 1)).trans (by show 0 * 4 + 1 * (k 1).val = (k 1).val; omega)).symm
  | ⟨2, _⟩ =>
    exact ((congrArg (· * 4 + 1 * (k 2).val) (congrFun (index6 (k 0)) 2)).trans (by show 0 * 4 + 1 * (k 2).val = (k 2).val; omega)).symm

end Cert.Proof.Tree.Host

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_in_range
public import proofs.«01_k».proof.Proof.Pre
public import proofs.«01_k».proof.Proof.Value
public import proofs.«01_k».proof.Proof.Main
public import proofs.«01_k».proof.Proof.Gen.TreeIdeal.Value
public import proofs.«01_k».proof.Proof.Gen.TreeIdeal
public import proofs.«01_k».proof.Proof.Gen.Tree
public import proofs.«01_k».proof.Proof.Gen.Tree.Frame
public import proofs.«01_k».proof.Proof.Gen.TreeReferenceIdeal.Run
public import proofs.«01_k».proof.Proof.TreeHost
public import Idealize.ShloMosaic.Lib.Quiescent

@[expose] public section

set_option maxRecDepth 16384

noncomputable section

namespace Cert.Proof

open Idealize.ShloMosaic Idealize.SL.Sem

section Run

variable {F : FTy → Type} [FloatOps F] [∀ e, Nonempty (Elt F e)]
open Cert.KernelIdeal

variable (m : (ℓ : Loc nD τ sig) → Buf (Elt F) ℓ) (ρ : Dev nD → PrngReg)

/-- The kernel's run: the result is the reference's function of the two arguments, these end as they were, and every
    semaphore ends at zero. -/
theorem run_kernel (h : Launch.PreOK m) : θ_run (Cert.KernelIdeal.defs (F := F)) (Cert.KernelIdeal.threads (F := F)) ⟨m, fun _ => 0, ρ⟩ (fun r =>
    (∀ c : Dev nD, r.2.mem ((c.tc : Thread nD τ).loc main_v26) = Ref.val (Host.argB m c) (Host.argX m c)
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) := by
  refine θ_run_mono (Main.run_main m ρ h) ?_
  rintro r ⟨hr, hs⟩
  refine ⟨fun c => ⟨?_, ?_, ?_⟩, hs⟩
  · exact (hr c _ (Main.mem_U (r := main_v26) rfl)).trans ((Host.fin_v26 m c).trans (Value.all_eq _ _ (h c)))
  · exact (hr c _ (Main.mem_U (r := main_arg0) rfl)).trans (Host.fin_arg0 m c)
  · exact (hr c _ (Main.mem_U (r := main_arg1) rfl)).trans (Host.fin_arg1 m c)

set_option maxHeartbeats 1000000 in
/-- The printed kernel and the idealized program are one text. -/
theorem defs_eq : Cert.Kernel.defs (F := F) = Cert.KernelIdeal.defs (F := F) := rfl
set_option maxHeartbeats 1000000 in
theorem threads_eq : Cert.Kernel.threads (F := F) = Cert.KernelIdeal.threads (F := F) := rfl

/-- The same run, of the printed kernel. -/
theorem run_printed (h : Launch.PreOK m) : θ_run (Cert.Kernel.defs (F := F)) (Cert.Kernel.threads (F := F)) ⟨m, fun _ => 0, ρ⟩ (fun r =>
    (∀ c : Dev nD, r.2.mem ((c.tc : Thread nD τ).loc main_v26) = Ref.val (Host.argB m c) (Host.argX m c)
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) := by
  have e := run_kernel m ρ h
  rw [← defs_eq, ← threads_eq] at e
  exact e

end Run

theorem frame_kernel : Cert.quiescent_Kernel := fun m ρ hpre =>
  (θ_run Cert.Kernel.defs _ _).mono (fun _ h => ⟨fun c => (h.1 c).2, h.2⟩) (run_printed (F := Bits) m ρ (Pre.ok m hpre))

theorem frame_ideal : Cert.quiescent_KernelIdeal := fun m ρ hpre =>
  (θ_run Cert.KernelIdeal.defs _ _).mono (fun _ h => ⟨fun c => (h.1 c).2, h.2⟩) (run_kernel (F := Ideal) m ρ (Pre.ok m hpre))

theorem frame_reference : Cert.quiescent_Reference := fun m ρ _ =>
  (θ_run Cert.Reference.defs _ _).mono (fun _ h => ⟨fun c => (h.1 c).2, h.2⟩) (Ref.run (F := Bits) m ρ)

theorem frame_reference_ideal : Cert.quiescent_ReferenceIdeal := fun m ρ _ =>
  (θ_run Cert.Reference.defs _ _).mono (fun _ h => ⟨fun c => (h.1 c).2, h.2⟩) (Ref.run (F := Ideal) m ρ)

theorem algebraic : Cert.algebraic_KernelIdeal_ReferenceIdeal := fun m ρ m' ρ' hpre hag =>
  ⟨fun c => Ref.val (Host.argB m c) (Host.argX m c),
    (θ_run Cert.KernelIdeal.defs _ _).mono (fun _ h => h.1) (run_kernel (F := Ideal) m ρ (Pre.ok m hpre)),
    (θ_run Cert.Reference.defs _ _).mono (fun _ h c => ⟨((h.1 c).1).trans (congrArg₂ Ref.val (hag c).1 (hag c).2), (h.1 c).2⟩)
      (Ref.run (F := Ideal) m' ρ')⟩

theorem bitexact : Cert.bitexact_Kernel_Reference := fun m ρ m' ρ' hpre hag =>
  ⟨fun c => Ref.val (Host.argB m c) (Host.argX m c),
    (θ_run Cert.Kernel.defs _ _).mono (fun _ h => h.1) (run_printed (F := Bits) m ρ (Pre.ok m hpre)),
    (θ_run Cert.Reference.defs _ _).mono (fun _ h c => ⟨((h.1 c).1).trans (congrArg₂ Ref.val (hag c).1 (hag c).2), (h.1 c).2⟩)
      (Ref.run (F := Bits) m' ρ')⟩

/-! ## The tree pass -/

theorem frame_tree_ideal : Cert.quiescent_TreeIdeal := fun m ρ _ => Cert.TreeIdeal.Gen.frame (F := Ideal) m ρ

theorem frame_tree : Cert.quiescent_Tree := fun m ρ _ => Cert.Tree.Gen.frame (F := Bits) m ρ

theorem frame_tree_reference_ideal : Cert.quiescent_TreeReferenceIdeal := fun m ρ _ =>
  (θ_run Cert.TreeReferenceIdeal.defs _ _).mono (fun r h => ⟨fun c => (h c).2, sem_eq_zero_of_no_sems (by decide) r.2⟩)
    (Cert.TreeReferenceIdeal.Value.run (F := Ideal) m ρ)

theorem algebraic_tree : Cert.algebraic_TreeIdeal_TreeReferenceIdeal := fun m ρ m' ρ' _ hag =>
  ⟨fun c => Tree.Ref.result (Tree.Host.arg0 m c) (Tree.Host.arg1 m c) (Tree.Host.arg2 m c),
    (θ_run Cert.TreeIdeal.defs _ _).mono (fun _ h c => ⟨((h c).1).trans (Tree.Host.final m c), (h c).2⟩) (Cert.TreeIdeal.Value.run_blocks (F := Ideal) m ρ),
    (θ_run Cert.TreeReferenceIdeal.defs _ _).mono (fun _ h c => ⟨((h c).1).trans ((Tree.Ref.value_eq _).trans (congr (congrArg₂ Tree.Ref.result (hag c).1 (hag c).2.1) (hag c).2.2)), (h c).2⟩)
      (Cert.TreeReferenceIdeal.Value.run (F := Ideal) m' ρ')⟩

theorem claim : Cert.Claim :=
  ⟨Cert.Kernel.Gen.facts, Cert.KernelIdeal.Gen.facts, Cert.ReferenceIdeal.Gen.facts, Cert.Reference.Gen.facts,
    Cert.Tree.Gen.facts, Cert.TreeIdeal.Gen.facts, Cert.TreeReferenceIdeal.Gen.facts, Cert.Pre_in_range.Gen.facts,
    frame_kernel, frame_ideal, frame_reference_ideal, frame_reference, frame_tree, frame_tree_ideal, frame_tree_reference_ideal,
    trivial, algebraic, bitexact, trivial, algebraic_tree⟩

end Cert.Proof

end
